-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v30_0)) (v1 : (c : Dev Cert.Kernel2Ideal.nD) → Buf (Elt Ideal) ((c.tc : Thread Cert.Kernel2Ideal.nD Cert.Kernel2Ideal.τ).loc Cert.Kernel2Ideal.main_v30_1)) (v2 : (c : Dev Cert.Kernel2Ideal.nD) → Buf (Elt Ideal) ((c.tc : Thread Cert.Kernel2Ideal.nD Cert.Kernel2Ideal.τ).loc Cert.Kernel2Ideal.main_v30_2)) (v3 : (c : Dev Cert.Kernel2Ideal.nD) → Buf (Elt Ideal) ((c.tc : Thread Cert.Kernel2Ideal.nD Cert.Kernel2Ideal.τ).loc Cert.Kernel2Ideal.main_v30_3)) (v4 : (c : Dev Cert.Kernel2Ideal.nD) → Buf (Elt Ideal) ((c.tc : Thread Cert.Kernel2Ideal.nD Cert.Kernel2Ideal.τ).loc Cert.Kernel2Ideal.main_v30_4)) (v5 : (c : Dev Cert.Kernel2Ideal.nD) → Buf (Elt Ideal) ((c.tc : Thread Cert.Kernel2Ideal.nD Cert.Kernel2Ideal.τ).loc Cert.Kernel2Ideal.main_v30_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_0) = v0 c
          ∧ r.2.mem ((c.tc : Thread Cert.Kernel2Ideal.nD Cert.Kernel2Ideal.τ).loc Cert.Kernel2Ideal.main_v30_1) = v1 c
          ∧ r.2.mem ((c.tc : Thread Cert.Kernel2Ideal.nD Cert.Kernel2Ideal.τ).loc Cert.Kernel2Ideal.main_v30_2) = v2 c
          ∧ r.2.mem ((c.tc : Thread Cert.Kernel2Ideal.nD Cert.Kernel2Ideal.τ).loc Cert.Kernel2Ideal.main_v30_3) = v3 c
          ∧ r.2.mem ((c.tc : Thread Cert.Kernel2Ideal.nD Cert.Kernel2Ideal.τ).loc Cert.Kernel2Ideal.main_v30_4) = v4 c
          ∧ r.2.mem ((c.tc : Thread Cert.Kernel2Ideal.nD Cert.Kernel2Ideal.τ).loc Cert.Kernel2Ideal.main_v30_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_v62) = v1 c
          ∧ r.2.mem ((c.tc : Thread Cert.Reference2Ideal.nD Cert.Reference2Ideal.τ).loc Cert.Reference2Ideal.main_v36) = v2 c
          ∧ r.2.mem ((c.tc : Thread Cert.Reference2Ideal.nD Cert.Reference2Ideal.τ).loc Cert.Reference2Ideal.main_v64) = v3 c
          ∧ r.2.mem ((c.tc : Thread Cert.Reference2Ideal.nD Cert.Reference2Ideal.τ).loc Cert.Reference2Ideal.main_v61) = v4 c
          ∧ r.2.mem ((c.tc : Thread Cert.Reference2Ideal.nD Cert.Reference2Ideal.τ).loc Cert.Reference2Ideal.main_v40) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_v13) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)) (v2 : (c : Dev Cert.Kernel6Ideal.nD) → Buf (Elt Ideal) ((c.tc : Thread Cert.Kernel6Ideal.nD Cert.Kernel6Ideal.τ).loc Cert.Kernel6Ideal.main_v7_2)) (v3 : (c : Dev Cert.Kernel6Ideal.nD) → Buf (Elt Ideal) ((c.tc : Thread Cert.Kernel6Ideal.nD Cert.Kernel6Ideal.τ).loc Cert.Kernel6Ideal.main_v7_3)) (v4 : (c : Dev Cert.Kernel6Ideal.nD) → Buf (Elt Ideal) ((c.tc : Thread Cert.Kernel6Ideal.nD Cert.Kernel6Ideal.τ).loc Cert.Kernel6Ideal.main_v7_4)) (v5 : (c : Dev Cert.Kernel6Ideal.nD) → Buf (Elt Ideal) ((c.tc : Thread Cert.Kernel6Ideal.nD Cert.Kernel6Ideal.τ).loc Cert.Kernel6Ideal.main_v7_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_v7_2) = v2 c
          ∧ r.2.mem ((c.tc : Thread Cert.Kernel6Ideal.nD Cert.Kernel6Ideal.τ).loc Cert.Kernel6Ideal.main_v7_3) = v3 c
          ∧ r.2.mem ((c.tc : Thread Cert.Kernel6Ideal.nD Cert.Kernel6Ideal.τ).loc Cert.Kernel6Ideal.main_v7_4) = v4 c
          ∧ r.2.mem ((c.tc : Thread Cert.Kernel6Ideal.nD Cert.Kernel6Ideal.τ).loc Cert.Kernel6Ideal.main_v7_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_v72) = v1 c
          ∧ r.2.mem ((c.tc : Thread Cert.Reference6Ideal.nD Cert.Reference6Ideal.τ).loc Cert.Reference6Ideal.main_v51) = v2 c
          ∧ r.2.mem ((c.tc : Thread Cert.Reference6Ideal.nD Cert.Reference6Ideal.τ).loc Cert.Reference6Ideal.main_v73) = v3 c
          ∧ r.2.mem ((c.tc : Thread Cert.Reference6Ideal.nD Cert.Reference6Ideal.τ).loc Cert.Reference6Ideal.main_v74) = v4 c
          ∧ r.2.mem ((c.tc : Thread Cert.Reference6Ideal.nD Cert.Reference6Ideal.τ).loc Cert.Reference6Ideal.main_v76) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S2048x3584 : Shape := ⟨2, ![2048, 3584]⟩
abbrev S2048x512 : Shape := ⟨2, ![2048, 512]⟩
abbrev S2048x1536 : Shape := ⟨2, ![2048, 1536]⟩
abbrev S_ : Shape := ⟨0, ![]⟩

class Facts : Prop where
  slices_S2048x3584_S2048x1536_0_0 : S2048x3584.Slices ![0, 0] S2048x1536
  bcast_S_S2048x1536 : S_.BroadcastsInDim S2048x1536 (![] : Fin 0 → Fin S2048x1536.rank)
  bcast_S_S2048x512 : S_.BroadcastsInDim S2048x512 (![] : Fin 0 → Fin S2048x512.rank)

variable [Facts]

def fn {F : FTy → Type} [FloatOps F] (main_arg0 : FVec F S2048x3584 .f32) (main_arg1 : FVec F S2048x512 .f32) : IVec S2048x1536 1 × IVec S2048x512 1 :=
  let main_v0 : FVec F S2048x1536 .f32 := (extractStridedSlice S2048x1536 ![0, 0] · slices_S2048x3584_S2048x1536_0_0) main_arg0
  let main_v1 : FVec F S2048x1536 .f32 := Host.absf main_v0
  let main_cst : FVec F S_ .f32 := constant S_ .f32 0x7F800000#32
  let main_v2 : FVec F S2048x1536 .f32 := broadcastInDim S2048x1536 ![] bcast_S_S2048x1536 main_cst
  let main_v3 : IVec S2048x1536 1 := cmpf .olt main_v1 main_v2
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  (main_v3, main_v6)
-- ==== Kernel.lean ====
abbrev S2048x3584 : Shape := ⟨2, ![2048, 3584]⟩
abbrev S2048x512 : Shape := ⟨2, ![2048, 512]⟩
abbrev S1x2048x8x64 : Shape := ⟨4, ![1, 2048, 8, 64]⟩
abbrev S1x8x2048x2048 : Shape := ⟨4, ![1, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x8x2048 : Shape := ⟨3, ![1, 8, 2048]⟩
abbrev S8x2048 : Shape := ⟨2, ![8, 2048]⟩
abbrev S2x4x2048 : Shape := ⟨3, ![2, 4, 2048]⟩
abbrev S2x2048x4 : Shape := ⟨3, ![2, 2048, 4]⟩
abbrev S2x2048x4x1 : Shape := ⟨4, ![2, 2048, 4, 1]⟩
abbrev S2x2048x4x64 : Shape := ⟨4, ![2, 2048, 4, 64]⟩
abbrev S2x2048x256 : Shape := ⟨3, ![2, 2048, 256]⟩
abbrev S256x512 : Shape := ⟨2, ![256, 512]⟩
abbrev S2x256x256 : Shape := ⟨3, ![2, 256, 256]⟩
abbrev S1024x256 : Shape := ⟨2, ![1024, 256]⟩
abbrev S256x256 : Shape := ⟨2, ![256, 256]⟩
abbrev S1x256 : Shape := ⟨2, ![1, 256]⟩
abbrev S1x256x256 : Shape := ⟨3, ![1, 256, 256]⟩
abbrev S256x1 : Shape := ⟨2, ![256, 1]⟩
abbrev S1024x1 : Shape := ⟨2, ![1024, 1]⟩
abbrev S1024 : Shape := ⟨1, ![1024]⟩
abbrev S2048x256 : Shape := ⟨2, ![2048, 256]⟩

abbrev nBuf : Space → Nat
  | .hbm => 48
  | .vmem => 16
  | .smem => 0
  | _ => 0

abbrev bufTy : (tb : Table) → Fin (tcTables nBuf tb) → BufTy
  | .hbm, ⟨0, _⟩ => ⟨S2048x3584, .f32⟩
  | .hbm, ⟨1, _⟩ => ⟨S2048x512, .f32⟩
  | .hbm, ⟨2, _⟩ => ⟨S2048x512, .f32⟩
  | .hbm, ⟨3, _⟩ => ⟨S1x2048x8x64, .f32⟩
  | .hbm, ⟨4, _⟩ => ⟨S2048x512, .f32⟩
  | .hbm, ⟨5, _⟩ => ⟨S1x2048x8x64, .f32⟩
  | .hbm, ⟨6, _⟩ => ⟨S1x8x2048x2048, .f32⟩
  | .hbm, ⟨7, _⟩ => ⟨S_, .f32⟩
  | .hbm, ⟨8, _⟩ => ⟨S1x8x2048x2048, .f32⟩
  | .hbm, ⟨9, _⟩ => ⟨S1x8x2048x2048, .f32⟩
  | .hbm, ⟨10, _⟩ => ⟨S2048, .i32⟩
  | .hbm, ⟨11, _⟩ => ⟨S1x2048, .i32⟩
  | .hbm, ⟨12, _⟩ => ⟨S2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .f32⟩
  | .hbm, ⟨18, _⟩ => ⟨S1x8x2048x2048, .f32⟩
  | .hbm, ⟨19, _⟩ => ⟨S1x8x2048x2048, .f32⟩
  | .hbm, ⟨20, _⟩ => ⟨S1x8x2048x2048, .f32⟩
  | .hbm, ⟨21, _⟩ => ⟨S1x8x2048x2048, .f32⟩
  | .hbm, ⟨22, _⟩ => ⟨S1x8x2048x2048, .i1⟩
  | .hbm, ⟨23, _⟩ => ⟨S1x8x2048x2048, .f32⟩
  | .hbm, ⟨24, _⟩ => ⟨S1x8x2048x2048, .f32⟩
  | .hbm, ⟨25, _⟩ => ⟨S1x8x2048x2048, .f32⟩
  | .hbm, ⟨26, _⟩ => ⟨S1x8x2048x2048, .f32⟩
  | .hbm, ⟨27, _⟩ => ⟨S1x8x2048x2048, .f32⟩
  | .hbm, ⟨28, _⟩ => ⟨S1x8x2048x2048, .f32⟩
  | .hbm, ⟨29, _⟩ => ⟨S1x8x2048x2048, .f32⟩
  | .hbm, ⟨30, _⟩ => ⟨S1x8x2048x2048, .f32⟩
  | .hbm, ⟨31, _⟩ => ⟨S1x8x2048x2048, .f32⟩
  | .hbm, ⟨32, _⟩ => ⟨S_, .f32⟩
  | .hbm, ⟨33, _⟩ => ⟨S_, .f32⟩
  | .hbm, ⟨34, _⟩ => ⟨S1x8x2048x2048, .i1⟩
  | .hbm, ⟨35, _⟩ => ⟨S1x8x2048x2048, .f32⟩
  | .hbm, ⟨36, _⟩ => ⟨S1x8x2048x2048, .f32⟩
  | .hbm, ⟨37, _⟩ => ⟨S_, .f32⟩
  | .hbm, ⟨38, _⟩ => ⟨S1x8x2048, .f32⟩
  | .hbm, ⟨39, _⟩ => ⟨S8x2048, .f32⟩
  | .hbm, ⟨40, _⟩ => ⟨S2x4x2048, .f32⟩
  | .hbm, ⟨41, _⟩ => ⟨S2x2048x4, .f32⟩
  | .hbm, ⟨42, _⟩ => ⟨S2x2048x4x1, .f32⟩
  | .hbm, ⟨43, _⟩ => ⟨S2x2048x4x64, .f32⟩
  | .hbm, ⟨44, _⟩ => ⟨S2x2048x256, .f32⟩
  | .hbm, ⟨45, _⟩ => ⟨S2048x512, .bf16⟩
  | .hbm, ⟨46, _⟩ => ⟨S2048x512, .bf16⟩
  | .hbm, ⟨47, _⟩ => ⟨S2048x512, .bf16⟩
  | .local _ .vmem, ⟨0, _⟩ => ⟨S256x512, .f32⟩
  | .local _ .vmem, ⟨1, _⟩ => ⟨S256x512, .f32⟩
  | .local _ .vmem, ⟨2, _⟩ => ⟨S2048x512, .f32⟩
  | .local _ .vmem, ⟨3, _⟩ => ⟨S2048x512, .f32⟩
  | .local _ .vmem, ⟨4, _⟩ => ⟨S256x512, .f32⟩
  | .local _ .vmem, ⟨5, _⟩ => ⟨S256x512, .f32⟩
  | .local _ .vmem, ⟨6, _⟩ => ⟨S2x256x256, .f32⟩
  | .local _ .vmem, ⟨7, _⟩ => ⟨S2x256x256, .f32⟩
  | .local _ .vmem, ⟨8, _⟩ => ⟨S256x512, .bf16⟩
  | .local _ .vmem, ⟨9, _⟩ => ⟨S256x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .f32⟩
  | .local _ .vmem, ⟨15, _⟩ => ⟨S2048x512, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24_0 : Ref sig .tc := ⟨.hbm, 45, rfl⟩
abbrev main_v24_1 : Ref sig .tc := ⟨.hbm, 46, rfl⟩
abbrev main_v24_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

@[reducible] def k0_t1_loop (i : grid0.Coords) : Scf.Loop 32 :=
  let c0_i32_47 : BitVec 32 := 0#32
  let arg0 : BitVec 32 := BitVec.ofNat 32 (i 0).val
  let v184 : BitVec 32 := Scalar.subi arg0 c0_i32_47
  let c1_i32_48 : BitVec 32 := 1#32
  let v186 : BitVec 32 := Scalar.divsi v184 c1_i32_48
  let v187 : BitVec 32 := Scalar.muli v186 c1_i32_48
  let v188 : BitVec 32 := Scalar.addi c0_i32_47 v187
  let c1_i32_49 : BitVec 32 := 1#32
  ⟨c0_i32_47, v188, c1_i32_49⟩
def k0_mult1 (i : grid0.Coords) (k0_t1 : Fin (k0_t1_loop i).trips) : BitVec 32 :=
  let c0_i32_47 : BitVec 32 := 0#32
  let c1_i32_49 : BitVec 32 := 1#32
  let arg13 : BitVec 32 := Scf.iv c0_i32_47 c1_i32_49 k0_t1
  let c256_i32_102 : BitVec 32 := 256#32
  let v392 : BitVec 32 := Scalar.muli arg13 c256_i32_102
  v392
def k0_off1 (i : grid0.Coords) (k0_t1 : Fin (k0_t1_loop i).trips) : Fin 2 → Nat :=
  let c0_i32_47 : BitVec 32 := 0#32
  let c1_i32_49 : BitVec 32 := 1#32
  let arg13 : BitVec 32 := Scf.iv c0_i32_47 c1_i32_49 k0_t1
  let c256_i32_102 : BitVec 32 := 256#32
  let v392 : BitVec 32 := Scalar.muli arg13 c256_i32_102
  let v393 : BitVec 32 := v392
  let v394 : Index := Scalar.indexCast v393
  let c0_103 : Index := 0#32
  ![v394.toNat, 0]
def k0_off2 (i : grid0.Coords) (k0_t1 : Fin (k0_t1_loop i).trips) : Fin 2 → Nat :=
  let c0_i32_47 : BitVec 32 := 0#32
  let c1_i32_49 : BitVec 32 := 1#32
  let arg13 : BitVec 32 := Scf.iv c0_i32_47 c1_i32_49 k0_t1
  let c256_i32_102 : BitVec 32 := 256#32
  let v392 : BitVec 32 := Scalar.muli arg13 c256_i32_102
  let v393 : BitVec 32 := v392
  let v474 : Index := Scalar.indexCast v393
  let c256_124 : Index := 256#32
  ![v474.toNat, 256]
@[reducible] def k0_t2_loop (i : grid0.Coords) : Scf.Loop 32 :=
  let c0_i32_47 : BitVec 32 := 0#32
  let arg0 : BitVec 32 := BitVec.ofNat 32 (i 0).val
  let v184 : BitVec 32 := Scalar.subi arg0 c0_i32_47
  let c1_i32_48 : BitVec 32 := 1#32
  let v186 : BitVec 32 := Scalar.divsi v184 c1_i32_48
  let v187 : BitVec 32 := Scalar.muli v186 c1_i32_48
  let v188 : BitVec 32 := Scalar.addi c0_i32_47 v187
  let v185 : BitVec 32 := Scalar.addi c0_i32_47 v184
  let c1_i32_50 : BitVec 32 := 1#32
  ⟨v188, v185, c1_i32_50⟩
def k0_mult2 (i : grid0.Coords) (k0_t2 : Fin (k0_t2_loop i).trips) : BitVec 32 :=
  let c0_i32_47 : BitVec 32 := 0#32
  let arg0 : BitVec 32 := BitVec.ofNat 32 (i 0).val
  let v184 : BitVec 32 := Scalar.subi arg0 c0_i32_47
  let c1_i32_48 : BitVec 32 := 1#32
  let v186 : BitVec 32 := Scalar.divsi v184 c1_i32_48
  let v187 : BitVec 32 := Scalar.muli v186 c1_i32_48
  let v188 : BitVec 32 := Scalar.addi c0_i32_47 v187
  let c1_i32_50 : BitVec 32 := 1#32
  let arg13 : BitVec 32 := Scf.iv v188 c1_i32_50 k0_t2
  let c256_i32_102 : BitVec 32 := 256#32
  let v392 : BitVec 32 := Scalar.muli arg13 c256_i32_102
  v392
def k0_off3 (i : grid0.Coords) (k0_t2 : Fin (k0_t2_loop i).trips) : Fin 2 → Nat :=
  let c0_i32_47 : BitVec 32 := 0#32
  let arg0 : BitVec 32 := BitVec.ofNat 32 (i 0).val
  let v184 : BitVec 32 := Scalar.subi arg0 c0_i32_47
  let c1_i32_48 : BitVec 32 := 1#32
  let v186 : BitVec 32 := Scalar.divsi v184 c1_i32_48
  let v187 : BitVec 32 := Scalar.muli v186 c1_i32_48
  let v188 : BitVec 32 := Scalar.addi c0_i32_47 v187
  let c1_i32_50 : BitVec 32 := 1#32
  let arg13 : BitVec 32 := Scf.iv v188 c1_i32_50 k0_t2
  let c256_i32_102 : BitVec 32 := 256#32
  let v392 : BitVec 32 := Scalar.muli arg13 c256_i32_102
  let v393 : BitVec 32 := v392
  let v394 : Index := Scalar.indexCast v393
  let c0_103 : Index := 0#32
  ![v394.toNat, 0]
def k0_off4 (i : grid0.Coords) (k0_t2 : Fin (k0_t2_loop i).trips) : Fin 2 → Nat :=
  let c0_i32_47 : BitVec 32 := 0#32
  let arg0 : BitVec 32 := BitVec.ofNat 32 (i 0).val
  let v184 : BitVec 32 := Scalar.subi arg0 c0_i32_47
  let c1_i32_48 : BitVec 32 := 1#32
  let v186 : BitVec 32 := Scalar.divsi v184 c1_i32_48
  let v187 : BitVec 32 := Scalar.muli v186 c1_i32_48
  let v188 : BitVec 32 := Scalar.addi c0_i32_47 v187
  let c1_i32_50 : BitVec 32 := 1#32
  let arg13 : BitVec 32 := Scf.iv v188 c1_i32_50 k0_t2
  let c256_i32_102 : BitVec 32 := 256#32
  let v392 : BitVec 32 := Scalar.muli arg13 c256_i32_102
  let v393 : BitVec 32 := v392
  let v474 : Index := Scalar.indexCast v393
  let c256_124 : Index := 256#32
  ![v474.toNat, 256]
def k0_mult3 (i : grid0.Coords) : BitVec 32 :=
  let arg0 : BitVec 32 := BitVec.ofNat 32 (i 0).val
  let c256_i32 : BitVec 32 := 256#32
  let v191 : BitVec 32 := Scalar.muli arg0 c256_i32
  v191
def k0_off5 (i : grid0.Coords) : Fin 2 → Nat :=
  let arg0 : BitVec 32 := BitVec.ofNat 32 (i 0).val
  let c256_i32 : BitVec 32 := 256#32
  let v191 : BitVec 32 := Scalar.muli arg0 c256_i32
  let v192 : BitVec 32 := v191
  let v193 : Index := Scalar.indexCast v192
  let c0_51 : Index := 0#32
  ![v193.toNat, 0]
def k0_off6 (i : grid0.Coords) : Fin 2 → Nat :=
  let arg0 : BitVec 32 := BitVec.ofNat 32 (i 0).val
  let c256_i32 : BitVec 32 := 256#32
  let v191 : BitVec 32 := Scalar.muli arg0 c256_i32
  let v192 : BitVec 32 := v191
  let v276 : Index := Scalar.indexCast v192
  let c256_74 : Index := 256#32
  ![v276.toNat, 256]
def k0_cond2 (i : grid0.Coords) : BitVec 1 :=
  let arg0 : BitVec 32 := BitVec.ofNat 32 (i 0).val
  let c7_i32 : BitVec 32 := 7#32
  let v389 : BitVec 1 := Scalar.cmpi .eq arg0 c7_i32
  let v390 : BitVec 32 := Scalar.extui v389
  let c0_i32_101 : BitVec 32 := 0#32
  let v391 : BitVec 1 := Scalar.cmpi .ne v390 c0_i32_101
  v391

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2048x3584 : Shape := ⟨2, ![2048, 3584]⟩
abbrev S2048x512 : Shape := ⟨2, ![2048, 512]⟩
abbrev S1x2048x8x64 : Shape := ⟨4, ![1, 2048, 8, 64]⟩
abbrev S1x8x2048x2048 : Shape := ⟨4, ![1, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x8x64x2048 : Shape := ⟨4, ![1, 8, 64, 2048]⟩
abbrev S1x8x2048x64 : Shape := ⟨4, ![1, 8, 2048, 64]⟩

abbrev nBuf : Space → Nat
  | .hbm => 173
  | .vmem => 0
  | .smem => 0
  | _ => 0

abbrev hbmTy0_0 (i : Nat) : BufTy := match i % 128 with
  | 0 => ⟨S2048x3584, .f32⟩
  | 1 => ⟨S2048x512, .f32⟩
  | 2 => ⟨S2048x512, .f32⟩
  | 3 => ⟨S2048x512, .f32⟩
  | 4 => ⟨S2048x512, .f32⟩
  | 5 => ⟨S1x2048x8x64, .f32⟩
  | 6 => ⟨S1x2048x8x64, .f32⟩
  | 7 => ⟨S1x2048x8x64, .f32⟩
  | 8 => ⟨S1x8x2048x2048, .f32⟩
  | 9 => ⟨S_, .f32⟩
  | 10 => ⟨S1x8x2048x2048, .f32⟩
  | 11 => ⟨S1x8x2048x2048, .f32⟩
  | 12 => ⟨S2048, .i32⟩
  | 13 => ⟨S1x2048, .i32⟩
  | 14 => ⟨S2048, .i32⟩
  | 15 => ⟨S2048x1, .i32⟩
  | 16 => ⟨S2048x2048, .i32⟩
  | 17 => ⟨S2048x2048, .i32⟩
  | 18 => ⟨S2048x2048, .i1⟩
  | 19 => ⟨S_, .f32⟩
  | 20 => ⟨S1x8x2048x2048, .f32⟩
  | 21 => ⟨S1x8x2048x2048, .f32⟩
  | 22 => ⟨S1x8x2048x2048, .f32⟩
  | 23 => ⟨S1x8x2048x2048, .f32⟩
  | 24 => ⟨S1x8x2048x2048, .i1⟩
  | 25 => ⟨S1x8x2048x2048, .f32⟩
  | 26 => ⟨S1x8x2048x2048, .f32⟩
  | 27 => ⟨S1x8x2048x2048, .f32⟩
  | 28 => ⟨S1x8x2048x2048, .f32⟩
  | 29 => ⟨S1x8x2048x2048, .f32⟩
  | 30 => ⟨S1x8x2048x2048, .f32⟩
  | 31 => ⟨S1x8x2048x2048, .f32⟩
  | 32 => ⟨S1x8x2048x2048, .f32⟩
  | 33 => ⟨S_, .f32⟩
  | 34 => ⟨S1x8x2048x2048, .f32⟩
  | 35 => ⟨S1x8x2048x2048, .i1⟩
  | 36 => ⟨S_, .f32⟩
  | 37 => ⟨S1x8x2048x2048, .f32⟩
  | 38 => ⟨S1x8x2048x2048, .f32⟩
  | 39 => ⟨S_, .f32⟩
  | 40 => ⟨S1x8x2048x2048, .f32⟩
  | 41 => ⟨S1x8x2048x2048, .i1⟩
  | 42 => ⟨S_, .f32⟩
  | 43 => ⟨S1x8x2048x2048, .f32⟩
  | 44 => ⟨S1x8x2048x2048, .f32⟩
  | 45 => ⟨S1x8x2048x2048, .f32⟩
  | 46 => ⟨S1x8x2048x2048, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S1x8x2048x2048, .f32⟩
  | 55 => ⟨S1x8x2048x2048, .i1⟩
  | 56 => ⟨S_, .f32⟩
  | 57 => ⟨S1x8x2048x2048, .f32⟩
  | 58 => ⟨S1x8x2048x2048, .f32⟩
  | 59 => ⟨S1x8x2048x2048, .f32⟩
  | 60 => ⟨S1x8x2048x2048, .f32⟩
  | 61 => ⟨S1x8x2048x2048, .f32⟩
  | 62 => ⟨S_, .f32⟩
  | 63 => ⟨S1x8x2048x2048, .f32⟩
  | 64 => ⟨S1x8x2048x2048, .f32⟩
  | 65 => ⟨S1x8x2048x2048, .f32⟩
  | 66 => ⟨S_, .f32⟩
  | 67 => ⟨S_, .f32⟩
  | 68 => ⟨S1x8x2048x2048, .i1⟩
  | 69 => ⟨S1x8x2048x2048, .f32⟩
  | 70 => ⟨S1x8x2048x2048, .f32⟩
  | 71 => ⟨S_, .f32⟩
  | 72 => ⟨S1x8x2048x2048, .f32⟩
  | 73 => ⟨S_, .f32⟩
  | 74 => ⟨S_, .f32⟩
  | 75 => ⟨S1x8x2048x2048, .f32⟩
  | 76 => ⟨S1x8x2048x2048, .f32⟩
  | 77 => ⟨S1x8x2048x2048, .f32⟩
  | 78 => ⟨S_, .f32⟩
  | 79 => ⟨S1x8x2048x2048, .f32⟩
  | 80 => ⟨S1x8x2048x2048, .f32⟩
  | 81 => ⟨S1x8x2048x2048, .f32⟩
  | 82 => ⟨S1x8x2048x2048, .f32⟩
  | 83 => ⟨S1x8x2048x2048, .i1⟩
  | 84 => ⟨S1x8x2048x2048, .f32⟩
  | 85 => ⟨S1x8x2048x2048, .f32⟩
  | 86 => ⟨S1x8x2048x2048, .f32⟩
  | 87 => ⟨S1x8x2048x2048, .f32⟩
  | 88 => ⟨S1x8x2048x2048, .f32⟩
  | 89 => ⟨S1x8x2048x2048, .f32⟩
  | 90 => ⟨S1x8x2048x2048, .f32⟩
  | 91 => ⟨S1x8x2048x2048, .f32⟩
  | 92 => ⟨S_, .f32⟩
  | 93 => ⟨S1x8x2048x2048, .f32⟩
  | 94 => ⟨S1x8x2048x2048, .i1⟩
  | 95 => ⟨S_, .f32⟩
  | 96 => ⟨S1x8x2048x2048, .f32⟩
  | 97 => ⟨S1x8x2048x2048, .f32⟩
  | 98 => ⟨S_, .f32⟩
  | 99 => ⟨S1x8x2048x2048, .f32⟩
  | 100 => ⟨S1x8x2048x2048, .i1⟩
  | 101 => ⟨S_, .f32⟩
  | 102 => ⟨S1x8x2048x2048, .f32⟩
  | 103 => ⟨S1x8x2048x2048, .f32⟩
  | 104 => ⟨S1x8x2048x2048, .f32⟩
  | 105 => ⟨S1x8x2048x2048, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S1x8x2048x2048, .f32⟩
  | 114 => ⟨S1x8x2048x2048, .i1⟩
  | 115 => ⟨S_, .f32⟩
  | 116 => ⟨S1x8x2048x2048, .f32⟩
  | 117 => ⟨S1x8x2048x2048, .f32⟩
  | 118 => ⟨S1x8x2048x2048, .f32⟩
  | 119 => ⟨S1x8x2048x2048, .f32⟩
  | 120 => ⟨S1x8x2048x2048, .f32⟩
  | 121 => ⟨S_, .f32⟩
  | 122 => ⟨S1x8x2048x2048, .f32⟩
  | 123 => ⟨S1x8x2048x2048, .f32⟩
  | 124 => ⟨S1x8x2048x2048, .f32⟩
  | 125 => ⟨S1x8x2048x2048, .f32⟩
  | 126 => ⟨S1x8x2048x2048, .f32⟩
  | 127 => ⟨S_, .f32⟩
  | _ => ⟨S2048x3584, .f32⟩

abbrev hbmTy0_1 (i : Nat) : BufTy := match i % 128 with
  | 0 => ⟨S_, .f32⟩
  | 1 => ⟨S1x8x2048x2048, .i1⟩
  | 2 => ⟨S1x8x2048x2048, .f32⟩
  | 3 => ⟨S1x8x2048x2048, .f32⟩
  | 4 => ⟨S_, .f32⟩
  | 5 => ⟨S1x8x2048x2048, .f32⟩
  | 6 => ⟨S1x8x64x2048, .f32⟩
  | 7 => ⟨S1x2048x8x64, .f32⟩
  | 8 => ⟨S2048x512, .f32⟩
  | 9 => ⟨S1x2048x8x64, .f32⟩
  | 10 => ⟨S1x8x64x2048, .f32⟩
  | 11 => ⟨S1x8x2048x2048, .f32⟩
  | 12 => ⟨S1x8x64x2048, .f32⟩
  | 13 => ⟨S1x2048x8x64, .f32⟩
  | 14 => ⟨S_, .f32⟩
  | 15 => ⟨S1x8x2048x2048, .f32⟩
  | 16 => ⟨S1x8x2048x2048, .f32⟩
  | 17 => ⟨S1x8x2048x2048, .f32⟩
  | 18 => ⟨S1x8x2048x2048, .f32⟩
  | 19 => ⟨S1x8x2048x2048, .f32⟩
  | 20 => ⟨S1x8x2048x2048, .f32⟩
  | 21 => ⟨S1x8x2048x2048, .f32⟩
  | 22 => ⟨S_, .f32⟩
  | 23 => ⟨S_, .f32⟩
  | 24 => ⟨S1x8x2048x2048, .f32⟩
  | 25 => ⟨S1x8x2048x2048, .f32⟩
  | 26 => ⟨S_, .f32⟩
  | 27 => ⟨S1x8x2048x2048, .f32⟩
  | 28 => ⟨S1x8x2048x2048, .f32⟩
  | 29 => ⟨S1x8x2048x2048, .f32⟩
  | 30 => ⟨S1x8x2048x2048, .f32⟩
  | 31 => ⟨S1x8x2048x2048, .f32⟩
  | 32 => ⟨S_, .f32⟩
  | 33 => ⟨S1x8x2048x2048, .f32⟩
  | 34 => ⟨S1x8x2048x2048, .f32⟩
  | 35 => ⟨S1x8x2048x64, .f32⟩
  | 36 => ⟨S1x2048x8x64, .f32⟩
  | 37 => ⟨S1x8x2048x64, .f32⟩
  | 38 => ⟨S1x2048x8x64, .f32⟩
  | 39 => ⟨S2048x512, .f32⟩
  | 40 => ⟨S2048x512, .f32⟩
  | 41 => ⟨S2048x512, .f32⟩
  | 42 => ⟨S2048x512, .bf16⟩
  | 43 => ⟨S2048x512, .bf16⟩
  | 44 => ⟨S2048x512, .bf16⟩
  | _ => ⟨S2048x3584, .f32⟩

abbrev hbmTy (i : Nat) : BufTy := match i / 128 with
  | 0 => hbmTy0_0 i
  | 1 => hbmTy0_1 i
  | _ => ⟨S2048x3584, .f32⟩

abbrev bufTy : (tb : Table) → Fin (tcTables nBuf tb) → BufTy
  | .hbm, ⟨i, _⟩ => hbmTy i
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v16_0 : Ref sig .tc := ⟨.hbm, 32, rfl⟩
abbrev main_call0_cst_0 : Ref sig .tc := ⟨.hbm, 33, rfl⟩
abbrev main_call0_v13 : Ref sig .tc := ⟨.hbm, 34, rfl⟩
abbrev main_call0_v14 : Ref sig .tc := ⟨.hbm, 35, rfl⟩
abbrev main_call0_cst_1 : Ref sig .tc := ⟨.hbm, 36, rfl⟩
abbrev main_call0_v15 : Ref sig .tc := ⟨.hbm, 37, rfl⟩
abbrev main_call0_v16 : Ref sig .tc := ⟨.hbm, 38, rfl⟩
abbrev main_call0_cst_2 : Ref sig .tc := ⟨.hbm, 39, rfl⟩
abbrev main_call0_v17 : Ref sig .tc := ⟨.hbm, 40, rfl⟩
abbrev main_call0_v18 : Ref sig .tc := ⟨.hbm, 41, rfl⟩
abbrev main_call0_cst_3 : Ref sig .tc := ⟨.hbm, 42, rfl⟩
abbrev main_call0_v19 : Ref sig .tc := ⟨.hbm, 43, rfl⟩
abbrev main_call0_v20 : Ref sig .tc := ⟨.hbm, 44, rfl⟩
abbrev main_call0_v21 : Ref sig .tc := ⟨.hbm, 45, rfl⟩
abbrev main_v16_1 : Ref sig .tc := ⟨.hbm, 46, rfl⟩
abbrev main_call0_cst_4 : Ref sig .tc := ⟨.hbm, 47, rfl⟩
abbrev main_call0_cst_5 : Ref sig .tc := ⟨.hbm, 48, rfl⟩
abbrev main_call0_v23 : Ref sig .tc := ⟨.hbm, 49, rfl⟩
abbrev main_call0_cst_6 : Ref sig .tc := ⟨.hbm, 50, rfl⟩
abbrev main_call0_cst_7 : Ref sig .tc := ⟨.hbm, 51, rfl⟩
abbrev main_call0_v24 : Ref sig .tc := ⟨.hbm, 52, rfl⟩
abbrev main_call0_cst_8 : Ref sig .tc := ⟨.hbm, 53, rfl⟩
abbrev main_call0_v25 : Ref sig .tc := ⟨.hbm, 54, rfl⟩
abbrev main_call0_v26 : Ref sig .tc := ⟨.hbm, 55, rfl⟩
abbrev main_call0_cst_9 : Ref sig .tc := ⟨.hbm, 56, rfl⟩
abbrev main_call0_v27 : Ref sig .tc := ⟨.hbm, 57, rfl⟩
abbrev main_call0_v28 : Ref sig .tc := ⟨.hbm, 58, rfl⟩
abbrev main_call0_v29 : Ref sig .tc := ⟨.hbm, 59, rfl⟩
abbrev main_call0_v30 : Ref sig .tc := ⟨.hbm, 60, rfl⟩
abbrev main_call0_v31 : Ref sig .tc := ⟨.hbm, 61, rfl⟩
abbrev main_call0_cst_10 : Ref sig .tc := ⟨.hbm, 62, rfl⟩
abbrev main_call0_v32 : Ref sig .tc := ⟨.hbm, 63, rfl⟩
abbrev main_v16_2 : Ref sig .tc := ⟨.hbm, 64, rfl⟩
abbrev main_v17 : Ref sig .tc := ⟨.hbm, 65, rfl⟩
abbrev main_cst_0 : Ref sig .tc := ⟨.hbm, 66, rfl⟩
abbrev main_call1_v0 : Ref sig .tc := ⟨.hbm, 67, rfl⟩
abbrev main_v18_1 : Ref sig .tc := ⟨.hbm, 68, rfl⟩
abbrev main_call1_v2 : Ref sig .tc := ⟨.hbm, 69, rfl⟩
abbrev main_v18_0 : Ref sig .tc := ⟨.hbm, 70, rfl⟩
abbrev main_call1_cst : Ref sig .tc := ⟨.hbm, 71, rfl⟩
abbrev main_v18_2 : Ref sig .tc := ⟨.hbm, 72, rfl⟩
abbrev main_call2_cst : Ref sig .tc := ⟨.hbm, 73, rfl⟩
abbrev main_call2_v0 : Ref sig .tc := ⟨.hbm, 74, rfl⟩
abbrev main_v19 : Ref sig .tc := ⟨.hbm, 75, rfl⟩
abbrev main_v20 : Ref sig .tc := ⟨.hbm, 76, rfl⟩
abbrev main_call3_v0 : Ref sig .tc := ⟨.hbm, 77, rfl⟩
abbrev main_call3_call0_cst : Ref sig .tc := ⟨.hbm, 78, rfl⟩
abbrev main_call3_call0_v0 : Ref sig .tc := ⟨.hbm, 79, rfl⟩
abbrev main_call3_call0_v1 : Ref sig .tc := ⟨.hbm, 80, rfl⟩
abbrev main_call3_call0_v2 : Ref sig .tc := ⟨.hbm, 81, rfl⟩
abbrev main_call3_call0_v3 : Ref sig .tc := ⟨.hbm, 82, rfl⟩
abbrev main_call3_call0_v4 : Ref sig .tc := ⟨.hbm, 83, rfl⟩
abbrev main_call3_call0_v5 : Ref sig .tc := ⟨.hbm, 84, rfl⟩
abbrev main_call3_call0_v6 : Ref sig .tc := ⟨.hbm, 85, rfl⟩
abbrev main_call3_call0_v7 : Ref sig .tc := ⟨.hbm, 86, rfl⟩
abbrev main_call3_call0_v8 : Ref sig .tc := ⟨.hbm, 87, rfl⟩
abbrev main_call3_call0_v9 : Ref sig .tc := ⟨.hbm, 88, rfl⟩
abbrev main_call3_call0_v10 : Ref sig .tc := ⟨.hbm, 89, rfl⟩
abbrev main_call3_call0_v11 : Ref sig .tc := ⟨.hbm, 90, rfl⟩
abbrev main_call3_v1_0 : Ref sig .tc := ⟨.hbm, 91, rfl⟩
abbrev main_call3_call0_cst_0 : Ref sig .tc := ⟨.hbm, 92, rfl⟩
abbrev main_call3_call0_v13 : Ref sig .tc := ⟨.hbm, 93, rfl⟩
abbrev main_call3_call0_v14 : Ref sig .tc := ⟨.hbm, 94, rfl⟩
abbrev main_call3_call0_cst_1 : Ref sig .tc := ⟨.hbm, 95, rfl⟩
abbrev main_call3_call0_v15 : Ref sig .tc := ⟨.hbm, 96, rfl⟩
abbrev main_call3_call0_v16 : Ref sig .tc := ⟨.hbm, 97, rfl⟩
abbrev main_call3_call0_cst_2 : Ref sig .tc := ⟨.hbm, 98, rfl⟩
abbrev main_call3_call0_v17 : Ref sig .tc := ⟨.hbm, 99, rfl⟩
abbrev main_call3_call0_v18 : Ref sig .tc := ⟨.hbm, 100, rfl⟩
abbrev main_call3_call0_cst_3 : Ref sig .tc := ⟨.hbm, 101, rfl⟩
abbrev main_call3_call0_v19 : Ref sig .tc := ⟨.hbm, 102, rfl⟩
abbrev main_call3_call0_v20 : Ref sig .tc := ⟨.hbm, 103, rfl⟩
abbrev main_call3_call0_v21 : Ref sig .tc := ⟨.hbm, 104, rfl⟩
abbrev main_v21_1 : Ref sig .tc := ⟨.hbm, 105, rfl⟩
abbrev main_call3_call0_cst_4 : Ref sig .tc := ⟨.hbm, 106, rfl⟩
abbrev main_call3_call0_cst_5 : Ref sig .tc := ⟨.hbm, 107, rfl⟩
abbrev main_call3_call0_v23 : Ref sig .tc := ⟨.hbm, 108, rfl⟩
abbrev main_call3_call0_cst_6 : Ref sig .tc := ⟨.hbm, 109, rfl⟩
abbrev main_call3_call0_cst_7 : Ref sig .tc := ⟨.hbm, 110, rfl⟩
abbrev main_call3_call0_v24 : Ref sig .tc := ⟨.hbm, 111, rfl⟩
abbrev main_call3_call0_cst_8 : Ref sig .tc := ⟨.hbm, 112, rfl⟩
abbrev main_call3_call0_v25 : Ref sig .tc := ⟨.hbm, 113, rfl⟩
abbrev main_call3_call0_v26 : Ref sig .tc := ⟨.hbm, 114, rfl⟩
abbrev main_call3_call0_cst_9 : Ref sig .tc := ⟨.hbm, 115, rfl⟩
abbrev main_call3_call0_v27 : Ref sig .tc := ⟨.hbm, 116, rfl⟩
abbrev main_call3_call0_v28 : Ref sig .tc := ⟨.hbm, 117, rfl⟩
abbrev main_call3_call0_v29 : Ref sig .tc := ⟨.hbm, 118, rfl⟩
abbrev main_call3_call0_v30 : Ref sig .tc := ⟨.hbm, 119, rfl⟩
abbrev main_call3_call0_v31 : Ref sig .tc := ⟨.hbm, 120, rfl⟩
abbrev main_call3_call0_cst_10 : Ref sig .tc := ⟨.hbm, 121, rfl⟩
abbrev main_call3_call0_v32 : Ref sig .tc := ⟨.hbm, 122, rfl⟩
abbrev main_v21_2 : Ref sig .tc := ⟨.hbm, 123, rfl⟩
abbrev main_v21_0 : Ref sig .tc := ⟨.hbm, 124, rfl⟩
abbrev main_v22 : Ref sig .tc := ⟨.hbm, 125, rfl⟩
abbrev main_v23 : Ref sig .tc := ⟨.hbm, 126, rfl⟩
abbrev main_cst_1 : Ref sig .tc := ⟨.hbm, 127, rfl⟩
abbrev main_call4_v0 : Ref sig .tc := ⟨.hbm, 128, rfl⟩
abbrev main_v24_1 : Ref sig .tc := ⟨.hbm, 129, rfl⟩
abbrev main_call4_v2 : Ref sig .tc := ⟨.hbm, 130, rfl⟩
abbrev main_v24_0 : Ref sig .tc := ⟨.hbm, 131, rfl⟩
abbrev main_call4_cst : Ref sig .tc := ⟨.hbm, 132, rfl⟩
abbrev main_v24_2 : Ref sig .tc := ⟨.hbm, 133, rfl⟩
abbrev main_v25 : Ref sig .tc := ⟨.hbm, 134, rfl⟩
abbrev main_v26 : Ref sig .tc := ⟨.hbm, 135, rfl⟩
abbrev main_v27 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_v31 : Ref sig .tc := ⟨.hbm, 140, rfl⟩
abbrev main_v32 : Ref sig .tc := ⟨.hbm, 141, rfl⟩
abbrev main_call5_cst : Ref sig .tc := ⟨.hbm, 142, rfl⟩
abbrev main_call5_v0 : Ref sig .tc := ⟨.hbm, 143, rfl⟩
abbrev main_v33 : Ref sig .tc := ⟨.hbm, 144, rfl⟩
abbrev main_v34 : Ref sig .tc := ⟨.hbm, 145, rfl⟩
abbrev main_call6_v0 : Ref sig .tc := ⟨.hbm, 146, rfl⟩
abbrev main_call6_v1 : Ref sig .tc := ⟨.hbm, 147, rfl⟩
abbrev main_v35 : Ref sig .tc := ⟨.hbm, 148, rfl⟩
abbrev main_v36 : Ref sig .tc := ⟨.hbm, 149, rfl⟩
abbrev main_call7_cst : Ref sig .tc := ⟨.hbm, 150, rfl⟩
abbrev main_call7_v0 : Ref sig .tc := ⟨.hbm, 151, rfl⟩
abbrev main_v37 : Ref sig .tc := ⟨.hbm, 152, rfl⟩
abbrev main_v38 : Ref sig .tc := ⟨.hbm, 153, rfl⟩
abbrev main_call8_cst : Ref sig .tc := ⟨.hbm, 154, rfl⟩
abbrev main_call8_v0 : Ref sig .tc := ⟨.hbm, 155, rfl⟩
abbrev main_v39 : Ref sig .tc := ⟨.hbm, 156, rfl⟩
abbrev main_v40 : Ref sig .tc := ⟨.hbm, 157, rfl⟩
abbrev main_v41 : Ref sig .tc := ⟨.hbm, 158, rfl⟩
abbrev main_v42 : Ref sig .tc := ⟨.hbm, 159, rfl⟩
abbrev main_cst_2 : Ref sig .tc := ⟨.hbm, 160, rfl⟩
abbrev main_v43 : Ref sig .tc := ⟨.hbm, 161, rfl⟩
abbrev main_v44 : Ref sig .tc := ⟨.hbm, 162, rfl⟩
abbrev main_v45 : Ref sig .tc := ⟨.hbm, 163, rfl⟩
abbrev main_v46 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩

abbrev nD : Nat := 1
abbrev τ : Topo := Topo.v7x

variable {F : FTy → Type} [FloatOps F]
-- ==== Kernel2.lean ====
abbrev S2048x1024 : Shape := ⟨2, ![2048, 1024]⟩
abbrev S2048x256 : Shape := ⟨2, ![2048, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S2048 : Shape := ⟨1, ![2048]⟩
abbrev S2048x1 : Shape := ⟨2, ![2048, 1]⟩
abbrev S2048x512 : Shape := ⟨2, ![2048, 512]⟩
abbrev S4x256x256 : Shape := ⟨3, ![4, 256, 256]⟩
abbrev S256x256 : Shape := ⟨2, ![256, 256]⟩
abbrev S256x512 : Shape := ⟨2, ![256, 512]⟩
abbrev S256 : Shape := ⟨1, ![256]⟩
abbrev S256x1 : Shape := ⟨2, ![256, 1]⟩
abbrev S1024 : Shape := ⟨1, ![1024]⟩
abbrev S1x256x256 : Shape := ⟨3, ![1, 256, 256]⟩
abbrev S512x1024 : Shape := ⟨2, ![512, 1024]⟩

abbrev nBuf : Space → Nat
  | .hbm => 49
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x256, .f32⟩
  | .hbm, ⟨4, _⟩ => ⟨S1x1024, .f32⟩
  | .hbm, ⟨5, _⟩ => ⟨S1024x1024, .f32⟩
  | .hbm, ⟨6, _⟩ => ⟨S256x1024, .f32⟩
  | .hbm, ⟨7, _⟩ => ⟨S1024x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x1024, .bf16⟩
  | .hbm, ⟨35, _⟩ => ⟨S2048x1024, .f32⟩
  | .hbm, ⟨36, _⟩ => ⟨S2048x1024, .bf16⟩
  | .hbm, ⟨37, _⟩ => ⟨S2048x512, .f32⟩
  | .hbm, ⟨38, _⟩ => ⟨S2048x512, .bf16⟩
  | .hbm, ⟨39, _⟩ => ⟨S2048x512, .f32⟩
  | .hbm, ⟨40, _⟩ => ⟨S2048x512, .bf16⟩
  | .hbm, ⟨41, _⟩ => ⟨S1024x1024, .bf16⟩
  | .hbm, ⟨42, _⟩ => ⟨S1024x1024, .bf16⟩
  | .hbm, ⟨43, _⟩ => ⟨S2048x1024, .f32⟩
  | .hbm, ⟨44, _⟩ => ⟨S2048x1024, .f32⟩
  | .hbm, ⟨45, _⟩ => ⟨S1024x1024, .f32⟩
  | .hbm, ⟨46, _⟩ => ⟨S4x256x256, .f32⟩
  | .hbm, ⟨47, _⟩ => ⟨S1024x1024, .f32⟩
  | .hbm, ⟨48, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x256, .f32⟩
  | .local _ .vmem, ⟨9, _⟩ => ⟨S256x256, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S1024x1024, .f32⟩
  | .local _ .vmem, ⟨22, _⟩ => ⟨S4x256x256, .f32⟩
  | .local _ .vmem, ⟨23, _⟩ => ⟨S1024x1024, .f32⟩
  | .local _ .vmem, ⟨24, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev main_v30_2 : Ref sig .tc := ⟨.hbm, 45, rfl⟩
abbrev main_v30_3 : Ref sig .tc := ⟨.hbm, 46, rfl⟩
abbrev main_v30_4 : Ref sig .tc := ⟨.hbm, 47, rfl⟩
abbrev main_v30_5 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference2Ideal.lean ====
abbrev S2048x1024 : Shape := ⟨2, ![2048, 1024]⟩
abbrev S2048x256 : Shape := ⟨2, ![2048, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 84
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x256, .f32⟩
  | .hbm, ⟨4, _⟩ => ⟨S1x1024, .f32⟩
  | .hbm, ⟨5, _⟩ => ⟨S1024x1024, .f32⟩
  | .hbm, ⟨6, _⟩ => ⟨S256x1024, .f32⟩
  | .hbm, ⟨7, _⟩ => ⟨S1024x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S1024x1024, .f32⟩
  | .hbm, ⟨51, _⟩ => ⟨S1024x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S1024x256, .f32⟩
  | .hbm, ⟨78, _⟩ => ⟨S256x1024, .f32⟩
  | .hbm, ⟨79, _⟩ => ⟨S1024x1024, .f32⟩
  | .hbm, ⟨80, _⟩ => ⟨S1024x1024, .f32⟩
  | .hbm, ⟨81, _⟩ => ⟨S2048x1024, .f32⟩
  | .hbm, ⟨82, _⟩ => ⟨S256x4x256, .f32⟩
  | .hbm, ⟨83, _⟩ => ⟨S4x256x256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]
-- ==== Kernel3.lean ====
abbrev S2048x1024 : Shape := ⟨2, ![2048, 1024]⟩
abbrev S1x1024 : Shape := ⟨2, ![1, 1024]⟩
abbrev S2048x3584 : Shape := ⟨2, ![2048, 3584]⟩
abbrev S_ : Shape := ⟨0, ![]⟩
abbrev S2048 : Shape := ⟨1, ![2048]⟩
abbrev S2048x1 : Shape := ⟨2, ![2048, 1]⟩
abbrev S4x1024x896 : Shape := ⟨3, ![4, 1024, 896]⟩
abbrev S2048x896 : Shape := ⟨2, ![2048, 896]⟩
abbrev S1x1024x896 : Shape := ⟨3, ![1, 1024, 896]⟩
abbrev S1024x896 : Shape := ⟨2, ![1024, 896]⟩

abbrev nBuf : Space → Nat
  | .hbm => 21
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x3584, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S2048x3584, .bf16⟩
  | .hbm, ⟨20, _⟩ => ⟨S4x1024x896, .f32⟩
  | .local _ .vmem, ⟨0, _⟩ => ⟨S2048x1024, .bf16⟩
  | .local _ .vmem, ⟨1, _⟩ => ⟨S2048x896, .bf16⟩
  | .local _ .vmem, ⟨2, _⟩ => ⟨S2048x896, .bf16⟩
  | .local _ .vmem, ⟨3, _⟩ => ⟨S1x1024x896, .f32⟩
  | .local _ .vmem, ⟨4, _⟩ => ⟨S1x1024x896, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S2048x1024 : Shape := ⟨2, ![2048, 1024]⟩
abbrev S1x1024 : Shape := ⟨2, ![1, 1024]⟩
abbrev S2048x3584 : Shape := ⟨2, ![2048, 3584]⟩
abbrev S_ : Shape := ⟨0, ![]⟩
abbrev S2048 : Shape := ⟨1, ![2048]⟩
abbrev S2048x1 : Shape := ⟨2, ![2048, 1]⟩
abbrev S3584x1024 : Shape := ⟨2, ![3584, 1024]⟩
abbrev S1024x3584 : Shape := ⟨2, ![1024, 3584]⟩
abbrev S1024x4x896 : Shape := ⟨3, ![1024, 4, 896]⟩
abbrev S4x1024x896 : Shape := ⟨3, ![4, 1024, 896]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x3584, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S3584x1024, .f32⟩
  | .hbm, ⟨19, _⟩ => ⟨S1024x3584, .f32⟩
  | .hbm, ⟨20, _⟩ => ⟨S1024x4x896, .f32⟩
  | .hbm, ⟨21, _⟩ => ⟨S4x1024x896, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel4.lean ====
abbrev S2048x3584 : Shape := ⟨2, ![2048, 3584]⟩
abbrev S1024x3584 : Shape := ⟨2, ![1024, 3584]⟩
abbrev S2048x1024 : Shape := ⟨2, ![2048, 1024]⟩
abbrev S1x1024 : Shape := ⟨2, ![1, 1024]⟩
abbrev S1024x4x896 : Shape := ⟨3, ![1024, 4, 896]⟩
abbrev S4x1024x896 : Shape := ⟨3, ![4, 1024, 896]⟩
abbrev S1024x896 : Shape := ⟨2, ![1024, 896]⟩
abbrev S1x1024x896 : Shape := ⟨3, ![1, 1024, 896]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S2048x3584, .f32⟩
  | .hbm, ⟨1, _⟩ => ⟨S1024x3584, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x3584, .bf16⟩
  | .hbm, ⟨6, _⟩ => ⟨S1024x3584, .bf16⟩
  | .hbm, ⟨7, _⟩ => ⟨S1024x4x896, .bf16⟩
  | .hbm, ⟨8, _⟩ => ⟨S4x1024x896, .bf16⟩
  | .hbm, ⟨9, _⟩ => ⟨S2048x1024, .f32⟩
  | .hbm, ⟨10, _⟩ => ⟨S1x1024, .f32⟩
  | .local _ .vmem, ⟨0, _⟩ => ⟨S1024x896, .bf16⟩
  | .local _ .vmem, ⟨1, _⟩ => ⟨S1024x896, .bf16⟩
  | .local _ .vmem, ⟨2, _⟩ => ⟨S1x1024x896, .bf16⟩
  | .local _ .vmem, ⟨3, _⟩ => ⟨S1x1024x896, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![2, 4], ![false, false]⟩

def k0_cond4 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference4Ideal.lean ====
abbrev S2048x3584 : Shape := ⟨2, ![2048, 3584]⟩
abbrev S1024x3584 : Shape := ⟨2, ![1024, 3584]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S1024x3584, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x3584, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel5.lean ====
abbrev S2048x1024 : Shape := ⟨2, ![2048, 1024]⟩
abbrev S1x1024 : Shape := ⟨2, ![1, 1024]⟩
abbrev S1024x3584 : Shape := ⟨2, ![1024, 3584]⟩
abbrev S1024x4x896 : Shape := ⟨3, ![1024, 4, 896]⟩
abbrev S4x1024x896 : Shape := ⟨3, ![4, 1024, 896]⟩
abbrev S2048x3584 : Shape := ⟨2, ![2048, 3584]⟩
abbrev S1x1024x896 : Shape := ⟨3, ![1, 1024, 896]⟩
abbrev S2048x896 : Shape := ⟨2, ![2048, 896]⟩
abbrev S2048 : Shape := ⟨1, ![2048]⟩
abbrev S2048x1 : Shape := ⟨2, ![2048, 1]⟩
abbrev S1024x896 : Shape := ⟨2, ![1024, 896]⟩

abbrev nBuf : Space → Nat
  | .hbm => 8
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3584, .f32⟩
  | .hbm, ⟨3, _⟩ => ⟨S1024x3584, .bf16⟩
  | .hbm, ⟨4, _⟩ => ⟨S1024x4x896, .bf16⟩
  | .hbm, ⟨5, _⟩ => ⟨S4x1024x896, .bf16⟩
  | .hbm, ⟨6, _⟩ => ⟨S2048x3584, .f32⟩
  | .hbm, ⟨7, _⟩ => ⟨S2048x1024, .bf16⟩
  | .local _ .vmem, ⟨0, _⟩ => ⟨S2048x1024, .f32⟩
  | .local _ .vmem, ⟨1, _⟩ => ⟨S1x1024, .f32⟩
  | .local _ .vmem, ⟨2, _⟩ => ⟨S1x1024x896, .bf16⟩
  | .local _ .vmem, ⟨3, _⟩ => ⟨S1x1024x896, .bf16⟩
  | .local _ .vmem, ⟨4, _⟩ => ⟨S2048x896, .f32⟩
  | .local _ .vmem, ⟨5, _⟩ => ⟨S2048x896, .f32⟩
  | .local _ .vmem, ⟨6, _⟩ => ⟨S2048x1024, .bf16⟩
  | .local _ .vmem, ⟨7, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference5Ideal.lean ====
abbrev S2048x1024 : Shape := ⟨2, ![2048, 1024]⟩
abbrev S1x1024 : Shape := ⟨2, ![1, 1024]⟩
abbrev S1024x3584 : Shape := ⟨2, ![1024, 3584]⟩
abbrev S_ : Shape := ⟨0, ![]⟩
abbrev S2048 : Shape := ⟨1, ![2048]⟩
abbrev S2048x1 : Shape := ⟨2, ![2048, 1]⟩
abbrev S2048x3584 : Shape := ⟨2, ![2048, 3584]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3584, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x3584, .f32⟩
  | .hbm, ⟨19, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel6.lean ====
abbrev S2048x512 : Shape := ⟨2, ![2048, 512]⟩
abbrev S2048x3584 : Shape := ⟨2, ![2048, 3584]⟩
abbrev S2048x1024 : Shape := ⟨2, ![2048, 1024]⟩
abbrev S2048x256 : Shape := ⟨2, ![2048, 256]⟩
abbrev S1x512 : Shape := ⟨2, ![1, 512]⟩
abbrev S512x512 : Shape := ⟨2, ![512, 512]⟩
abbrev S1024x1024 : Shape := ⟨2, ![1024, 1024]⟩
abbrev S1x1024 : Shape := ⟨2, ![1, 1024]⟩
abbrev S256x1024 : Shape := ⟨2, ![256, 1024]⟩
abbrev S256x4x256 : Shape := ⟨3, ![256, 4, 256]⟩
abbrev S4x256x256 : Shape := ⟨3, ![4, 256, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩

abbrev nBuf : Space → Nat
  | .hbm => 26
  | .vmem => 30
  | .smem => 0
  | _ => 0

abbrev bufTy : (tb : Table) → Fin (tcTables nBuf tb) → BufTy
  | .hbm, ⟨0, _⟩ => ⟨S2048x512, .f32⟩
  | .hbm, ⟨1, _⟩ => ⟨S2048x3584, .f32⟩
  | .hbm, ⟨2, _⟩ => ⟨S2048x512, .f32⟩
  | .hbm, ⟨3, _⟩ => ⟨S2048x1024, .f32⟩
  | .hbm, ⟨4, _⟩ => ⟨S2048x256, .f32⟩
  | .hbm, ⟨5, _⟩ => ⟨S1x512, .f32⟩
  | .hbm, ⟨6, _⟩ => ⟨S1x512, .f32⟩
  | .hbm, ⟨7, _⟩ => ⟨S512x512, .f32⟩
  | .hbm, ⟨8, _⟩ => ⟨S1x512, .f32⟩
  | .hbm, ⟨9, _⟩ => ⟨S1024x1024, .f32⟩
  | .hbm, ⟨10, _⟩ => ⟨S1x1024, .f32⟩
  | .hbm, ⟨11, _⟩ => ⟨S1024x1024, .f32⟩
  | .hbm, ⟨12, _⟩ => ⟨S256x1024, .f32⟩
  | .hbm, ⟨13, _⟩ => ⟨S2048x512, .bf16⟩
  | .hbm, ⟨14, _⟩ => ⟨S512x512, .bf16⟩
  | .hbm, ⟨15, _⟩ => ⟨S1024x1024, .bf16⟩
  | .hbm, ⟨16, _⟩ => ⟨S1024x1024, .bf16⟩
  | .hbm, ⟨17, _⟩ => ⟨S256x1024, .bf16⟩
  | .hbm, ⟨18, _⟩ => ⟨S256x4x256, .bf16⟩
  | .hbm, ⟨19, _⟩ => ⟨S4x256x256, .bf16⟩
  | .hbm, ⟨20, _⟩ => ⟨S2048x512, .f32⟩
  | .hbm, ⟨21, _⟩ => ⟨S2048x512, .bf16⟩
  | .hbm, ⟨22, _⟩ => ⟨S2048x1024, .f32⟩
  | .hbm, ⟨23, _⟩ => ⟨S2048x1024, .bf16⟩
  | .hbm, ⟨24, _⟩ => ⟨S2048x1024, .bf16⟩
  | .hbm, ⟨25, _⟩ => ⟨S2048x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S4x256x256, .bf16⟩
  | .local _ .vmem, ⟨18, _⟩ => ⟨S512x512, .f32⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .f32⟩
  | .local _ .vmem, ⟨29, _⟩ => ⟨S512x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev main_v7_4 : Ref sig .tc := ⟨.hbm, 24, rfl⟩
abbrev main_v7_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference6Ideal.lean ====
abbrev S2048x512 : Shape := ⟨2, ![2048, 512]⟩
abbrev S2048x3584 : Shape := ⟨2, ![2048, 3584]⟩
abbrev S2048x1024 : Shape := ⟨2, ![2048, 1024]⟩
abbrev S2048x256 : Shape := ⟨2, ![2048, 256]⟩
abbrev S1x512 : Shape := ⟨2, ![1, 512]⟩
abbrev S512x512 : Shape := ⟨2, ![512, 512]⟩
abbrev S1024x1024 : Shape := ⟨2, ![1024, 1024]⟩
abbrev S1x1024 : Shape := ⟨2, ![1, 1024]⟩
abbrev S256x1024 : Shape := ⟨2, ![256, 1024]⟩
abbrev S_ : Shape := ⟨0, ![]⟩
abbrev S2048 : Shape := ⟨1, ![2048]⟩
abbrev S2048x1 : Shape := ⟨2, ![2048, 1]⟩

abbrev nBuf : Space → Nat
  | .hbm => 107
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x3584, .f32⟩
  | .hbm, ⟨2, _⟩ => ⟨S2048x512, .f32⟩
  | .hbm, ⟨3, _⟩ => ⟨S2048x1024, .f32⟩
  | .hbm, ⟨4, _⟩ => ⟨S2048x256, .f32⟩
  | .hbm, ⟨5, _⟩ => ⟨S1x512, .f32⟩
  | .hbm, ⟨6, _⟩ => ⟨S1x512, .f32⟩
  | .hbm, ⟨7, _⟩ => ⟨S512x512, .f32⟩
  | .hbm, ⟨8, _⟩ => ⟨S1x512, .f32⟩
  | .hbm, ⟨9, _⟩ => ⟨S1024x1024, .f32⟩
  | .hbm, ⟨10, _⟩ => ⟨S1x1024, .f32⟩
  | .hbm, ⟨11, _⟩ => ⟨S1024x1024, .f32⟩
  | .hbm, ⟨12, _⟩ => ⟨S256x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S2048x512, .f32⟩
  | .hbm, ⟨42, _⟩ => ⟨S2048x512, .f32⟩
  | .hbm, ⟨43, _⟩ => ⟨S_, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S2048x1, .f32⟩
  | .hbm, ⟨59, _⟩ => ⟨S2048x512, .f32⟩
  | .hbm, ⟨60, _⟩ => ⟨S2048x512, .f32⟩
  | .hbm, ⟨61, _⟩ => ⟨S2048x512, .f32⟩
  | .hbm, ⟨62, _⟩ => ⟨S2048x512, .f32⟩
  | .hbm, ⟨63, _⟩ => ⟨S2048x512, .f32⟩
  | .hbm, ⟨64, _⟩ => ⟨S2048x512, .f32⟩
  | .hbm, ⟨65, _⟩ => ⟨S2048x512, .f32⟩
  | .hbm, ⟨66, _⟩ => ⟨S_, .f32⟩
  | .hbm, ⟨67, _⟩ => ⟨S2048x512, .f32⟩
  | .hbm, ⟨68, _⟩ => ⟨S2048x512, .f32⟩
  | .hbm, ⟨69, _⟩ => ⟨S_, .f32⟩
  | .hbm, ⟨70, _⟩ => ⟨S2048x512, .f32⟩
  | .hbm, ⟨71, _⟩ => ⟨S2048x512, .f32⟩
  | .hbm, ⟨72, _⟩ => ⟨S2048x512, .f32⟩
  | .hbm, ⟨73, _⟩ => ⟨S2048x512, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S_, .f32⟩
  | .hbm, ⟨79, _⟩ => ⟨S2048, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048x1, .f32⟩
  | .hbm, ⟨86, _⟩ => ⟨S2048x1, .f32⟩
  | .hbm, ⟨87, _⟩ => ⟨S2048x1, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S2048x1024, .f32⟩
  | .hbm, ⟨95, _⟩ => ⟨S_, .f32⟩
  | .hbm, ⟨96, _⟩ => ⟨S2048x1024, .f32⟩
  | .hbm, ⟨97, _⟩ => ⟨S2048x1024, .f32⟩
  | .hbm, ⟨98, _⟩ => ⟨S_, .f32⟩
  | .hbm, ⟨99, _⟩ => ⟨S2048x1024, .f32⟩
  | .hbm, ⟨100, _⟩ => ⟨S2048x1024, .f32⟩
  | .hbm, ⟨101, _⟩ => ⟨S2048x1024, .f32⟩
  | .hbm, ⟨102, _⟩ => ⟨S2048x512, .bf16⟩
  | .hbm, ⟨103, _⟩ => ⟨S2048x1024, .bf16⟩
  | .hbm, ⟨104, _⟩ => ⟨S2048x1024, .bf16⟩
  | .hbm, ⟨105, _⟩ => ⟨S2048x1024, .f32⟩
  | .hbm, ⟨106, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_cst_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_14 : Ref sig .tc := ⟨.hbm, 95, rfl⟩
abbrev main_v67 : Ref sig .tc := ⟨.hbm, 96, rfl⟩
abbrev main_v68 : Ref sig .tc := ⟨.hbm, 97, rfl⟩
abbrev main_cst_15 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]
-- ==== Proof.RealArrays.lean ====
/- Arrays of real numbers inside the extended reals, and what each operation of the kernel makes of them.
   A matrix is given by a function of two natural numbers; `up a` is the array of shape `R × C` that holds it. Every
   lemma says of one operation that, on arrays of reals, it gives the array of the expected reals. -/
module

public import proofs.«01_k».proof.Proof.Gen.KernelIdeal
public import Idealize.ShloMosaic.Lib.Pipeline.Value
public import Idealize.ShloMosaic.Lib.ValueIdx
public import Idealize.ShloMosaic.Lib.MatmulPlain
public import Idealize.ShloMosaic.PureOps.Ideal.Laws

@[expose] public section

noncomputable section

namespace Cert.Attn

open Idealize.ShloMosaic Idealize.ShloMosaic.ValueIdx

/-- A matrix of reals, indexed by natural numbers (what it holds outside the array's extents is never read). -/
abbrev Mat := ℕ → ℕ → ℝ

/-- The coordinate of an index along axis `n`, and `0` where the shape has no such axis. -/
def coord {s : Shape} (j : s.Idx) (n : ℕ) : ℕ := if h : n < s.rank then (j ⟨n, h⟩).val else 0

/-- The array holding the reals of `a`: rows are the coordinates of the first axis, columns those of the second. -/
def up {s : Shape} {φ : FTy} (a : Mat) : FVec Ideal s φ := fun j => ((a (coord j 0) (coord j 1) : ℝ) : EReal)

/-- The array of the truth values of `p`. -/
def upB {s : Shape} (p : ℕ → ℕ → Prop) [∀ r c, Decidable (p r c)] : IVec s 1 :=
  fun j => if p (coord j 0) (coord j 1) then 1#1 else 0#1

theorem up_apply {s : Shape} {φ : FTy} (a : Mat) (j : s.Idx) :
    (up a : FVec Ideal s φ) j = ((a (coord j 0) (coord j 1) : ℝ) : EReal) := rfl

theorem up_ext {s : Shape} {φ : FTy} {a b : Mat} (h : ∀ r c, a r c = b r c) : (up a : FVec Ideal s φ) = up b :=
  congrArg up (funext fun r => funext (h r))

/-- Two matrices that agree inside the extents give one array. -/
theorem up_congr {R C : ℕ} {φ : FTy} {a b : Mat} (h : ∀ r < R, ∀ c < C, a r c = b r c) :
    (up a : FVec Ideal (⟨2, ![R, C]⟩ : Shape) φ) = up b := by
  funext j
  exact congrArg (fun x : ℝ => (x : EReal)) (h _ (j 0).isLt _ (j 1).isLt)

section Pointwise
variable {s : Shape} {φ : FTy} (a b : Mat)

theorem addf_up : addf (up a : FVec Ideal s φ) (up b) = up fun r c => a r c + b r c := by
  funext j; exact (EReal.coe_add _ _).symm
theorem subf_up : subf (up a : FVec Ideal s φ) (up b) = up fun r c => a r c - b r c := by
  funext j; exact (EReal.coe_sub _ _).symm
theorem mulf_up : mulf (up a : FVec Ideal s φ) (up b) = up fun r c => a r c * b r c := by
  funext j; exact (EReal.coe_mul _ _).symm
theorem maximumf_up : maximumf (up a : FVec Ideal s φ) (up b) = up fun r c => max (a r c) (b r c) := by
  funext j; exact (EReal.coe_strictMono.monotone.map_max).symm
theorem absf_up : absf (up a : FVec Ideal s φ) = up fun r c => |a r c| := by
  funext j
  show max ((a (coord j 0) (coord j 1) : ℝ) : EReal) (-((a (coord j 0) (coord j 1) : ℝ) : EReal)) = _
  rw [← EReal.coe_neg, ← EReal.coe_strictMono.monotone.map_max]; rfl
theorem exp_up : exp (up a : FVec Ideal s φ) = up fun r c => Real.exp (a r c) := rfl
/-- The logarithm of one plus an exponential, which is positive. -/
theorem log_up : log (up (fun r c => 1 + Real.exp (a r c)) : FVec Ideal s φ)
    = up fun r c => Real.log (1 + Real.exp (a r c)) := by
  funext j
  show Ideal.log ((1 + Real.exp (a (coord j 0) (coord j 1)) : ℝ) : EReal) = _
  rw [Ideal.log_coe, if_neg (by have := Real.exp_pos (a (coord j 0) (coord j 1)); linarith)]; rfl
theorem truncf_up {ψ : FTy} (h : ψ.bits < φ.bits) :
    truncf ψ (up a : FVec Ideal s φ) h = up a := rfl
theorem extf_up {ψ : FTy} (h : φ.bits < ψ.bits) :
    extf ψ (up a : FVec Ideal s φ) h = up a := rfl
theorem select_up (p : ℕ → ℕ → Prop) [∀ r c, Decidable (p r c)] :
    select (upB p) (up a : FVec Ideal s φ) (up b) = up fun r c => if p r c then a r c else b r c := by
  funext j
  show (if (if p _ _ then 1#1 else 0#1) = 1#1 then _ else _) = _
  by_cases h : p (coord j 0) (coord j 1)
  · simp [up, h]
  · simp [up, h]
theorem shapeCast_up (h : s.ShapeCasts s) : shapeCast s (up a : FVec Ideal s φ) h = up a := shapeCast_self _ _
theorem shapeCast_upB (p : ℕ → ℕ → Prop) [∀ r c, Decidable (p r c)] (h : s.ShapeCasts s) :
    shapeCast s (upB p : IVec s 1) h = upB p := shapeCast_self _ _
end Pointwise

/-! ## Constants -/

theorem zero_f32 : Ideal.ofBits .f32 0x00000000#32 = ((0 : ℝ) : EReal) := by simp [Ideal.ofBits, Ideal.ieee]
theorem one_f32 : Ideal.ofBits .f32 0x3F800000#32 = ((1 : ℝ) : EReal) := by
  simp [Ideal.ofBits, Ideal.ieee, -EReal.coe_mul]; norm_num
theorem eighth_f32 : Ideal.ofBits .f32 0x3E000000#32 = ((1 / 8 : ℝ) : EReal) := by
  simp [Ideal.ofBits, Ideal.ieee, -EReal.coe_mul]; norm_num

section Constants
variable {s : Shape}

theorem broadcast_zero : broadcast s (Scalar.ofBits (F := Ideal) .f32 0x00000000#32)
    = (up fun _ _ => 0 : FVec Ideal s .f32) := funext fun _ => zero_f32
theorem broadcast_one : broadcast s (Scalar.ofBits (F := Ideal) .f32 0x3F800000#32)
    = (up fun _ _ => 1 : FVec Ideal s .f32) := funext fun _ => one_f32
theorem broadcast_eighth : broadcast s (Scalar.ofBits (F := Ideal) .f32 0x3E000000#32)
    = (up fun _ _ => 1 / 8 : FVec Ideal s .f32) := funext fun _ => eighth_f32
theorem constant_zero : constant (F := Ideal) s .f32 0x00000000#32 = up fun _ _ => 0 :=
  funext fun _ => zero_f32
end Constants

/-! ## Sums -/

/-- The sum of reals inside the extended reals. -/
theorem coe_sum {n : ℕ} (f : ℕ → ℝ) : (∑ k : Fin n, ((f k.val : ℝ) : EReal)) = ((∑ k ∈ Finset.range n, f k : ℝ) : EReal) := by
  rw [Finset.sum_range]
  exact (map_sum (⟨⟨Real.toEReal, EReal.coe_zero⟩, EReal.coe_add⟩ : ℝ →+ EReal) _ _).symm

/-- A product's entry, over a zero accumulator. -/
theorem dot_coe {n : ℕ} (f g : ℕ → ℝ) : ((0 : ℝ) : EReal) + ∑ k : Fin n, ((f k.val : ℝ) : EReal) * ((g k.val : ℝ) : EReal)
    = ((∑ k ∈ Finset.range n, f k * g k : ℝ) : EReal) := by
  rw [EReal.coe_zero, zero_add, ← coe_sum]
  exact Finset.sum_congr rfl fun k _ => (EReal.coe_mul _ _).symm

/-- A product of two matrices. -/
theorem matmul_plain_up {M K N : ℕ} {φ₁ φ₂ : FTy} (prec : Option ContractPrecision) (a b : Mat) :
    matmul (DotDims.plain M K N) prec (up a : FVec Ideal _ φ₁) (up b : FVec Ideal _ φ₂) (up fun _ _ => 0)
      = up fun r c => ∑ k ∈ Finset.range K, a r k * b k c := by
  funext j
  rw [eq_ix2 j]
  exact (Ideal.matmul_plain_apply prec _ _ _ _ _).trans (dot_coe (a (j 0).val) fun k => b k (j 1).val)

/-- A product with the transpose of the right factor. -/
theorem matmul_nt_up {M K N : ℕ} {φ₁ φ₂ : FTy} (prec : Option ContractPrecision) (a b : Mat) :
    matmul (DotDims.transposedRhs M K N) prec (up a : FVec Ideal _ φ₁) (up b : FVec Ideal _ φ₂) (up fun _ _ => 0)
      = up fun r c => ∑ k ∈ Finset.range K, a r k * b c k := by
  funext j
  rw [eq_ix2 j]
  exact (Ideal.matmul_transposedRhs_apply prec _ _ _ _ _).trans (dot_coe (a (j 0).val) (b (j 1).val))

open Cert.KernelIdeal Cert.KernelIdeal.Gen

/-- A product with the transpose of the left factor. -/
theorem matmul_tn_up {φ₁ φ₂ : FTy} (prec : Option ContractPrecision) (a b : Mat) :
    matmul dot_S1024x256_S1024x256_S256x256_0_0_1_1_n_n prec (up a : FVec Ideal S1024x256 φ₁) (up b : FVec Ideal S1024x256 φ₂)
      (up fun _ _ => 0) = up fun r c => ∑ k ∈ Finset.range 1024, a k r * b k c := by
  funext j
  rw [eq_ix2 j]
  refine (Ideal.matmul_apply _ prec _ _ _ _).trans ?_
  have hr : dot_S1024x256_S1024x256_S256x256_0_0_1_1_n_n.contr.rank = 1 := rfl
  have hs : dot_S1024x256_S1024x256_S256x256_0_0_1_1_n_n.contr.size ⟨0, by rw [hr]; exact Nat.one_pos⟩ = 1024 := rfl
  rw [← Equiv.sum_comp (contrEquiv1 _ 1024 hr hs).symm]
  refine Eq.trans ?_ (dot_coe (fun k => a k (j 0).val) fun k => b k (j 1).val)
  refine congrArg₂ (· + ·) rfl (Finset.sum_congr rfl fun k _ => ?_)
  have hk := contrEquiv1_symm_val _ 1024 hr hs k
  exact congrArg₂ (· * ·) (congrArg (fun n => ((a n (j 0).val : ℝ) : EReal)) hk)
    (congrArg (fun n => ((b n (j 1).val : ℝ) : EReal)) hk)

theorem dot_nn_up {φ₁ φ₂ : FTy} (a b : Mat) :
    matmul dot_S1024x256_S256x256_S1024x256_1_0_0_1_n_n none (up a : FVec Ideal S1024x256 φ₁) (up b : FVec Ideal S256x256 φ₂)
      (up fun _ _ => 0) = up fun r c => ∑ k ∈ Finset.range 256, a r k * b k c := matmul_plain_up none a b
theorem dot_nt_up {φ₁ φ₂ : FTy} (a b : Mat) :
    matmul dot_S1024x256_S256x256_S1024x256_1_1_0_0_n_n none (up a : FVec Ideal S1024x256 φ₁) (up b : FVec Ideal S256x256 φ₂)
      (up fun _ _ => 0) = up fun r c => ∑ k ∈ Finset.range 256, a r k * b c k := matmul_nt_up none a b

/-- The sum of each row. -/
theorem rowSum_up (a : Mat) (acc : BitVec FTy.f32.bits) (hr) (hk) :
    multiReduction .add [1] S1024 (up a : FVec Ideal S1024x256 .f32) acc reduces_S1024x256_S1024 hr hk
      = up fun r _ => ∑ c ∈ Finset.range 256, a r c := by
  funext j
  refine (Ideal.multiReduction_add_single (s := S1024x256) (a := 1) _ _ _ _ _ _).trans ?_
  exact coe_sum fun k => a (j 0).val k

theorem column_up (a : Mat) :
    shapeCast S1024x1 (up a : FVec Ideal S1024 .f32) shapeCasts_S1024_S1024x1 = up fun r _ => a r 0 := by
  funext j
  refine (shapeCast_apply _ _ j (ix1 (j 0)) ?_).trans rfl
  refine (Shape.rowMajor_val_one _).trans (Eq.trans ?_ (Shape.rowMajor_val_two _).symm)
  have : (j 1).val < 1 := (j 1).isLt
  show (j 0).val = (j 0).val * 1 + (j 1).val
  omega

/-- A column repeated over the lanes. -/
theorem column_broadcast (a : Mat) :
    broadcastTo S1024x256 (up a : FVec Ideal S1024x1 .f32) broadcasts_S1024x1_S1024x256 = up fun r _ => a r 0 := by
  funext j
  refine (broadcastTo_apply _ _ j (ix2 (j 0) 0) ?_).trans rfl
  intro x; fin_cases x <;> rfl

/-- A row of truth values repeated over the rows. -/
theorem row_broadcast (p : ℕ → ℕ → Prop) [∀ r c, Decidable (p r c)] :
    broadcastTo S256x256 (upB p : IVec S1x256 1) broadcasts_S1x256_S256x256 = upB fun _ c => p 0 c := by
  funext j
  refine (broadcastTo_apply _ _ j (ix2 0 (j 1)) ?_).trans rfl
  intro x; fin_cases x <;> rfl

/-- The sum of the two halves of a stacked product: `a` and `b` one over the other, times `t`. -/
theorem stacked_dot (a b t : Mat) :
    addf (extractStridedSlice S1024x256 ![0, 0] (matmul dot_S2048x256_S256x256_S2048x256_1_0_0_1_n_n none
        (concatenate S2048x256 0 [⟨S1024x256, (up a : FVec Ideal S1024x256 .bf16)⟩, ⟨S1024x256, (up b : FVec Ideal S1024x256 .bf16)⟩]
          concatenates_S1024x256_S1024x256_S2048x256_d0) (up t : FVec Ideal S256x256 .bf16) (up fun _ _ => 0 : FVec Ideal S2048x256 .f32))
        slices_S2048x256_o0_0_S1024x256)
      (extractStridedSlice S1024x256 ![1024, 0] (matmul dot_S2048x256_S256x256_S2048x256_1_0_0_1_n_n none
        (concatenate S2048x256 0 [⟨S1024x256, (up a : FVec Ideal S1024x256 .bf16)⟩, ⟨S1024x256, (up b : FVec Ideal S1024x256 .bf16)⟩]
          concatenates_S1024x256_S1024x256_S2048x256_d0) (up t : FVec Ideal S256x256 .bf16) (up fun _ _ => 0 : FVec Ideal S2048x256 .f32))
        slices_S2048x256_o1024_0_S1024x256)
      = (up fun r c => (∑ l ∈ Finset.range 256, a r l * t l c) + ∑ l ∈ Finset.range 256, b r l * t l c : FVec Ideal S1024x256 .f32) := by
  have hc : concatenate S2048x256 0 [⟨S1024x256, (up a : FVec Ideal S1024x256 .bf16)⟩, ⟨S1024x256, (up b : FVec Ideal S1024x256 .bf16)⟩]
        concatenates_S1024x256_S1024x256_S2048x256_d0
      = (up fun r c => if r < 1024 then a r c else b (r - 1024) c : FVec Ideal S2048x256 .bf16) := by
    funext j
    have h0 : (j 0).val < 2048 := (j 0).isLt
    by_cases h : (j 0).val < 1024
    · refine (concatenate_pair_apply_left (s₁ := S1024x256) (s₂ := S1024x256) 0 _ _ _ j rfl (ix2 ⟨(j 0).val, h⟩ (j 1)) ?_).trans ?_
      · intro x; fin_cases x <;> rfl
      · exact congrArg (fun x : ℝ => (x : EReal)) (if_pos h).symm
    · refine (concatenate_pair_apply_right (s₁ := S1024x256) (s₂ := S1024x256) 0 _ _ _ j rfl rfl (ix2 ⟨(j 0).val - 1024, by omega⟩ (j 1)) ?_ ?_).trans ?_
      · intro x hx; fin_cases x
        · exact absurd rfl hx
        · rfl
      · show (j 0).val - 1024 + 1024 = (j 0).val; omega
      · exact congrArg (fun x : ℝ => (x : EReal)) (if_neg h).symm
  rw [hc, show matmul dot_S2048x256_S256x256_S2048x256_1_0_0_1_n_n none _ _ _ = _ from matmul_plain_up none _ _]
  funext j
  have h0 : (j 0).val < 1024 := (j 0).isLt
  refine (EReal.coe_add _ _).symm.trans (congrArg (fun x : ℝ => (x : EReal)) (congrArg₂ (· + ·) ?_ ?_))
  · refine Finset.sum_congr rfl fun k _ => ?_
    show (if 0 + (j 0).val < 1024 then a (0 + (j 0).val) k else _) * t k (0 + (j 1).val) = a (j 0).val k * t k (j 1).val
    rw [if_pos (by omega), zero_add, zero_add]
  · refine Finset.sum_congr rfl fun k _ => ?_
    show (if 1024 + (j 0).val < 1024 then _ else b (1024 + (j 0).val - 1024) k) * t k (0 + (j 1).val) = b (j 0).val k * t k (j 1).val
    rw [if_neg (by omega), zero_add, Nat.add_sub_cancel_left]

/-- A product computed from a high part and a remainder, which is zero over the reals. -/
theorem split_dot {x : FVec Ideal S1024x256 .f32} {a : Mat} (hx : x = up a) (t : Mat) :
    addf (extractStridedSlice S1024x256 ![0, 0] (matmul dot_S2048x256_S256x256_S2048x256_1_0_0_1_n_n none
        (concatenate S2048x256 0 [⟨S1024x256, truncf .bf16 x bitsLt_bf16_f32⟩,
            ⟨S1024x256, truncf .bf16 (subf x (extf .f32 (truncf .bf16 x bitsLt_bf16_f32) bitsLt_bf16_f32)) bitsLt_bf16_f32⟩]
          concatenates_S1024x256_S1024x256_S2048x256_d0) (up t : FVec Ideal S256x256 .bf16) (up fun _ _ => 0 : FVec Ideal S2048x256 .f32))
        slices_S2048x256_o0_0_S1024x256)
      (extractStridedSlice S1024x256 ![1024, 0] (matmul dot_S2048x256_S256x256_S2048x256_1_0_0_1_n_n none
        (concatenate S2048x256 0 [⟨S1024x256, truncf .bf16 x bitsLt_bf16_f32⟩,
            ⟨S1024x256, truncf .bf16 (subf x (extf .f32 (truncf .bf16 x bitsLt_bf16_f32) bitsLt_bf16_f32)) bitsLt_bf16_f32⟩]
          concatenates_S1024x256_S1024x256_S2048x256_d0) (up t : FVec Ideal S256x256 .bf16) (up fun _ _ => 0 : FVec Ideal S2048x256 .f32))
        slices_S2048x256_o1024_0_S1024x256)
      = (up fun r c => ∑ l ∈ Finset.range 256, a r l * t l c : FVec Ideal S1024x256 .f32) := by
  subst hx
  refine (stacked_dot a (fun r c => a r c - a r c) t).trans (up_ext fun r c => ?_)
  simp

/-- A column of running sums after a block. -/
theorem carry_up (l : Mat) {x : FVec Ideal S1024x256 .f32} {a : Mat} (hx : x = up a) :
    addf (up l : FVec Ideal S1024x1 .f32) (shapeCast S1024x1
        (multiReduction .add [1] S1024 x 0x00000000#32 reduces_S1024x256_S1024 (.inl rfl) rfl) shapeCasts_S1024_S1024x1)
      = up fun r c => l r c + ∑ s ∈ Finset.range 256, a r s := by
  subst hx
  exact (congrArg (fun y => addf (up l) (shapeCast S1024x1 y shapeCasts_S1024_S1024x1)) (rowSum_up a _ _ _)).trans
    (by rw [column_up, addf_up])

/-- The index of a stacked row inside its piece. -/
private theorem stack_apply {C : ℕ} {φ : FTy} (A : ℕ → Mat) (h) (j : (⟨2, ![1024, C]⟩ : Shape).Idx) :
    concatenate (⟨2, ![1024, C]⟩ : Shape) 0 [⟨(⟨2, ![256, C]⟩ : Shape), (up (A 0) : FVec Ideal (⟨2, ![256, C]⟩ : Shape) φ)⟩,
        ⟨(⟨2, ![256, C]⟩ : Shape), (up (A 1) : FVec Ideal (⟨2, ![256, C]⟩ : Shape) φ)⟩,
        ⟨(⟨2, ![256, C]⟩ : Shape), (up (A 2) : FVec Ideal (⟨2, ![256, C]⟩ : Shape) φ)⟩,
        ⟨(⟨2, ![256, C]⟩ : Shape), (up (A 3) : FVec Ideal (⟨2, ![256, C]⟩ : Shape) φ)⟩] h j
      = ((A ((j 0).val / 256) ((j 0).val % 256) (j 1).val : ℝ) : EReal) := by
  have h0 : (j 0).val < 1024 := (j 0).isLt
  have hk : (j 0).val / 256 < 4 := by omega
  refine (concatenate_apply_piece 0 _ h j ((j 0).val / 256) hk (⟨2, ![256, C]⟩ : Shape) (up (A ((j 0).val / 256))) ?_ rfl
    (256 * ((j 0).val / 256)) ?_ (ix2 ⟨(j 0).val % 256, by omega⟩ (j 1)) ?_ ?_).trans rfl
  · generalize (j 0).val / 256 = n at hk
    interval_cases n <;> rfl
  · generalize (j 0).val / 256 = n at hk
    interval_cases n <;> rfl
  · intro x hx; fin_cases x
    · exact absurd rfl hx
    · rfl
  · show 256 * ((j 0).val / 256) + (j 0).val % 256 = (j 0).val
    omega

/-- Four blocks of rows one over the other. -/
theorem stack_wide (A : ℕ → Mat) :
    concatenate S1024x256 0 [⟨S256x256, (up (A 0) : FVec Ideal S256x256 .f32)⟩, ⟨S256x256, (up (A 1) : FVec Ideal S256x256 .f32)⟩,
        ⟨S256x256, (up (A 2) : FVec Ideal S256x256 .f32)⟩, ⟨S256x256, (up (A 3) : FVec Ideal S256x256 .f32)⟩]
        concatenates_S256x256_S256x256_S256x256_S256x256_S1024x256_d0
      = (up fun r c => A (r / 256) (r % 256) c : FVec Ideal S1024x256 .f32) :=
  funext fun j => stack_apply A _ j
theorem stack_column (A : ℕ → Mat) :
    concatenate S1024x1 0 [⟨S256x1, (up (A 0) : FVec Ideal S256x1 .f32)⟩, ⟨S256x1, (up (A 1) : FVec Ideal S256x1 .f32)⟩,
        ⟨S256x1, (up (A 2) : FVec Ideal S256x1 .f32)⟩, ⟨S256x1, (up (A 3) : FVec Ideal S256x1 .f32)⟩]
        concatenates_S256x1_S256x1_S256x1_S256x1_S1024x1_d0
      = (up fun r c => A (r / 256) (r % 256) c : FVec Ideal S1024x1 .f32) :=
  funext fun j => stack_apply A _ j

end Cert.Attn

end
-- ==== Proof.Block.lean ====
/- What one block of keys contributes to the gradients, over the reals, and the kernel's steps on arrays of reals.
   The 1024 rows of a stacked array are the four heads of a group, 256 query rows each; the 256 columns are the keys of
   one block (or the lanes of the four heads). Every matrix is a function of two natural numbers. -/
module

public import proofs.«01_k».proof.Proof.RealArrays
public import proofs.«01_k».proof.Proof.Gen.KernelIdeal.Skeleton

@[expose] public section

noncomputable section

namespace Cert.Attn

open Idealize.ShloMosaic Idealize.ShloMosaic.ValueIdx
open Cert.KernelIdeal Cert.KernelIdeal.Gen

/-- The softplus as the kernel computes it. -/
def softplus (z : ℝ) : ℝ := max z 0 + Real.log (1 + Real.exp (0 - |z|))

/-- Scores: rows of `q` against rows of `k`. -/
def dotT (q k : Mat) : Mat := fun r s => ∑ l ∈ Finset.range 256, q r l * k s l

/-- The logarithm of one minus the stick's break, on the pairs of `p`. -/
def lmB (p : ℕ → ℕ → Prop) [∀ r c, Decidable (p r c)] (z : Mat) : Mat := fun r s => if p r s then 0 - softplus (z r s) else 0

/-- A column of running sums, carried past a block. -/
def carry (x y : Mat) : Mat := fun r c => x r c + ∑ s ∈ Finset.range 256, y r s

/-- The attention's weights on a block: `tot` is the row's whole sum, `lmI` the sum up to the block's end. -/
def attB (p : ℕ → ℕ → Prop) [∀ r c, Decidable (p r c)] (z tot lmI : Mat) : Mat := fun r s =>
  if p r s then Real.exp (z r s - softplus (z r s) + ∑ l ∈ Finset.range 256, lmB p z r l * (if s < l then 1 else 0)
    + (tot r 0 - lmI r 0)) else 0

/-- The gradient of the weights' logarithms. -/
def dlB (att d v : Mat) : Mat := fun r s => att r s * dotT d v r s

/-- The gradient of the scores, times the scale: `dlL` is the sum of `dl` before the block. -/
def dzB (p : ℕ → ℕ → Prop) [∀ r c, Decidable (p r c)] (z dl dlL : Mat) : Mat := fun r s =>
  (if p r s then (1 - Real.exp (z r s - softplus (z r s))) * dl r s - Real.exp (z r s - softplus (z r s))
    * (dlL r 0 + ∑ l ∈ Finset.range 256, dl r l * (if l < s then 1 else 0)) else 0) * (1 / 8)

/-- A block of keys' accumulator after the rows of a block: `x` plus the transpose of `a` times `b`. -/
def accT (x a b : Mat) : Mat := fun s l => x s l + ∑ r ∈ Finset.range 1024, a r s * b r l

/-- The queries' accumulator after a block. -/
def accN (x a k : Mat) : Mat := fun r l => x r l + ∑ s ∈ Finset.range 256, a r s * k s l

/-- The masks of the two products that sum over the keys after one, and over those before one. -/
def after : Mat := fun r c => if c < r then 1 else 0
def before : Mat := fun r c => if r < c then 1 else 0

section Payloads
variable (q qu d k v x tot lmL dlL dq z dl : Mat)

abbrev TyW := FVec Ideal S1024x256 .f32
abbrev TyH := FVec Ideal S1024x256 .bf16
abbrev TyB := FVec Ideal S256x256 .bf16
abbrev TyBF := FVec Ideal S256x256 .f32
abbrev TyC := FVec Ideal S1024x1 .f32

/-! ### A block before the diagonal, first group -/

abbrev all : ℕ → ℕ → Prop := fun _ _ => True

theorem pay5 : k0_pay5 (F := Ideal) (up q : TyH) (up k : TyB) = (up (dotT q k) : TyW) := by
  simp only [k0_pay5, constant_zero, dot_nt_up]; rfl
theorem pay6 : k0_pay6 (F := Ideal) (up q : TyH) (up k : TyB) = (up (fun r s => softplus (dotT q k r s)) : TyW) := by
  simp only [k0_pay6, pay5, broadcast_zero, broadcast_one, maximumf_up, absf_up, subf_up, exp_up, addf_up, log_up]; rfl
theorem pay7 : k0_pay7 (F := Ideal) (up q : TyH) (up k : TyB) = (up (lmB all (dotT q k)) : TyW) := by
  simp only [k0_pay7, pay6, broadcast_zero, subf_up]
  refine up_ext fun r s => ?_; simp [lmB]
theorem pay8 : k0_pay8 (F := Ideal) (up q : TyH) (up lmL : TyC) (up k : TyB) = (up (carry lmL (lmB all (dotT q k))) : TyC) := by
  exact carry_up lmL (pay7 q k)
theorem pay9 : k0_pay9 (F := Ideal) (up after : TyB) (up q : TyH) (up tot : TyC) (up lmL : TyC) (up k : TyB)
    = (up (attB all (dotT q k) tot (carry lmL (lmB all (dotT q k)))) : TyW) := by
  simp only [k0_pay9, constant_zero]
  rw [split_dot (pay7 q k)]
  simp only [pay5, pay6, pay8, subf_up, addf_up, column_broadcast, exp_up]
  refine up_ext fun r s => ?_; simp only [attB, all, if_true]; rfl
theorem pay10 : k0_pay10 (F := Ideal) (up after : TyB) (up q : TyH) (up d : TyH) (up tot : TyC) (up lmL : TyC) (up k : TyB) (up v : TyB)
    = (up (dlB (attB all (dotT q k) tot (carry lmL (lmB all (dotT q k)))) d v) : TyW) := by
  simp only [k0_pay10, pay9, constant_zero, dot_nt_up, mulf_up]; rfl
theorem pay11 : k0_pay11 (F := Ideal) (up after : TyB) (up q : TyH) (up d : TyH) (up tot : TyC) (up lmL : TyC) (up k : TyB) (up x : TyBF)
    = (up (accT x (attB all (dotT q k) tot (carry lmL (lmB all (dotT q k)))) d) : TyBF) := by
  simp only [k0_pay11, pay9, constant_zero, truncf_up, matmul_tn_up, addf_up]; rfl
theorem pay12 : k0_pay12 (F := Ideal) (up x : TyBF) = (up x : TyBF) := by simp only [k0_pay12, shapeCast_up]
theorem pay13 : k0_pay13 (F := Ideal) (up before : TyB) (up dlL : TyC) (up z : TyW) (up (fun r s => softplus (z r s)) : TyW) (up x : TyW)
    = (up (dzB all z x dlL) : TyH) := by
  simp only [k0_pay13, constant_zero]
  rw [split_dot rfl]
  simp only [truncf_up, subf_up, addf_up, column_broadcast, exp_up, broadcast_one, broadcast_eighth, mulf_up]
  refine up_ext fun r s => ?_; simp only [dzB, all, if_true]; rfl

theorem pay14 : k0_pay14 (F := Ideal) (up before : TyB) (up qu : TyH) (up dlL : TyC) (up z : TyW) (up (fun r s => softplus (z r s)) : TyW)
    (up dl : TyW) (up x : TyBF) = (up (accT x (dzB all z dl dlL) qu) : TyBF) := by
  simp only [k0_pay14, pay13, constant_zero, matmul_tn_up, addf_up, shapeCast_up]; rfl
theorem pay15 : k0_pay15 (F := Ideal) (up dlL : TyC) (up dl : TyW) = (up (carry dlL dl) : TyC) := carry_up dlL rfl
theorem pay16 : k0_pay16 (F := Ideal) (up before : TyB) (up dlL : TyC) (up dq : TyW) (up k : TyB) (up z : TyW)
    (up (fun r s => softplus (z r s)) : TyW) (up dl : TyW) = (up (accN dq (dzB all z dl dlL) k) : TyW) := by
  simp only [k0_pay16, pay13, constant_zero, dot_nn_up, addf_up]; rfl

/-! ### A block before the diagonal, second group -/

/-- The softplus's two parts. -/
abbrev relu (z : Mat) : Mat := fun r s => max (z r s) 0
abbrev mag (z : Mat) : Mat := fun r s => |z r s|
abbrev zero32 : Ideal .f32 := Scalar.ofBits (F := Ideal) .f32 0x00000000#32

theorem pay17 : k0_pay17 (F := Ideal) (up q : TyH) (up k : TyB) = (up (dotT q k) : TyW) := by
  simp only [k0_pay17, constant_zero, dot_nt_up]; rfl
theorem pay18 : k0_pay18 (F := Ideal) (up q : TyH) (up k : TyB) = (up (relu (dotT q k)) : TyW) := by
  simp only [k0_pay18, pay17, broadcast_zero, maximumf_up]
theorem pay19 : k0_pay19 (F := Ideal) (up q : TyH) (up k : TyB) = (up (mag (dotT q k)) : TyW) := by
  simp only [k0_pay19, pay17, absf_up]
theorem pay20 : k0_pay20 (F := Ideal) (up (relu z) : TyW) (up (mag z) : TyW) zero32 = (up (fun r s => softplus (z r s)) : TyW) := by
  simp only [k0_pay20, zero32, broadcast_zero, broadcast_one, subf_up, exp_up, addf_up, log_up]; rfl
theorem pay21 : k0_pay21 (F := Ideal) (up (relu z) : TyW) (up (mag z) : TyW) zero32 = (up (lmB all z) : TyW) := by
  simp only [k0_pay21, pay20, broadcast_zero, subf_up]
  refine up_ext fun r s => ?_; simp [lmB]
theorem pay22 : k0_pay22 (F := Ideal) (up lmL : TyC) (up (relu z) : TyW) (up (mag z) : TyW) zero32
    = (up (carry lmL (lmB all z)) : TyC) := carry_up lmL (pay21 z)
theorem pay23 : k0_pay23 (F := Ideal) (up after : TyB) (up tot : TyC) (up lmL : TyC) (up z : TyW) (up (relu z) : TyW) (up (mag z) : TyW) zero32
    = (up (attB all z tot (carry lmL (lmB all z))) : TyW) := by
  simp only [k0_pay23, constant_zero]
  rw [split_dot (pay21 z)]
  simp only [pay20, pay22, subf_up, addf_up, column_broadcast, exp_up]
  refine up_ext fun r s => ?_; simp only [attB, all, if_true]; rfl
theorem pay24 : k0_pay24 (F := Ideal) (up after : TyB) (up d : TyH) (up tot : TyC) (up lmL : TyC) (up v : TyB) (up z : TyW) (up (relu z) : TyW)
    (up (mag z) : TyW) zero32 = (up (dlB (attB all z tot (carry lmL (lmB all z))) d v) : TyW) := by
  simp only [k0_pay24, pay23, constant_zero, dot_nt_up, mulf_up]; rfl
theorem pay25 : k0_pay25 (F := Ideal) (up after : TyB) (up d : TyH) (up tot : TyC) (up lmL : TyC) (up z : TyW) (up (relu z) : TyW)
    (up (mag z) : TyW) zero32 (up x : TyBF) = (up (accT x (attB all z tot (carry lmL (lmB all z))) d) : TyBF) := by
  simp only [k0_pay25, pay23, constant_zero, truncf_up, matmul_tn_up, addf_up, shapeCast_up]; rfl
/-- The sum of `dl` before each key. -/
def dlSum (dlL dl : Mat) : Mat := fun r s => dlL r 0 + ∑ l ∈ Finset.range 256, dl r l * before l s
theorem pay26 : k0_pay26 (F := Ideal) (up after : TyB) (up before : TyB) (up d : TyH) (up tot : TyC) (up lmL : TyC) (up dlL : TyC) (up v : TyB)
    (up z : TyW) (up (relu z) : TyW) (up (mag z) : TyW) zero32
    = (up (dlSum dlL (dlB (attB all z tot (carry lmL (lmB all z))) d v)) : TyW) := by
  simp only [k0_pay26, constant_zero]
  rw [split_dot (pay24 d v tot lmL z)]
  simp only [addf_up, column_broadcast]; rfl
theorem pay27 : k0_pay27 (F := Ideal) (up z : TyW) (up (relu z) : TyW) (up (mag z) : TyW) zero32
    = (up (fun r s => z r s - softplus (z r s)) : TyW) := by
  simp only [k0_pay27, pay20, subf_up]
theorem pay75 : k0_pay75 (F := Ideal) (up dl : TyW) (up (dlSum dlL dl) : TyW) (up (fun r s => z r s - softplus (z r s)) : TyW)
    = (up (dzB all z dl dlL) : TyH) := by
  simp only [k0_pay75, truncf_up, subf_up, exp_up, broadcast_one, broadcast_eighth, mulf_up]
  refine up_ext fun r s => ?_; simp only [dzB, all, if_true]; rfl
theorem pay76 : k0_pay76 (F := Ideal) (up qu : TyH) (up dl : TyW) (up (dlSum dlL dl) : TyW) (up (fun r s => z r s - softplus (z r s)) : TyW)
    (up x : TyBF) = (up (accT x (dzB all z dl dlL) qu) : TyBF) := by
  simp only [k0_pay76, pay75, constant_zero, matmul_tn_up, addf_up, shapeCast_up]; rfl
theorem pay77 : k0_pay77 (F := Ideal) (up dlL : TyC) (up dl : TyW) = (up (carry dlL dl) : TyC) := carry_up dlL rfl
theorem pay78 : k0_pay78 (F := Ideal) (up dq : TyW) (up k : TyB) (up dl : TyW) (up (dlSum dlL dl) : TyW)
    (up (fun r s => z r s - softplus (z r s)) : TyW) = (up (accN dq (dzB all z dl dlL) k) : TyW) := by
  simp only [k0_pay78, pay75, constant_zero, dot_nn_up, addf_up]; rfl

/-! ### The block on the diagonal -/

/-- The pairs of the diagonal block in which the key is before the query. -/
abbrev low : ℕ → ℕ → Prop := fun r c => c < r % 256
abbrev TyM := IVec S1024x256 1

theorem pay83 : k0_pay83 (F := Ideal) (up q : TyH) (up k : TyB) = (up (dotT q k) : TyW) := by
  simp only [k0_pay83, constant_zero, dot_nt_up]; rfl
theorem pay84 : k0_pay84 (F := Ideal) (up q : TyH) (up k : TyB) = (up (fun r s => softplus (dotT q k r s)) : TyW) := by
  simp only [k0_pay84, pay83, broadcast_zero, broadcast_one, maximumf_up, absf_up, subf_up, exp_up, addf_up, log_up]; rfl
theorem pay85 : k0_pay85 (F := Ideal) (upB low : TyM) (up q : TyH) (up k : TyB) = (up (lmB low (dotT q k)) : TyW) := by
  simp only [k0_pay85, pay84, broadcast_zero, subf_up, select_up]; rfl
theorem pay86 : k0_pay86 (F := Ideal) (upB low : TyM) (up q : TyH) (up lmL : TyC) (up k : TyB)
    = (up (carry lmL (lmB low (dotT q k))) : TyC) := carry_up lmL (pay85 q k)
/-- The logarithm of the weights on the diagonal, but for what comes after the block. -/
def diagB (z : Mat) : Mat := fun r s => z r s - softplus (z r s) + ∑ l ∈ Finset.range 256, lmB low z r l * after l s
theorem pay87 : k0_pay87 (F := Ideal) (upB low : TyM) (up after : TyB) (up q : TyH) (up k : TyB) = (up (diagB (dotT q k)) : TyW) := by
  simp only [k0_pay87, constant_zero]
  rw [split_dot (pay85 q k)]
  simp only [pay83, pay84, subf_up, addf_up]; rfl
theorem pay88 : k0_pay88 (F := Ideal) (upB low : TyM) (up tot : TyC) (up lmL : TyC) (up (diagB z) : TyW) = (up (attB low z tot lmL) : TyW) := by
  simp only [k0_pay88, subf_up, column_broadcast, addf_up, exp_up, broadcast_zero, select_up]; rfl
theorem pay89 : k0_pay89 (F := Ideal) (upB low : TyM) (up d : TyH) (up tot : TyC) (up lmL : TyC) (up (diagB z) : TyW) (up x : TyBF)
    = (up (accT x (attB low z tot lmL) d) : TyBF) := by
  simp only [k0_pay89, pay88, constant_zero, truncf_up, matmul_tn_up, addf_up, shapeCast_up]; rfl
theorem dl_low : mulf (k0_pay88 (F := Ideal) (upB low : TyM) (up tot : TyC) (up lmL : TyC) (up (diagB z) : TyW))
    (matmul dot_S1024x256_S256x256_S1024x256_1_1_0_0_n_n none (up d : TyH) (up v : TyB) (constant S1024x256 .f32 0x00000000#32))
      = (up (dlB (attB low z tot lmL) d v) : TyW) := by
  simp only [pay88, constant_zero, dot_nt_up, mulf_up]; rfl
theorem pay90 : k0_pay90 (F := Ideal) (upB low : TyM) (up before : TyB) (up d : TyH) (up tot : TyC) (up dlL : TyC) (up v : TyB) (up z : TyW)
    (up (fun r s => softplus (z r s)) : TyW) (up lmL : TyC) (up (diagB z) : TyW) = (up (dzB low z (dlB (attB low z tot lmL) d v) dlL) : TyH) := by
  simp only [k0_pay90]
  rw [constant_zero (s := S2048x256), split_dot (dl_low d v tot lmL z), dl_low]
  simp only [truncf_up, subf_up, addf_up, column_broadcast, exp_up, broadcast_zero, broadcast_one, broadcast_eighth, mulf_up, select_up]; rfl
theorem pay91 : k0_pay91 (F := Ideal) (upB low : TyM) (up before : TyB) (up qu : TyH) (up d : TyH) (up tot : TyC) (up dlL : TyC) (up v : TyB)
    (up z : TyW) (up (fun r s => softplus (z r s)) : TyW) (up lmL : TyC) (up (diagB z) : TyW) (up x : TyBF)
    = (up (accT x (dzB low z (dlB (attB low z tot lmL) d v) dlL) qu) : TyBF) := by
  simp only [k0_pay91, pay90, constant_zero, matmul_tn_up, addf_up]; rfl
theorem pay92 : k0_pay92 (F := Ideal) (up x : TyBF) = (up x : TyBF) := by simp only [k0_pay92, shapeCast_up]
theorem pay93 : k0_pay93 (F := Ideal) (up dq : TyW) (up k : TyB) (up x : TyH) = (up (accN dq x k) : TyW) := by
  simp only [k0_pay93, constant_zero, dot_nn_up, addf_up]; rfl
theorem pay94 : k0_pay94 (F := Ideal) (up q : TyH) (up k : TyB) = (up (dotT q k) : TyW) := pay83 q k
theorem pay95 : k0_pay95 (F := Ideal) (up q : TyH) (up k : TyB) = (up (fun r s => softplus (dotT q k r s)) : TyW) := pay84 q k
theorem pay96 : k0_pay96 (F := Ideal) (upB low : TyM) (up after : TyB) (up q : TyH) (up tot : TyC) (up lmL : TyC) (up k : TyB)
    = (up (attB low (dotT q k) tot (carry lmL (lmB low (dotT q k)))) : TyW) := by
  show k0_pay88 (F := Ideal) (upB low) (up tot) (k0_pay86 (upB low) (up q) (up lmL) (up k)) (k0_pay87 (upB low) (up after) (up q) (up k)) = _
  rw [pay86, pay87, pay88]
theorem pay97 : k0_pay97 (F := Ideal) (upB low : TyM) (up after : TyB) (up q : TyH) (up d : TyH) (up tot : TyC) (up lmL : TyC) (up k : TyB) (up v : TyB)
    = (up (dlB (attB low (dotT q k) tot (carry lmL (lmB low (dotT q k)))) d v) : TyW) := by
  simp only [k0_pay97, pay96, constant_zero, dot_nt_up, mulf_up]; rfl
theorem pay98 : k0_pay98 (F := Ideal) (up d : TyH) (up z : TyW) (up x : TyBF) = (up (accT x z d) : TyBF) := by
  simp only [k0_pay98, constant_zero, truncf_up, matmul_tn_up, addf_up, shapeCast_up]; rfl
theorem pay99 : k0_pay99 (F := Ideal) (upB low : TyM) (up before : TyB) (up dlL : TyC) (up z : TyW) (up (fun r s => softplus (z r s)) : TyW)
    (up dl : TyW) = (up (dzB low z dl dlL) : TyH) := by
  simp only [k0_pay99, constant_zero]
  rw [split_dot rfl]
  simp only [truncf_up, subf_up, addf_up, column_broadcast, exp_up, broadcast_zero, broadcast_one, broadcast_eighth, mulf_up, select_up]; rfl
theorem pay100 : k0_pay100 (F := Ideal) (upB low : TyM) (up before : TyB) (up qu : TyH) (up dlL : TyC) (up z : TyW)
    (up (fun r s => softplus (z r s)) : TyW) (up dl : TyW) (up x : TyBF) = (up (accT x (dzB low z dl dlL) qu) : TyBF) := by
  simp only [k0_pay100, pay99, constant_zero, matmul_tn_up, addf_up, shapeCast_up]; rfl
theorem pay101 : k0_pay101 (F := Ideal) (upB low : TyM) (up before : TyB) (up dlL : TyC) (up dq : TyW) (up k : TyB) (up z : TyW)
    (up (fun r s => softplus (z r s)) : TyW) (up dl : TyW) = (up (accN dq (dzB low z dl dlL) k) : TyW) := by
  simp only [k0_pay101, pay99, constant_zero, dot_nn_up, addf_up]; rfl

end Payloads

end Cert.Attn

end
-- ==== Proof.Buffers.lean ====
/- Loads and stores of blocks of 256 rows and 256 lanes in arrays of reals. -/
module

public import proofs.«01_k».proof.Proof.RealArrays
public import proofs.«01_k».proof.Proof.Gen.KernelIdeal.Skeleton
public import Idealize.ShloMosaic.Lib.WritesUnit

@[expose] public section

noncomputable section

namespace Cert.Attn

open Idealize.ShloMosaic Idealize.ShloMosaic.ValueIdx
open Cert.KernelIdeal

/-- The part of a matrix that starts at row `r₀` and lane `l₀`. -/
def sub (a : Mat) (r₀ l₀ : ℕ) : Mat := fun r c => a (r₀ + r) (l₀ + c)

/-- `a` with the block of 256 × 256 entries at row `r₀` and lane `l₀` replaced by `b`. -/
def put (a : Mat) (r₀ l₀ : ℕ) (b : Mat) : Mat := fun r c =>
  if (r₀ ≤ r ∧ r < r₀ + 256) ∧ l₀ ≤ c ∧ c < l₀ + 256 then b (r - r₀) (c - l₀) else a r c

/-- What a load of a block reads, of an array whose entry at row `r` and lane `c` is `g (a r c)`. -/
theorem load_of {κ : Kind} {sp : Space} {e : EltTy} {s : Shape} (hs : s.rank = 2) (v : View sig κ sp s e) (f : v.ty.Contents (Elt Ideal))
    (g : ℝ → Elt Ideal e) (a : Mat) (h : v.read (Elt Ideal) f = fun j => g (a (coord j 0) (coord j 1))) {off size : Fin s.rank → ℕ}
    (inb : ∀ x, off x + size x ≤ s.size x) (r₀ l₀ : ℕ) (h0 : off ⟨0, by omega⟩ = r₀) (h1 : off ⟨1, by omega⟩ = l₀) :
    v.readAt (Elt Ideal) (Rect.unit off size inb).toLoadRect f = fun j => g (sub a r₀ l₀ (coord j 0) (coord j 1)) := by
  funext j
  show v.read (Elt Ideal) f ((Rect.unit off size inb).idx j) = _
  rw [h]
  have e0 : coord ((Rect.unit off size inb).idx j) 0 = r₀ + coord j 0 := by
    unfold coord
    rw [dif_pos (by omega), dif_pos (show 0 < s.rank by omega), ← h0]
    show off _ + 1 * (j _).val = _
    rw [Nat.one_mul]
  have e1 : coord ((Rect.unit off size inb).idx j) 1 = l₀ + coord j 1 := by
    unfold coord
    rw [dif_pos (by omega), dif_pos (show 1 < s.rank by omega), ← h1]
    show off _ + 1 * (j _).val = _
    rw [Nat.one_mul]
  show g (a (coord ((Rect.unit off size inb).idx j) 0) (coord ((Rect.unit off size inb).idx j) 1)) = _
  rw [e0, e1]; rfl

abbrev TyT (φ : FTy) := FVec Ideal S2048x512 φ

theorem load_f32 {κ : Kind} {sp : Space} (v : View sig κ sp S2048x512 .f32) (f : v.ty.Contents (Elt Ideal))
    (a : Mat) (h : v.read (Elt Ideal) f = (up a : TyT .f32)) {off : Fin 2 → ℕ} (inb : ∀ x, off x + S256x256.size x ≤ S2048x512.size x)
    (r₀ l₀ : ℕ) (ho : off = ![r₀, l₀]) :
    v.readAt (Elt Ideal) (Rect.unit (s := S2048x512) off S256x256.size inb).toLoadRect f = (up (sub a r₀ l₀) : FVec Ideal S256x256 .f32) :=
  load_of rfl v f (fun x => (x : EReal)) a h inb r₀ l₀ (by rw [ho]; rfl) (by rw [ho]; rfl)

theorem load_bf16 {κ : Kind} {sp : Space} (v : View sig κ sp S2048x512 .bf16) (f : v.ty.Contents (Elt Ideal))
    (a : Mat) (h : v.read (Elt Ideal) f = (up a : TyT .bf16)) {off : Fin 2 → ℕ} (inb : ∀ x, off x + S256x256.size x ≤ S2048x512.size x)
    (r₀ l₀ : ℕ) (ho : off = ![r₀, l₀]) :
    v.readAt (Elt Ideal) (Rect.unit (s := S2048x512) off S256x256.size inb).toLoadRect f = (up (sub a r₀ l₀) : FVec Ideal S256x256 .bf16) :=
  load_of rfl v f (fun x => (x : EReal)) a h inb r₀ l₀ (by rw [ho]; rfl) (by rw [ho]; rfl)

/-- What the array holds after a store of a block. -/
theorem store_up {κ : Kind} {sp : Space} (v : View sig κ sp S2048x512 .f32) (f : v.ty.Contents (Elt Ideal))
    (L : List (View.Piece (Elt Ideal) S2048x512 .f32)) (a b : Mat)
    (h : v.read (Elt Ideal) (v.writes (Elt Ideal) f L) = (up a : TyT .f32)) {off : Fin 2 → ℕ}
    (inb : ∀ x, off x + S256x256.size x ≤ S2048x512.size x) (r₀ l₀ : ℕ) (ho : off = ![r₀, l₀]) :
    v.read (Elt Ideal) (v.writes (Elt Ideal) f (⟨Rect.unit (s := S2048x512) off S256x256.size inb, (up b : FVec Ideal S256x256 .f32)⟩ :: L))
      = (up (put a r₀ l₀ b) : TyT .f32) := by
  funext j
  rw [View.read_writes_cons_unit v f inb _ L j ho]
  show _ = ((put a r₀ l₀ b (j 0).val (j 1).val : ℝ) : EReal)
  split
  · next hm =>
    have h0 := hm 0
    have h1 := hm 1
    have h0' : r₀ ≤ (j 0).val ∧ (j 0).val < r₀ + 256 := h0
    have h1' : l₀ ≤ (j 1).val ∧ (j 1).val < l₀ + 256 := h1
    rw [put, if_pos ⟨h0', h1'⟩]; rfl
  · next hm =>
    rw [h, put, if_neg]
    · rfl
    · rintro ⟨h0, h1⟩
      refine hm fun x => ?_
      match x with
      | 0 => exact h0
      | 1 => exact h1

/-- A load and a store of a whole array. -/
theorem whole_load {κ : Kind} {sp : Space} {e : EltTy} (v : View sig κ sp S2048x512 e) (f : v.ty.Contents (Elt Ideal)) (inb) :
    v.readAt (Elt Ideal) (Rect.unit (s := S2048x512) ![0, 0] ![2048, 512] inb).toLoadRect f = v.read (Elt Ideal) f := by
  funext j
  show v.read (Elt Ideal) f ((Rect.unit (s := S2048x512) ![0, 0] ![2048, 512] inb).idx j) = v.read (Elt Ideal) f j
  congr 1
  funext x
  match x with
  | 0 => exact Fin.ext (by show 0 + 1 * (j 0).val = (j 0).val; omega)
  | 1 => exact Fin.ext (by show 0 + 1 * (j 1).val = (j 1).val; omega)
theorem whole_store {κ : Kind} {sp : Space} {e : EltTy} (v : View sig κ sp S2048x512 e) (f : v.ty.Contents (Elt Ideal)) (inb)
    (x : S2048x512.Idx → Elt Ideal e) :
    v.read (Elt Ideal) (v.writes (Elt Ideal) f [⟨Rect.unit (s := S2048x512) ![0, 0] ![2048, 512] inb, x⟩]) = x := by
  funext j
  have h0 : (j 0).val < 2048 := (j 0).isLt
  have h1 : (j 1).val < 512 := (j 1).isLt
  rw [View.read_writes_cons_unit v f inb _ _ j rfl, dif_pos (fun x => match x with
        | 0 => ⟨Nat.zero_le _, by show (j 0).val < 0 + 2048; omega⟩
        | 1 => ⟨Nat.zero_le _, by show (j 1).val < 0 + 512; omega⟩)]
  congr 1
  funext x
  match x with
  | 0 => rfl
  | 1 => rfl

end Cert.Attn

end
-- ==== Proof.Groups.lean ====
/- One block of keys for one group of four heads, over the reals: the running sums, the queries' accumulator, and what
   is added to the keys' two accumulators. -/
module

public import proofs.«01_k».proof.Proof.Block
public import proofs.«01_k».proof.Proof.Buffers

@[expose] public section

noncomputable section

namespace Cert.Attn

/-- A group's stacked rows: the queries times the scale, the queries, the outputs' gradients, and the rows' whole sums. -/
structure Grp where
  qs : Mat
  qu : Mat
  d : Mat
  tot : Mat

/-- What a group carries from block to block: two running sums and the queries' accumulator. -/
structure St where
  lm : Mat
  dl : Mat
  dq : Mat

namespace Grp
variable (G : Grp) (p : ℕ → ℕ → Prop) [∀ r c, Decidable (p r c)] (k v : Mat) (S : St)

def z : Mat := dotT G.qs k
def att : Mat := attB p (G.z k) G.tot (carry S.lm (lmB p (G.z k)))
def dl : Mat := dlB (G.att p k S) G.d v
def dz : Mat := dzB p (G.z k) (G.dl p k v S) S.dl

/-- What is carried past the block. -/
def next : St := ⟨carry S.lm (lmB p (G.z k)), carry S.dl (G.dl p k v S), accN S.dq (G.dz p k v S) k⟩

/-- The block's two accumulators, of the values and of the keys. -/
def addV (x : Mat) : Mat := accT x (G.att p k S) G.d
def addK (x : Mat) : Mat := accT x (G.dz p k v S) G.qu

end Grp

/-- The keys' accumulators after a block at row `r₀`, both groups. -/
def addKs (G H : Grp) (p : ℕ → ℕ → Prop) [∀ r c, Decidable (p r c)] (kb vb : Mat) (r₀ : ℕ) (S S' : St) (x : Mat) : Mat :=
  put (put x r₀ 0 (G.addK p (sub kb r₀ 0) (sub vb r₀ 0) S (sub x r₀ 0))) r₀ 256
    (H.addK p (sub kb r₀ 256) (sub vb r₀ 256) S' (sub x r₀ 256))
def addVs (G H : Grp) (p : ℕ → ℕ → Prop) [∀ r c, Decidable (p r c)] (kb vb : Mat) (r₀ : ℕ) (S S' : St) (x : Mat) : Mat :=
  put (put x r₀ 0 (G.addV p (sub kb r₀ 0) S (sub x r₀ 0))) r₀ 256
    (H.addV p (sub kb r₀ 256) S' (sub x r₀ 256))

theorem sub_put_other (x : Mat) (r₀ : ℕ) (b : Mat) : sub (put x r₀ 0 b) r₀ 256 = sub x r₀ 256 := by
  funext r c
  rw [sub, put, if_neg (by omega)]; rfl

/-- What a group carries after the first `n` blocks of keys, its lanes starting at `l₀`. -/
def Grp.run (G : Grp) (kb vb : Mat) (l₀ : ℕ) : ℕ → St
  | 0 => ⟨fun _ _ => 0, fun _ _ => 0, fun _ _ => 0⟩
  | n + 1 => G.next all (sub kb (256 * n) l₀) (sub vb (256 * n) l₀) (G.run kb vb l₀ n)

/-- The keys' two accumulators after the first `n` blocks. -/
def keysRun (G H : Grp) (kb vb x : Mat) : ℕ → Mat
  | 0 => x
  | n + 1 => addKs G H all kb vb (256 * n) (G.run kb vb 0 n) (H.run kb vb 256 n) (keysRun G H kb vb x n)
def valsRun (G H : Grp) (kb vb x : Mat) : ℕ → Mat
  | 0 => x
  | n + 1 => addVs G H all kb vb (256 * n) (G.run kb vb 0 n) (H.run kb vb 256 n) (valsRun G H kb vb x n)

/-- The six carried values of both groups, as arrays. -/
abbrev accOf (S S' : St) : TyC × TyC × TyW × TyC × TyC × TyW :=
  (up S.lm, up S.dl, up S.dq, up S'.lm, up S'.dl, up S'.dq)

end Cert.Attn

end
-- ==== Proof.Trip.lean ====
/- One trip of the kernel's loop over the blocks of keys before the diagonal, on arrays of reals. -/
module

public import proofs.«01_k».proof.Proof.Groups
public import proofs.«01_k».proof.Proof.Gen.KernelIdeal.Loops
import all proofs.«01_k».proof.Proof.Gen.KernelIdeal.Loops

@[expose] public section

noncomputable section

namespace Cert.Attn

open Idealize.ShloMosaic Idealize.ShloMosaic.ValueIdx Idealize.SL
open Cert.KernelIdeal Cert.KernelIdeal.Gen

variable (𝒱 : Variants) (c : Dev nD) (bd : Option 𝒱.V) (i : grid0.Coords)
    (arg1 : Memref sig .tc .vmem S256x512 .f32) (harg1 : arg1.IsWhole) (arg2 : Memref sig .tc .vmem S2048x512 .f32) (harg2 : arg2.IsWhole)
    (arg3 : Memref sig .tc .vmem S2048x512 .f32) (harg3 : arg3.IsWhole) (arg4 : Memref sig .tc .vmem S256x512 .f32) (harg4 : arg4.IsWhole)
    (arg5 : Memref sig .tc .vmem S2x256x256 .f32) (harg5 : arg5.IsWhole) (arg6 : Memref sig .tc .vmem S256x512 .bf16) (harg6 : arg6.IsWhole)
    (arg7 : Memref sig .tc .vmem S2048x512 .bf16) (harg7 : arg7.IsWhole) (arg8 : Memref sig .tc .vmem S2048x512 .bf16) (harg8 : arg8.IsWhole)
    (arg9 : Memref sig .tc .vmem S2048x512 .bf16) (harg9 : arg9.IsWhole) (arg10 : Memref sig .tc .vmem S2048x512 .bf16) (harg10 : arg10.IsWhole)
    (arg11 : Memref sig .tc .vmem S2048x512 .f32) (harg11 : arg11.IsWhole) (arg12 : Memref sig .tc .vmem S2048x512 .f32) (harg12 : arg12.IsWhole)
  (a0 : BitVec 32) (v34 : TyM) (w : TyC) (G H : Grp) (X9 : arg9.view.ty.Contents (Elt Ideal)) (X10 : arg10.view.ty.Contents (Elt Ideal))
  (k : Fin (k0_t1_loop i).trips) (kb vb dk dv : Mat) (S S' : St)
  (f11 : arg11.view.ty.Contents (Elt Ideal)) (f12 : arg12.view.ty.Contents (Elt Ideal))

theorem zero_word : (FloatOps.ofBits FTy.f32 0#32 : Ideal .f32) = zero32 := rfl

include harg9 harg10 harg11 harg12 in
theorem trip_values (h9 : arg9.view.read (Elt Ideal) X9 = (up kb : TyT .bf16)) (h10 : arg10.view.read (Elt Ideal) X10 = (up vb : TyT .bf16)) :
    tripR_k0_t1 (F := Ideal) 𝒱 c bd i arg1 harg1 arg2 harg2 arg3 harg3 arg4 harg4 arg5 harg5 arg6 harg6 arg7 harg7 arg8 harg8 arg9 harg9 arg10 harg10 arg11 harg11 arg12 harg12
      a0 v34 (up after) (up before) (up G.qs) (up G.qu) (up G.d) (up G.tot) (up H.qs) (up H.qu) (up H.d) (up H.tot) w zero32 X9 X10 k
      (accOf S S') f11 f12
      = accOf (G.next all (sub kb (256 * k.val) 0) (sub vb (256 * k.val) 0) S)
          (H.next all (sub kb (256 * k.val) 256) (sub vb (256 * k.val) 256) S') := by
  unfold tripR_k0_t1 trip_k0_t1
  dsimp only
  sl_unfold_run_names
  dsimp only
  have hk0 := fun inb => load_bf16 arg9.view X9 kb h9 inb _ _ (k0_off1_eq i k)
  have hk1 := fun inb => load_bf16 arg9.view X9 kb h9 inb _ _ (k0_off2_eq i k)
  have hv0 := fun inb => load_bf16 arg10.view X10 vb h10 inb _ _ (k0_off1_eq i k)
  have hv1 := fun inb => load_bf16 arg10.view X10 vb h10 inb _ _ (k0_off2_eq i k)
  simp only [hk0, hk1, hv0, hv1, zero_word]
  simp only [pay5, pay6, pay7, pay8, pay10, pay15, pay16, pay17, pay18, pay19, pay22, pay24, pay26, pay27, pay77, pay78]
  rfl

include harg9 harg10 harg11 harg12 in
theorem trip_keys (h9 : arg9.view.read (Elt Ideal) X9 = (up kb : TyT .bf16)) (h10 : arg10.view.read (Elt Ideal) X10 = (up vb : TyT .bf16))
    (h11 : arg11.view.read (Elt Ideal) f11 = (up dk : TyT .f32)) (h12 : arg12.view.read (Elt Ideal) f12 = (up dv : TyT .f32)) :
    arg11.view.read (Elt Ideal) (arg11.view.writes (Elt Ideal) f11 ((tripL_k0_t1 (F := Ideal) 𝒱 c bd i arg1 harg1 arg2 harg2 arg3 harg3 arg4 harg4 arg5 harg5 arg6 harg6 arg7 harg7 arg8 harg8 arg9 harg9 arg10 harg10 arg11 harg11 arg12 harg12
      a0 v34 (up after) (up before) (up G.qs) (up G.qu) (up G.d) (up G.tot) (up H.qs) (up H.qu) (up H.d) (up H.tot) w zero32 X9 X10 k
      (accOf S S') f11 f12).1))
      = (up (addKs G H all kb vb (256 * k.val) S S' dk) : TyT .f32) := by
  unfold tripL_k0_t1 trip_k0_t1
  dsimp only
  sl_unfold_run_names
  dsimp only
  have hk0 := fun inb => load_bf16 arg9.view X9 kb h9 inb _ _ (k0_off1_eq i k)
  have hk1 := fun inb => load_bf16 arg9.view X9 kb h9 inb _ _ (k0_off2_eq i k)
  have hv0 := fun inb => load_bf16 arg10.view X10 vb h10 inb _ _ (k0_off1_eq i k)
  have hv1 := fun inb => load_bf16 arg10.view X10 vb h10 inb _ _ (k0_off2_eq i k)
  have hx0 := fun inb => load_f32 arg11.view f11 dk h11 inb _ _ (k0_off1_eq i k)
  have hx1 := fun inb => load_f32 arg11.view f11 dk h11 inb _ _ (k0_off2_eq i k)
  simp only [hk0, hk1, hv0, hv1, hx0, hx1, zero_word]
  simp only [pay5, pay6, pay7, pay8, pay10, pay15, pay16, pay17, pay18, pay19, pay22, pay24, pay26, pay27, pay14, pay76]
  exact store_up _ _ _ _ _ (store_up _ _ [] _ _ h11 _ _ _ (k0_off1_eq i k)) _ _ _ (k0_off2_eq i k)

include harg9 harg10 harg11 harg12 in
theorem trip_vals (h9 : arg9.view.read (Elt Ideal) X9 = (up kb : TyT .bf16)) (h10 : arg10.view.read (Elt Ideal) X10 = (up vb : TyT .bf16))
    (h11 : arg11.view.read (Elt Ideal) f11 = (up dk : TyT .f32)) (h12 : arg12.view.read (Elt Ideal) f12 = (up dv : TyT .f32)) :
    arg12.view.read (Elt Ideal) (arg12.view.writes (Elt Ideal) f12 ((tripL_k0_t1 (F := Ideal) 𝒱 c bd i arg1 harg1 arg2 harg2 arg3 harg3 arg4 harg4 arg5 harg5 arg6 harg6 arg7 harg7 arg8 harg8 arg9 harg9 arg10 harg10 arg11 harg11 arg12 harg12
      a0 v34 (up after) (up before) (up G.qs) (up G.qu) (up G.d) (up G.tot) (up H.qs) (up H.qu) (up H.d) (up H.tot) w zero32 X9 X10 k
      (accOf S S') f11 f12).2))
      = (up (addVs G H all kb vb (256 * k.val) S S' dv) : TyT .f32) := by
  unfold tripL_k0_t1 trip_k0_t1
  dsimp only
  sl_unfold_run_names
  dsimp only
  have hk0 := fun inb => load_bf16 arg9.view X9 kb h9 inb _ _ (k0_off1_eq i k)
  have hk1 := fun inb => load_bf16 arg9.view X9 kb h9 inb _ _ (k0_off2_eq i k)
  have hv0 := fun inb => load_bf16 arg10.view X10 vb h10 inb _ _ (k0_off1_eq i k)
  have hv1 := fun inb => load_bf16 arg10.view X10 vb h10 inb _ _ (k0_off2_eq i k)
  have hx0 := fun inb => load_f32 arg12.view f12 dv h12 inb _ _ (k0_off1_eq i k)
  have hx1 := fun inb => load_f32 arg12.view f12 dv h12 inb _ _ (k0_off2_eq i k)
  simp only [hk0, hk1, hv0, hv1, hx0, hx1, zero_word]
  simp only [pay5, pay6, pay7, pay8, pay10, pay15, pay16, pay17, pay18, pay19, pay22, pay24, pay26, pay27, pay11, pay12, pay25]
  exact store_up _ _ _ _ _ (store_up _ _ [] _ _ h12 _ _ _ (k0_off1_eq i k)) _ _ _ (k0_off2_eq i k)

end Cert.Attn

end
-- ==== Proof.Sweep.lean ====
/- The kernel's loop over the blocks of keys before the diagonal, on arrays of reals. -/
module

public import proofs.«01_k».proof.Proof.Trip

@[expose] public section

noncomputable section

namespace Cert.Attn

open Idealize.ShloMosaic Idealize.ShloMosaic.ValueIdx Idealize.SL
open Cert.KernelIdeal Cert.KernelIdeal.Gen

variable (𝒱 : Variants) (c : Dev nD) (bd : Option 𝒱.V) (i : grid0.Coords)
    (arg1 : Memref sig .tc .vmem S256x512 .f32) (harg1 : arg1.IsWhole) (arg2 : Memref sig .tc .vmem S2048x512 .f32) (harg2 : arg2.IsWhole)
    (arg3 : Memref sig .tc .vmem S2048x512 .f32) (harg3 : arg3.IsWhole) (arg4 : Memref sig .tc .vmem S256x512 .f32) (harg4 : arg4.IsWhole)
    (arg5 : Memref sig .tc .vmem S2x256x256 .f32) (harg5 : arg5.IsWhole) (arg6 : Memref sig .tc .vmem S256x512 .bf16) (harg6 : arg6.IsWhole)
    (arg7 : Memref sig .tc .vmem S2048x512 .bf16) (harg7 : arg7.IsWhole) (arg8 : Memref sig .tc .vmem S2048x512 .bf16) (harg8 : arg8.IsWhole)
    (arg9 : Memref sig .tc .vmem S2048x512 .bf16) (harg9 : arg9.IsWhole) (arg10 : Memref sig .tc .vmem S2048x512 .bf16) (harg10 : arg10.IsWhole)
    (arg11 : Memref sig .tc .vmem S2048x512 .f32) (harg11 : arg11.IsWhole) (arg12 : Memref sig .tc .vmem S2048x512 .f32) (harg12 : arg12.IsWhole)
  (a0 : BitVec 32) (v34 : TyM) (w : TyC) (G H : Grp) (X9 : arg9.view.ty.Contents (Elt Ideal)) (X10 : arg10.view.ty.Contents (Elt Ideal))
  (kb vb dk dv : Mat) (f11 : arg11.view.ty.Contents (Elt Ideal)) (f12 : arg12.view.ty.Contents (Elt Ideal))

/-- What the loop carries and has stored before trip `n`. -/
theorem sweep (h9 : arg9.view.read (Elt Ideal) X9 = (up kb : TyT .bf16)) (h10 : arg10.view.read (Elt Ideal) X10 = (up vb : TyT .bf16))
    (h11 : arg11.view.read (Elt Ideal) f11 = (up dk : TyT .f32)) (h12 : arg12.view.read (Elt Ideal) f12 = (up dv : TyT .f32))
    (n : ℕ) (hn : n ≤ (k0_t1_loop i).trips)
    (st) (hst : st = st_k0_t1 (F := Ideal) 𝒱 c bd i arg1 harg1 arg2 harg2 arg3 harg3 arg4 harg4 arg5 harg5 arg6 harg6 arg7 harg7 arg8 harg8 arg9 harg9 arg10 harg10 arg11 harg11 arg12 harg12
      a0 v34 (up after) (up before) (up G.qs) (up G.qu) (up G.d) (up G.tot) (up H.qs) (up H.qu) (up H.d) (up H.tot) w zero32 X9 X10 f11 f12
      (accOf (G.run kb vb 0 0) (H.run kb vb 256 0)) n) :
    st.1 = accOf (G.run kb vb 0 n) (H.run kb vb 256 n)
    ∧ arg11.view.read (Elt Ideal) (arg11.view.writes (Elt Ideal) f11 st.2.1) = (up (keysRun G H kb vb dk n) : TyT .f32)
    ∧ arg12.view.read (Elt Ideal) (arg12.view.writes (Elt Ideal) f12 st.2.2) = (up (valsRun G H kb vb dv n) : TyT .f32) := by
  induction n generalizing st with
  | zero => subst hst; exact ⟨rfl, h11, h12⟩
  | succ n ih =>
    obtain ⟨e1, e2, e3⟩ := ih (Nat.le_of_succ_le hn) _ rfl
    have e := hst.trans (st_k0_t1_succ (F := Ideal) 𝒱 c bd i arg1 harg1 arg2 harg2 arg3 harg3 arg4 harg4 arg5 harg5 arg6 harg6 arg7 harg7 arg8 harg8 arg9 harg9 arg10 harg10 arg11 harg11 arg12 harg12
      a0 v34 (up after) (up before) (up G.qs) (up G.qu) (up G.d) (up G.tot) (up H.qs) (up H.qu) (up H.d) (up H.tot) w zero32 X9 X10 f11 f12
      (accOf (G.run kb vb 0 0) (H.run kb vb 256 0)) ⟨n, hn⟩)
    rw [e1] at e
    subst e
    refine ⟨?_, ?_, ?_⟩
    · exact trip_values 𝒱 c bd i arg1 harg1 arg2 harg2 arg3 harg3 arg4 harg4 arg5 harg5 arg6 harg6 arg7 harg7 arg8 harg8 arg9 harg9 arg10 harg10 arg11 harg11 arg12 harg12 a0 v34 w G H X9 X10 ⟨n, hn⟩ kb vb _ _ _ _ h9 h10
    · dsimp only
      rw [View.writes_append]
      exact trip_keys 𝒱 c bd i arg1 harg1 arg2 harg2 arg3 harg3 arg4 harg4 arg5 harg5 arg6 harg6 arg7 harg7 arg8 harg8 arg9 harg9 arg10 harg10 arg11 harg11 arg12 harg12 a0 v34 w G H X9 X10 ⟨n, hn⟩ kb vb _ _ _ _ _ _ h9 h10 e2 e3
    · dsimp only
      rw [View.writes_append]
      exact trip_vals 𝒱 c bd i arg1 harg1 arg2 harg2 arg3 harg3 arg4 harg4 arg5 harg5 arg6 harg6 arg7 harg7 arg8 harg8 arg9 harg9 arg10 harg10 arg11 harg11 arg12 harg12 a0 v34 w G H X9 X10 ⟨n, hn⟩ kb vb _ _ _ _ _ _ h9 h10 e2 e3

end Cert.Attn

end
-- ==== Proof.Rows.lean ====
/- The masks of the kernel, and how it stacks the rows of the four heads of a group. -/
module

public import proofs.«01_k».proof.Proof.Block
public import Idealize.ShloMosaic.Lib.WordCmp

@[expose] public section

noncomputable section

namespace Cert.Attn

open Idealize.ShloMosaic Idealize.ShloMosaic.ValueIdx Idealize.ShloMosaic.WordCmp
open Cert.KernelIdeal Cert.KernelIdeal.Gen

/-- The lanes of head `n` of a group. -/
abbrev lane (n : ℕ) : ℕ → ℕ → Prop := fun _ c => c / 64 = n
abbrev TyL := IVec S1x256 1

theorem pay55_apply : ∀ j : S1x256.Idx, k0_pay55 j = BitVec.ofNat 32 ((j 1).val / 64) := by decide +kernel

theorem head_mask (n : ℕ) (hn : n < 4) (j : S1x256.Idx) :
    IntOp.cmpi .eq (k0_pay55 j) (BitVec.ofNat 32 n) = (upB (lane n) : TyL) j := by
  have h1 : (j 1).val < 256 := (j 1).isLt
  rw [pay55_apply, cmpi_eq_ofNat (by omega) (by omega)]
  show _ = if (j 1).val / 64 = n then 1#1 else 0#1
  by_cases h : (j 1).val / 64 = n <;> simp [h]

theorem iota_at {s : Shape} (a : Fin s.rank) (h : s.Iotas .tc 32 [a]) (j : s.Idx) : iota .tc s 32 [a] h j = BitVec.ofNat 32 (j a).val := by
  simp [iota]

theorem pay57 : k0_pay57 = (upB (lane 0) : TyL) := funext (head_mask 0 (by omega))
theorem pay58 : k0_pay58 = (upB (lane 1) : TyL) := funext (head_mask 1 (by omega))
theorem pay59 : k0_pay59 = (upB (lane 2) : TyL) := funext (head_mask 2 (by omega))
theorem pay60 : k0_pay60 = (upB (lane 3) : TyL) := funext (head_mask 3 (by omega))

theorem pay56 : k0_pay56 = (upB low : TyM) := by
  funext j
  have h0 : (j 0).val < 1024 := (j 0).isLt
  have h1 : (j 1).val < 256 := (j 1).isLt
  show IntOp.cmpi .slt (iota .tc S1024x256 32 [1] iota_S1024x256_d1_w32 j) (iota .tc S1024x256 32 [0] iota_S1024x256_d0_w32 j &&& 255#32)
    = if (j 1).val < (j 0).val % 256 then 1#1 else 0#1
  rw [iota_at, iota_at]
  have e : BitVec.ofNat 32 (j 0).val &&& 255#32 = BitVec.ofNat 32 ((j 0).val % 256) := by
    apply BitVec.eq_of_toNat_eq
    rw [BitVec.toNat_and, BitVec.toNat_ofNat, BitVec.toNat_ofNat, BitVec.toNat_ofNat, Nat.mod_eq_of_lt (by omega), Nat.mod_eq_of_lt (by omega),
      Nat.mod_eq_of_lt (by omega)]
    exact Nat.and_two_pow_sub_one_eq_mod _ 8
  rw [e, cmpi_slt_ofNat (by omega) (by omega)]
  by_cases h : (j 1).val < (j 0).val % 256 <;> simp [h]

theorem mask_real (p : Prop) [Decidable p] : Scalar.sitofp (F := Ideal) .f32 ((BitVec.ofBool (decide p)).setWidth 32) = (((if p then 1 else 0 : ℝ) : ℝ) : EReal) := by
  by_cases h : p
  · simp [h]
  · simp [h]

theorem pay62 : k0_pay62 (F := Ideal) k0_pay61 = (up after : TyB) := by
  funext j
  have h0 : (j 0).val < 256 := (j 0).isLt
  have h1 : (j 1).val < 256 := (j 1).isLt
  show Scalar.sitofp (F := Ideal) .f32 ((IntOp.cmpi .sgt (iota .tc S256x256 32 [0] iota_S256x256_d0_w32 j) (iota .tc S256x256 32 [1] iota_S256x256_d1_w32 j)).setWidth 32)
    = ((after (j 0).val (j 1).val : ℝ) : EReal)
  rw [iota_at, iota_at, cmpi_sgt_ofNat (by omega) (by omega), mask_real]; rfl

theorem pay63 : k0_pay63 (F := Ideal) (iota Kind.tc S256x256 32 [0] iota_S256x256_d0_w32) (iota Kind.tc S256x256 32 [1] iota_S256x256_d1_w32)
    = (up before : TyB) := by
  funext j
  have h0 : (j 0).val < 256 := (j 0).isLt
  have h1 : (j 1).val < 256 := (j 1).isLt
  show Scalar.sitofp (F := Ideal) .f32 ((IntOp.cmpi .slt (iota .tc S256x256 32 [0] iota_S256x256_d0_w32 j) (iota .tc S256x256 32 [1] iota_S256x256_d1_w32 j)).setWidth 32)
    = ((before (j 0).val (j 1).val : ℝ) : EReal)
  rw [iota_at, iota_at, cmpi_slt_ofNat (by omega) (by omega), mask_real]; rfl

/-! ## Stacking the heads' rows -/

/-- The four heads' rows one over the other, each with the lanes of its head alone. -/
def stackRows (b : Mat) : Mat := fun r c => if c / 64 = r / 256 then b (r % 256) c else 0

theorem head_rows (n : ℕ) (b : Mat) (h : S1x256.ShapeCasts S1x256) :
    select (broadcastTo S256x256 (shapeCast S1x256 (upB (lane n) : TyL) h) broadcasts_S1x256_S256x256) (up b : TyBF)
      (broadcast S256x256 (Scalar.ofBits (F := Ideal) .f32 0x00000000#32)) = (up fun r c => if c / 64 = n then b r c else 0 : TyBF) := by
  rw [shapeCast_upB, row_broadcast, broadcast_zero, select_up]

theorem stack_heads (b : Mat) (x : Fin 4 → TyBF) (hx : ∀ n : Fin 4, x n = up fun r c => if c / 64 = n.val then b r c else 0) :
    truncf .bf16 (concatenate S1024x256 0 [⟨S256x256, x 0⟩, ⟨S256x256, x 1⟩, ⟨S256x256, x 2⟩, ⟨S256x256, x 3⟩]
      concatenates_S256x256_S256x256_S256x256_S256x256_S1024x256_d0) bitsLt_bf16_f32 = (up (stackRows b) : TyH) := by
  rw [hx 0, hx 1, hx 2, hx 3]
  exact (congrArg (fun y => truncf .bf16 y bitsLt_bf16_f32) (stack_wide fun n r c => if c / 64 = n then b r c else 0)).trans
    (truncf_up _ _)

section
variable (b : Mat)

abbrev eighth (b : Mat) : Mat := fun r c => b r c * (1 / 8)

theorem scaled : mulf (up b : TyBF) (broadcast S256x256 (Scalar.ofBits (F := Ideal) .f32 0x3E000000#32)) = (up (eighth b) : TyBF) := by
  rw [broadcast_eighth, mulf_up]

theorem pay65 : k0_pay65 (F := Ideal) (upB (lane 0)) (upB (lane 1)) (upB (lane 2)) (upB (lane 3)) (up b : TyBF) = (up (stackRows b) : TyH) :=
  stack_heads b (fun n => select (broadcastTo S256x256 (shapeCast S1x256 (upB (lane n.val) : TyL) shapeCasts_S1x256_S1x256) broadcasts_S1x256_S256x256)
    (up b : TyBF) (broadcast S256x256 (Scalar.ofBits (F := Ideal) .f32 0x00000000#32))) fun n => head_rows n.val b _
theorem pay66 : k0_pay66 (F := Ideal) (upB (lane 0)) (upB (lane 1)) (upB (lane 2)) (upB (lane 3)) (up b : TyBF) = (up (stackRows b) : TyH) :=
  pay65 b
theorem pay69 : k0_pay69 (F := Ideal) (upB (lane 0)) (upB (lane 1)) (upB (lane 2)) (upB (lane 3)) (up b : TyBF) = (up (stackRows b) : TyH) :=
  pay65 b
theorem pay70 : k0_pay70 (F := Ideal) (upB (lane 0)) (upB (lane 1)) (upB (lane 2)) (upB (lane 3)) (up b : TyBF) = (up (stackRows b) : TyH) :=
  pay65 b
theorem pay64 : k0_pay64 (F := Ideal) (upB (lane 0)) (upB (lane 1)) (upB (lane 2)) (upB (lane 3)) (up b : TyBF)
    = (up (stackRows (eighth b)) : TyH) := by
  refine Eq.trans ?_ (pay65 (eighth b))
  rw [← scaled]; rfl
theorem pay68 : k0_pay68 (F := Ideal) (upB (lane 0)) (upB (lane 1)) (upB (lane 2)) (upB (lane 3)) (up b : TyBF)
    = (up (stackRows (eighth b)) : TyH) := pay64 b

/-- The rows' whole sums, one column over the other: head `n`'s at lane `64 n`. -/
def totCol (t : Mat) : Mat := fun r c => t (r % 256) (64 * (r / 256) + c)

/-- The block of the sums of one group. -/
def upT {s : Shape} {φ : FTy} (t : Mat) : FVec Ideal s φ := fun j => ((t (coord j 1) (coord j 2) : ℝ) : EReal)

theorem upT_flat (t : Mat) : shapeCast S256x256 (upT t : FVec Ideal S1x256x256 .f32) shapeCasts_S1x256x256_S256x256 = (up t : TyBF) := by
  funext j
  refine (shapeCast_apply _ _ j (ix3 (0 : Fin 1) (j 0) (j 1)) ?_).trans rfl
  rw [Shape.rowMajor_val_two, Shape.rowMajor_val_three]
  simp

theorem column_slice (t : Mat) (l : ℕ) (h : S256x256.Slices ![0, l] S256x1) :
    extractStridedSlice S256x1 ![0, l] (up t : TyBF) h = (up fun r c => t r (l + c) : FVec Ideal S256x1 .f32) := by
  funext j
  show ((t (0 + (j 0).val) (l + (j 1).val) : ℝ) : EReal) = ((t (j 0).val (l + (j 1).val) : ℝ) : EReal)
  rw [Nat.zero_add]

theorem stack_columns (t : Mat) (x : Fin 4 → FVec Ideal S256x1 .f32) (hx : ∀ n : Fin 4, x n = up fun r c => t r (64 * n.val + c)) :
    concatenate S1024x1 0 [⟨S256x1, x 0⟩, ⟨S256x1, x 1⟩, ⟨S256x1, x 2⟩, ⟨S256x1, x 3⟩]
      concatenates_S256x1_S256x1_S256x1_S256x1_S1024x1_d0 = (up (totCol t) : TyC) := by
  rw [hx 0, hx 1, hx 2, hx 3]
  exact stack_column fun n r c => t r (64 * n + c)

theorem pay67 (t : Mat) : k0_pay67 (F := Ideal) (upT t : FVec Ideal S1x256x256 .f32) = (up (totCol t) : TyC) := by
  unfold k0_pay67
  dsimp only
  rw [upT_flat]
  exact stack_columns t (fun n => match n with
    | 0 => extractStridedSlice S256x1 ![0, 0] (up t : TyBF) slices_S256x256_o0_0_S256x1
    | 1 => extractStridedSlice S256x1 ![0, 64] (up t : TyBF) slices_S256x256_o0_64_S256x1
    | 2 => extractStridedSlice S256x1 ![0, 128] (up t : TyBF) slices_S256x256_o0_128_S256x1
    | 3 => extractStridedSlice S256x1 ![0, 192] (up t : TyBF) slices_S256x256_o0_192_S256x1)
    fun n => match n with
    | 0 => column_slice t 0 _
    | 1 => column_slice t 64 _
    | 2 => column_slice t 128 _
    | 3 => column_slice t 192 _
theorem pay71 (t : Mat) : k0_pay71 (F := Ideal) (upT t : FVec Ideal S1x256x256 .f32) = (up (totCol t) : TyC) := pay67 t

theorem pay72 : k0_pay72 (F := Ideal) = (up fun _ _ => 0 : TyC) := broadcast_zero
theorem pay73 : k0_pay73 (F := Ideal) zero32 = (up fun _ _ => 0 : TyW) := broadcast_zero
theorem pay74 : k0_pay74 (F := Ideal) = (up fun _ _ => 0 : TyW) := broadcast_zero

/-! ## Taking the heads' rows apart again -/

/-- Each lane's rows are those of its head. -/
def unstack (a : Mat) : Mat := fun r c => a (256 * (c / 64) + r) c

theorem row_slice (a : Mat) (r₀ : ℕ) (h : S1024x256.Slices ![r₀, 0] S256x256) :
    extractStridedSlice S256x256 ![r₀, 0] (up a : TyW) h = (up fun r c => a (r₀ + r) c : TyBF) := by
  funext j
  show ((a (r₀ + (j 0).val) (0 + (j 1).val) : ℝ) : EReal) = ((a (r₀ + (j 0).val) (j 1).val : ℝ) : EReal)
  rw [Nat.zero_add]

theorem chain_up (a : Mat) : (up fun r c => if c / 64 = 3 then a (768 + r) c else if c / 64 = 2 then a (512 + r) c
    else if c / 64 = 1 then a (256 + r) c else a (0 + r) c : TyB) = up (unstack a) := by
  refine up_congr fun r _ c hc => ?_
  unfold unstack
  have : c / 64 < 4 := by omega
  interval_cases c / 64 <;> rfl

theorem pay2 (a : Mat) : k0_pay2 (F := Ideal) (upB (lane 1)) (upB (lane 2)) (upB (lane 3)) (up a : TyW) = (up (unstack a) : TyB) := by
  unfold k0_pay2
  simp only [shapeCast_upB, row_broadcast, row_slice, select_up, truncf_up]
  exact chain_up a
theorem pay1 (a : Mat) : k0_pay1 (F := Ideal) (upB (lane 3)) (up a : TyW) (k0_pay102 (upB (lane 1)) (up a : TyW)) (k0_pay103 (up a : TyW))
    (k0_pay104 (upB (lane 2))) = (up (unstack a) : TyB) := pay2 a
end

section
variable (a : Mat)
theorem pay3 : k0_pay3 (F := Ideal) (up a : FVec Ideal S2048x512 .f32) = (up a : FVec Ideal S2048x512 .bf16) := truncf_up _ _
theorem pay4 : k0_pay4 (F := Ideal) (up a : FVec Ideal S2048x512 .f32) = (up a : FVec Ideal S2048x512 .bf16) := truncf_up _ _
theorem pay51 : k0_pay51 (F := Ideal) (up a : FVec Ideal S2048x512 .f32) = (up a : FVec Ideal S2048x512 .bf16) := by
  simp only [k0_pay51, truncf_up, shapeCast_up]
theorem pay52 : k0_pay52 (F := Ideal) (up a : FVec Ideal S2048x512 .f32) = (up a : FVec Ideal S2048x512 .bf16) := pay51 a
theorem pay53 : k0_pay53 (F := Ideal) = (up fun _ _ => 0 : FVec Ideal S2048x512 .f32) := by
  simp only [k0_pay53, broadcast_zero, shapeCast_up]
theorem pay54 : k0_pay54 (F := Ideal) = (up fun _ _ => 0 : FVec Ideal S2048x512 .f32) := pay53
end

end Cert.Attn

end
-- ==== Proof.Diag.lean ====
/- The kernel's block on the diagonal, on arrays of reals: what is added to the keys' two accumulators, and the queries'
   accumulators after it. -/
module

public import proofs.«01_k».proof.Proof.Groups
public import proofs.«01_k».proof.Proof.Rows

@[expose] public section

noncomputable section

namespace Cert.Attn

open Idealize.ShloMosaic Idealize.ShloMosaic.ValueIdx Idealize.SL
open Cert.KernelIdeal Cert.KernelIdeal.Gen

variable (i : grid0.Coords)
    (arg9 : Memref sig .tc .vmem S2048x512 .bf16) (arg10 : Memref sig .tc .vmem S2048x512 .bf16)
    (arg11 : Memref sig .tc .vmem S2048x512 .f32) (arg12 : Memref sig .tc .vmem S2048x512 .f32)
  (inb5 : ∀ x, k0_off5 i x + ![256, 256] x ≤ S2048x512.size x) (inb6 : ∀ x, k0_off6 i x + ![256, 256] x ≤ S2048x512.size x)
  (G H : Grp) (X9 : arg9.view.ty.Contents (Elt Ideal)) (X10 : arg10.view.ty.Contents (Elt Ideal)) (kb vb x : Mat) (S S' : St)

theorem key5 (h9 : arg9.view.read (Elt Ideal) X9 = (up kb : TyT .bf16)) :
    arg9.view.readAt (Elt Ideal) (Rect.unit (s := S2048x512) (k0_off5 i) ![256, 256] inb5).toLoadRect X9 = (up (sub kb (256 * (i 0).val) 0) : TyB) :=
  load_bf16 arg9.view X9 kb h9 inb5 _ _ (k0_off5_eq i)
theorem key6 (h9 : arg9.view.read (Elt Ideal) X9 = (up kb : TyT .bf16)) :
    arg9.view.readAt (Elt Ideal) (Rect.unit (s := S2048x512) (k0_off6 i) ![256, 256] inb6).toLoadRect X9 = (up (sub kb (256 * (i 0).val) 256) : TyB) :=
  load_bf16 arg9.view X9 kb h9 inb6 _ _ (k0_off6_eq i)
theorem acc5 (f : arg11.view.ty.Contents (Elt Ideal)) (h : arg11.view.read (Elt Ideal) f = (up x : TyT .f32)) :
    arg11.view.readAt (Elt Ideal) (Rect.unit (s := S2048x512) (k0_off5 i) ![256, 256] inb5).toLoadRect f = (up (sub x (256 * (i 0).val) 0) : TyBF) :=
  load_f32 arg11.view f x h inb5 _ _ (k0_off5_eq i)
theorem acc6 (f : arg11.view.ty.Contents (Elt Ideal)) (h : arg11.view.read (Elt Ideal) f = (up x : TyT .f32)) :
    arg11.view.readAt (Elt Ideal) (Rect.unit (s := S2048x512) (k0_off6 i) ![256, 256] inb6).toLoadRect f = (up (sub x (256 * (i 0).val) 256) : TyBF) :=
  load_f32 arg11.view f x h inb6 _ _ (k0_off6_eq i)

/-- The keys' accumulator after the diagonal block. -/
theorem diag_keys (h9 : arg9.view.read (Elt Ideal) X9 = (up kb : TyT .bf16)) (h10 : arg10.view.read (Elt Ideal) X10 = (up vb : TyT .bf16))
    (f : arg11.view.ty.Contents (Elt Ideal)) (L : List (View.Piece (Elt Ideal) S2048x512 .f32))
    (h : arg11.view.read (Elt Ideal) (arg11.view.writes (Elt Ideal) f L) = (up x : TyT .f32)) :
    arg11.view.read (Elt Ideal) (arg11.view.writes (Elt Ideal) f (⟨Rect.unit (k0_off6 i) ![256, 256] inb6, k0_pay100 (upB low) (up before) (up H.qu) (up S'.dl) (k0_pay94 (up
      H.qs) (arg9.view.readAt (Elt Ideal) (Rect.unit (s := S2048x512) (k0_off6 i) ![256, 256] inb6).toLoadRect X9)) (k0_pay95 (up H.qs) (arg9.view.readAt (Elt Ideal)
      (Rect.unit (s := S2048x512) (k0_off6 i) ![256, 256] inb6).toLoadRect X9)) (k0_pay97 (upB low) (up after) (up H.qs) (up H.d) (up H.tot) (up S'.lm) (arg9.view.readAt
      (Elt Ideal) (Rect.unit (s := S2048x512) (k0_off6 i) ![256, 256] inb6).toLoadRect X9) (arg10.view.readAt (Elt Ideal) (Rect.unit (s := S2048x512) (k0_off6 i) ![256,
      256] inb6).toLoadRect X10)) (arg11.view.readAt (Elt Ideal) (Rect.unit (s := S2048x512) (k0_off6 i) ![256, 256] inb6).toLoadRect (arg11.view.writes (Elt Ideal) f
      (⟨Rect.unit (k0_off5 i) ![256, 256] inb5, k0_pay92 (k0_pay91 (upB low) (up before) (up G.qu) (up G.d) (up G.tot) (up S.dl) (arg10.view.readAt (Elt Ideal) (Rect.unit
      (s := S2048x512) (k0_off5 i) ![256, 256] inb5).toLoadRect X10) (k0_pay83 (up G.qs) (arg9.view.readAt (Elt Ideal) (Rect.unit (s := S2048x512) (k0_off5 i) ![256, 256]
      inb5).toLoadRect X9)) (k0_pay84 (up G.qs) (arg9.view.readAt (Elt Ideal) (Rect.unit (s := S2048x512) (k0_off5 i) ![256, 256] inb5).toLoadRect X9)) (k0_pay86 (upB
      low) (up G.qs) (up S.lm) (arg9.view.readAt (Elt Ideal) (Rect.unit (s := S2048x512) (k0_off5 i) ![256, 256] inb5).toLoadRect X9)) (k0_pay87 (upB low) (up after) (up
      G.qs) (arg9.view.readAt (Elt Ideal) (Rect.unit (s := S2048x512) (k0_off5 i) ![256, 256] inb5).toLoadRect X9)) (arg11.view.readAt (Elt Ideal) (Rect.unit (s :=
      S2048x512) (k0_off5 i) ![256, 256] inb5).toLoadRect (arg11.view.writes (Elt Ideal) f (L))))⟩ :: L)))⟩ :: ⟨Rect.unit (k0_off5 i) ![256, 256] inb5, k0_pay92 (k0_pay91
      (upB low) (up before) (up G.qu) (up G.d) (up G.tot) (up S.dl) (arg10.view.readAt (Elt Ideal) (Rect.unit (s := S2048x512) (k0_off5 i) ![256, 256] inb5).toLoadRect
      X10) (k0_pay83 (up G.qs) (arg9.view.readAt (Elt Ideal) (Rect.unit (s := S2048x512) (k0_off5 i) ![256, 256] inb5).toLoadRect X9)) (k0_pay84 (up G.qs)
      (arg9.view.readAt (Elt Ideal) (Rect.unit (s := S2048x512) (k0_off5 i) ![256, 256] inb5).toLoadRect X9)) (k0_pay86 (upB low) (up G.qs) (up S.lm) (arg9.view.readAt
      (Elt Ideal) (Rect.unit (s := S2048x512) (k0_off5 i) ![256, 256] inb5).toLoadRect X9)) (k0_pay87 (upB low) (up after) (up G.qs) (arg9.view.readAt (Elt Ideal)
      (Rect.unit (s := S2048x512) (k0_off5 i) ![256, 256] inb5).toLoadRect X9)) (arg11.view.readAt (Elt Ideal) (Rect.unit (s := S2048x512) (k0_off5 i) ![256, 256]
      inb5).toLoadRect (arg11.view.writes (Elt Ideal) f (L))))⟩ :: L))
      = (up (addKs G H low kb vb (256 * (i 0).val) S S' x) : TyT .f32) := by
  rw [key5 i arg9 inb5 X9 kb h9, key5 i arg10 inb5 X10 vb h10, key6 i arg9 inb6 X9 kb h9, key6 i arg10 inb6 X10 vb h10, acc5 i arg11 inb5 x _ h,
    pay83, pay84, pay86, pay87, pay91, pay92, pay94, pay95, pay97]
  have h5 := store_up arg11.view f L x
    (accT (sub x (256 * (i 0).val) 0) (G.dz low (sub kb (256 * (i 0).val) 0) (sub vb (256 * (i 0).val) 0) S) G.qu) h inb5 _ _ (k0_off5_eq i)
  have h6 := (acc6 i arg11 inb6 _ _ h5).trans (by rw [sub_put_other])
  refine Eq.trans ?_ (store_up arg11.view f _ _ _ h5 inb6 _ _ (k0_off6_eq i))
  exact congrArg (fun y => arg11.view.read (Elt Ideal) (arg11.view.writes (Elt Ideal) f (⟨Rect.unit (k0_off6 i) ![256, 256] inb6, y⟩ :: _)))
    ((congrArg (k0_pay100 _ _ _ _ _ _ _) h6).trans (pay100 ..))

/-- The values' accumulator after the diagonal block. -/
theorem diag_vals (h9 : arg9.view.read (Elt Ideal) X9 = (up kb : TyT .bf16))
    (f : arg12.view.ty.Contents (Elt Ideal)) (L : List (View.Piece (Elt Ideal) S2048x512 .f32))
    (h : arg12.view.read (Elt Ideal) (arg12.view.writes (Elt Ideal) f L) = (up x : TyT .f32)) :
    arg12.view.read (Elt Ideal) (arg12.view.writes (Elt Ideal) f (⟨Rect.unit (k0_off6 i) ![256, 256] inb6, k0_pay98 (up H.d) (k0_pay96 (upB low) (up after) (up H.qs) (up
      H.tot) (up S'.lm) (arg9.view.readAt (Elt Ideal) (Rect.unit (s := S2048x512) (k0_off6 i) ![256, 256] inb6).toLoadRect X9)) (arg12.view.readAt (Elt Ideal) (Rect.unit
      (s := S2048x512) (k0_off6 i) ![256, 256] inb6).toLoadRect (arg12.view.writes (Elt Ideal) f (⟨Rect.unit (k0_off5 i) ![256, 256] inb5, k0_pay89 (upB low) (up G.d) (up
      G.tot) (k0_pay86 (upB low) (up G.qs) (up S.lm) (arg9.view.readAt (Elt Ideal) (Rect.unit (s := S2048x512) (k0_off5 i) ![256, 256] inb5).toLoadRect X9)) (k0_pay87
      (upB low) (up after) (up G.qs) (arg9.view.readAt (Elt Ideal) (Rect.unit (s := S2048x512) (k0_off5 i) ![256, 256] inb5).toLoadRect X9)) (arg12.view.readAt (Elt
      Ideal) (Rect.unit (s := S2048x512) (k0_off5 i) ![256, 256] inb5).toLoadRect (arg12.view.writes (Elt Ideal) f (L)))⟩ :: L)))⟩ :: ⟨Rect.unit (k0_off5 i) ![256, 256]
      inb5, k0_pay89 (upB low) (up G.d) (up G.tot) (k0_pay86 (upB low) (up G.qs) (up S.lm) (arg9.view.readAt (Elt Ideal) (Rect.unit (s := S2048x512) (k0_off5 i) ![256,
      256] inb5).toLoadRect X9)) (k0_pay87 (upB low) (up after) (up G.qs) (arg9.view.readAt (Elt Ideal) (Rect.unit (s := S2048x512) (k0_off5 i) ![256, 256]
      inb5).toLoadRect X9)) (arg12.view.readAt (Elt Ideal) (Rect.unit (s := S2048x512) (k0_off5 i) ![256, 256] inb5).toLoadRect (arg12.view.writes (Elt Ideal) f (L)))⟩ ::
      L))
      = (up (addVs G H low kb vb (256 * (i 0).val) S S' x) : TyT .f32) := by
  rw [key5 i arg9 inb5 X9 kb h9, key6 i arg9 inb6 X9 kb h9, acc5 i arg12 inb5 x _ h, pay86, pay87, pay89, pay96]
  have h5 := store_up arg12.view f L x
    (accT (sub x (256 * (i 0).val) 0) (G.att low (sub kb (256 * (i 0).val) 0) S) G.d) h inb5 _ _ (k0_off5_eq i)
  have h6 := (acc6 i arg12 inb6 _ _ h5).trans (by rw [sub_put_other])
  refine Eq.trans ?_ (store_up arg12.view f _ _ _ h5 inb6 _ _ (k0_off6_eq i))
  exact congrArg (fun y => arg12.view.read (Elt Ideal) (arg12.view.writes (Elt Ideal) f (⟨Rect.unit (k0_off6 i) ![256, 256] inb6, y⟩ :: _)))
    ((congrArg (k0_pay98 _ _) h6).trans (pay98 ..))

end Cert.Attn

end
-- ==== Proof.Steps.lean ====
/- What the loads of a point's blocks read, the trips of its loops, and what its loop leaves for the diagonal block. -/
module

public import proofs.«01_k».proof.Proof.Sweep
public import proofs.«01_k».proof.Proof.Diag

@[expose] public section

noncomputable section

namespace Cert.Attn

open Idealize.ShloMosaic Idealize.ShloMosaic.ValueIdx Idealize.SL
open Cert.KernelIdeal Cert.KernelIdeal.Gen

section
variable {s : Shape} {sp : Space}
theorem load_rows (arg : Memref sig .tc sp S256x512 .f32) (h : arg.IsWhole) (a : Mat) (l : ℕ) (inb) :
    arg.view.readAt (Elt Ideal) (Rect.unit (s := S256x512) ![0, l] ![256, 256] inb).toLoadRect (h.unread (up a : FVec Ideal S256x512 .f32))
      = (up (sub a 0 l) : TyBF) :=
  load_of rfl arg.view _ (fun x => (x : EReal)) a (h.read_unread _) inb 0 l rfl rfl
/-- The array of the rows' whole sums: one matrix for each group. -/
def up3 (t : ℕ → Mat) : FVec Ideal S2x256x256 .f32 := fun j => ((t (j 0).val (j 1).val (j 2).val : ℝ) : EReal)
theorem load_tot (arg : Memref sig .tc sp S2x256x256 .f32) (h : arg.IsWhole) (t : ℕ → Mat) (g : ℕ) (inb) :
    arg.view.readAt (Elt Ideal) (Rect.unit (s := S2x256x256) ![g, 0, 0] ![1, 256, 256] inb).toLoadRect (h.unread (up3 t))
      = (upT (t g) : FVec Ideal S1x256x256 .f32) := by
  funext j
  show arg.view.read (Elt Ideal) (h.unread (up3 t)) ((Rect.unit (s := S2x256x256) ![g, 0, 0] ![1, 256, 256] inb).idx j) = _
  rw [h.read_unread]
  have h0 : (j 0).val = 0 := by have : (j 0).val < 1 := (j 0).isLt; omega
  show ((t (g + 1 * (j 0).val) (0 + 1 * (j 1).val) (0 + 1 * (j 2).val) : ℝ) : EReal) = ((t g (j 1).val (j 2).val : ℝ) : EReal)
  rw [h0]; simp
end

/-- What the first point puts into the four buffers. -/
theorem copied_k {sp sp' : Space} (v : View sig .tc sp S2048x512 .bf16) (f : v.ty.Contents (Elt Ideal)) (arg : Memref sig .tc sp' S2048x512 .f32)
    (h : arg.IsWhole) (a : Mat) (inb inb') :
    v.read (Elt Ideal) (v.writes (Elt Ideal) f [⟨Rect.unit (s := S2048x512) ![0, 0] ![2048, 512] inb,
      k0_pay51 (arg.view.readAt (Elt Ideal) (Rect.unit (s := S2048x512) ![0, 0] ![2048, 512] inb').toLoadRect (h.unread (up a : TyT .f32)))⟩])
      = (up a : TyT .bf16) := by
  rw [whole_load, h.read_unread, pay51]
  exact whole_store v f inb _
theorem copied_v {sp sp' : Space} (v : View sig .tc sp S2048x512 .bf16) (f : v.ty.Contents (Elt Ideal)) (arg : Memref sig .tc sp' S2048x512 .f32)
    (h : arg.IsWhole) (a : Mat) (inb inb') :
    v.read (Elt Ideal) (v.writes (Elt Ideal) f [⟨Rect.unit (s := S2048x512) ![0, 0] ![2048, 512] inb,
      k0_pay52 (arg.view.readAt (Elt Ideal) (Rect.unit (s := S2048x512) ![0, 0] ![2048, 512] inb').toLoadRect (h.unread (up a : TyT .f32)))⟩])
      = (up a : TyT .bf16) := copied_k v f arg h a inb inb'
theorem zeros_k {sp : Space} (v : View sig .tc sp S2048x512 .f32) (f : v.ty.Contents (Elt Ideal)) (inb) :
    v.read (Elt Ideal) (v.writes (Elt Ideal) f [⟨Rect.unit (s := S2048x512) ![0, 0] ![2048, 512] inb, k0_pay53 (F := Ideal)⟩])
      = (up fun _ _ => 0 : TyT .f32) := by
  rw [pay53]
  exact whole_store v f inb _
theorem zeros_v {sp : Space} (v : View sig .tc sp S2048x512 .f32) (f : v.ty.Contents (Elt Ideal)) (inb) :
    v.read (Elt Ideal) (v.writes (Elt Ideal) f [⟨Rect.unit (s := S2048x512) ![0, 0] ![2048, 512] inb, k0_pay54 (F := Ideal)⟩])
      = (up fun _ _ => 0 : TyT .f32) := zeros_k v f inb

/-- The blocks before the diagonal are as many as the point's number; those between their last and the diagonal are none. -/
theorem trips1 (i : grid0.Coords) : Scf.trips 0#32 (Scalar.addi 0#32 (Scalar.muli (Scalar.divsi (Scalar.subi (BitVec.ofNat 32 (i 0).val) 0#32) 1#32) 1#32)) 1#32
    = (i 0).val := by
  have h : (i 0).val < 8 := (i 0).isLt
  generalize (i 0).val = n at h
  interval_cases n <;> decide
theorem trips2 (i : grid0.Coords) : Scf.trips (Scalar.addi 0#32 (Scalar.muli (Scalar.divsi (Scalar.subi (BitVec.ofNat 32 (i 0).val) 0#32) 1#32) 1#32))
    (Scalar.addi 0#32 (Scalar.subi (BitVec.ofNat 32 (i 0).val) 0#32)) 1#32 = 0 := by
  have h : (i 0).val < 8 := (i 0).isLt
  generalize (i 0).val = n at h
  interval_cases n <;> decide

/-- A group's stacked rows of a block of queries. -/
def rowsOf (q d : Mat) (t : ℕ → Mat) (g : ℕ) : Grp :=
  ⟨stackRows (eighth (sub q 0 (256 * g))), stackRows (sub q 0 (256 * g)), stackRows (sub d 0 (256 * g)), totCol (t g)⟩

/-- The keys' accumulators after point `n`. -/
def keysPoint (G H : Grp) (kb vb : Mat) (n : ℕ) (x : Mat) : Mat :=
  addKs G H low kb vb (256 * n) (G.run kb vb 0 n) (H.run kb vb 256 n) (keysRun G H kb vb x n)
def valsPoint (G H : Grp) (kb vb : Mat) (n : ℕ) (x : Mat) : Mat :=
  addVs G H low kb vb (256 * n) (G.run kb vb 0 n) (H.run kb vb 256 n) (valsRun G H kb vb x n)
/-- The queries' accumulator of a group after point `n`. -/
def dqPoint (G : Grp) (kb vb : Mat) (l₀ n : ℕ) : Mat :=
  (G.next low (sub kb (256 * n) l₀) (sub vb (256 * n) l₀) (G.run kb vb l₀ n)).dq
/-- The block of the queries' gradient that point `n` writes. -/
def queriesPoint (G H : Grp) (kb vb : Mat) (n : ℕ) : Mat := fun r c =>
  if c < 256 then unstack (dqPoint G kb vb 0 n) r c else unstack (dqPoint H kb vb 256 n) r (c - 256)

theorem two_halves {sp : Space} (v : View sig .tc sp S256x512 .bf16) (f : v.ty.Contents (Elt Ideal)) (a b : Mat) (inb₀ inb₁) :
    v.read (Elt Ideal) (v.writes (Elt Ideal) f [⟨Rect.unit (s := S256x512) ![0, 256] ![256, 256] inb₁, (up b : TyB)⟩,
      ⟨Rect.unit (s := S256x512) ![0, 0] ![256, 256] inb₀, (up a : TyB)⟩])
      = (up (fun r c => if c < 256 then a r c else b r (c - 256)) : FVec Ideal S256x512 .bf16) := by
  funext j
  have h0 : (j 0).val < 256 := (j 0).isLt
  have h1 : (j 1).val < 512 := (j 1).isLt
  rw [View.read_writes_cons_unit v f inb₁ _ _ j rfl]
  show _ = (((if (j 1).val < 256 then a (j 0).val (j 1).val else b (j 0).val ((j 1).val - 256) : ℝ)) : EReal)
  by_cases h : (j 1).val < 256
  · rw [dif_neg (fun hm => absurd (hm 1).1 (by show ¬ 256 ≤ (j 1).val; omega)), View.read_writes_cons_unit v f inb₀ _ _ j rfl,
      dif_pos (fun x => match x with
        | 0 => ⟨Nat.zero_le _, by show (j 0).val < 0 + 256; omega⟩
        | 1 => ⟨Nat.zero_le _, by show (j 1).val < 0 + 256; omega⟩), if_pos h]
    rfl
  · rw [dif_pos (fun x => match x with
        | 0 => ⟨Nat.zero_le _, by show (j 0).val < 0 + 256; omega⟩
        | 1 => ⟨by show 256 ≤ (j 1).val; omega, by show (j 1).val < 256 + 256; omega⟩), if_neg h]
    rfl

variable (c : Dev nD) (i : grid0.Coords)
    (arg1 : Memref sig .tc .vmem S256x512 .f32) (harg1 : arg1.IsWhole) (arg2 : Memref sig .tc .vmem S2048x512 .f32) (harg2 : arg2.IsWhole)
    (arg3 : Memref sig .tc .vmem S2048x512 .f32) (harg3 : arg3.IsWhole) (arg4 : Memref sig .tc .vmem S256x512 .f32) (harg4 : arg4.IsWhole)
    (arg5 : Memref sig .tc .vmem S2x256x256 .f32) (harg5 : arg5.IsWhole) (arg6 : Memref sig .tc .vmem S256x512 .bf16) (harg6 : arg6.IsWhole)
    (arg7 : Memref sig .tc .vmem S2048x512 .bf16) (harg7 : arg7.IsWhole) (arg8 : Memref sig .tc .vmem S2048x512 .bf16) (harg8 : arg8.IsWhole)
    (arg9 : Memref sig .tc .vmem S2048x512 .bf16) (harg9 : arg9.IsWhole) (arg10 : Memref sig .tc .vmem S2048x512 .bf16) (harg10 : arg10.IsWhole)
    (arg11 : Memref sig .tc .vmem S2048x512 .f32) (harg11 : arg11.IsWhole) (arg12 : Memref sig .tc .vmem S2048x512 .f32) (harg12 : arg12.IsWhole)
  (a0 : BitVec 32) (w : TyC) (G H : Grp) (X9 : arg9.view.ty.Contents (Elt Ideal)) (X10 : arg10.view.ty.Contents (Elt Ideal))
  (kb vb dk dv : Mat) (f11 : arg11.view.ty.Contents (Elt Ideal)) (f12 : arg12.view.ty.Contents (Elt Ideal))

/-- What the loop leaves for the diagonal block. -/
theorem swept (st)
    (hst : st_k0_t1 (F := Ideal) Variants.none c none i arg1 harg1 arg2 harg2 arg3 harg3 arg4 harg4 arg5 harg5 arg6 harg6 arg7 harg7 arg8 harg8 arg9 harg9 arg10 harg10 arg11 harg11 arg12 harg12
      a0 (upB low) (up after) (up before) (up G.qs) (up G.qu) (up G.d) (up G.tot) (up H.qs) (up H.qu) (up H.d) (up H.tot) w zero32 X9 X10 f11 f12
      (up fun _ _ => 0, up fun _ _ => 0, up fun _ _ => 0, up fun _ _ => 0, up fun _ _ => 0, up fun _ _ => 0) (i 0).val = st)
    (h9 : arg9.view.read (Elt Ideal) X9 = (up kb : TyT .bf16)) (h10 : arg10.view.read (Elt Ideal) X10 = (up vb : TyT .bf16))
    (h11 : arg11.view.read (Elt Ideal) f11 = (up dk : TyT .f32)) (h12 : arg12.view.read (Elt Ideal) f12 = (up dv : TyT .f32)) :
    st.1 = accOf (G.run kb vb 0 (i 0).val) (H.run kb vb 256 (i 0).val)
    ∧ arg11.view.read (Elt Ideal) (arg11.view.writes (Elt Ideal) f11 ([] ++ st.2.1)) = (up (keysRun G H kb vb dk (i 0).val) : TyT .f32)
    ∧ arg12.view.read (Elt Ideal) (arg12.view.writes (Elt Ideal) f12 ([] ++ st.2.2)) = (up (valsRun G H kb vb dv (i 0).val) : TyT .f32) :=
  sweep Variants.none c none i arg1 harg1 arg2 harg2 arg3 harg3 arg4 harg4 arg5 harg5 arg6 harg6 arg7 harg7 arg8 harg8 arg9 harg9 arg10 harg10 arg11 harg11 arg12 harg12 a0 (upB low) w G H X9 X10 kb vb dk dv f11 f12 h9 h10 h11 h12 (i 0).val (trips1 i).ge st hst.symm

end Cert.Attn

end
-- ==== Proof.PointA.lean ====
/- What one point of the grid leaves behind, at the first point. -/
module

public import proofs.«01_k».proof.Proof.Steps
public import proofs.«01_k».proof.Proof.Gen.KernelIdeal.Frame
import all proofs.«01_k».proof.Proof.Gen.KernelIdeal.Frame.RunA
import all proofs.«01_k».proof.Proof.Gen.KernelIdeal.Frame

@[expose] public section

noncomputable section

namespace Cert.Attn

open Idealize.ShloMosaic Idealize.ShloMosaic.ValueIdx Idealize.SL
open Cert.KernelIdeal Cert.KernelIdeal.Gen

variable (c : Dev nD) (i : grid0.Coords)
    (arg1 : Memref sig .tc .vmem S256x512 .f32) (harg1 : arg1.IsWhole) (arg2 : Memref sig .tc .vmem S2048x512 .f32) (harg2 : arg2.IsWhole)
    (arg3 : Memref sig .tc .vmem S2048x512 .f32) (harg3 : arg3.IsWhole) (arg4 : Memref sig .tc .vmem S256x512 .f32) (harg4 : arg4.IsWhole)
    (arg5 : Memref sig .tc .vmem S2x256x256 .f32) (harg5 : arg5.IsWhole) (arg6 : Memref sig .tc .vmem S256x512 .bf16) (harg6 : arg6.IsWhole)
    (arg7 : Memref sig .tc .vmem S2048x512 .bf16) (harg7 : arg7.IsWhole) (arg8 : Memref sig .tc .vmem S2048x512 .bf16) (harg8 : arg8.IsWhole)
    (arg9 : Memref sig .tc .vmem S2048x512 .bf16) (harg9 : arg9.IsWhole) (arg10 : Memref sig .tc .vmem S2048x512 .bf16) (harg10 : arg10.IsWhole)
    (arg11 : Memref sig .tc .vmem S2048x512 .f32) (harg11 : arg11.IsWhole) (arg12 : Memref sig .tc .vmem S2048x512 .f32) (harg12 : arg12.IsWhole)
variable (q d kb vb : Mat) (t : ℕ → Mat) (hc0 : cond0_0 i) (hc1 : ¬cond0_1 i)

/-- The keys' accumulator after the point. -/
theorem keys_A : sout0_A_2 (F := Ideal) c i arg1 harg1 arg2 harg2 arg3 harg3 arg4 harg4 arg5 harg5 arg6 harg6 arg7 harg7 arg8 harg8 arg9 harg9 arg10 harg10 arg11 harg11 arg12 harg12 hc0 hc1
      (up q : FVec Ideal S256x512 .f32) (up kb : TyT .f32) (up vb : TyT .f32) (up d : FVec Ideal S256x512 .f32) (up3 t)  = (up (keysPoint (rowsOf q d t 0) (rowsOf q d t 1) kb vb (i 0).val fun _ _ => 0) : TyT .f32) := by
  unfold sout0_A_2
  rw [View.read_writes_of_cover VS0_2 _ arg11.view arg11.view.junk _ (scover0_A_2 c i arg1 harg1 arg2 harg2 arg3 harg3 arg4 harg4 arg5 harg5 arg6 harg6 arg7 harg7 arg8 harg8 arg9 harg9 arg10 harg10 arg11 harg11 arg12 harg12 hc0 hc1 _ _ _ _ _)]
  unfold kernelRun0_A
  dsimp only
  sl_unfold_run_names
  dsimp only
  simp only [pay56, pay57, pay58, pay59, pay60, pay62, load_rows, load_tot, pay64, pay65, pay66, pay67, pay68, pay69, pay70, pay71,
    pay72, pay73, pay74, trips1, trips2]
  rw [pay63]
  generalize hst : st_k0_t1 (F := Ideal) _ _ _ _ _ _ _ _ _ _ _ _ _ _ _ _ _ _ _ _ _ _ _ _ _ _ _ _ _ _ _ _ _ _ _ _ _ _ _ _ _ _ _ _ _ _ _ _ = st
  generalize hs2 : st_k0_t2 (F := Ideal) _ _ _ _ _ _ _ _ _ _ _ _ _ _ _ _ _ _ _ _ _ _ _ _ _ _ _ _ _ _ _ _ _ _ _ _ _ _ _ _ _ _ _ _ _ _ _ _ _ = st2
  have hs3 : (st.1, [], []) = st2 := hs2
  subst hs3
  dsimp only
  obtain ⟨e1, e2, e3⟩ := swept c i arg1 harg1 arg2 harg2 arg3 harg3 arg4 harg4 arg5 harg5 arg6 harg6 arg7 harg7 arg8 harg8 arg9 harg9 arg10 harg10 arg11 harg11 arg12 harg12 _ _
    (rowsOf q d t 0) (rowsOf q d t 1) _ _ kb vb _ _ _ _ st hst (copied_k arg9.view _ arg2 harg2 kb _ _) (copied_v arg10.view _ arg3 harg3 vb _ _) (zeros_k arg11.view _ _) (zeros_v arg12.view _ _)
  simp only [e1]
  exact diag_keys i arg9 arg10 arg11 _ _ (rowsOf q d t 0) (rowsOf q d t 1) _ _ kb vb _ _ _ (copied_k arg9.view _ arg2 harg2 kb _ _) (copied_v arg10.view _ arg3 harg3 vb _ _) _ _ (by rw [List.nil_append, View.writes_append]; exact e2)

/-- The values' accumulator after the point. -/
theorem vals_A : sout0_A_3 (F := Ideal) c i arg1 harg1 arg2 harg2 arg3 harg3 arg4 harg4 arg5 harg5 arg6 harg6 arg7 harg7 arg8 harg8 arg9 harg9 arg10 harg10 arg11 harg11 arg12 harg12 hc0 hc1
      (up q : FVec Ideal S256x512 .f32) (up kb : TyT .f32) (up vb : TyT .f32) (up d : FVec Ideal S256x512 .f32) (up3 t)  = (up (valsPoint (rowsOf q d t 0) (rowsOf q d t 1) kb vb (i 0).val fun _ _ => 0) : TyT .f32) := by
  unfold sout0_A_3
  rw [View.read_writes_of_cover VS0_3 _ arg12.view arg12.view.junk _ (scover0_A_3 c i arg1 harg1 arg2 harg2 arg3 harg3 arg4 harg4 arg5 harg5 arg6 harg6 arg7 harg7 arg8 harg8 arg9 harg9 arg10 harg10 arg11 harg11 arg12 harg12 hc0 hc1 _ _ _ _ _)]
  unfold kernelRun0_A
  dsimp only
  sl_unfold_run_names
  dsimp only
  simp only [pay56, pay57, pay58, pay59, pay60, pay62, load_rows, load_tot, pay64, pay65, pay66, pay67, pay68, pay69, pay70, pay71,
    pay72, pay73, pay74, trips1, trips2]
  rw [pay63]
  generalize hst : st_k0_t1 (F := Ideal) _ _ _ _ _ _ _ _ _ _ _ _ _ _ _ _ _ _ _ _ _ _ _ _ _ _ _ _ _ _ _ _ _ _ _ _ _ _ _ _ _ _ _ _ _ _ _ _ = st
  generalize hs2 : st_k0_t2 (F := Ideal) _ _ _ _ _ _ _ _ _ _ _ _ _ _ _ _ _ _ _ _ _ _ _ _ _ _ _ _ _ _ _ _ _ _ _ _ _ _ _ _ _ _ _ _ _ _ _ _ _ = st2
  have hs3 : (st.1, [], []) = st2 := hs2
  subst hs3
  dsimp only
  obtain ⟨e1, e2, e3⟩ := swept c i arg1 harg1 arg2 harg2 arg3 harg3 arg4 harg4 arg5 harg5 arg6 harg6 arg7 harg7 arg8 harg8 arg9 harg9 arg10 harg10 arg11 harg11 arg12 harg12 _ _
    (rowsOf q d t 0) (rowsOf q d t 1) _ _ kb vb _ _ _ _ st hst (copied_k arg9.view _ arg2 harg2 kb _ _) (copied_v arg10.view _ arg3 harg3 vb _ _) (zeros_k arg11.view _ _) (zeros_v arg12.view _ _)
  simp only [e1]
  exact diag_vals i arg9 arg12 _ _ (rowsOf q d t 0) (rowsOf q d t 1) _ kb vb _ _ _ (copied_k arg9.view _ arg2 harg2 kb _ _) _ _ (by rw [List.nil_append, View.writes_append]; exact e3)

/-- The block of the queries' gradient. -/
theorem queries_A : out0_A_5 (F := Ideal) c i arg1 harg1 arg2 harg2 arg3 harg3 arg4 harg4 arg5 harg5 arg6 harg6 arg7 harg7 arg8 harg8 arg9 harg9 arg10 harg10 arg11 harg11 arg12 harg12 hc0 hc1
      (up q : FVec Ideal S256x512 .f32) (up kb : TyT .f32) (up vb : TyT .f32) (up d : FVec Ideal S256x512 .f32) (up3 t)  = (up (queriesPoint (rowsOf q d t 0) (rowsOf q d t 1) kb vb (i 0).val) : FVec Ideal S256x512 .bf16) := by
  unfold out0_A_5 kernelRun0_A
  dsimp only
  sl_unfold_run_names
  dsimp only
  simp only [pay56, pay57, pay58, pay59, pay60, pay62, load_rows, load_tot, pay64, pay65, pay66, pay67, pay68, pay69, pay70, pay71,
    pay72, pay73, pay74, trips1, trips2]
  rw [pay63]
  generalize hst : st_k0_t1 (F := Ideal) _ _ _ _ _ _ _ _ _ _ _ _ _ _ _ _ _ _ _ _ _ _ _ _ _ _ _ _ _ _ _ _ _ _ _ _ _ _ _ _ _ _ _ _ _ _ _ _ = st
  generalize hs2 : st_k0_t2 (F := Ideal) _ _ _ _ _ _ _ _ _ _ _ _ _ _ _ _ _ _ _ _ _ _ _ _ _ _ _ _ _ _ _ _ _ _ _ _ _ _ _ _ _ _ _ _ _ _ _ _ _ = st2
  have hs3 : (st.1, [], []) = st2 := hs2
  subst hs3
  dsimp only
  obtain ⟨e1, e2, e3⟩ := swept c i arg1 harg1 arg2 harg2 arg3 harg3 arg4 harg4 arg5 harg5 arg6 harg6 arg7 harg7 arg8 harg8 arg9 harg9 arg10 harg10 arg11 harg11 arg12 harg12 _ _
    (rowsOf q d t 0) (rowsOf q d t 1) _ _ kb vb _ _ _ _ st hst (copied_k arg9.view _ arg2 harg2 kb _ _) (copied_v arg10.view _ arg3 harg3 vb _ _) (zeros_k arg11.view _ _) (zeros_v arg12.view _ _)
  simp only [e1]
  rw [key5 i arg9 _ _ kb (copied_k arg9.view _ arg2 harg2 kb _ _), key5 i arg10 _ _ vb (copied_v arg10.view _ arg3 harg3 vb _ _), key6 i arg9 _ _ kb (copied_k arg9.view _ arg2 harg2 kb _ _),
    key6 i arg10 _ _ vb (copied_v arg10.view _ arg3 harg3 vb _ _), pay83, pay84, pay86, pay87, pay90, pay93, pay1, pay94, pay95, pay97, pay101, pay2]
  exact two_halves _ _ _ _ _ _

/-- The keys' copy. -/
theorem copy_keys : sout0_A_0 (F := Ideal) c i arg1 harg1 arg2 harg2 arg3 harg3 arg4 harg4 arg5 harg5 arg6 harg6 arg7 harg7 arg8 harg8 arg9 harg9 arg10 harg10 arg11 harg11 arg12 harg12 hc0 hc1
      (up q : FVec Ideal S256x512 .f32) (up kb : TyT .f32) (up vb : TyT .f32) (up d : FVec Ideal S256x512 .f32) (up3 t) = (up kb : TyT .bf16) := by
  unfold sout0_A_0 kernelRun0_A
  dsimp only
  sl_unfold_run_names
  dsimp only
  exact copied_k VS0_0 _ arg2 harg2 kb _ _
/-- The values' copy. -/
theorem copy_vals : sout0_A_1 (F := Ideal) c i arg1 harg1 arg2 harg2 arg3 harg3 arg4 harg4 arg5 harg5 arg6 harg6 arg7 harg7 arg8 harg8 arg9 harg9 arg10 harg10 arg11 harg11 arg12 harg12 hc0 hc1
      (up q : FVec Ideal S256x512 .f32) (up kb : TyT .f32) (up vb : TyT .f32) (up d : FVec Ideal S256x512 .f32) (up3 t) = (up vb : TyT .bf16) := by
  unfold sout0_A_1 kernelRun0_A
  dsimp only
  sl_unfold_run_names
  dsimp only
  exact copied_v VS0_1 _ arg3 harg3 vb _ _
end Cert.Attn

end
-- ==== Proof.PointB.lean ====
/- What one point of the grid leaves behind, at a point that is neither the first nor the last. -/
module

public import proofs.«01_k».proof.Proof.Steps
public import proofs.«01_k».proof.Proof.Gen.KernelIdeal.Frame
import all proofs.«01_k».proof.Proof.Gen.KernelIdeal.Frame.RunB
import all proofs.«01_k».proof.Proof.Gen.KernelIdeal.Frame

@[expose] public section

noncomputable section

namespace Cert.Attn

open Idealize.ShloMosaic Idealize.ShloMosaic.ValueIdx Idealize.SL
open Cert.KernelIdeal Cert.KernelIdeal.Gen

variable (c : Dev nD) (i : grid0.Coords)
    (arg1 : Memref sig .tc .vmem S256x512 .f32) (harg1 : arg1.IsWhole) (arg2 : Memref sig .tc .vmem S2048x512 .f32) (harg2 : arg2.IsWhole)
    (arg3 : Memref sig .tc .vmem S2048x512 .f32) (harg3 : arg3.IsWhole) (arg4 : Memref sig .tc .vmem S256x512 .f32) (harg4 : arg4.IsWhole)
    (arg5 : Memref sig .tc .vmem S2x256x256 .f32) (harg5 : arg5.IsWhole) (arg6 : Memref sig .tc .vmem S256x512 .bf16) (harg6 : arg6.IsWhole)
    (arg7 : Memref sig .tc .vmem S2048x512 .bf16) (harg7 : arg7.IsWhole) (arg8 : Memref sig .tc .vmem S2048x512 .bf16) (harg8 : arg8.IsWhole)
    (arg9 : Memref sig .tc .vmem S2048x512 .bf16) (harg9 : arg9.IsWhole) (arg10 : Memref sig .tc .vmem S2048x512 .bf16) (harg10 : arg10.IsWhole)
    (arg11 : Memref sig .tc .vmem S2048x512 .f32) (harg11 : arg11.IsWhole) (arg12 : Memref sig .tc .vmem S2048x512 .f32) (harg12 : arg12.IsWhole)
variable (q d kb vb dk dv : Mat) (t : ℕ → Mat) (hc0 : ¬cond0_0 i) (hc1 : ¬cond0_1 i) (x1 x2 : FVec Ideal S2048x512 .f32)

/-- The keys' accumulator after the point. -/
theorem keys_B : sout0_B_2 (F := Ideal) c i arg1 harg1 arg2 harg2 arg3 harg3 arg4 harg4 arg5 harg5 arg6 harg6 arg7 harg7 arg8 harg8 arg9 harg9 arg10 harg10 arg11 harg11 arg12 harg12 hc0 hc1
      (up q : FVec Ideal S256x512 .f32) x1 x2 (up d : FVec Ideal S256x512 .f32) (up3 t) (up kb : TyT .bf16) (up vb : TyT .bf16)
      (up dk : TyT .f32) (up dv : TyT .f32) = (up (keysPoint (rowsOf q d t 0) (rowsOf q d t 1) kb vb (i 0).val dk) : TyT .f32) := by
  unfold sout0_B_2 kernelRun0_B
  dsimp only
  sl_unfold_run_names
  dsimp only
  simp only [pay56, pay57, pay58, pay59, pay60, pay62, load_rows, load_tot, pay64, pay65, pay66, pay67, pay68, pay69, pay70, pay71,
    pay72, pay73, pay74, trips1, trips2]
  rw [pay63]
  generalize hst : st_k0_t1 (F := Ideal) _ _ _ _ _ _ _ _ _ _ _ _ _ _ _ _ _ _ _ _ _ _ _ _ _ _ _ _ _ _ _ _ _ _ _ _ _ _ _ _ _ _ _ _ _ _ _ _ = st
  generalize hs2 : st_k0_t2 (F := Ideal) _ _ _ _ _ _ _ _ _ _ _ _ _ _ _ _ _ _ _ _ _ _ _ _ _ _ _ _ _ _ _ _ _ _ _ _ _ _ _ _ _ _ _ _ _ _ _ _ _ = st2
  have hs3 : (st.1, [], []) = st2 := hs2
  subst hs3
  dsimp only
  obtain ⟨e1, e2, e3⟩ := swept c i arg1 harg1 arg2 harg2 arg3 harg3 arg4 harg4 arg5 harg5 arg6 harg6 arg7 harg7 arg8 harg8 arg9 harg9 arg10 harg10 arg11 harg11 arg12 harg12 _ _
    (rowsOf q d t 0) (rowsOf q d t 1) _ _ kb vb dk dv _ _ st hst (harg9.read_unread _) (harg10.read_unread _) (harg11.read_unread _) (harg12.read_unread _)
  simp only [e1]
  exact diag_keys i arg9 arg10 arg11 _ _ (rowsOf q d t 0) (rowsOf q d t 1) _ _ kb vb _ _ _ (harg9.read_unread _) (harg10.read_unread _) _ _ e2

/-- The values' accumulator after the point. -/
theorem vals_B : sout0_B_3 (F := Ideal) c i arg1 harg1 arg2 harg2 arg3 harg3 arg4 harg4 arg5 harg5 arg6 harg6 arg7 harg7 arg8 harg8 arg9 harg9 arg10 harg10 arg11 harg11 arg12 harg12 hc0 hc1
      (up q : FVec Ideal S256x512 .f32) x1 x2 (up d : FVec Ideal S256x512 .f32) (up3 t) (up kb : TyT .bf16) (up vb : TyT .bf16)
      (up dk : TyT .f32) (up dv : TyT .f32) = (up (valsPoint (rowsOf q d t 0) (rowsOf q d t 1) kb vb (i 0).val dv) : TyT .f32) := by
  unfold sout0_B_3 kernelRun0_B
  dsimp only
  sl_unfold_run_names
  dsimp only
  simp only [pay56, pay57, pay58, pay59, pay60, pay62, load_rows, load_tot, pay64, pay65, pay66, pay67, pay68, pay69, pay70, pay71,
    pay72, pay73, pay74, trips1, trips2]
  rw [pay63]
  generalize hst : st_k0_t1 (F := Ideal) _ _ _ _ _ _ _ _ _ _ _ _ _ _ _ _ _ _ _ _ _ _ _ _ _ _ _ _ _ _ _ _ _ _ _ _ _ _ _ _ _ _ _ _ _ _ _ _ = st
  generalize hs2 : st_k0_t2 (F := Ideal) _ _ _ _ _ _ _ _ _ _ _ _ _ _ _ _ _ _ _ _ _ _ _ _ _ _ _ _ _ _ _ _ _ _ _ _ _ _ _ _ _ _ _ _ _ _ _ _ _ = st2
  have hs3 : (st.1, [], []) = st2 := hs2
  subst hs3
  dsimp only
  obtain ⟨e1, e2, e3⟩ := swept c i arg1 harg1 arg2 harg2 arg3 harg3 arg4 harg4 arg5 harg5 arg6 harg6 arg7 harg7 arg8 harg8 arg9 harg9 arg10 harg10 arg11 harg11 arg12 harg12 _ _
    (rowsOf q d t 0) (rowsOf q d t 1) _ _ kb vb dk dv _ _ st hst (harg9.read_unread _) (harg10.read_unread _) (harg11.read_unread _) (harg12.read_unread _)
  simp only [e1]
  exact diag_vals i arg9 arg12 _ _ (rowsOf q d t 0) (rowsOf q d t 1) _ kb vb _ _ _ (harg9.read_unread _) _ _ e3

/-- The block of the queries' gradient. -/
theorem queries_B : out0_B_5 (F := Ideal) c i arg1 harg1 arg2 harg2 arg3 harg3 arg4 harg4 arg5 harg5 arg6 harg6 arg7 harg7 arg8 harg8 arg9 harg9 arg10 harg10 arg11 harg11 arg12 harg12 hc0 hc1
      (up q : FVec Ideal S256x512 .f32) x1 x2 (up d : FVec Ideal S256x512 .f32) (up3 t) (up kb : TyT .bf16) (up vb : TyT .bf16)
      (up dk : TyT .f32) (up dv : TyT .f32) = (up (queriesPoint (rowsOf q d t 0) (rowsOf q d t 1) kb vb (i 0).val) : FVec Ideal S256x512 .bf16) := by
  unfold out0_B_5 kernelRun0_B
  dsimp only
  sl_unfold_run_names
  dsimp only
  simp only [pay56, pay57, pay58, pay59, pay60, pay62, load_rows, load_tot, pay64, pay65, pay66, pay67, pay68, pay69, pay70, pay71,
    pay72, pay73, pay74, trips1, trips2]
  rw [pay63]
  generalize hst : st_k0_t1 (F := Ideal) _ _ _ _ _ _ _ _ _ _ _ _ _ _ _ _ _ _ _ _ _ _ _ _ _ _ _ _ _ _ _ _ _ _ _ _ _ _ _ _ _ _ _ _ _ _ _ _ = st
  generalize hs2 : st_k0_t2 (F := Ideal) _ _ _ _ _ _ _ _ _ _ _ _ _ _ _ _ _ _ _ _ _ _ _ _ _ _ _ _ _ _ _ _ _ _ _ _ _ _ _ _ _ _ _ _ _ _ _ _ _ = st2
  have hs3 : (st.1, [], []) = st2 := hs2
  subst hs3
  dsimp only
  obtain ⟨e1, e2, e3⟩ := swept c i arg1 harg1 arg2 harg2 arg3 harg3 arg4 harg4 arg5 harg5 arg6 harg6 arg7 harg7 arg8 harg8 arg9 harg9 arg10 harg10 arg11 harg11 arg12 harg12 _ _
    (rowsOf q d t 0) (rowsOf q d t 1) _ _ kb vb dk dv _ _ st hst (harg9.read_unread _) (harg10.read_unread _) (harg11.read_unread _) (harg12.read_unread _)
  simp only [e1]
  rw [key5 i arg9 _ _ kb (harg9.read_unread _), key5 i arg10 _ _ vb (harg10.read_unread _), key6 i arg9 _ _ kb (harg9.read_unread _),
    key6 i arg10 _ _ vb (harg10.read_unread _), pay83, pay84, pay86, pay87, pay90, pay93, pay1, pay94, pay95, pay97, pay101, pay2]
  exact two_halves _ _ _ _ _ _

end Cert.Attn

end
-- ==== Proof.PointC.lean ====
/- What one point of the grid leaves behind, at the last point. -/
module

public import proofs.«01_k».proof.Proof.Steps
public import proofs.«01_k».proof.Proof.Gen.KernelIdeal.Frame
import all proofs.«01_k».proof.Proof.Gen.KernelIdeal.Frame.RunC
import all proofs.«01_k».proof.Proof.Gen.KernelIdeal.Frame

@[expose] public section

noncomputable section

namespace Cert.Attn

open Idealize.ShloMosaic Idealize.ShloMosaic.ValueIdx Idealize.SL
open Cert.KernelIdeal Cert.KernelIdeal.Gen

variable (c : Dev nD) (i : grid0.Coords)
    (arg1 : Memref sig .tc .vmem S256x512 .f32) (harg1 : arg1.IsWhole) (arg2 : Memref sig .tc .vmem S2048x512 .f32) (harg2 : arg2.IsWhole)
    (arg3 : Memref sig .tc .vmem S2048x512 .f32) (harg3 : arg3.IsWhole) (arg4 : Memref sig .tc .vmem S256x512 .f32) (harg4 : arg4.IsWhole)
    (arg5 : Memref sig .tc .vmem S2x256x256 .f32) (harg5 : arg5.IsWhole) (arg6 : Memref sig .tc .vmem S256x512 .bf16) (harg6 : arg6.IsWhole)
    (arg7 : Memref sig .tc .vmem S2048x512 .bf16) (harg7 : arg7.IsWhole) (arg8 : Memref sig .tc .vmem S2048x512 .bf16) (harg8 : arg8.IsWhole)
    (arg9 : Memref sig .tc .vmem S2048x512 .bf16) (harg9 : arg9.IsWhole) (arg10 : Memref sig .tc .vmem S2048x512 .bf16) (harg10 : arg10.IsWhole)
    (arg11 : Memref sig .tc .vmem S2048x512 .f32) (harg11 : arg11.IsWhole) (arg12 : Memref sig .tc .vmem S2048x512 .f32) (harg12 : arg12.IsWhole)
variable (q d kb vb dk dv : Mat) (t : ℕ → Mat) (hc0 : ¬cond0_0 i) (hc1 : cond0_1 i) (x1 x2 : FVec Ideal S2048x512 .f32)

/-- The keys' accumulator after the point. -/
theorem keys_C : sout0_C_2 (F := Ideal) c i arg1 harg1 arg2 harg2 arg3 harg3 arg4 harg4 arg5 harg5 arg6 harg6 arg7 harg7 arg8 harg8 arg9 harg9 arg10 harg10 arg11 harg11 arg12 harg12 hc0 hc1
      (up q : FVec Ideal S256x512 .f32) x1 x2 (up d : FVec Ideal S256x512 .f32) (up3 t) (up kb : TyT .bf16) (up vb : TyT .bf16)
      (up dk : TyT .f32) (up dv : TyT .f32) = (up (keysPoint (rowsOf q d t 0) (rowsOf q d t 1) kb vb (i 0).val dk) : TyT .f32) := by
  unfold sout0_C_2 kernelRun0_C
  dsimp only
  sl_unfold_run_names
  dsimp only
  simp only [pay56, pay57, pay58, pay59, pay60, pay62, load_rows, load_tot, pay64, pay65, pay66, pay67, pay68, pay69, pay70, pay71,
    pay72, pay73, pay74, trips1, trips2]
  rw [pay63]
  generalize hst : st_k0_t1 (F := Ideal) _ _ _ _ _ _ _ _ _ _ _ _ _ _ _ _ _ _ _ _ _ _ _ _ _ _ _ _ _ _ _ _ _ _ _ _ _ _ _ _ _ _ _ _ _ _ _ _ = st
  generalize hs2 : st_k0_t2 (F := Ideal) _ _ _ _ _ _ _ _ _ _ _ _ _ _ _ _ _ _ _ _ _ _ _ _ _ _ _ _ _ _ _ _ _ _ _ _ _ _ _ _ _ _ _ _ _ _ _ _ _ = st2
  have hs3 : (st.1, [], []) = st2 := hs2
  subst hs3
  dsimp only
  obtain ⟨e1, e2, e3⟩ := swept c i arg1 harg1 arg2 harg2 arg3 harg3 arg4 harg4 arg5 harg5 arg6 harg6 arg7 harg7 arg8 harg8 arg9 harg9 arg10 harg10 arg11 harg11 arg12 harg12 _ _
    (rowsOf q d t 0) (rowsOf q d t 1) _ _ kb vb dk dv _ _ st hst (harg9.read_unread _) (harg10.read_unread _) (harg11.read_unread _) (harg12.read_unread _)
  simp only [e1]
  exact diag_keys i arg9 arg10 arg11 _ _ (rowsOf q d t 0) (rowsOf q d t 1) _ _ kb vb _ _ _ (harg9.read_unread _) (harg10.read_unread _) _ _ e2

/-- The values' accumulator after the point. -/
theorem vals_C : sout0_C_3 (F := Ideal) c i arg1 harg1 arg2 harg2 arg3 harg3 arg4 harg4 arg5 harg5 arg6 harg6 arg7 harg7 arg8 harg8 arg9 harg9 arg10 harg10 arg11 harg11 arg12 harg12 hc0 hc1
      (up q : FVec Ideal S256x512 .f32) x1 x2 (up d : FVec Ideal S256x512 .f32) (up3 t) (up kb : TyT .bf16) (up vb : TyT .bf16)
      (up dk : TyT .f32) (up dv : TyT .f32) = (up (valsPoint (rowsOf q d t 0) (rowsOf q d t 1) kb vb (i 0).val dv) : TyT .f32) := by
  unfold sout0_C_3 kernelRun0_C
  dsimp only
  sl_unfold_run_names
  dsimp only
  simp only [pay56, pay57, pay58, pay59, pay60, pay62, load_rows, load_tot, pay64, pay65, pay66, pay67, pay68, pay69, pay70, pay71,
    pay72, pay73, pay74, trips1, trips2]
  rw [pay63]
  generalize hst : st_k0_t1 (F := Ideal) _ _ _ _ _ _ _ _ _ _ _ _ _ _ _ _ _ _ _ _ _ _ _ _ _ _ _ _ _ _ _ _ _ _ _ _ _ _ _ _ _ _ _ _ _ _ _ _ = st
  generalize hs2 : st_k0_t2 (F := Ideal) _ _ _ _ _ _ _ _ _ _ _ _ _ _ _ _ _ _ _ _ _ _ _ _ _ _ _ _ _ _ _ _ _ _ _ _ _ _ _ _ _ _ _ _ _ _ _ _ _ = st2
  have hs3 : (st.1, [], []) = st2 := hs2
  subst hs3
  dsimp only
  obtain ⟨e1, e2, e3⟩ := swept c i arg1 harg1 arg2 harg2 arg3 harg3 arg4 harg4 arg5 harg5 arg6 harg6 arg7 harg7 arg8 harg8 arg9 harg9 arg10 harg10 arg11 harg11 arg12 harg12 _ _
    (rowsOf q d t 0) (rowsOf q d t 1) _ _ kb vb dk dv _ _ st hst (harg9.read_unread _) (harg10.read_unread _) (harg11.read_unread _) (harg12.read_unread _)
  simp only [e1]
  exact diag_vals i arg9 arg12 _ _ (rowsOf q d t 0) (rowsOf q d t 1) _ kb vb _ _ _ (harg9.read_unread _) _ _ e3

/-- The block of the queries' gradient. -/
theorem queries_C : out0_C_5 (F := Ideal) c i arg1 harg1 arg2 harg2 arg3 harg3 arg4 harg4 arg5 harg5 arg6 harg6 arg7 harg7 arg8 harg8 arg9 harg9 arg10 harg10 arg11 harg11 arg12 harg12 hc0 hc1
      (up q : FVec Ideal S256x512 .f32) x1 x2 (up d : FVec Ideal S256x512 .f32) (up3 t) (up kb : TyT .bf16) (up vb : TyT .bf16)
      (up dk : TyT .f32) (up dv : TyT .f32) = (up (queriesPoint (rowsOf q d t 0) (rowsOf q d t 1) kb vb (i 0).val) : FVec Ideal S256x512 .bf16) := by
  unfold out0_C_5 kernelRun0_C
  dsimp only
  sl_unfold_run_names
  dsimp only
  simp only [pay56, pay57, pay58, pay59, pay60, pay62, load_rows, load_tot, pay64, pay65, pay66, pay67, pay68, pay69, pay70, pay71,
    pay72, pay73, pay74, trips1, trips2]
  rw [pay63]
  generalize hst : st_k0_t1 (F := Ideal) _ _ _ _ _ _ _ _ _ _ _ _ _ _ _ _ _ _ _ _ _ _ _ _ _ _ _ _ _ _ _ _ _ _ _ _ _ _ _ _ _ _ _ _ _ _ _ _ = st
  generalize hs2 : st_k0_t2 (F := Ideal) _ _ _ _ _ _ _ _ _ _ _ _ _ _ _ _ _ _ _ _ _ _ _ _ _ _ _ _ _ _ _ _ _ _ _ _ _ _ _ _ _ _ _ _ _ _ _ _ _ = st2
  have hs3 : (st.1, [], []) = st2 := hs2
  subst hs3
  dsimp only
  obtain ⟨e1, e2, e3⟩ := swept c i arg1 harg1 arg2 harg2 arg3 harg3 arg4 harg4 arg5 harg5 arg6 harg6 arg7 harg7 arg8 harg8 arg9 harg9 arg10 harg10 arg11 harg11 arg12 harg12 _ _
    (rowsOf q d t 0) (rowsOf q d t 1) _ _ kb vb dk dv _ _ st hst (harg9.read_unread _) (harg10.read_unread _) (harg11.read_unread _) (harg12.read_unread _)
  simp only [e1]
  rw [key5 i arg9 _ _ kb (harg9.read_unread _), key5 i arg10 _ _ vb (harg10.read_unread _), key6 i arg9 _ _ kb (harg9.read_unread _),
    key6 i arg10 _ _ vb (harg10.read_unread _), pay83, pay84, pay86, pay87, pay90, pay93, pay1, pay94, pay95, pay97, pay101, pay2]
  exact two_halves _ _ _ _ _ _

/-- The keys' accumulator written to the result. -/
theorem keys_out : out0_C_6 (F := Ideal) c i arg1 harg1 arg2 harg2 arg3 harg3 arg4 harg4 arg5 harg5 arg6 harg6 arg7 harg7 arg8 harg8 arg9 harg9 arg10 harg10 arg11 harg11 arg12 harg12 hc0 hc1
      (up q : FVec Ideal S256x512 .f32) x1 x2 (up d : FVec Ideal S256x512 .f32) (up3 t) (up kb : TyT .bf16) (up vb : TyT .bf16)
      (up dk : TyT .f32) (up dv : TyT .f32) = (up (keysPoint (rowsOf q d t 0) (rowsOf q d t 1) kb vb (i 0).val dk) : TyT .bf16) := by
  unfold out0_C_6 kernelRun0_C
  dsimp only
  sl_unfold_run_names
  dsimp only
  simp only [pay56, pay57, pay58, pay59, pay60, pay62, load_rows, load_tot, pay64, pay65, pay66, pay67, pay68, pay69, pay70, pay71,
    pay72, pay73, pay74, trips1, trips2]
  rw [pay63]
  generalize hst : st_k0_t1 (F := Ideal) _ _ _ _ _ _ _ _ _ _ _ _ _ _ _ _ _ _ _ _ _ _ _ _ _ _ _ _ _ _ _ _ _ _ _ _ _ _ _ _ _ _ _ _ _ _ _ _ = st
  generalize hs2 : st_k0_t2 (F := Ideal) _ _ _ _ _ _ _ _ _ _ _ _ _ _ _ _ _ _ _ _ _ _ _ _ _ _ _ _ _ _ _ _ _ _ _ _ _ _ _ _ _ _ _ _ _ _ _ _ _ = st2
  have hs3 : (st.1, [], []) = st2 := hs2
  subst hs3
  dsimp only
  obtain ⟨e1, e2, e3⟩ := swept c i arg1 harg1 arg2 harg2 arg3 harg3 arg4 harg4 arg5 harg5 arg6 harg6 arg7 harg7 arg8 harg8 arg9 harg9 arg10 harg10 arg11 harg11 arg12 harg12 _ _
    (rowsOf q d t 0) (rowsOf q d t 1) _ _ kb vb dk dv _ _ st hst (harg9.read_unread _) (harg10.read_unread _) (harg11.read_unread _) (harg12.read_unread _)
  simp only [e1]
  rw [whole_load]
  refine (whole_store _ _ _ _).trans ((congrArg k0_pay3 ?_).trans (pay3 _))
  exact diag_keys i arg9 arg10 arg11 _ _ (rowsOf q d t 0) (rowsOf q d t 1) _ _ kb vb _ _ _ (harg9.read_unread _) (harg10.read_unread _) _ _ e2

/-- The values' accumulator written to the result. -/
theorem vals_out : out0_C_7 (F := Ideal) c i arg1 harg1 arg2 harg2 arg3 harg3 arg4 harg4 arg5 harg5 arg6 harg6 arg7 harg7 arg8 harg8 arg9 harg9 arg10 harg10 arg11 harg11 arg12 harg12 hc0 hc1
      (up q : FVec Ideal S256x512 .f32) x1 x2 (up d : FVec Ideal S256x512 .f32) (up3 t) (up kb : TyT .bf16) (up vb : TyT .bf16)
      (up dk : TyT .f32) (up dv : TyT .f32) = (up (valsPoint (rowsOf q d t 0) (rowsOf q d t 1) kb vb (i 0).val dv) : TyT .bf16) := by
  unfold out0_C_7 kernelRun0_C
  dsimp only
  sl_unfold_run_names
  dsimp only
  simp only [pay56, pay57, pay58, pay59, pay60, pay62, load_rows, load_tot, pay64, pay65, pay66, pay67, pay68, pay69, pay70, pay71,
    pay72, pay73, pay74, trips1, trips2]
  rw [pay63]
  generalize hst : st_k0_t1 (F := Ideal) _ _ _ _ _ _ _ _ _ _ _ _ _ _ _ _ _ _ _ _ _ _ _ _ _ _ _ _ _ _ _ _ _ _ _ _ _ _ _ _ _ _ _ _ _ _ _ _ = st
  generalize hs2 : st_k0_t2 (F := Ideal) _ _ _ _ _ _ _ _ _ _ _ _ _ _ _ _ _ _ _ _ _ _ _ _ _ _ _ _ _ _ _ _ _ _ _ _ _ _ _ _ _ _ _ _ _ _ _ _ _ = st2
  have hs3 : (st.1, [], []) = st2 := hs2
  subst hs3
  dsimp only
  obtain ⟨e1, e2, e3⟩ := swept c i arg1 harg1 arg2 harg2 arg3 harg3 arg4 harg4 arg5 harg5 arg6 harg6 arg7 harg7 arg8 harg8 arg9 harg9 arg10 harg10 arg11 harg11 arg12 harg12 _ _
    (rowsOf q d t 0) (rowsOf q d t 1) _ _ kb vb dk dv _ _ st hst (harg9.read_unread _) (harg10.read_unread _) (harg11.read_unread _) (harg12.read_unread _)
  simp only [e1]
  rw [whole_load]
  refine (whole_store _ _ _ _).trans ((congrArg k0_pay4 ?_).trans (pay4 _))
  exact diag_vals i arg9 arg12 _ _ (rowsOf q d t 0) (rowsOf q d t 1) _ kb vb _ _ _ (harg9.read_unread _) _ _ e3

end Cert.Attn

end
-- ==== Proof.Grid.lean ====
/- What the kernel's buffers hold after each point of the grid, and the blocks it has written. -/
module

public import proofs.«01_k».proof.Proof.PointA
public import proofs.«01_k».proof.Proof.PointB
public import proofs.«01_k».proof.Proof.PointC
public import proofs.«01_k».proof.Proof.Gen.KernelIdeal.Value
import all proofs.«01_k».proof.Proof.Gen.KernelIdeal.Frame
import all proofs.«01_k».proof.Proof.Gen.KernelIdeal.Value

@[expose] public section

noncomputable section

namespace Cert.Attn

open Idealize.ShloMosaic Idealize.ShloMosaic.ValueIdx Idealize.SL
open Cert.KernelIdeal Cert.KernelIdeal.Gen Cert.KernelIdeal.Value

section
variable (q k v d : Mat) (t : ℕ → Mat)

/-- The stacked rows of group `g` at point `n`: `q` and `d` are the whole sequence's, `t` the sums of each group. -/
def rowsAt (n g : ℕ) : Grp := rowsOf (sub q (256 * n) 0) (sub d (256 * n) 0) (fun g r c => t g (256 * n + r) c) g

/-- The keys' and the values' accumulators after the first `n` points. -/
def keysAll : ℕ → Mat
  | 0 => fun _ _ => 0
  | n + 1 => keysPoint (rowsAt q d t n 0) (rowsAt q d t n 1) k v n (keysAll n)
def valsAll : ℕ → Mat
  | 0 => fun _ _ => 0
  | n + 1 => valsPoint (rowsAt q d t n 0) (rowsAt q d t n 1) k v n (valsAll n)
/-- The block of the queries' gradient of point `n`. -/
def queriesAt (n : ℕ) : Mat := queriesPoint (rowsAt q d t n 0) (rowsAt q d t n 1) k v n
end

variable (m : (ℓ : Loc nD τ sig) → Buf (Elt Ideal) ℓ) (c : Dev nD) (q k v d : Mat) (t : ℕ → Mat)

/-- The arrays the kernel reads, block by block. -/
structure Blocks : Prop where
  q : ∀ p : Fin cfg0.N, iblk m c 0 p = (up (sub q (256 * p.val) 0) : FVec Ideal S256x512 .f32)
  k : ∀ p : Fin cfg0.N, iblk m c 1 p = (up k : TyT .f32)
  v : ∀ p : Fin cfg0.N, iblk m c 2 p = (up v : TyT .f32)
  d : ∀ p : Fin cfg0.N, iblk m c 3 p = (up (sub d (256 * p.val) 0) : FVec Ideal S256x512 .f32)
  t : ∀ p : Fin cfg0.N, iblk m c 4 p = up3 fun g r c => t g (256 * p.val + r) c

theorem coords_val : ∀ p : Fin grid0.N, (grid0.coords p 0).val = p.val := by decide +kernel

/-- What is carried to the next point. -/
abbrev Carried := Vec Ideal S256x512 .bf16 × Vec Ideal S2048x512 .bf16 × Vec Ideal S2048x512 .bf16 × Vec Ideal S2048x512 .bf16
  × Vec Ideal S2048x512 .bf16 × Vec Ideal S2048x512 .f32 × Vec Ideal S2048x512 .f32

/-- The contents after point `n`. -/
structure After (n : ℕ) (st : Carried) : Prop where
  kb : st.2.2.2.1 = (up k : TyT .bf16)
  vb : st.2.2.2.2.1 = (up v : TyT .bf16)
  dk : st.2.2.2.2.2.1 = (up (keysAll q k v d t (n + 1)) : TyT .f32)
  dv : st.2.2.2.2.2.2 = (up (valsAll q k v d t (n + 1)) : TyT .f32)
  dq : st.1 = (up (queriesAt q k v d t n) : FVec Ideal S256x512 .bf16)
  dkOut : n = 7 → st.2.1 = (up (keysAll q k v d t 8) : TyT .bf16)
  dvOut : n = 7 → st.2.2.1 = (up (valsAll q k v d t 8) : TyT .bf16)

variable (h : Blocks m c q k v d t)
include h

theorem first (p : Fin cfg0.N) (hp : p.val = 0) (acc : Carried) : After q k v d t p.val (stAt0 m c p.val p.isLt acc) := by
  rw [stAt0_A m c p acc (by omega) (by omega)]
  have e := coords_val p
  constructor
  all_goals dsimp only
  · rw [h.q, h.k, h.v, h.d, h.t]; exact copy_keys ..
  · rw [h.q, h.k, h.v, h.d, h.t]; exact copy_vals ..
  · rw [h.q, h.k, h.v, h.d, h.t]; refine (keys_A ..).trans ?_; rw [e, hp]; rfl
  · rw [h.q, h.k, h.v, h.d, h.t]; refine (vals_A ..).trans ?_; rw [e, hp]; rfl
  · rw [h.q, h.k, h.v, h.d, h.t]; refine (queries_A ..).trans ?_; rw [e]; rfl
  · omega
  · omega

theorem middle (n : ℕ) (p : Fin cfg0.N) (hp : p.val = n + 1) (h7 : p.val < 7) (acc : Carried) (ha : After q k v d t n acc) :
    After q k v d t p.val (stAt0 m c p.val p.isLt acc) := by
  rw [stAt0_B m c p acc (by omega) (by omega)]
  have e := coords_val p
  constructor
  all_goals dsimp only
  · exact ha.kb
  · exact ha.vb
  · rw [h.q, h.d, h.t, ha.kb, ha.vb, ha.dk, ha.dv]; refine (keys_B ..).trans ?_; rw [e, hp]; rfl
  · rw [h.q, h.d, h.t, ha.kb, ha.vb, ha.dk, ha.dv]; refine (vals_B ..).trans ?_; rw [e, hp]; rfl
  · rw [h.q, h.d, h.t, ha.kb, ha.vb, ha.dk, ha.dv]; refine (queries_B ..).trans ?_; rw [e]; rfl
  · omega
  · omega

theorem last (p : Fin cfg0.N) (hp : p.val = 7) (acc : Carried) (ha : After q k v d t 6 acc) :
    After q k v d t p.val (stAt0 m c p.val p.isLt acc) := by
  rw [stAt0_C m c p acc (by omega) (by omega)]
  have e := coords_val p
  constructor
  all_goals dsimp only
  · exact ha.kb
  · exact ha.vb
  · rw [h.q, h.d, h.t, ha.kb, ha.vb, ha.dk, ha.dv]; refine (keys_C ..).trans ?_; rw [e, hp]; rfl
  · rw [h.q, h.d, h.t, ha.kb, ha.vb, ha.dk, ha.dv]; refine (vals_C ..).trans ?_; rw [e, hp]; rfl
  · rw [h.q, h.d, h.t, ha.kb, ha.vb, ha.dk, ha.dv]; refine (queries_C ..).trans ?_; rw [e]; rfl
  · intro; rw [h.q, h.d, h.t, ha.kb, ha.vb, ha.dk, ha.dv]; refine (keys_out ..).trans ?_; rw [e, hp]; rfl
  · intro; rw [h.q, h.d, h.t, ha.kb, ha.vb, ha.dk, ha.dv]; refine (vals_out ..).trans ?_; rw [e, hp]; rfl

/-- The contents after every point. -/
theorem fold (n : ℕ) (hn : 0 + n < cfg0.N) :
    After q k v d t n (Pipeline.accAt (fun n h => stAt0 m c n h junk0) (stAt0 m c) 0 n hn) := by
  have h8 : cfg0.N = 8 := N_0
  induction n with
  | zero => exact first m c q k v d t h ⟨0, by omega⟩ rfl _
  | succ n ih =>
    rw [Pipeline.accAt_succ]
    have hp : n + 1 < cfg0.N := by omega
    have key : ∀ p : Fin cfg0.N, p.val = n + 1 → After q k v d t p.val (stAt0 m c p.val p.isLt
        (Pipeline.accAt (fun n h => stAt0 m c n h junk0) (stAt0 m c) 0 n (by omega))) := by
      intro p hp
      by_cases h7 : p.val = 7
      · have h6 : n = 6 := by omega
        subst h6
        exact last m c q k v d t h p h7 _ (ih _)
      · exact middle m c q k v d t h n p hp (by have := p.isLt; omega) _ (ih _)
    have := key ⟨0 + (n + 1), hn⟩ (by simp)
    simp only [Nat.zero_add] at this ⊢
    exact this

/-- The queries' gradient, as the kernel leaves it. -/
theorem queries_array : G5 m c = (up (fun r l => queriesAt q k v d t (r / 256) (r % 256) l) : FVec Ideal S2048x512 .bf16) := by
  have h8 : cfg0.N = 8 := N_0
  funext i
  have i0 : (i 0).val < 2048 := (i 0).isLt
  have i1 : (i 1).val < 512 := (i 1).isLt
  have hp : pt5Of i = (i 0).val / 256 := by
    show 1 * ((i 0).val / 256 - 0) + 1 * ((i 1).val / 512 - 0) = _
    omega
  unfold G5
  rw [dif_pos (by omega), (fold m c q k v d t h (pt5Of i) (by omega)).dq, hp]
  show ((queriesAt q k v d t ((i 0).val / 256) ((i 0).val % 256) ((i 1).val % 512) : ℝ) : EReal) = _
  rw [Nat.mod_eq_of_lt i1]
  rfl

theorem keys_array : G6 m c = (up (keysAll q k v d t 8) : TyT .bf16) := by
  rw [G6_last]; exact (fold m c q k v d t h 7 _).dkOut rfl

theorem vals_array : G7 m c = (up (valsAll q k v d t 8) : TyT .bf16) := by
  rw [G7_last]; exact (fold m c q k v d t h 7 _).dvOut rfl

end Cert.Attn

end
-- ==== Proof.Spec.lean ====
/- The attention over the reals, of the whole sequence: its weights, and the gradients of its queries, keys and values.
   A head has 64 lanes: head `h` reads the lanes `64 h` to `64 h + 63` of the queries `q`, the keys `k`, the values `v`
   and the outputs' gradient `d`. Index `t` is a query's position, `s` a key's. -/
module

public import proofs.«01_k».proof.Proof.Buffers
public import proofs.«01_k».proof.Proof.Block

@[expose] public section

noncomputable section

namespace Cert.Attn

open Idealize.ShloMosaic

variable (q k v d : Mat) (h t s : ℕ)

/-- The scaled score. -/
def score : ℝ := (∑ e ∈ Finset.range 64, q t (64 * h + e) * k s (64 * h + e)) * (1 / 8)

/-- The logarithm of what the stick keeps at key `s`; later keys break nothing. -/
def keep : ℝ := if s < t then 0 - softplus (score q k h t s) else 0

/-- A row's whole sum of these. -/
def total : ℝ := ∑ x ∈ Finset.range 2048, keep q k h t x

/-- The attention's weight: the piece broken at `s`, of what the keys after `s` have left. -/
def weight : ℝ := if s < t then Real.exp (score q k h t s - softplus (score q k h t s)
  + ∑ x ∈ Finset.range 2048, keep q k h t x * (if s < x then 1 else 0)) else 0

/-- The gradient of the weight's logarithm. -/
def dlog : ℝ := weight q k h t s * ∑ e ∈ Finset.range 64, d t (64 * h + e) * v s (64 * h + e)

/-- The gradient of the product of query and key. -/
def dscore : ℝ := (if s < t then (1 - Real.exp (score q k h t s - softplus (score q k h t s))) * dlog q k v d h t s
  - Real.exp (score q k h t s - softplus (score q k h t s))
    * ∑ x ∈ Finset.range 2048, dlog q k v d h t x * (if x < s then 1 else 0) else 0) * (1 / 8)

/-- The three gradients. -/
def dQ : Mat := fun t l => ∑ s ∈ Finset.range 2048, dscore q k v d (l / 64) t s * k s l
def dK : Mat := fun s l => ∑ t ∈ Finset.range 2048, dscore q k v d (l / 64) t s * q t l
def dV : Mat := fun s l => ∑ t ∈ Finset.range 2048, weight q k (l / 64) t s * d t l

/-- The arguments as arrays: inside the columns of the queries, keys and values, the reals of `u`; and those of `d`. -/
structure Args (x : FVec Ideal Cert.KernelIdeal.S2048x3584 .f32) (y : FVec Ideal Cert.KernelIdeal.S2048x512 .f32) (u d : Mat) : Prop where
  u : ∀ i : Cert.KernelIdeal.S2048x3584.Idx, (i 1).val < 1536 → x i = ((u (i 0).val (i 1).val : ℝ) : EReal)
  d : y = up d

end Cert.Attn

end
-- ==== Proof.Inputs.lean ====
/- The blocks of the arguments that the kernel reads at each point of the grid. -/
module

public import proofs.«01_k».proof.Proof.Grid
public import proofs.«01_k».proof.Proof.Spec
import all proofs.«01_k».proof.Proof.Gen.KernelIdeal.Frame.Runs

@[expose] public section

noncomputable section

namespace Cert.Attn

open Idealize.ShloMosaic Idealize.ShloMosaic.ValueIdx Idealize.SL
open Cert.KernelIdeal Cert.KernelIdeal.Gen Cert.KernelIdeal.Value

variable (m : (ℓ : Loc nD τ sig) → Buf (Elt Ideal) ℓ) (c : Dev nD) (u d : Mat) (t : ℕ → Mat)

theorem index0 : ∀ p : Fin cfg0.N, win0_0.index p (0 : Fin 2) = p.val ∧ win0_0.index p (1 : Fin 2) = 0 :=
  (by decide +kernel : ∀ t : Fin grid0.N, _)
theorem index1 : ∀ p : Fin cfg0.N, win0_1.index p (0 : Fin 2) = 0 ∧ win0_1.index p (1 : Fin 2) = 1 :=
  (by decide +kernel : ∀ t : Fin grid0.N, _)
theorem index2 : ∀ p : Fin cfg0.N, win0_2.index p (0 : Fin 2) = 0 ∧ win0_2.index p (1 : Fin 2) = 2 :=
  (by decide +kernel : ∀ t : Fin grid0.N, _)
theorem index3 : ∀ p : Fin cfg0.N, win0_3.index p (0 : Fin 2) = p.val ∧ win0_3.index p (1 : Fin 2) = 0 :=
  (by decide +kernel : ∀ t : Fin grid0.N, _)
theorem index4 : ∀ p : Fin cfg0.N, win0_4.index p (0 : Fin 3) = 0 ∧ win0_4.index p (1 : Fin 3) = p.val ∧ win0_4.index p (2 : Fin 3) = 0 :=
  (by decide +kernel : ∀ t : Fin grid0.N, _)

/-- The sums the kernel takes, of the two groups. -/
def upTot (t : ℕ → Mat) : FVec Ideal S2x2048x256 .f32 := fun j => ((t (j 0).val (j 1).val (j 2).val : ℝ) : EReal)

variable {m c u d}

theorem real_congr₂ (a : Mat) {r r' l l' : ℕ} (hr : r = r') (hl : l = l') : ((a r l : ℝ) : EReal) = ((a r' l' : ℝ) : EReal) := by
  rw [hr, hl]
theorem real_congr₃ (a : ℕ → Mat) {g g' r r' l l' : ℕ} (hg : g = g') (hr : r = r') (hl : l = l') :
    ((a g r l : ℝ) : EReal) = ((a g' r' l' : ℝ) : EReal) := by
  rw [hg, hr, hl]

theorem block_q (h : Args (m (c.tc.loc main_arg0)) (m (c.tc.loc main_arg1)) u d) (p : Fin cfg0.N) :
    iblk m c 0 p = (up (sub (sub u 0 0) (256 * p.val) 0) : FVec Ideal S256x512 .f32) := by
  obtain ⟨e0, e1⟩ := index0 p
  funext y
  have y0 : (y 0).val < 256 := (y 0).isLt
  have y1 : (y 1).val < 512 := (y 1).isLt
  have b0 : (((cfg0.win 0).blk p).view.emb y 0).val = 256 * p.val + (y 0).val := by
    show win0_0.index p (0 : Fin 2) * 256 + 1 * (y 0).val = _
    rw [e0]; omega
  have b1 : (((cfg0.win 0).blk p).view.emb y 1).val = (y 1).val := by
    show win0_0.index p (1 : Fin 2) * 512 + 1 * (y 1).val = _
    rw [e1]; omega
  refine (congrFun (V_main_arg0 m c) (((cfg0.win 0).blk p).view.emb y)).trans ((h.u _ (by rw [b1]; omega)).trans ?_)
  rw [b0, b1]
  exact real_congr₂ u (show 256 * p.val + (y 0).val = 0 + (256 * p.val + (y 0).val) by omega) (show (y 1).val = 0 + (0 + (y 1).val) by omega)

theorem block_k (h : Args (m (c.tc.loc main_arg0)) (m (c.tc.loc main_arg1)) u d) (p : Fin cfg0.N) :
    iblk m c 1 p = (up (sub u 0 512) : TyT .f32) := by
  obtain ⟨e0, e1⟩ := index1 p
  funext y
  have y0 : (y 0).val < 2048 := (y 0).isLt
  have y1 : (y 1).val < 512 := (y 1).isLt
  have b0 : (((cfg0.win 1).blk p).view.emb y 0).val = (y 0).val := by
    show win0_1.index p (0 : Fin 2) * 2048 + 1 * (y 0).val = _
    rw [e0]; omega
  have b1 : (((cfg0.win 1).blk p).view.emb y 1).val = 512 + (y 1).val := by
    show win0_1.index p (1 : Fin 2) * 512 + 1 * (y 1).val = _
    rw [e1]; omega
  refine (congrFun (V_main_arg0 m c) (((cfg0.win 1).blk p).view.emb y)).trans ((h.u _ (by rw [b1]; omega)).trans ?_)
  rw [b0, b1]
  exact real_congr₂ u (show (y 0).val = 0 + (y 0).val by omega) rfl

theorem block_v (h : Args (m (c.tc.loc main_arg0)) (m (c.tc.loc main_arg1)) u d) (p : Fin cfg0.N) :
    iblk m c 2 p = (up (sub u 0 1024) : TyT .f32) := by
  obtain ⟨e0, e1⟩ := index2 p
  funext y
  have y0 : (y 0).val < 2048 := (y 0).isLt
  have y1 : (y 1).val < 512 := (y 1).isLt
  have b0 : (((cfg0.win 2).blk p).view.emb y 0).val = (y 0).val := by
    show win0_2.index p (0 : Fin 2) * 2048 + 1 * (y 0).val = _
    rw [e0]; omega
  have b1 : (((cfg0.win 2).blk p).view.emb y 1).val = 1024 + (y 1).val := by
    show win0_2.index p (1 : Fin 2) * 512 + 1 * (y 1).val = _
    rw [e1]; omega
  refine (congrFun (V_main_arg0 m c) (((cfg0.win 2).blk p).view.emb y)).trans ((h.u _ (by rw [b1]; omega)).trans ?_)
  rw [b0, b1]
  exact real_congr₂ u (show (y 0).val = 0 + (y 0).val by omega) rfl

theorem block_d (h : Args (m (c.tc.loc main_arg0)) (m (c.tc.loc main_arg1)) u d) (p : Fin cfg0.N) :
    iblk m c 3 p = (up (sub d (256 * p.val) 0) : FVec Ideal S256x512 .f32) := by
  obtain ⟨e0, e1⟩ := index3 p
  funext y
  have y0 : (y 0).val < 256 := (y 0).isLt
  have y1 : (y 1).val < 512 := (y 1).isLt
  have b0 : (((cfg0.win 3).blk p).view.emb y 0).val = 256 * p.val + (y 0).val := by
    show win0_3.index p (0 : Fin 2) * 256 + 1 * (y 0).val = _
    rw [e0]; omega
  have b1 : (((cfg0.win 3).blk p).view.emb y 1).val = (y 1).val := by
    show win0_3.index p (1 : Fin 2) * 512 + 1 * (y 1).val = _
    rw [e1]; omega
  refine (congrFun (V_main_arg1 m c) (((cfg0.win 3).blk p).view.emb y)).trans ((congrFun h.d _).trans ?_)
  refine (real_congr₂ d b0 b1).trans ?_
  exact real_congr₂ d rfl (show (y 1).val = 0 + (y 1).val by omega)

theorem block_t (ht : V m c main_v23 = upTot t) (p : Fin cfg0.N) :
    iblk m c 4 p = up3 fun g r c => t g (256 * p.val + r) c := by
  obtain ⟨e0, e1, e2⟩ := index4 p
  funext y
  have b0 : (((cfg0.win 4).blk p).view.emb y 0).val = (y 0).val := by
    show win0_4.index p (0 : Fin 3) * 2 + 1 * (y 0).val = _
    rw [e0]; omega
  have b1 : (((cfg0.win 4).blk p).view.emb y 1).val = 256 * p.val + (y 1).val := by
    show win0_4.index p (1 : Fin 3) * 256 + 1 * (y 1).val = _
    rw [e1]; omega
  have b2 : (((cfg0.win 4).blk p).view.emb y 2).val = (y 2).val := by
    show win0_4.index p (2 : Fin 3) * 256 + 1 * (y 2).val = _
    rw [e2]; omega
  refine (congrFun ht (((cfg0.win 4).blk p).view.emb y)).trans ?_
  exact real_congr₃ t b0 b1 b2

theorem blocks (h : Args (m (c.tc.loc main_arg0)) (m (c.tc.loc main_arg1)) u d) (ht : V m c main_v23 = upTot t) :
    Blocks m c (sub u 0 0) (sub u 0 512) (sub u 0 1024) d t :=
  ⟨block_q h, block_k h, block_v h, block_d h, block_t t ht⟩

end Cert.Attn

end
-- ==== Proof.Sums.lean ====
/- Sums over ranges of natural numbers: cut at a block, or read along the heads. -/
module

public import Idealize.ShloMosaic.Lib.ValueIdx

@[expose] public section

namespace Cert.Attn

open Finset

/-- A sum over the entries after one: those of its block, and what lies past the block. -/
theorem sum_past (f : ℕ → ℝ) {b s : ℕ} (hb : b < 8) (hs : s < 256) :
    ∑ x ∈ range 2048, f x * (if 256 * b + s < x then 1 else 0)
      = ∑ l ∈ range 256, f (256 * b + l) * (if s < l then 1 else 0)
        + (∑ x ∈ range 2048, f x - (∑ x ∈ range (256 * b), f x + ∑ l ∈ range 256, f (256 * b + l))) := by
  obtain ⟨r, hr⟩ : ∃ r, 2048 = 256 * b + 256 + r := ⟨2048 - (256 * b + 256), by omega⟩
  rw [hr, sum_range_add, sum_range_add, sum_range_add f, sum_range_add f]
  have h1 : ∑ x ∈ range (256 * b), f x * (if 256 * b + s < x then (1 : ℝ) else 0) = 0 :=
    sum_eq_zero fun x hx => by
      rw [if_neg (by have := mem_range.mp hx; omega), mul_zero]
  have h2 : ∑ x ∈ range r, f (256 * b + 256 + x) * (if 256 * b + s < 256 * b + 256 + x then (1 : ℝ) else 0)
      = ∑ x ∈ range r, f (256 * b + 256 + x) :=
    sum_congr rfl fun x _ => by rw [if_pos (by omega), mul_one]
  have h3 : ∑ l ∈ range 256, f (256 * b + l) * (if 256 * b + s < 256 * b + l then (1 : ℝ) else 0)
      = ∑ l ∈ range 256, f (256 * b + l) * (if s < l then (1 : ℝ) else 0) :=
    sum_congr rfl fun x _ => by simp only [Nat.add_lt_add_iff_left]
  rw [h1, h2, h3]; ring

/-- A sum over the entries before one: those before its block, and those of its block. -/
theorem sum_before (f : ℕ → ℝ) {b s : ℕ} (hb : b < 8) (hs : s < 256) :
    ∑ x ∈ range 2048, f x * (if x < 256 * b + s then 1 else 0)
      = ∑ x ∈ range (256 * b), f x + ∑ l ∈ range 256, f (256 * b + l) * (if l < s then 1 else 0) := by
  obtain ⟨r, hr⟩ : ∃ r, 2048 = 256 * b + 256 + r := ⟨2048 - (256 * b + 256), by omega⟩
  rw [hr, sum_range_add, sum_range_add]
  have h1 : ∑ x ∈ range (256 * b), f x * (if x < 256 * b + s then (1 : ℝ) else 0) = ∑ x ∈ range (256 * b), f x :=
    sum_congr rfl fun x hx => by rw [if_pos (by have := mem_range.mp hx; omega), mul_one]
  have h2 : ∑ x ∈ range r, f (256 * b + 256 + x) * (if 256 * b + 256 + x < 256 * b + s then (1 : ℝ) else 0) = 0 :=
    sum_eq_zero fun x _ => by rw [if_neg (by omega), mul_zero]
  have h3 : ∑ l ∈ range 256, f (256 * b + l) * (if 256 * b + l < 256 * b + s then (1 : ℝ) else 0)
      = ∑ l ∈ range 256, f (256 * b + l) * (if l < s then (1 : ℝ) else 0) :=
    sum_congr rfl fun x _ => by simp only [Nat.add_lt_add_iff_left]
  rw [h1, h2, h3, add_zero]

/-- A sum over four pieces of `w` entries of which one only counts. -/
theorem sum_piece (w : ℕ) (hw : 0 < w) (f : ℕ → ℝ) {a : ℕ} (ha : a < 4) :
    ∑ l ∈ range (4 * w), (if l / w = a then f l else 0) = ∑ e ∈ range w, f (w * a + e) := by
  have piece : ∀ k, ∑ e ∈ range w, (if (w * k + e) / w = a then f (w * k + e) else 0)
      = if k = a then ∑ e ∈ range w, f (w * a + e) else 0 := by
    intro k
    have hk : ∀ e ∈ range w, (if (w * k + e) / w = a then f (w * k + e) else 0) = if k = a then f (w * a + e) else 0 := by
      intro e he
      rw [Nat.mul_add_div hw, Nat.div_eq_of_lt (mem_range.mp he), Nat.add_zero]
      split_ifs with h
      · rw [h]
      · rfl
    rw [sum_congr rfl hk]
    split_ifs <;> simp
  have e4 : 4 * w = w * 0 + w + w + w + w := by ring
  rw [e4]
  simp only [sum_range_add]
  have q0 := piece 0
  have q1 := piece 1
  have q2 := piece 2
  have q3 := piece 3
  simp only [Nat.mul_zero, Nat.mul_one, Nat.zero_add, sum_range_zero, zero_add] at q0 q1 q2 q3 ⊢
  rw [show w + w = w * 2 by ring, show w * 2 + w = w * 3 by ring, q0, q1, q2, q3]
  interval_cases a <;> simp

/-- Nothing is added past the entries that count. -/
theorem sum_short (f : ℕ → ℝ) {n N : ℕ} (hn : n ≤ N) (h0 : ∀ x, n ≤ x → f x = 0) :
    ∑ x ∈ range N, f x = ∑ x ∈ range n, f x := by
  obtain ⟨r, rfl⟩ := Nat.exists_eq_add_of_le hn
  rw [sum_range_add, sum_eq_zero (s := range r) fun x _ => h0 _ (by omega), add_zero]

end Cert.Attn
-- ==== Proof.Equation.lean ====
/- The kernel's sums, block by block, are the gradients of the whole sequence's attention. -/
module

public import proofs.«01_k».proof.Proof.Spec
public import proofs.«01_k».proof.Proof.Sums
public import proofs.«01_k».proof.Proof.Grid

@[expose] public section

noncomputable section

namespace Cert.Attn

open Finset

variable (q k v d : Mat)

/-- The rows' sums as the kernel receives them: group `g`, row `r`, lane `c` of the group's 256. -/
def tots : ℕ → Mat := fun g r c => total q k (4 * g + c / 64) r

variable (n g b : ℕ)

/-- The group's rows at point `n`. -/
abbrev rws : Grp := rowsAt q d (tots q k) n g

/-- Head and query of a stacked row. -/
abbrev hd (r : ℕ) : ℕ := 4 * g + r / 256
abbrev tq (r : ℕ) : ℕ := 256 * n + r % 256

theorem piece64 (f w : ℕ → ℝ) {a : ℕ} (ha : a < 4) :
    ∑ l ∈ range 256, (if l / 64 = a then f l else 0) * w l = ∑ e ∈ range 64, f (64 * a + e) * w (64 * a + e) := by
  rw [← sum_piece 64 (by norm_num) (fun l => f l * w l) ha]
  exact sum_congr rfl fun l _ => by split_ifs <;> simp

theorem z_eq {r : ℕ} (hr : r < 1024) (s : ℕ) :
    (rws q k d n g).z (sub k (256 * b) (256 * g)) r s = score q k (hd g r) (tq n r) (256 * b + s) := by
  show ∑ l ∈ range 256, (if l / 64 = r / 256 then q (256 * n + (0 + r % 256)) (0 + (256 * g + l)) * (1 / 8) else 0)
    * k (256 * b + s) (256 * g + l) = _
  rw [piece64 _ _ (by omega), score, sum_mul]
  refine sum_congr rfl fun e _ => ?_
  rw [show 64 * (4 * g + r / 256) + e = 256 * g + (64 * (r / 256) + e) by ring]
  simp only [Nat.zero_add]
  ring

theorem dv_eq {r : ℕ} (hr : r < 1024) (s : ℕ) :
    dotT (rws q k d n g).d (sub v (256 * b) (256 * g)) r s
      = ∑ e ∈ range 64, d (tq n r) (64 * hd g r + e) * v (256 * b + s) (64 * hd g r + e) := by
  show ∑ l ∈ range 256, (if l / 64 = r / 256 then d (256 * n + (0 + r % 256)) (0 + (256 * g + l)) else 0)
    * v (256 * b + s) (256 * g + l) = _
  rw [piece64 _ _ (by omega)]
  refine sum_congr rfl fun e _ => ?_
  rw [show 64 * (4 * g + r / 256) + e = 256 * g + (64 * (r / 256) + e) by ring]
  simp only [Nat.zero_add]

theorem tot_eq {r : ℕ} : (rws q k d n g).tot r 0 = total q k (hd g r) (tq n r) := by
  show total q k (4 * g + (64 * (r / 256) + 0) / 64) (256 * n + r % 256) = _
  rw [show (64 * (r / 256) + 0) / 64 = r / 256 by omega]

/-- What is carried once the first `b` blocks of keys are done. -/
structure Upto (S : St) : Prop where
  lm : ∀ r < 1024, ∀ c, S.lm r c = ∑ x ∈ range (256 * b), keep q k (hd g r) (tq n r) x
  dl : ∀ r < 1024, ∀ c, S.dl r c = ∑ x ∈ range (256 * b), dlog q k v d (hd g r) (tq n r) x
  dq : ∀ r < 1024, ∀ l, S.dq r l = ∑ x ∈ range (256 * b), dscore q k v d (hd g r) (tq n r) x * k x (256 * g + l)

section Step
variable {q k v d n g b}
variable (p : ℕ → ℕ → Prop) [∀ r c, Decidable (p r c)] {S : St} (hb : b < 8)
  (hp : ∀ r < 1024, ∀ s < 256, p r s ↔ 256 * b + s < tq n r) (hS : Upto q k v d n g b S)
include hb hp hS

theorem lmB_eq {r s : ℕ} (hr : r < 1024) (hs : s < 256) :
    lmB p ((rws q k d n g).z (sub k (256 * b) (256 * g))) r s = keep q k (hd g r) (tq n r) (256 * b + s) := by
  unfold lmB keep
  rw [z_eq q k d n g b hr]
  exact if_congr (hp r hr s hs) rfl rfl

theorem lm_next {r : ℕ} (hr : r < 1024) (c : ℕ) : carry S.lm (lmB p ((rws q k d n g).z (sub k (256 * b) (256 * g)))) r c
    = ∑ x ∈ range (256 * b), keep q k (hd g r) (tq n r) x + ∑ l ∈ range 256, keep q k (hd g r) (tq n r) (256 * b + l) := by
  unfold carry
  rw [hS.lm r hr]
  congr 1
  exact sum_congr rfl fun l hl => lmB_eq p hb hp hS hr (mem_range.mp hl)

theorem att_eq {r s : ℕ} (hr : r < 1024) (hs : s < 256) :
    (rws q k d n g).att p (sub k (256 * b) (256 * g)) S r s = weight q k (hd g r) (tq n r) (256 * b + s) := by
  unfold Grp.att attB weight
  rw [z_eq q k d n g b hr, tot_eq, lm_next p hb hp hS hr, sum_past _ hb hs, total]
  refine if_congr (hp r hr s hs) ?_ rfl
  rw [add_assoc]
  congr 3
  exact sum_congr rfl fun l hl => by rw [lmB_eq p hb hp hS hr (mem_range.mp hl)]

theorem dl_eq {r s : ℕ} (hr : r < 1024) (hs : s < 256) :
    (rws q k d n g).dl p (sub k (256 * b) (256 * g)) (sub v (256 * b) (256 * g)) S r s
      = dlog q k v d (hd g r) (tq n r) (256 * b + s) := by
  unfold Grp.dl dlB dlog
  rw [att_eq p hb hp hS hr hs, dv_eq q k v d n g b hr]

theorem dz_eq {r s : ℕ} (hr : r < 1024) (hs : s < 256) :
    (rws q k d n g).dz p (sub k (256 * b) (256 * g)) (sub v (256 * b) (256 * g)) S r s
      = dscore q k v d (hd g r) (tq n r) (256 * b + s) := by
  unfold Grp.dz dzB dscore
  rw [z_eq q k d n g b hr, hS.dl r hr, sum_before _ hb hs, dl_eq p hb hp hS hr hs]
  congr 1
  refine if_congr (hp r hr s hs) ?_ rfl
  congr 3
  exact sum_congr rfl fun l hl => by rw [dl_eq p hb hp hS hr (mem_range.mp hl)]

theorem next_eq : Upto q k v d n g (b + 1)
    ((rws q k d n g).next p (sub k (256 * b) (256 * g)) (sub v (256 * b) (256 * g)) S) where
  lm r hr c := by
    rw [show 256 * (b + 1) = 256 * b + 256 by ring, sum_range_add]
    exact lm_next p hb hp hS hr c
  dl r hr c := by
    rw [show 256 * (b + 1) = 256 * b + 256 by ring, sum_range_add, ← hS.dl r hr c]
    exact congrArg (S.dl r c + ·) (sum_congr rfl fun l hl => dl_eq p hb hp hS hr (mem_range.mp hl))
  dq r hr l := by
    rw [show 256 * (b + 1) = 256 * b + 256 by ring, sum_range_add, ← hS.dq r hr l]
    refine congrArg (S.dq r l + ·) (sum_congr rfl fun s hs => ?_)
    rw [dz_eq p hb hp hS hr (mem_range.mp hs)]
    rfl

end Step

/-- A sum over the stacked rows: the rows of the lane's own head count. -/
theorem rows_sum (a f : Mat) (w : ℕ → ℕ → ℝ) (s : ℕ) {l : ℕ} (hl : l < 256)
    (ha : ∀ r < 1024, a r s = w (hd g r) (tq n r)) :
    ∑ r ∈ range 1024, a r s * stackRows (sub (sub f (256 * n) 0) 0 (256 * g)) r l
      = ∑ r ∈ range 256, w ((256 * g + l) / 64) (256 * n + r) * f (256 * n + r) (256 * g + l) := by
  rw [show 1024 = 4 * 256 by norm_num,
    sum_congr rfl (g := fun r => if r / 256 = l / 64 then w (hd g r) (tq n r) * f (256 * n + r % 256) (256 * g + l) else 0)]
  · rw [sum_piece 256 (by norm_num) _ (by omega)]
    refine sum_congr rfl fun r hr => ?_
    have := mem_range.mp hr
    rw [hd, tq, show (256 * (l / 64) + r) / 256 = l / 64 by omega, show (256 * (l / 64) + r) % 256 = r by omega,
      show 4 * g + l / 64 = (256 * g + l) / 64 by omega]
  · intro r hr
    rw [ha r (by have := mem_range.mp hr; omega)]
    show _ * (if l / 64 = r / 256 then f (256 * n + (0 + r % 256)) (0 + (256 * g + l)) else 0) = _
    simp only [Nat.zero_add]
    by_cases h : l / 64 = r / 256
    · rw [if_pos h, if_pos h.symm]
    · rw [if_neg h, if_neg (Ne.symm h), mul_zero]

section Point
variable {q k v d n g b}

theorem all_iff (hb : b < n) : ∀ r < 1024, ∀ s < 256, all r s ↔ 256 * b + s < tq n r := fun r hr s hs =>
  ⟨fun _ => by unfold tq; omega, fun _ => trivial⟩
theorem low_iff : ∀ r < 1024, ∀ s < 256, low r s ↔ 256 * n + s < tq n r := fun r hr s hs => by
  unfold tq; exact (Nat.add_lt_add_iff_left).symm

theorem run_upto (hn : n < 8) : ∀ b ≤ n, Upto q k v d n g b ((rws q k d n g).run k v (256 * g) b)
  | 0, _ => ⟨fun _ _ _ => by simp [Grp.run], fun _ _ _ => by simp [Grp.run], fun _ _ _ => by simp [Grp.run]⟩
  | b + 1, h => next_eq all (by omega) (all_iff (by omega)) (run_upto hn b (by omega))

theorem dscore_zero {h t s : ℕ} (hs : t ≤ s) : dscore q k v d h t s = 0 := by
  rw [dscore, if_neg (by omega), zero_mul]
theorem weight_zero {h t s : ℕ} (hs : t ≤ s) : weight q k h t s = 0 := by
  rw [weight, if_neg (by omega)]

/-- A group's queries' accumulator after the diagonal block. -/
theorem dqPoint_eq (hn : n < 8) {r : ℕ} (hr : r < 1024) (l : ℕ) : dqPoint (rws q k d n g) k v (256 * g) n r l
    = ∑ x ∈ range 2048, dscore q k v d (hd g r) (tq n r) x * k x (256 * g + l) := by
  rw [sum_short _ (n := 256 * (n + 1)) (by omega) fun x hx => by
    rw [dscore_zero (by unfold tq; omega), zero_mul]]
  exact (next_eq low hn low_iff (run_upto hn n le_rfl)).dq r hr l

theorem queriesAt_eq (hn : n < 8) {r c : ℕ} (hr : r < 256) (hc : c < 512) :
    queriesAt q k v d (tots q k) n r c = dQ q k v d (256 * n + r) c := by
  unfold queriesAt queriesPoint dQ
  split_ifs with h
  · refine (dqPoint_eq (g := 0) hn (r := 256 * (c / 64) + r) (by omega) c).trans ?_
    rw [show hd 0 (256 * (c / 64) + r) = c / 64 by unfold hd; omega, show tq n (256 * (c / 64) + r) = 256 * n + r by unfold tq; omega]
    simp only [Nat.mul_zero, Nat.zero_add]
  · refine (dqPoint_eq (g := 1) hn (r := 256 * ((c - 256) / 64) + r) (by omega) (c - 256)).trans ?_
    rw [show hd 1 (256 * ((c - 256) / 64) + r) = c / 64 by unfold hd; omega,
      show tq n (256 * ((c - 256) / 64) + r) = 256 * n + r by unfold tq; omega, show 256 * 1 + (c - 256) = c by omega]

/-- What the rows of point `n` add to the gradients of a key and of a value. -/
def addedK (q k v d : Mat) (n : ℕ) : Mat := fun s l =>
  ∑ r ∈ range 256, dscore q k v d (l / 64) (256 * n + r) s * q (256 * n + r) l
def addedV (q k d : Mat) (n : ℕ) : Mat := fun s l =>
  ∑ r ∈ range 256, weight q k (l / 64) (256 * n + r) s * d (256 * n + r) l

/-- Two groups' blocks put side by side. -/
theorem put_two (x A B w : Mat) (hA : ∀ s < 256, ∀ l < 256, A s l = x (256 * b + s) l + w (256 * b + s) l)
    (hB : ∀ s < 256, ∀ l < 256, B s l = x (256 * b + s) (256 + l) + w (256 * b + s) (256 + l)) {s l : ℕ} (hl : l < 512) :
    put (put x (256 * b) 0 A) (256 * b) 256 B s l = x s l + if s / 256 = b then w s l else 0 := by
  unfold put
  by_cases hs : s / 256 = b
  · rw [if_pos hs]
    by_cases h : l < 256
    · rw [if_neg (by omega), if_pos (by omega), hA _ (by omega) _ (by omega), show 256 * b + (s - 256 * b) = s by omega, Nat.sub_zero]
    · rw [if_pos (by omega), hB _ (by omega) _ (by omega), show 256 * b + (s - 256 * b) = s by omega, show 256 + (l - 256) = l by omega]
  · rw [if_neg hs, if_neg (by omega), if_neg (by omega), add_zero]

section Add
variable (p : ℕ → ℕ → Prop) [∀ r c, Decidable (p r c)] (hn : n < 8) (hbn : b ≤ n)
  (hp : ∀ r < 1024, ∀ s < 256, p r s ↔ 256 * b + s < tq n r)
include hn hbn hp

theorem addKs_eq (x : Mat) {s l : ℕ} (hl : l < 512) :
    addKs (rws q k d n 0) (rws q k d n 1) p k v (256 * b) ((rws q k d n 0).run k v 0 b) ((rws q k d n 1).run k v 256 b) x s l
      = x s l + if s / 256 = b then addedK q k v d n s l else 0 := by
  refine put_two x _ _ (addedK q k v d n) (fun s hs l hl => ?_) (fun s hs l hl => ?_) hl
  · refine congrArg₂ (· + ·) (congrArg (x _) (by omega)) ?_
    refine (rows_sum n 0 _ q (fun h t => dscore q k v d h t (256 * b + s)) s hl fun r hr =>
      dz_eq p (by omega) hp (run_upto hn b hbn) hr hs).trans ?_
    simp only [addedK, Nat.mul_zero, Nat.zero_add]
  · exact congrArg₂ (· + ·) rfl (rows_sum n 1 _ q (fun h t => dscore q k v d h t (256 * b + s)) s hl fun r hr =>
      dz_eq p (by omega) hp (run_upto hn b hbn) hr hs)

theorem addVs_eq (x : Mat) {s l : ℕ} (hl : l < 512) :
    addVs (rws q k d n 0) (rws q k d n 1) p k v (256 * b) ((rws q k d n 0).run k v 0 b) ((rws q k d n 1).run k v 256 b) x s l
      = x s l + if s / 256 = b then addedV q k d n s l else 0 := by
  refine put_two x _ _ (addedV q k d n) (fun s hs l hl => ?_) (fun s hs l hl => ?_) hl
  · refine congrArg₂ (· + ·) (congrArg (x _) (by omega)) ?_
    refine (rows_sum n 0 _ d (fun h t => weight q k h t (256 * b + s)) s hl fun r hr =>
      att_eq p (by omega) hp (run_upto (v := v) hn b hbn) hr hs).trans ?_
    simp only [addedV, Nat.mul_zero, Nat.zero_add]
  · exact congrArg₂ (· + ·) rfl (rows_sum n 1 _ d (fun h t => weight q k h t (256 * b + s)) s hl fun r hr =>
      att_eq p (by omega) hp (run_upto (v := v) hn b hbn) hr hs)

end Add

theorem addedK_zero {s l : ℕ} (hs : 256 * (n + 1) ≤ s) : addedK q k v d n s l = 0 :=
  sum_eq_zero fun r hr => by rw [dscore_zero (by have := mem_range.mp hr; omega), zero_mul]
theorem addedV_zero {s l : ℕ} (hs : 256 * (n + 1) ≤ s) : addedV q k d n s l = 0 :=
  sum_eq_zero fun r hr => by rw [weight_zero (by have := mem_range.mp hr; omega), zero_mul]

/-- One more block's entries. -/
theorem one_more (x w : ℝ) (s b : ℕ) : (x + if s / 256 < b then w else 0) + (if s / 256 = b then w else 0)
    = x + if s / 256 < b + 1 then w else 0 := by
  by_cases h : s / 256 < b
  · rw [if_pos h, if_neg (by omega), if_pos (by omega), add_zero]
  · by_cases h' : s / 256 = b
    · rw [if_neg h, if_pos h', if_pos (by omega), add_zero]
    · rw [if_neg h, if_neg h', if_neg (by omega), add_zero]

theorem keysRun_eq (hn : n < 8) (x : Mat) {s l : ℕ} (hl : l < 512) : ∀ b ≤ n,
    keysRun (rws q k d n 0) (rws q k d n 1) k v x b s l = x s l + if s / 256 < b then addedK q k v d n s l else 0
  | 0, _ => by simp [keysRun]
  | b + 1, h => by
    rw [keysRun, addKs_eq all hn (by omega) (all_iff (by omega)) _ hl, keysRun_eq hn x hl b (by omega), one_more]
theorem valsRun_eq (hn : n < 8) (x : Mat) {s l : ℕ} (hl : l < 512) : ∀ b ≤ n,
    valsRun (rws q k d n 0) (rws q k d n 1) k v x b s l = x s l + if s / 256 < b then addedV q k d n s l else 0
  | 0, _ => by simp [valsRun]
  | b + 1, h => by
    rw [valsRun, addVs_eq all hn (by omega) (all_iff (by omega)) _ hl, valsRun_eq hn x hl b (by omega), one_more]

theorem keysPoint_eq (hn : n < 8) (x : Mat) {s l : ℕ} (hl : l < 512) :
    keysPoint (rws q k d n 0) (rws q k d n 1) k v n x s l = x s l + addedK q k v d n s l := by
  rw [keysPoint, addKs_eq low hn le_rfl low_iff _ hl, keysRun_eq hn x hl n le_rfl, one_more]
  split_ifs with h
  · rfl
  · rw [addedK_zero (by omega)]
theorem valsPoint_eq (hn : n < 8) (x : Mat) {s l : ℕ} (hl : l < 512) :
    valsPoint (rws q k d n 0) (rws q k d n 1) k v n x s l = x s l + addedV q k d n s l := by
  rw [valsPoint, addVs_eq low hn le_rfl low_iff _ hl, valsRun_eq hn x hl n le_rfl, one_more]
  split_ifs with h
  · rfl
  · rw [addedV_zero (by omega)]

theorem keysAll_eq {s l : ℕ} (hl : l < 512) : ∀ n ≤ 8,
    keysAll q k v d (tots q k) n s l = ∑ t ∈ range (256 * n), dscore q k v d (l / 64) t s * q t l
  | 0, _ => by simp [keysAll]
  | n + 1, h => by
    rw [keysAll, keysPoint_eq (by omega) _ hl, keysAll_eq hl n (by omega), show 256 * (n + 1) = 256 * n + 256 by ring, sum_range_add]
    rfl
theorem valsAll_eq {s l : ℕ} (hl : l < 512) : ∀ n ≤ 8,
    valsAll q k v d (tots q k) n s l = ∑ t ∈ range (256 * n), weight q k (l / 64) t s * d t l
  | 0, _ => by simp [valsAll]
  | n + 1, h => by
    rw [valsAll, valsPoint_eq (by omega) _ hl, valsAll_eq hl n (by omega), show 256 * (n + 1) = 256 * n + 256 by ring, sum_range_add]
    rfl

end Point

end Cert.Attn

end
-- ==== Proof.RefTools.lean ====
/- Arrays of reals with four axes, and the operations of the reference on them, entry by entry. -/
module

public import proofs.«01_k».proof.Proof.Spec
public import Idealize.ShloMosaic.Lib.WordCmp

@[expose] public section

noncomputable section

namespace Cert.Attn

open Idealize.ShloMosaic Idealize.ShloMosaic.ValueIdx

/-- A real as an extended real. -/
abbrev re (x : ℝ) : EReal := (x : EReal)

theorem re_add (x y : ℝ) {φ : FTy} : FloatOps.addf (F := Ideal) (φ := φ) (re x) (re y) = re (x + y) := (EReal.coe_add _ _).symm
theorem re_sub (x y : ℝ) {φ : FTy} : FloatOps.subf (F := Ideal) (φ := φ) (re x) (re y) = re (x - y) := (EReal.coe_sub _ _).symm
theorem re_mul (x y : ℝ) {φ : FTy} : FloatOps.mulf (F := Ideal) (φ := φ) (re x) (re y) = re (x * y) := (EReal.coe_mul _ _).symm
theorem re_max (x y : ℝ) {φ : FTy} : FloatOps.maximumf (F := Ideal) (φ := φ) (re x) (re y) = re (max x y) :=
  (EReal.coe_strictMono.monotone.map_max).symm
theorem re_neg (x : ℝ) {φ : FTy} : FloatOps.hostNegf (F := Ideal) (φ := φ) (re x) = re (-x) := (EReal.coe_neg _).symm
theorem re_abs (x : ℝ) {φ : FTy} : FloatOps.hostAbsf (F := Ideal) (φ := φ) (re x) = re |x| := by
  show max (x : EReal) (-(x : EReal)) = _
  rw [← EReal.coe_neg, ← EReal.coe_strictMono.monotone.map_max]; rfl
theorem re_exp (x : ℝ) {φ : FTy} : FloatOps.hostUnary (F := Ideal) (φ := φ) .exp (re x) = re (Real.exp x) := rfl
theorem re_log1p_exp (x : ℝ) {φ : FTy} : FloatOps.hostUnary (F := Ideal) (φ := φ) .log1p (re (Real.exp x)) = re (Real.log (1 + Real.exp x)) := by
  show Ideal.log (1 + (Real.exp x : EReal)) = _
  rw [show (1 : EReal) + (Real.exp x : EReal) = ((1 + Real.exp x : ℝ) : EReal) by rw [EReal.coe_add, EReal.coe_one], Ideal.log_coe,
    if_neg (by have := Real.exp_pos x; linarith)]
theorem re_une (x : ℝ) {φ : FTy} : FloatOps.cmpf (F := Ideal) (φ := φ) .une (re x) (re x) = 0#1 := by
  show BitVec.ofBool _ = _
  simp
theorem re_zero : FloatOps.ofBits (F := Ideal) .f32 0x00000000#32 = re 0 := zero_f32
theorem re_eighth : FloatOps.ofBits (F := Ideal) .f32 0x3E000000#32 = re (1 / 8) := eighth_f32
theorem re_one : FloatOps.ofBits (F := Ideal) .f32 0x3F800000#32 = re 1 := one_f32
theorem re_dot {n : ℕ} (f g : ℕ → ℝ) : ∑ k : Fin n, re (f k.val) * re (g k.val) = re (∑ k ∈ Finset.range n, f k * g k) := by
  have h := dot_coe (n := n) f g
  rwa [EReal.coe_zero, zero_add] at h

/-- The softplus of a score, as the reference writes it. -/
theorem re_softplus (z : ℝ) {φ : FTy} : FloatOps.addf (F := Ideal) (φ := φ) (FloatOps.maximumf (F := Ideal) (φ := φ) (re z) (re 0))
    (FloatOps.hostUnary (F := Ideal) (φ := φ) .log1p (FloatOps.hostUnary (F := Ideal) (φ := φ) .exp (FloatOps.hostNegf (F := Ideal) (φ := φ)
      (FloatOps.hostAbsf (F := Ideal) (φ := φ) (FloatOps.subf (F := Ideal) (φ := φ) (re z) (re 0)))))) = re (softplus z) := by
  rw [re_max, re_sub, re_abs, re_neg, re_exp, re_log1p_exp, re_add, softplus, sub_zero, zero_sub]

theorem inf_f32 : Ideal.ofBits .f32 0x7F800000#32 = (⊤ : EReal) := by simp [Ideal.ofBits, Ideal.ieee]
theorem re_ne_inf (x : ℝ) {φ : FTy} : FloatOps.cmpf (F := Ideal) (φ := φ) .oeq (re x) (FloatOps.ofBits (F := Ideal) .f32 0x7F800000#32) = 0#1 := by
  show BitVec.ofBool (decide ((x : EReal) = Ideal.ofBits .f32 0x7F800000#32)) = 0#1
  rw [inf_f32, decide_eq_false (EReal.coe_ne_top x)]; rfl

theorem select_no {α : Type} (a b : α) : Scalar.select 0#1 a b = b := if_neg (by decide)
theorem select_if (p : Prop) [Decidable p] {α : Type} (a b : α) : Scalar.select (BitVec.ofBool (decide p)) a b = if p then a else b := by
  by_cases h : p
  · rw [if_pos h, decide_eq_true h]; rfl
  · rw [if_neg h, decide_eq_false h]; rfl
theorem re_if (p : Prop) [Decidable p] (a b : ℝ) : (if p then re a else re b) = re (if p then a else b) := by
  split_ifs <;> rfl

end Cert.Attn

end
-- ==== Proof.RefForward.lean ====
/- The reference's scores, masks, softplus and weights, entry by entry. -/
module

public import proofs.«01_k».proof.Proof.RefTools
public import proofs.«01_k».proof.Proof.Gen.ReferenceIdeal.Read

@[expose] public section

noncomputable section

namespace Cert.Attn

open Idealize.ShloMosaic Idealize.ShloMosaic.ValueIdx Idealize.ShloMosaic.WordCmp
open Cert.ReferenceIdeal Cert.ReferenceIdeal.Read

variable {x0 : FVec Ideal S2048x3584 .f32} {x1 : FVec Ideal S2048x512 .f32} {u d : Mat}

/-- The score of the entry at `i`. -/
abbrev scoreAt (u : Mat) (i : S1x8x2048x2048.Idx) : ℝ := score (sub u 0 0) (sub u 0 512) (i 1).val (i 2).val (i 3).val

theorem q_at (h : Args x0 x1 u d) (i : S1x2048x8x64.Idx) :
    val_main_v3 (F := Ideal) x0 i = re (sub u 0 0 (i 1).val (64 * (i 2).val + (i 3).val)) := by
  have h0 : (i 0).val < 1 := (i 0).isLt
  have h1 : (i 1).val < 2048 := (i 1).isLt
  have h2 : (i 2).val < 8 := (i 2).isLt
  have h3 : (i 3).val < 64 := (i 3).isLt
  rw [val_main_v3_apply, val_main_v0_apply]
  refine (h.u _ ?_).trans ?_
  · show (((((i 0).val * 2048 + (i 1).val) * 8 + (i 2).val) * 64 + (i 3).val) % 512) < 1536
    omega
  · refine congrArg re (congrArg₂ u ?_ ?_)
    · show (((((i 0).val * 2048 + (i 1).val) * 8 + (i 2).val) * 64 + (i 3).val) / 512) = _
      omega
    · show (((((i 0).val * 2048 + (i 1).val) * 8 + (i 2).val) * 64 + (i 3).val) % 512) = _
      omega

theorem k_at (h : Args x0 x1 u d) (i : S1x2048x8x64.Idx) :
    val_main_v4 (F := Ideal) x0 i = re (sub u 0 512 (i 1).val (64 * (i 2).val + (i 3).val)) := by
  have h0 : (i 0).val < 1 := (i 0).isLt
  have h1 : (i 1).val < 2048 := (i 1).isLt
  have h2 : (i 2).val < 8 := (i 2).isLt
  have h3 : (i 3).val < 64 := (i 3).isLt
  rw [val_main_v4_apply, val_main_v1_apply]
  refine (h.u _ ?_).trans ?_
  · show 512 + (((((i 0).val * 2048 + (i 1).val) * 8 + (i 2).val) * 64 + (i 3).val) % 512) < 1536
    omega
  · refine congrArg re (congrArg₂ u ?_ ?_)
    · show (((((i 0).val * 2048 + (i 1).val) * 8 + (i 2).val) * 64 + (i 3).val) / 512) = _
      omega
    · show 512 + (((((i 0).val * 2048 + (i 1).val) * 8 + (i 2).val) * 64 + (i 3).val) % 512) = _
      omega

theorem v_at (h : Args x0 x1 u d) (i : S1x2048x8x64.Idx) :
    val_main_v5 (F := Ideal) x0 i = re (sub u 0 1024 (i 1).val (64 * (i 2).val + (i 3).val)) := by
  have h0 : (i 0).val < 1 := (i 0).isLt
  have h1 : (i 1).val < 2048 := (i 1).isLt
  have h2 : (i 2).val < 8 := (i 2).isLt
  have h3 : (i 3).val < 64 := (i 3).isLt
  rw [val_main_v5_apply, val_main_v2_apply]
  refine (h.u _ ?_).trans ?_
  · show 1024 + (((((i 0).val * 2048 + (i 1).val) * 8 + (i 2).val) * 64 + (i 3).val) % 512) < 1536
    omega
  · refine congrArg re (congrArg₂ u ?_ ?_)
    · show (((((i 0).val * 2048 + (i 1).val) * 8 + (i 2).val) * 64 + (i 3).val) / 512) = _
      omega
    · show 1024 + (((((i 0).val * 2048 + (i 1).val) * 8 + (i 2).val) * 64 + (i 3).val) % 512) = _
      omega

theorem score_at (h : Args x0 x1 u d) (i : S1x8x2048x2048.Idx) : val_main_v8 (F := Ideal) x0 i = re (scoreAt u i) := by
  rw [val_main_v8_apply, val_main_v7_apply, val_main_cst_apply, val_main_v6_apply, re_eighth]
  simp only [q_at h, k_at h]
  rw [re_dot (n := 64) (fun e => sub u 0 0 (i 2).val (64 * (i 1).val + e)) (fun e => sub u 0 512 (i 3).val (64 * (i 1).val + e)), re_mul]
  rfl

theorem mask_at (i : S1x8x2048x2048.Idx) :
    val_main_v18_1 (F := Ideal) i = BitVec.ofBool (decide ((i 3).val < (i 2).val)) := by
  have h2 : (i 2).val < 2048 := (i 2).isLt
  have h3 : (i 3).val < 2048 := (i 3).isLt
  rw [val_main_v18_1_apply, val_main_v15_apply, val_main_v13_apply, val_main_v14_apply, val_main_v10_apply, val_main_v12_apply,
    val_main_v9_apply, val_main_v11_apply]
  exact cmpi_slt_ofNat (w := 32) (a := (i 3).val) (b := (i 2).val) (by omega) (by omega)

theorem mask_at' (i : S1x8x2048x2048.Idx) :
    val_main_v24_1 (F := Ideal) i = BitVec.ofBool (decide ((i 3).val < (i 2).val)) := mask_at i

theorem softplus_at (h : Args x0 x1 u d) (i : S1x8x2048x2048.Idx) :
    val_main_v16_0 (F := Ideal) x0 i = re (softplus (scoreAt u i)) := by
  rw [val_main_v16_0_apply, val_main_call0_v4_apply, val_main_call0_v11_apply, val_main_call0_v1_apply, val_main_call0_v10_apply,
    val_main_call0_v9_apply, val_main_call0_v8_apply, val_main_call0_v7_apply, val_main_call0_v3_apply, val_main_call0_v0_apply,
    val_main_call0_v2_apply, val_main_call0_cst_apply, score_at h, re_zero]
  refine (congrArg (fun b => Scalar.select b _ _) (?_ : _ = 0#1)).trans ((select_no _ _).trans (re_softplus _))
  rw [re_sub]; exact re_une _

/-- The softplus of minus the score. -/
theorem softplus_neg_at (h : Args x0 x1 u d) (i : S1x8x2048x2048.Idx) :
    val_main_call3_v1_0 (F := Ideal) x0 i = re (softplus (-scoreAt u i)) := by
  rw [val_main_call3_v1_0_apply, val_main_call3_call0_v4_apply, val_main_call3_call0_v11_apply, val_main_call3_call0_v1_apply,
    val_main_call3_call0_v10_apply, val_main_call3_call0_v9_apply, val_main_call3_call0_v8_apply, val_main_call3_call0_v7_apply,
    val_main_call3_call0_v3_apply, val_main_call3_call0_v0_apply, val_main_call3_call0_v2_apply, val_main_call3_call0_cst_apply,
    val_main_call3_v0_apply, score_at h, re_zero, re_neg]
  refine (congrArg (fun b => Scalar.select b _ _) (?_ : _ = 0#1)).trans ((select_no _ _).trans (re_softplus _))
  rw [re_sub]; exact re_une _

/-- The two slopes of the softplus, at the score and at minus the score. -/
theorem slope_at (h : Args x0 x1 u d) (i : S1x8x2048x2048.Idx) :
    val_main_v16_1 (F := Ideal) x0 i = re (Real.exp (scoreAt u i - softplus (scoreAt u i))) := by
  rw [val_main_v16_1_apply, val_main_call0_v21_apply, val_main_call0_v16_apply, val_main_call0_v20_apply, val_main_call0_v14_apply,
    val_main_call0_v18_apply, val_main_call0_v13_apply, val_main_call0_v17_apply, val_main_call0_cst_0_apply, val_main_call0_cst_2_apply,
    score_at h, softplus_at h, re_ne_inf, re_ne_inf, select_no, select_no, re_sub, re_exp]

theorem slope_neg_at (h : Args x0 x1 u d) (i : S1x8x2048x2048.Idx) :
    val_main_v21_1 (F := Ideal) x0 i = re (Real.exp (-scoreAt u i - softplus (-scoreAt u i))) := by
  rw [val_main_v21_1_apply, val_main_call3_call0_v21_apply, val_main_call3_call0_v16_apply, val_main_call3_call0_v20_apply,
    val_main_call3_call0_v14_apply, val_main_call3_call0_v18_apply, val_main_call3_call0_v13_apply, val_main_call3_call0_v17_apply,
    val_main_call3_call0_cst_0_apply, val_main_call3_call0_cst_2_apply, val_main_call3_v0_apply,
    score_at h, softplus_neg_at h, re_neg, re_ne_inf, re_ne_inf, select_no, select_no, re_sub, re_exp]

/-- The logarithm kept at a key. -/
abbrev keepAt (u : Mat) (i : S1x8x2048x2048.Idx) : ℝ := keep (sub u 0 0) (sub u 0 512) (i 1).val (i 2).val (i 3).val

theorem keep_at (h : Args x0 x1 u d) (i : S1x8x2048x2048.Idx) : val_main_v18_0 (F := Ideal) x0 i = re (keepAt u i) := by
  rw [val_main_v18_0_apply, mask_at, val_main_v17_apply, val_main_call1_v2_apply, val_main_call1_v0_apply, val_main_cst_0_apply, softplus_at h, re_zero, re_neg,
    select_if, re_if, keepAt, keep]
  rw [zero_sub]

end Cert.Attn

end
-- ==== Proof.Total.lean ====
/- What the host hands the kernel as its third array: each row's whole sum, repeated over the lanes of its head. -/
module

public import proofs.«01_k».proof.Proof.Inputs
public import proofs.«01_k».proof.Proof.Equation
public import proofs.«01_k».proof.Proof.RefForward
public import Idealize.ShloMosaic.Lib.Pointwise.Reduce
public import Idealize.ShloMosaic.Lib.StableHlo.Run
import all proofs.«01_k».proof.Proof.Gen.KernelIdeal.Frame.Runs

@[expose] public section

noncomputable section

namespace Cert.Attn

open Idealize.ShloMosaic Idealize.SL
open Cert.KernelIdeal Cert.KernelIdeal.Gen Cert.KernelIdeal.Value

/-- The row sums of `w`: one per head and row. -/
def rowSums (w : FVec Ideal S1x8x2048x2048 .f32) : FVec Ideal S1x8x2048 .f32 :=
  Host.reduceAdd w (constant (F := Ideal) S_ .f32 0x00000000#32) Gen.facts.reducesTo_S1x8x2048x2048_S1x8x2048_d3 Gen.facts.h_S_

/-- The row sums laid out by group of heads, row and head of the group. -/
def grouped (x : FVec Ideal S1x8x2048 .f32) : FVec Ideal S2x2048x4 .f32 :=
  transpose S2x2048x4 [0, 2, 1] (shapeCast S2x4x2048 (shapeCast S8x2048 x Gen.facts.shapeCasts_S1x8x2048_S8x2048)
    Gen.facts.shapeCasts_S8x2048_S2x4x2048) Gen.facts.transposes_S2x4x2048_S2x2048x4_0_2_1

/-- Each of them repeated over the 64 lanes of its head. -/
def spread (x : FVec Ideal S2x2048x4 .f32) : FVec Ideal S2x2048x256 .f32 :=
  shapeCast S2x2048x256 (broadcastInDim S2x2048x4x64 ![0, 1, 2, 3] Gen.facts.bcast_S2x2048x4x1_S2x2048x4x64_0_1_2_3
    (broadcastInDim S2x2048x4x1 ![0, 1, 2] Gen.facts.bcast_S2x2048x4_S2x2048x4x1_0_1_2 x)) Gen.facts.shapeCasts_S2x2048x4x64_S2x2048x256

theorem rowSums_at (w : FVec Ideal S1x8x2048x2048 .f32) (f : ℕ → ℕ → ℕ → ℝ)
    (hw : ∀ i : S1x8x2048x2048.Idx, w i = re (f (i 1).val (i 2).val (i 3).val)) (j : S1x8x2048.Idx) :
    rowSums w j = re (∑ s ∈ Finset.range 2048, f (j 1).val (j 2).val s) := by
  unfold rowSums
  refine (Ideal.hostReduceAdd_r4_a3 Gen.facts.reducesTo_S1x8x2048x2048_S1x8x2048_d3 w _ j).trans ?_
  refine Eq.trans (congrArg₂ (· + ·) re_zero (Finset.sum_congr rfl fun k _ => hw _)) ?_
  refine Eq.trans (congrArg (re 0 + ·) (coe_sum (n := 2048) fun s => f (j 1).val (j 2).val s)) ?_
  exact (re_add (φ := .f32) _ _).trans (congrArg re (zero_add _))

theorem grouped_at (x : FVec Ideal S1x8x2048 .f32) (f : ℕ → ℕ → ℝ) (hx : ∀ i : S1x8x2048.Idx, x i = re (f (i 1).val (i 2).val))
    (j : S2x2048x4.Idx) : grouped x j = re (f (4 * (j 0).val + (j 2).val) (j 1).val) := by
  have h0 : (j 0).val < 2 := (j 0).isLt
  have h1 : (j 1).val < 2048 := (j 1).isLt
  have h2 : (j 2).val < 4 := (j 2).isLt
  unfold grouped
  refine (transpose_apply _ _ _ j (ValueIdx.ix3 (j 0) (j 2) (j 1)) fun b => ?_).trans ?_
  · match b with
    | ⟨0, _⟩ => rfl
    | ⟨1, _⟩ => rfl
    | ⟨2, _⟩ => rfl
  refine (shapeCast_apply _ _ _ (ValueIdx.ix2 (⟨4 * (j 0).val + (j 2).val, by omega⟩ : Fin 8) (j 1)) ?_).trans ?_
  · refine (Shape.rowMajor_val_two _).trans (Eq.trans ?_ (Shape.rowMajor_val_three _).symm)
    show (4 * (j 0).val + (j 2).val) * 2048 + (j 1).val = ((j 0).val * 4 + (j 2).val) * 2048 + (j 1).val
    omega
  refine (shapeCast_apply _ _ _ (ValueIdx.ix3 (0 : Fin 1) (⟨4 * (j 0).val + (j 2).val, by omega⟩ : Fin 8) (j 1)) ?_).trans ?_
  · refine (Shape.rowMajor_val_three _).trans (Eq.trans ?_ (Shape.rowMajor_val_two _).symm)
    show (0 * 8 + (4 * (j 0).val + (j 2).val)) * 2048 + (j 1).val = (4 * (j 0).val + (j 2).val) * 2048 + (j 1).val
    omega
  exact hx _

theorem spread_at (x : FVec Ideal S2x2048x4 .f32) (f : ℕ → ℕ → ℕ → ℝ) (hx : ∀ i : S2x2048x4.Idx, x i = re (f (i 0).val (i 1).val (i 2).val))
    (j : S2x2048x256.Idx) : spread x j = re (f (j 0).val (j 1).val ((j 2).val / 64)) := by
  have h2 : (j 2).val < 256 := (j 2).isLt
  unfold spread
  refine (shapeCast_apply _ _ j (ValueIdx.ix4 (j 0) (j 1) (⟨(j 2).val / 64, by omega⟩ : Fin 4) (⟨(j 2).val % 64, by omega⟩ : Fin 64)) ?_).trans ?_
  · refine (Shape.rowMajor_val_four _).trans (Eq.trans ?_ (Shape.rowMajor_val_three _).symm)
    show (((j 0).val * 2048 + (j 1).val) * 4 + (j 2).val / 64) * 64 + (j 2).val % 64 = ((j 0).val * 2048 + (j 1).val) * 256 + (j 2).val
    omega
  refine (broadcastInDim_apply _ _ _ _ (ValueIdx.ix4 (j 0) (j 1) (⟨(j 2).val / 64, by omega⟩ : Fin 4) (0 : Fin 1)) fun a => ?_).trans ?_
  · match a with
    | ⟨0, _⟩ => rfl
    | ⟨1, _⟩ => rfl
    | ⟨2, _⟩ => rfl
    | ⟨3, _⟩ => rfl
  refine (broadcastInDim_apply _ _ _ _ (ValueIdx.ix3 (j 0) (j 1) (⟨(j 2).val / 64, by omega⟩ : Fin 4)) fun a => ?_).trans (hx _)
  match a with
  | ⟨0, _⟩ => rfl
  | ⟨1, _⟩ => rfl
  | ⟨2, _⟩ => rfl

section Host
variable (m : (ℓ : Loc nD τ sig) → Buf (Elt Ideal) ℓ) (c : Dev nD) {u d : Mat}

/-- The third array, from the operations that compute it: the reference's log-weights, summed along the rows. -/
theorem totals_eq : V m c main_v23
    = spread (grouped (rowSums (Cert.ReferenceIdeal.Read.val_main_v18_0 (F := Ideal) (m (c.tc.loc main_arg0))))) := by
  unfold V
  simp only [hostOps0, hostOps0_1, hostOps0_2, hostOps0_3, hostOps0_4, List.flatten_cons, List.flatten_nil, List.append_nil, List.cons_append, List.nil_append]
  after_results_simp
  rfl

/-- So it holds each row's whole sum. -/
theorem totals_at (h : Args (m (c.tc.loc main_arg0)) (m (c.tc.loc main_arg1)) u d) :
    V m c main_v23 = upTot (tots (sub u 0 0) (sub u 0 512)) := by
  rw [totals_eq]
  funext j
  exact spread_at _ (fun g r b => total (sub u 0 0) (sub u 0 512) (4 * g + b) r)
    (grouped_at _ (fun hd r => total (sub u 0 0) (sub u 0 512) hd r)
      (rowSums_at _ (fun hd r s => keep (sub u 0 0) (sub u 0 512) hd r s) (keep_at h))) j

end Host

end Cert.Attn

end
-- ==== Proof.Kernel.lean ====
/- The kernel's three results, where its arguments are real: the gradients of the whole sequence's attention. -/
module

public import proofs.«01_k».proof.Proof.Grid
public import proofs.«01_k».proof.Proof.Total

@[expose] public section

noncomputable section

namespace Cert.Attn

open Idealize.ShloMosaic Idealize.SL
open Cert.KernelIdeal Cert.KernelIdeal.Gen Cert.KernelIdeal.Value

variable (m : (ℓ : Loc nD τ sig) → Buf (Elt Ideal) ℓ) (c : Dev nD) {u d : Mat}
  (h : Args (m (c.tc.loc main_arg0)) (m (c.tc.loc main_arg1)) u d)
include h

theorem queries_kernel : G5 m c = (up (dQ (sub u 0 0) (sub u 0 512) (sub u 0 1024) d) : FVec Ideal S2048x512 .bf16) := by
  rw [queries_array m c _ _ _ _ _ (blocks _ h (totals_at m c h))]
  refine up_congr fun r hr l hl => ?_
  rw [queriesAt_eq (by omega) (Nat.mod_lt _ (by decide)) hl, Nat.div_add_mod]

theorem keys_kernel : G6 m c = (up (dK (sub u 0 0) (sub u 0 512) (sub u 0 1024) d) : FVec Ideal S2048x512 .bf16) := by
  rw [keys_array m c _ _ _ _ _ (blocks _ h (totals_at m c h))]
  exact up_congr fun s _ l hl => keysAll_eq hl 8 le_rfl

theorem vals_kernel : G7 m c = (up (dV (sub u 0 0) (sub u 0 512) d) : FVec Ideal S2048x512 .bf16) := by
  rw [vals_array m c _ _ _ _ _ (blocks _ h (totals_at m c h))]
  exact up_congr fun s _ l hl => valsAll_eq hl 8 le_rfl

end Cert.Attn

end
-- ==== Proof.Window.lean ====
/- The two running sums of the reference: a window over the last axis, padded on one side. -/
module

public import proofs.«01_k».proof.Proof.RefTools
public import proofs.«01_k».proof.Proof.Sums

@[expose] public section

noncomputable section

namespace Cert.Attn

open Idealize.ShloMosaic Idealize.ShloMosaic.ValueIdx

/-- Folding an addition over all numbers below `N` is their sum. -/
theorem foldl_add {N : ℕ} (g : Fin N → EReal) : (List.finRange N).foldl (fun r n => r + g n) 0 = ∑ n, g n := by
  rw [← List.sum_ofFn, List.ofFn_eq_map, List.sum_eq_foldl, List.foldl_map]

abbrev Window : Shape := ⟨4, ![1, 1, 1, 2048]⟩
abbrev Pairs : Shape := ⟨4, ![1, 8, 2048, 2048]⟩

/-- A sum over the window's positions is a sum over its last axis. -/
theorem sum_window (g : Window.Idx → EReal) : ∑ n, g (Window.rowMajor.symm n) = ∑ k : Fin 2048, g (ix4 0 0 0 k) := by
  rw [Equiv.sum_comp Window.rowMajor.symm g]
  refine (Fintype.sum_bijective (fun k : Fin 2048 => (ix4 0 0 0 k : Window.Idx)) ⟨fun a b hab => ?_, fun i => ⟨i 3, ?_⟩⟩ _ _ fun _ => rfl).symm
  · exact congrFun hab 3
  · have e0 : (i 0).val < 1 := (i 0).isLt
    have e1 : (i 1).val < 1 := (i 1).isLt
    have e2 : (i 2).val < 1 := (i 2).isLt
    funext a
    apply Fin.ext
    match a with
    | ⟨0, _⟩ => show 0 = (i 0).val; omega
    | ⟨1, _⟩ => show 0 = (i 1).val; omega
    | ⟨2, _⟩ => show 0 = (i 2).val; omega
    | ⟨3, _⟩ => rfl

/-- Sums from one entry on, and up to one entry. -/
theorem sum_from (f : ℕ → ℝ) {j : ℕ} (hj : j < 2048) :
    ∑ k ∈ Finset.range 2048, (if 0 ≤ j + k ∧ j + k - 0 < 2048 then f (j + k - 0) else 0) - f j = ∑ x ∈ Finset.range 2048, f x * (if j < x then 1 else 0) := by
  obtain ⟨r, hr⟩ : ∃ r, 2048 = j + 1 + r := ⟨2048 - (j + 1), by omega⟩
  rw [show Finset.range 2048 = Finset.range (1 + r + j) by congr 1; omega, Finset.sum_range_add, Finset.sum_range_add]
  rw [show Finset.range (1 + r + j) = Finset.range (j + 1 + r) by congr 1; omega, Finset.sum_range_add]
  rw [Finset.sum_eq_zero (s := Finset.range j) fun x _ => by rw [if_neg (by omega)],
    Finset.sum_eq_zero (s := Finset.range (j + 1)) fun x hx => by rw [if_neg (by have := Finset.mem_range.mp hx; omega), mul_zero],
    Finset.sum_range_one, if_pos (by omega), add_zero, add_zero, zero_add, Nat.sub_zero, add_sub_cancel_left]
  refine Finset.sum_congr rfl fun x hx => ?_
  have := Finset.mem_range.mp hx
  rw [if_pos (by omega), if_pos (by omega), mul_one, Nat.sub_zero, add_assoc]

theorem sum_upto (f : ℕ → ℝ) {j : ℕ} (hj : j < 2048) :
    -f j + ∑ k ∈ Finset.range 2048, (if 2047 ≤ j + k ∧ j + k - 2047 < 2048 then f (j + k - 2047) else 0) = ∑ x ∈ Finset.range 2048, f x * (if x < j then 1 else 0) := by
  have left : ∑ k ∈ Finset.range 2048, (if 2047 ≤ j + k ∧ j + k - 2047 < 2048 then f (j + k - 2047) else 0) = ∑ x ∈ Finset.range j, f x + f j := by
    rw [show 2048 = (2047 - j) + (j + 1) by omega, Finset.sum_range_add, Finset.sum_eq_zero (s := Finset.range (2047 - j)) fun x hx => by
      rw [if_neg (by have := Finset.mem_range.mp hx; omega)], zero_add, ← Finset.sum_range_succ]
    refine Finset.sum_congr rfl fun x hx => ?_
    have := Finset.mem_range.mp hx
    rw [if_pos (by omega), show j + (2047 - j + x) - 2047 = x by omega]
  have right : ∑ x ∈ Finset.range 2048, f x * (if x < j then 1 else 0) = ∑ x ∈ Finset.range j, f x := by
    rw [show 2048 = j + (2048 - j) by omega, Finset.sum_range_add, Finset.sum_eq_zero (s := Finset.range (2048 - j)) fun x hx => by
      rw [if_neg (by omega), mul_zero], add_zero]
    exact Finset.sum_congr rfl fun x hx => by rw [if_pos (Finset.mem_range.mp hx), mul_one]
  rw [left, right]; ring

/-- The host's window sum is the sum of the window, from the single entry of its starting array. -/
theorem host_window_eq {s t w : Shape} (window strides lo hi : Fin s.rank → ℕ) (x : FVec Ideal s .f32) (v : w.Idx → EReal)
    (hw : s.ReduceWindows window strides lo hi t) (hu : 0 < w.numel) (e : EReal) (hv : ∀ i, v i = e) :
    Host.reduceWindowAdd (F := Ideal) (φ := .f32) window strides lo hi x v hw hu = Ideal.hostReduceWindowAdd window strides lo hi hw x e := by
  obtain rfl : e = v (Shape.Idx.first hu) := (hv _).symm
  rfl

variable (f : ℕ → ℕ → ℕ → ℕ → ℝ) {x : Pairs.Idx → EReal} (hx : ∀ i : Pairs.Idx, x i = re (f (i 0).val (i 1).val (i 2).val (i 3).val))
include hx

/-- The window of an entry, `lo` places of padding before the first. -/
theorem window_at (lo hi : ℕ) (hw : Shape.ReduceWindows Pairs ![1, 1, 1, 2048] ![1, 1, 1, 1] ![0, 0, 0, lo] ![0, 0, 0, hi] Pairs) (j : Pairs.Idx) :
    Ideal.hostReduceWindowAdd ![1, 1, 1, 2048] ![1, 1, 1, 1] ![0, 0, 0, lo] ![0, 0, 0, hi] hw x (re 0) j
      = re (∑ k ∈ Finset.range 2048, if lo ≤ (j 3).val + k ∧ (j 3).val + k - lo < 2048 then f (j 0).val (j 1).val (j 2).val ((j 3).val + k - lo) else 0) := by
  have h0 : (j 0).val < 1 := (j 0).isLt
  have h1 : (j 1).val < 8 := (j 1).isLt
  have h2 : (j 2).val < 2048 := (j 2).isLt
  have h3 : (j 3).val < 2048 := (j 3).isLt
  unfold Ideal.hostReduceWindowAdd Host.reduceWindow
  refine (foldl_add (N := Window.numel) _).trans ?_
  let g : Window.Idx → EReal := fun w =>
    if hin : ∀ a : Fin 4, (![0, 0, 0, lo] : Fin 4 → ℕ) a ≤ (j a).val * (![1, 1, 1, 1] : Fin 4 → ℕ) a + (w a).val
        ∧ (j a).val * (![1, 1, 1, 1] : Fin 4 → ℕ) a + (w a).val - (![0, 0, 0, lo] : Fin 4 → ℕ) a < Pairs.size a then
      x (fun a => ⟨(j a).val * (![1, 1, 1, 1] : Fin 4 → ℕ) a + (w a).val - (![0, 0, 0, lo] : Fin 4 → ℕ) a, (hin a).2⟩) else re 0
  refine Eq.trans (b := ∑ n, g (Window.rowMajor.symm n)) (Finset.sum_congr rfl fun n _ => ?_) ((sum_window g).trans ?_)
  · exact dite_congr rfl (fun _ => rfl) (fun _ => rfl)
  refine Eq.trans (Finset.sum_congr rfl fun k _ => ?_)
    (coe_sum (n := 2048) fun k => if lo ≤ (j 3).val + k ∧ (j 3).val + k - lo < 2048 then f (j 0).val (j 1).val (j 2).val ((j 3).val + k - lo) else 0)
  have hk : k.val < 2048 := k.isLt
  have hk' : k.val = k := rfl
  show dite _ _ _ = _
  split_ifs with hin hc hc
  · rw [hx]
    refine congrArg re ?_
    show f ((j 0).val * 1 + 0 - 0) ((j 1).val * 1 + 0 - 0) ((j 2).val * 1 + 0 - 0) ((j 3).val * 1 + k.val - lo) = _
    congr 1 <;> omega
  · exfalso
    have a3 : lo ≤ (j 3).val * 1 + k.val ∧ (j 3).val * 1 + k.val - lo < 2048 := hin 3
    omega
  · exfalso
    refine hin fun a => ?_
    match a with
    | ⟨0, _⟩ => show 0 ≤ (j 0).val * 1 + 0 ∧ (j 0).val * 1 + 0 - 0 < 1; omega
    | ⟨1, _⟩ => show 0 ≤ (j 1).val * 1 + 0 ∧ (j 1).val * 1 + 0 - 0 < 8; omega
    | ⟨2, _⟩ => show 0 ≤ (j 2).val * 1 + 0 ∧ (j 2).val * 1 + 0 - 0 < 2048; omega
    | ⟨3, _⟩ => show lo ≤ (j 3).val * 1 + k.val ∧ (j 3).val * 1 + k.val - lo < 2048; omega
  · rfl

/-- The same of the host's operation, whose starting value is the single entry of an array. -/
theorem host_window_at {w : Shape} {v : w.Idx → EReal} (hv : ∀ i, v i = re 0) (lo hi : ℕ)
    (hw : Shape.ReduceWindows Pairs ![1, 1, 1, 2048] ![1, 1, 1, 1] ![0, 0, 0, lo] ![0, 0, 0, hi] Pairs) (hu : 0 < w.numel) (j : Pairs.Idx) :
    Host.reduceWindowAdd (F := Ideal) (φ := .f32) ![1, 1, 1, 2048] ![1, 1, 1, 1] ![0, 0, 0, lo] ![0, 0, 0, hi] x v hw hu j
      = re (∑ k ∈ Finset.range 2048, if lo ≤ (j 3).val + k ∧ (j 3).val + k - lo < 2048 then
          f (j 0).val (j 1).val (j 2).val ((j 3).val + k - lo) else 0) := by
  exact (congrFun (host_window_eq (s := Pairs) (t := Pairs) ![1, 1, 1, 2048] ![1, 1, 1, 1] ![0, 0, 0, lo] ![0, 0, 0, hi] x v hw hu (re 0) hv) j).trans
    (window_at f hx lo hi hw j)

end Cert.Attn

end
-- ==== Proof.RefBackward.lean ====
/- The reference's weights and gradients, entry by entry: they are the gradients of the whole sequence's attention. -/
module

public import proofs.«01_k».proof.Proof.RefForward
public import proofs.«01_k».proof.Proof.Window

@[expose] public section

noncomputable section

namespace Cert.Attn

open Idealize.ShloMosaic Idealize.ShloMosaic.ValueIdx
open Cert.ReferenceIdeal Cert.ReferenceIdeal.Read

/-! ### The softplus -/

theorem exp_softplus (z : ℝ) : Real.exp (softplus z) = 1 + Real.exp z := by
  have hp : 0 < 1 + Real.exp (0 - |z|) := by positivity
  rw [softplus, Real.exp_add, Real.exp_log hp]
  rcases le_total 0 z with h | h
  · rw [max_eq_left h, abs_of_nonneg h, mul_add, ← Real.exp_add, mul_one, zero_sub, add_neg_cancel, Real.exp_zero, add_comm]
  · rw [max_eq_right h, abs_of_nonpos h, Real.exp_zero, one_mul, zero_sub, neg_neg]

theorem softplus_neg (z : ℝ) : softplus (-z) = softplus z - z := by
  apply Real.exp_injective
  rw [Real.exp_sub, exp_softplus, exp_softplus, Real.exp_neg]
  have := (Real.exp_pos z).ne'
  field_simp
  ring

theorem slope_neg (z : ℝ) : Real.exp (-z - softplus (-z)) = 1 - Real.exp (z - softplus z) := by
  rw [softplus_neg, show -z - (softplus z - z) = -softplus z by ring, Real.exp_sub, Real.exp_neg, exp_softplus]
  have : 1 + Real.exp z ≠ 0 := by positivity
  field_simp
  ring

variable {x0 : FVec Ideal S2048x3584 .f32} {x1 : FVec Ideal S2048x512 .f32} {u d : Mat}

/-! ### The weights -/

theorem from_at (h : Args x0 x1 u d) (i : S1x8x2048x2048.Idx) : val_main_v20 (F := Ideal) x0 i
    = re (∑ x ∈ Finset.range 2048, keep (sub u 0 0) (sub u 0 512) (i 1).val (i 2).val x * (if (i 3).val < x then 1 else 0)) := by
  have e := host_window_at (fun _ h t s => keep (sub u 0 0) (sub u 0 512) h t s) (x := val_main_v18_0 (F := Ideal) x0) (keep_at h)
    (v := val_main_call2_v0 (F := Ideal)) (fun _ => re_zero) 0 2047
    Gen.facts.reduceWindows_S1x8x2048x2048_S1x8x2048x2048_w1s1p0_0_w1s1p0_0_w1s1p0_0_w2048s1p0_2047 Gen.facts.h_S_ i
  rw [val_main_v20_apply, val_main_v19, keep_at h, e, re_sub, sum_from _ (i 3).isLt]

/-- The weight's exponential, before the mask. -/
abbrev rawAt (u : Mat) (i : S1x8x2048x2048.Idx) : ℝ := Real.exp (scoreAt u i - softplus (scoreAt u i)
  + ∑ x ∈ Finset.range 2048, keep (sub u 0 0) (sub u 0 512) (i 1).val (i 2).val x * (if (i 3).val < x then 1 else 0))

theorem raw_at (h : Args x0 x1 u d) (i : S1x8x2048x2048.Idx) : val_main_v23 (F := Ideal) x0 i = re (rawAt u i) := by
  rw [val_main_v23_apply, val_main_v22_apply, val_main_v21_0_apply, softplus_neg_at h, from_at h, re_neg, re_add, re_exp, softplus_neg, neg_sub]

abbrev weightAt (u : Mat) (i : S1x8x2048x2048.Idx) : ℝ := weight (sub u 0 0) (sub u 0 512) (i 1).val (i 2).val (i 3).val

theorem weight_at (h : Args x0 x1 u d) (i : S1x8x2048x2048.Idx) : val_main_v24_0 (F := Ideal) x0 i = re (weightAt u i) := by
  rw [val_main_v24_0_apply, mask_at', raw_at h, val_main_call4_v2_apply, val_main_call4_v0_apply, val_main_cst_1_apply, re_zero, select_if, re_if]
  rfl

/-! ### The gradient of the scores -/

theorem d_at (h : Args x0 x1 u d) (i : S1x8x64x2048.Idx) :
    val_main_v29 (F := Ideal) x1 i = re (d (i 3).val (64 * (i 1).val + (i 2).val)) := by
  have h0 : (i 0).val < 1 := (i 0).isLt
  have h1 : (i 1).val < 8 := (i 1).isLt
  have h2 : (i 2).val < 64 := (i 2).isLt
  have h3 : (i 3).val < 2048 := (i 3).isLt
  rw [val_main_v29_apply, val_main_v28_apply, h.d]
  refine congrArg re (congrArg₂ d ?_ ?_)
  · show (((((i 0).val * 2048 + (i 3).val) * 8 + (i 1).val) * 64 + (i 2).val) / 512) = _
    omega
  · show (((((i 0).val * 2048 + (i 3).val) * 8 + (i 1).val) * 64 + (i 2).val) % 512) = _
    omega

abbrev dlogAt (u d : Mat) (i : S1x8x2048x2048.Idx) : ℝ :=
  dlog (sub u 0 0) (sub u 0 512) (sub u 0 1024) d (i 1).val (i 2).val (i 3).val

theorem dlog_at (h : Args x0 x1 u d) (i : S1x8x2048x2048.Idx) : val_main_v34 (F := Ideal) x0 x1 i = re (dlogAt u d i) := by
  rw [val_main_v34_apply, val_main_v33_apply, mask_at', raw_at h, val_main_call5_v0_apply, val_main_call5_cst_apply, val_main_v30_apply, re_zero]
  simp only [d_at h, v_at h]
  rw [re_dot (n := 64) (fun e => d (i 2).val (64 * (i 1).val + e)) (fun e => sub u 0 1024 (i 3).val (64 * (i 1).val + e)), select_if, re_if, re_mul]
  refine congrArg re ?_
  unfold dlogAt dlog weight
  split_ifs
  · exact mul_comm _ _
  · rw [zero_mul, zero_mul]

theorem before_at (h : Args x0 x1 u d) (i : S1x8x2048x2048.Idx) : val_main_v38 (F := Ideal) x0 x1 i
    = re (∑ x ∈ Finset.range 2048, dlog (sub u 0 0) (sub u 0 512) (sub u 0 1024) d (i 1).val (i 2).val x * (if x < (i 3).val then 1 else 0)) := by
  have e := host_window_at (fun _ h t s => dlog (sub u 0 0) (sub u 0 512) (sub u 0 1024) d h t s) (x := val_main_v34 (F := Ideal) x0 x1)
    (dlog_at h) (v := val_main_call7_v0 (F := Ideal)) (fun _ => re_zero) 2047 0
    Gen.facts.reduceWindows_S1x8x2048x2048_S1x8x2048x2048_w1s1p0_0_w1s1p0_0_w1s1p0_0_w2048s1p2047_0 Gen.facts.h_S_ i
  rw [val_main_v38_apply, val_main_v37, val_main_v36_apply, dlog_at h, e, re_neg, re_add, sum_upto _ (i 3).isLt]

abbrev dscoreAt (u d : Mat) (i : S1x8x2048x2048.Idx) : ℝ :=
  dscore (sub u 0 0) (sub u 0 512) (sub u 0 1024) d (i 1).val (i 2).val (i 3).val

theorem dscore_at (h : Args x0 x1 u d) (i : S1x8x2048x2048.Idx) : val_main_v44 (F := Ideal) x0 x1 i = re (dscoreAt u d i) := by
  rw [val_main_v44_apply, val_main_v43_apply, val_main_cst_2_apply, val_main_v42_apply, val_main_v35_apply, val_main_call6_v1_apply,
    val_main_call6_v0_apply, val_main_v41_apply, val_main_v40_apply, val_main_v39_apply, val_main_call8_v0_apply, val_main_call8_cst_apply,
    mask_at, before_at h, dlog_at h, slope_at h, slope_neg_at h, re_zero, re_eighth, select_if, re_if, re_neg, re_neg, re_mul, re_mul, re_neg,
    re_add, re_mul, slope_neg]
  refine congrArg re ?_
  unfold dscoreAt dscore
  refine congrArg (· * (1 / 8 : ℝ)) ?_
  split_ifs with hm
  · ring
  · rw [dlogAt, dlog, weight, if_neg hm]; ring

/-! ### The three gradients -/

theorem queries_ref (h : Args x0 x1 u d) :
    val_main_v52 (F := Ideal) x0 x1 = (up (dQ (sub u 0 0) (sub u 0 512) (sub u 0 1024) d) : FVec Ideal S2048x512 .bf16) := by
  funext i
  have h0 : (i 0).val < 2048 := (i 0).isLt
  have h1 : (i 1).val < 512 := (i 1).isLt
  show val_main_v51 (F := Ideal) x0 x1 i = _
  rw [val_main_v51_apply, val_main_v48_apply, val_main_v47_apply]
  simp only [dscore_at h, k_at h]
  refine (re_dot (n := 2048) (fun s => dscore (sub u 0 0) (sub u 0 512) (sub u 0 1024) d (((i 0).val * 512 + (i 1).val) / 64 % 8)
    (((i 0).val * 512 + (i 1).val) / 512 % 2048) s)
    (fun s => sub u 0 512 s (64 * (((i 0).val * 512 + (i 1).val) / 64 % 8) + ((i 0).val * 512 + (i 1).val) % 64))).trans ?_
  rw [show ((i 0).val * 512 + (i 1).val) / 64 % 8 = (i 1).val / 64 by omega, show ((i 0).val * 512 + (i 1).val) / 512 % 2048 = (i 0).val by omega,
    show 64 * ((i 1).val / 64) + ((i 0).val * 512 + (i 1).val) % 64 = (i 1).val by omega]
  rfl

theorem keys_ref (h : Args x0 x1 u d) :
    val_main_v53 (F := Ideal) x0 x1 = (up (dK (sub u 0 0) (sub u 0 512) (sub u 0 1024) d) : FVec Ideal S2048x512 .bf16) := by
  funext i
  have h0 : (i 0).val < 2048 := (i 0).isLt
  have h1 : (i 1).val < 512 := (i 1).isLt
  show val_main_v50 (F := Ideal) x0 x1 i = _
  rw [val_main_v50_apply, val_main_v46_apply, val_main_v45_apply]
  simp only [dscore_at h, q_at h]
  refine (re_dot (n := 2048) (fun t => dscore (sub u 0 0) (sub u 0 512) (sub u 0 1024) d (((i 0).val * 512 + (i 1).val) / 64 % 8) t
    (((i 0).val * 512 + (i 1).val) / 512 % 2048))
    (fun t => sub u 0 0 t (64 * (((i 0).val * 512 + (i 1).val) / 64 % 8) + ((i 0).val * 512 + (i 1).val) % 64))).trans ?_
  rw [show ((i 0).val * 512 + (i 1).val) / 64 % 8 = (i 1).val / 64 by omega, show ((i 0).val * 512 + (i 1).val) / 512 % 2048 = (i 0).val by omega,
    show 64 * ((i 1).val / 64) + ((i 0).val * 512 + (i 1).val) % 64 = (i 1).val by omega]
  rfl

theorem vals_ref (h : Args x0 x1 u d) :
    val_main_v54 (F := Ideal) x0 x1 = (up (dV (sub u 0 0) (sub u 0 512) d) : FVec Ideal S2048x512 .bf16) := by
  funext i
  have h0 : (i 0).val < 2048 := (i 0).isLt
  have h1 : (i 1).val < 512 := (i 1).isLt
  show val_main_v49 (F := Ideal) x0 x1 i = _
  rw [val_main_v49_apply, val_main_v32_apply, val_main_v31_apply]
  simp only [weight_at h, d_at h]
  refine (re_dot (n := 2048) (fun t => d t (64 * (((i 0).val * 512 + (i 1).val) / 64 % 8) + ((i 0).val * 512 + (i 1).val) % 64))
    (fun t => weight (sub u 0 0) (sub u 0 512) (((i 0).val * 512 + (i 1).val) / 64 % 8) t
    (((i 0).val * 512 + (i 1).val) / 512 % 2048))).trans ?_
  rw [show ((i 0).val * 512 + (i 1).val) / 64 % 8 = (i 1).val / 64 by omega, show ((i 0).val * 512 + (i 1).val) / 512 % 2048 = (i 0).val by omega,
    show 64 * ((i 1).val / 64) + ((i 0).val * 512 + (i 1).val) % 64 = (i 1).val by omega]
  exact congrArg re (Finset.sum_congr rfl fun t _ => mul_comm _ _)

end Cert.Attn

end
-- ==== Proof.Finite.lean ====
/- The precondition, read: where it holds, the first argument's queries, keys and values and the second argument are real numbers. -/
module

public import proofs.«01_k».proof.Proof.RefTools
public import proofs.«01_k».proof.Proof.Spec
public import proofs.«01_k».proof.Pre_finite

@[expose] public section

noncomputable section

namespace Cert.Attn

open Idealize.ShloMosaic Idealize.ShloMosaic.ValueIdx

theorem finite_facts : Cert.Pre_finite.Facts where
  slices_S2048x3584_S2048x1536_0_0 := by decide
  bcast_S_S2048x1536 := by decide
  bcast_S_S2048x512 := by decide

/-- An extended real whose absolute value compares below infinity is a real number. -/
theorem real_of_abs (x : Ideal .f32)
    (h : FloatOps.cmpf (F := Ideal) .olt (FloatOps.hostAbsf (F := Ideal) x) (FloatOps.ofBits (F := Ideal) .f32 0x7F800000#32) = 1#1) :
    x = re (EReal.toReal x) := by
  have h' : BitVec.ofBool (decide (max (x : EReal) (-x) < Ideal.ofBits .f32 0x7F800000#32)) = 1#1 := h
  rw [inf_f32] at h'
  have hlt : max (x : EReal) (-x) < ⊤ := by
    by_contra hn
    rw [decide_eq_false hn] at h'
    exact absurd h' (by decide)
  have hx := max_lt_iff.1 hlt
  refine (EReal.coe_toReal hx.1.ne fun hb => ?_).symm
  rw [hb] at hx
  exact absurd hx.2 (by simp)

variable (x : FVec Ideal Cert.KernelIdeal.S2048x3584 .f32) (y : FVec Ideal Cert.KernelIdeal.S2048x512 .f32)

/-- The reals an array of 2048 rows holds. -/
def realsOf {C : ℕ} (x : (⟨2, ![2048, C]⟩ : Shape).Idx → EReal) : Mat :=
  fun r l => if h : r < 2048 ∧ l < C then (x (ValueIdx.ix2 (⟨r, h.1⟩ : Fin 2048) (⟨l, h.2⟩ : Fin C))).toReal else 0

theorem realsOf_at {C : ℕ} (x : (⟨2, ![2048, C]⟩ : Shape).Idx → EReal) (i : (⟨2, ![2048, C]⟩ : Shape).Idx) :
    realsOf x (i 0).val (i 1).val = (x i).toReal := by
  unfold realsOf
  rw [dif_pos ⟨(i 0).isLt, (i 1).isLt⟩]
  exact congrArg (fun j => (x j).toReal) (ValueIdx.eq_ix2 i).symm

theorem args_of_finite (hu : (@Cert.Pre_finite.fn finite_facts Ideal _ x y).1 = fun _ => 1#1)
    (hd : (@Cert.Pre_finite.fn finite_facts Ideal _ x y).2 = fun _ => 1#1) : Args x y (realsOf x) (realsOf y) where
  u i hi := by
    have e := congrFun hu (ValueIdx.ix2 (i 0) (⟨(i 1).val, hi⟩ : Fin 1536))
    rw [realsOf_at]
    refine real_of_abs _ (Eq.trans ?_ e)
    refine congrArg (fun z => FloatOps.cmpf (F := Ideal) .olt (FloatOps.hostAbsf (F := Ideal) z) (FloatOps.ofBits (F := Ideal) .f32 0x7F800000#32)) ?_
    refine (extractStridedSlice_apply _ _ _ _ i fun a => ?_).symm
    match a with
    | ⟨0, _⟩ => exact (Nat.zero_add _).symm
    | ⟨1, _⟩ => exact (Nat.zero_add _).symm
  d := by
    funext i
    refine (real_of_abs (y i) (congrFun hd i)).trans (congrArg re (realsOf_at y i).symm)

end Cert.Attn

end
-- ==== Proof.Products.lean ====
/- Products of extended real matrices, entry by entry, at any shape. -/
module

public import proofs.«01_k».proof.Proof.RealArrays
public import Idealize.ShloMosaic.Lib.VecWindow

@[expose] public section

noncomputable section

namespace Cert.Attn

open Idealize.ShloMosaic Idealize.ShloMosaic.ValueIdx

/-- The product with the left factor transposed, `K` rows summed over. -/
abbrev tnDims (K M N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- A whole buffer that holds `x`, loaded whole, is `x`. -/
theorem load_held {sig : RefSig} {κ : Kind} {sp : Space} {e : EltTy} {s : Shape} (v : Memref sig κ sp s e) (h : v.IsWhole) (x : s.Idx → Elt Ideal e)
    {off : Fin s.rank → ℕ} (inb : ∀ a, off a + s.size a ≤ s.size a) :
    v.view.readAt (Elt Ideal) (Rect.unit off s.size inb).toLoadRect (h.unread x) = x :=
  (View.readAt_full v.view _ inb).trans (h.read_unread x)

/-- The entry of a matrix, zero outside it. -/
def ent {M N : ℕ} (x : (⟨2, ![M, N]⟩ : Shape).Idx → EReal) (r c : ℕ) : EReal :=
  if h : r < M ∧ c < N then x (ix2 ⟨r, h.1⟩ ⟨c, h.2⟩) else 0

theorem ent_val {M N : ℕ} (x : (⟨2, ![M, N]⟩ : Shape).Idx → EReal) (j : (⟨2, ![M, N]⟩ : Shape).Idx) {r c : ℕ}
    (h0 : (j 0).val = r) (h1 : (j 1).val = c) : x j = ent x r c := by
  subst h0 h1
  have b0 : (j 0).val < M := (j 0).isLt
  have b1 : (j 1).val < N := (j 1).isLt
  rw [ent, dif_pos ⟨b0, b1⟩]
  exact congrArg x (eq_ix2 j)

section Loads
variable {sig : RefSig} {κ : Kind} {sp : Space} {e : EltTy} {A B C : ℕ}

theorem load2 (v : Memref sig κ sp ⟨2, ![A, B]⟩ e) (h : v.IsWhole) (x : (⟨2, ![A, B]⟩ : Shape).Idx → Elt Ideal e) (inb) :
    v.view.readAt (Elt Ideal) (Rect.unit (s := ⟨2, ![A, B]⟩) ![0, 0] ![A, B] inb).toLoadRect (h.unread x) = x := load_held v h x inb

theorem load3 (v : Memref sig κ sp ⟨3, ![A, B, C]⟩ e) (h : v.IsWhole) (x : (⟨3, ![A, B, C]⟩ : Shape).Idx → Elt Ideal e) (inb) :
    v.view.readAt (Elt Ideal) (Rect.unit (s := ⟨3, ![A, B, C]⟩) ![0, 0, 0] ![A, B, C] inb).toLoadRect (h.unread x) = x := load_held v h x inb

/-- What was stored whole is loaded back. -/
theorem reload2 (v : View sig κ sp ⟨2, ![A, B]⟩ e) (x : (⟨2, ![A, B]⟩ : Shape).Idx → Elt Ideal e) (L : List (View.Piece (Elt Ideal) _ e)) (inb inb') :
    v.readCov (⟨Rect.unit (s := ⟨2, ![A, B]⟩) ![0, 0] ![A, B] inb', x⟩ :: L) (Rect.unit (s := ⟨2, ![A, B]⟩) ![0, 0] ![A, B] inb).toLoadRect = x :=
  View.readCov_full v inb inb' x L
end Loads

variable {K M N : ℕ} {φ₁ φ₂ : FTy}

theorem matmul_tn_at (wf) (prec : Option ContractPrecision) (a : FVec Ideal ⟨2, ![K, M]⟩ φ₁) (b : FVec Ideal ⟨2, ![K, N]⟩ φ₂)
    (acc : FVec Ideal ⟨2, ![M, N]⟩ .f32) (i : Fin M) (j : Fin N) :
    matmul (tnDims K M N wf) prec a b acc (ix2 i j) = (acc (ix2 i j) + ∑ k : Fin K, a (ix2 k i) * b (ix2 k j) : EReal) := by
  refine (Ideal.matmul_apply _ prec _ _ _ _).trans ?_
  have hr : (tnDims K M N wf).contr.rank = 1 := rfl
  have hs : (tnDims K M N wf).contr.size ⟨0, by rw [hr]; exact Nat.one_pos⟩ = K := rfl
  rw [← Equiv.sum_comp (contrEquiv1 _ K hr hs).symm]
  refine congrArg₂ (· + ·) rfl (Finset.sum_congr rfl fun k _ => ?_)
  have hk := contrEquiv1_symm_val _ K hr hs k
  refine congrArg₂ (· * ·) (congrArg a (funext fun x => Fin.ext ?_)) (congrArg b (funext fun x => Fin.ext ?_))
  · match x with
    | ⟨0, _⟩ => exact hk
    | ⟨1, _⟩ => rfl
  · match x with
    | ⟨0, _⟩ => exact hk
    | ⟨1, _⟩ => rfl

/-- The same of real matrices. -/
theorem matmul_tn_all (wf) (prec : Option ContractPrecision) (a b : Mat) :
    matmul (tnDims K M N wf) prec (up a : FVec Ideal _ φ₁) (up b : FVec Ideal _ φ₂) (up fun _ _ => 0)
      = (up fun r c => ∑ k ∈ Finset.range K, a k r * b k c : FVec Ideal ⟨2, ![M, N]⟩ .f32) := by
  funext j
  rw [eq_ix2 j]
  exact (matmul_tn_at wf prec _ _ _ _ _).trans (dot_coe (fun k => a k (j 0).val) fun k => b k (j 1).val)

end Cert.Attn

end
-- ==== Proof.RowNorm.lean ====
/- The normalisation of a row and its derivative, over the extended reals. -/
module

public import proofs.«01_k».proof.Proof.Products

@[expose] public section

noncomputable section

namespace Cert.Attn

open Idealize.ShloMosaic Idealize.ShloMosaic.ValueIdx

/-- The three constants: the row's length, the small term under the root, and minus one half. -/
abbrev len : EReal := Ideal.ofBits .f32 0x44800000#32
abbrev eps : EReal := Ideal.ofBits .f32 0x358637BD#32
abbrev minusHalf : EReal := Ideal.ofBits .f32 0xBF000000#32

theorem len_eq : len = ((1024 : ℝ) : EReal) := by
  simp [len, Ideal.ofBits, Ideal.ieee, -EReal.coe_mul]; norm_num
theorem minusHalf_eq : minusHalf = ((-(1 / 2) : ℝ) : EReal) := by
  simp [minusHalf, Ideal.ofBits, Ideal.ieee, -EReal.coe_mul]; norm_num
theorem eps_pos : ∃ e : ℝ, 0 < e ∧ eps = (e : EReal) := by
  refine ⟨8796093 / 8796093022208, by norm_num, ?_⟩
  simp [eps, Ideal.ofBits, Ideal.ieee, -EReal.coe_mul]; norm_num

variable {N : ℕ}

/-- The mean square of a row, with the small term. -/
def meanSq (x : Fin N → EReal) : EReal := Ideal.div (∑ k, x k * x k) len + eps
/-- What the row is multiplied by. -/
def scale (x : Fin N → EReal) : EReal := Ideal.rsqrt (meanSq x)

theorem square_nonneg (x : EReal) : 0 ≤ x * x := by
  rcases le_total 0 x with h | h
  · exact mul_nonneg h h
  · induction x with
    | bot => simp
    | top => simp
    | coe r => rw [← EReal.coe_mul]; exact_mod_cast mul_self_nonneg r

theorem div_len (s : EReal) : Ideal.div s len = s * ((1 / 1024 : ℝ) : EReal) := by
  rw [Ideal.div, len_eq, if_neg (by norm_num), ← EReal.coe_inv, one_div]

/-- It is positive: a real, or infinite. -/
theorem meanSq_cases (x : Fin N → EReal) : meanSq x = ⊤ ∨ ∃ v : ℝ, 0 < v ∧ meanSq x = (v : EReal) := by
  obtain ⟨e, he, hE⟩ := eps_pos
  have hs : 0 ≤ ∑ k, x k * x k := Finset.sum_nonneg fun k _ => square_nonneg (x k)
  unfold meanSq
  rw [div_len, hE]
  generalize (∑ k, x k * x k) = s at hs
  induction s with
  | bot => exact absurd hs (by simp)
  | top => left; rw [EReal.top_mul_coe_of_pos (by norm_num), EReal.top_add_coe]
  | coe r =>
    have hr : 0 ≤ r := by exact_mod_cast hs
    exact Or.inr ⟨r * (1 / 1024) + e, by positivity, by push_cast; rfl⟩

theorem double_mul (y : EReal) {a d : ℝ} (ha : a < 0) (h : a + a = -d) : y * a + y * a = -(y * d) := by
  have hd : 0 < d := by linarith
  induction y with
  | bot => rw [EReal.bot_mul_coe_of_neg ha, EReal.bot_mul_coe_of_pos hd]; rfl
  | top => rw [EReal.top_mul_coe_of_neg ha, EReal.top_mul_coe_of_pos hd]; rfl
  | coe r =>
    rw [← EReal.coe_mul, ← EReal.coe_mul, ← EReal.coe_add, ← EReal.coe_neg]
    exact congrArg _ (by linear_combination r * h)

/-- The derivative through the scale: two equal terms of the rule for a square against one with the scale's cube. -/
theorem scale_terms (x : Fin N → EReal) (y s : EReal) :
    y * Ideal.div (s * (minusHalf * Ideal.div (scale x) (meanSq x))) len + Ideal.div (s * (minusHalf * Ideal.div (scale x) (meanSq x))) len * y
      = -((y * (scale x * scale x * scale x)) * Ideal.div s len) := by
  rw [mul_comm _ y, div_len, div_len, minusHalf_eq]
  rcases meanSq_cases x with h | ⟨v, hv, h⟩
  · rw [scale, h]
    simp [Ideal.div]
  · have hr : 0 < Real.sqrt v := Real.sqrt_pos.mpr hv
    have hsq : Real.sqrt v * Real.sqrt v = v := Real.mul_self_sqrt hv.le
    have e1 : scale x = ((Real.sqrt v)⁻¹ : ℝ) := by rw [scale, h, Ideal.rsqrt_coe, if_neg hv.not_gt, if_neg hv.ne']
    have e2 : Ideal.div (((Real.sqrt v)⁻¹ : ℝ) : EReal) (v : EReal) = (((Real.sqrt v)⁻¹ * v⁻¹ : ℝ) : EReal) := by
      rw [Ideal.div, if_neg (by exact_mod_cast hv.ne'), EReal.coe_mul, EReal.coe_inv v]
    rw [e1, h, e2]
    have key := double_mul (y * s) (a := -(1 / 2) * ((Real.sqrt v)⁻¹ * v⁻¹) * (1 / 1024))
      (d := (Real.sqrt v)⁻¹ * (Real.sqrt v)⁻¹ * (Real.sqrt v)⁻¹ * (1 / 1024))
      (by have : 0 < (Real.sqrt v)⁻¹ * v⁻¹ := by positivity
          linarith)
      (by rw [show v⁻¹ = (Real.sqrt v)⁻¹ * (Real.sqrt v)⁻¹ by rw [← mul_inv, hsq]]; ring)
    simp only [EReal.coe_mul] at key ⊢
    refine Eq.trans (congrArg₂ (· + ·) ?_ ?_) (key.trans (congrArg Neg.neg ?_)) <;> ac_rfl

/-- The derivative of the normalised row at column `c`, with `dn` the derivative of the scaled row. -/
def normBack (x dn : Fin N → EReal) (c : Fin N) : EReal :=
  scale x * dn c - (x c * (scale x * scale x * scale x)) * Ideal.div (∑ k, dn k * x k) len

theorem normBack_eq (x dn : Fin N → EReal) (c : Fin N) (d : EReal) :
    d + dn c * scale x + x c * Ideal.div ((∑ k, x k * dn k) * (minusHalf * Ideal.div (scale x) (meanSq x))) len
        + Ideal.div ((∑ k, x k * dn k) * (minusHalf * Ideal.div (scale x) (meanSq x))) len * x c
      = d + normBack x dn c := by
  rw [add_assoc, scale_terms, add_assoc, normBack, sub_eq_add_neg, mul_comm (dn c),
    Finset.sum_congr rfl fun k _ => mul_comm (x k) (dn k)]

/-! ## The operations on a block of rows -/

variable {M : ℕ}

theorem sum_along (x : FVec Ideal ⟨2, ![M, N]⟩ .f32) (acc) (hr : Shape.Reduces ⟨2, ![M, N]⟩ [1] ⟨1, ![M]⟩) (hk) (hi) :
    multiReduction .add [1] ⟨1, ![M]⟩ x acc hr hk hi = fun j => (∑ k : Fin N, x (ix2 (j 0) k) : EReal) := by
  funext j
  refine (Ideal.multiReduction_add_single (s := ⟨2, ![M, N]⟩) (a := 1) _ _ _ _ _ _).trans ?_
  exact Finset.sum_congr rfl fun k _ => congrArg x (funext fun a => Fin.ext (by match a with | ⟨0, _⟩ => rfl | ⟨1, _⟩ => rfl))

theorem sum_down (x : FVec Ideal ⟨2, ![M, N]⟩ .f32) (acc) (hr : Shape.Reduces ⟨2, ![M, N]⟩ [0] ⟨1, ![N]⟩) (hk) (hi) :
    multiReduction .add [0] ⟨1, ![N]⟩ x acc hr hk hi = fun j => (∑ k : Fin M, x (ix2 k (j 0)) : EReal) := by
  funext j
  refine (Ideal.multiReduction_add_single (s := ⟨2, ![M, N]⟩) (a := 0) _ _ _ _ _ _).trans ?_
  exact Finset.sum_congr rfl fun k _ => congrArg x (funext fun a => Fin.ext (by match a with | ⟨0, _⟩ => rfl | ⟨1, _⟩ => rfl))

variable {φ : FTy}

theorem as_column (x : FVec Ideal ⟨1, ![M]⟩ φ) (h : Shape.ShapeCasts ⟨1, ![M]⟩ ⟨2, ![M, 1]⟩) :
    shapeCast ⟨2, ![M, 1]⟩ x h = fun j => x (ix1 (j 0)) := by
  funext j
  refine shapeCast_apply _ _ j (ix1 (j 0)) ?_
  have : (j 1).val < 1 := (j 1).isLt
  refine (Shape.rowMajor_val_one _).trans (Eq.trans ?_ (Shape.rowMajor_val_two _).symm)
  show (j 0).val = (j 0).val * 1 + (j 1).val
  omega

theorem as_row (x : FVec Ideal ⟨1, ![N]⟩ φ) (h : Shape.ShapeCasts ⟨1, ![N]⟩ ⟨2, ![1, N]⟩) :
    shapeCast ⟨2, ![1, N]⟩ x h = fun j => x (ix1 (j 1)) := by
  funext j
  refine shapeCast_apply _ _ j (ix1 (j 1)) ?_
  have h0 : (j 0).val < 1 := (j 0).isLt
  refine (Shape.rowMajor_val_one _).trans (Eq.trans ?_ (Shape.rowMajor_val_two _).symm)
  show (j 1).val = (j 0).val * N + (j 1).val
  rw [show (j 0).val = 0 by omega, Nat.zero_mul, Nat.zero_add]

theorem column_over (x : FVec Ideal ⟨2, ![M, 1]⟩ φ) (h : Shape.Broadcasts ⟨2, ![M, 1]⟩ ⟨2, ![M, N]⟩) :
    broadcastTo ⟨2, ![M, N]⟩ x h = fun j => x (ix2 (j 0) 0) := by
  funext j
  refine broadcastTo_apply _ _ j (ix2 (j 0) 0) ?_
  intro a
  match a with
  | ⟨0, _⟩ =>
    have hj : (j 0).val < M := (j 0).isLt
    show (j 0).val = if M = 1 then 0 else (j 0).val
    split_ifs <;> omega
  | ⟨1, _⟩ => rfl

theorem row_over (x : FVec Ideal ⟨2, ![1, N]⟩ φ) (h : Shape.Broadcasts ⟨2, ![1, N]⟩ ⟨2, ![M, N]⟩) :
    broadcastTo ⟨2, ![M, N]⟩ x h = fun j => x (ix2 0 (j 1)) := by
  funext j
  refine broadcastTo_apply _ _ j (ix2 0 (j 1)) ?_
  intro a
  match a with
  | ⟨0, _⟩ => rfl
  | ⟨1, _⟩ =>
    have hj : (j 1).val < N := (j 1).isLt
    show (j 1).val = if N = 1 then 0 else (j 1).val
    split_ifs <;> omega

end Cert.Attn

end
-- ==== Proof.PleTile.lean ====
/- The end of the layer, backward: the arithmetic of one tile of 256 rows. -/
module

public import proofs.«01_k».proof.Proof.RowNorm
public import proofs.«01_k».proof.Proof.Gen.Kernel2Ideal.Skeleton

@[expose] public section

noncomputable section

namespace Cert.Ple

open Idealize.ShloMosaic Idealize.ShloMosaic.ValueIdx Idealize.SL Cert.Attn
open Cert.Kernel2Ideal Cert.Kernel2Ideal.Gen

abbrev Tile := S256x1024.Idx → EReal
abbrev Square := S1024x1024.Idx → EReal

def one : EReal := Ideal.ofBits .f32 0x3F800000#32

/-- A row of a tile. -/
abbrev row (x : Tile) (r : Fin 256) : Fin 1024 → EReal := fun k => x (ix2 r k)

/-- The gradient before the gate's logistic function: `d` the cotangent, `g` the gate, `e` what it gates. -/
def slope (d e g : Tile) : Tile := fun y => d y * e y * g y * (one - g y)

/-- A tile times the transpose of a square matrix. -/
def across (x : Tile) (w : Square) : Tile := fun y => ∑ l : Fin 1024, x (ix2 (y 0) l) * w (ix2 (y 1) l)

/-- The transpose of a tile times a tile. -/
def down {A B : ℕ} (x : (⟨2, ![256, A]⟩ : Shape).Idx → EReal) (z : (⟨2, ![256, B]⟩ : Shape).Idx → EReal) : (⟨2, ![A, B]⟩ : Shape).Idx → EReal :=
  fun y => ∑ r : Fin 256, x (ix2 r (y 0)) * z (ix2 r (y 1))

/-- The rows at length one. -/
def unit (h : Tile) : Tile := fun y => h y * scale (row h (y 0))

/-- The cotangent of the stream: the residual one and the one through the normalisation, of which `b` is the cotangent and `n` the weights. -/
def stream (d h b : Tile) (n : S1x1024.Idx → EReal) : Tile :=
  fun y => d y + normBack (row h (y 0)) (fun k => b (ix2 (y 0) k) * n (ix2 0 k)) (y 1)

theorem pay7 (h : Vec Ideal S256x1024 .f32) : k0_pay7 h = h := by
  unfold k0_pay7
  exact shapeCast_self _ _

theorem pay8 (g : Vec Ideal S256x1024 .bf16) : k0_pay8 g = (g : Tile) := by
  unfold k0_pay8
  dsimp only
  rw [shapeCast_self]
  rfl

theorem pay9 (d : Vec Ideal S256x1024 .f32) (g : Vec Ideal S256x1024 .bf16) : k0_pay9 d g = (fun y => d y * g y : Tile) := by
  unfold k0_pay9
  dsimp only
  rw [pay8]
  rfl

theorem pay10 (d : Vec Ideal S256x1024 .f32) (g e : Vec Ideal S256x1024 .bf16) : k0_pay10 d g e = slope d e g := by
  unfold k0_pay10
  dsimp only
  rw [pay8, shapeCast_self]
  rfl

theorem sum_rows (x : FVec Ideal S256x1024 .f32) (acc : BitVec FTy.f32.bits) (hk) (hi) :
    multiReduction .add [1] S256 x acc reduces_S256x1024_S256 hk hi = fun j : S256.Idx => (∑ k : Fin 1024, x (ix2 (j 0) k) : EReal) :=
  sum_along x acc _ _ _

theorem sum_columns (x : FVec Ideal S256x1024 .f32) (acc : BitVec FTy.f32.bits) (hk) (hi) :
    multiReduction .add [0] S1024 x acc reduces_S256x1024_S1024 hk hi = fun j : S1024.Idx => (∑ k : Fin 256, x (ix2 k (j 0)) : EReal) :=
  sum_down x acc _ _ _

theorem pay11 (h : Vec Ideal S256x1024 .f32) : k0_pay11 (F := Ideal) h = fun j : S256x1.Idx => scale (row h (j 0)) := by
  unfold k0_pay11
  dsimp only
  rw [pay7]
  erw [sum_rows]
  rw [as_column]
  rfl

theorem pay12 (h : Vec Ideal S256x1024 .f32) : k0_pay12 h = unit h := by
  unfold k0_pay12
  dsimp only
  rw [pay7, pay11, column_over]
  rfl

/-- A sum down the rows, onto what there was. -/
theorem add_down {A B : ℕ} {φ₁ φ₂ : FTy} (wf) (x : FVec Ideal ⟨2, ![256, A]⟩ φ₁) (z : FVec Ideal ⟨2, ![256, B]⟩ φ₂) (a : FVec Ideal ⟨2, ![A, B]⟩ .f32) :
    addf a (matmul (tnDims 256 A B wf) none x z (constant ⟨2, ![A, B]⟩ .f32 0x00000000#32)) = fun y => (a y + down x z y : EReal) := by
  funext y
  refine congrArg (a y + ·) ?_
  conv_lhs => rw [eq_ix2 y]
  exact (matmul_tn_at wf none x z _ _ _).trans ((congrArg (· + _) zero_f32).trans (zero_add _))

theorem pay13 (d h : Vec Ideal S256x1024 .f32) (g : Vec Ideal S256x1024 .bf16) (n : Vec Ideal S1x1024 .f32) (e : Vec Ideal S256x1024 .bf16)
    (a : Vec Ideal S1024x1024 .f32) : k0_pay13 d h g n e a = fun y => (a y + down (fun y => unit h y * n (ix2 0 (y 1))) (slope d e g) y : EReal) := by
  unfold k0_pay13
  dsimp only
  rw [pay12, pay10, row_over, shapeCast_self]
  exact add_down _ _ _ _

theorem pay14 (s : FVec Ideal S256x1024 .bf16) (w : Vec Ideal S1024x1024 .bf16) : k0_pay14 s w = across s w := by
  unfold k0_pay14
  dsimp only
  rw [shapeCast_self]
  funext y
  conv_lhs => rw [eq_ix2 y]
  exact (Ideal.matmul_transposedRhs_apply none _ _ _ _ _).trans ((congrArg (· + _) zero_f32).trans (zero_add _))

theorem pay15 (s : FVec Ideal S256x1024 .bf16) (u : FVec Ideal S256x1024 .f32) (w : Vec Ideal S1024x1024 .bf16) (a : Vec Ideal S1x1024 .f32) :
    k0_pay15 s u w a = fun y => (a y + ∑ r : Fin 256, across s w (ix2 r (y 1)) * u (ix2 r (y 1)) : EReal) := by
  unfold k0_pay15
  dsimp only
  rw [shapeCast_self, pay14]
  erw [sum_columns]
  rw [as_row]
  rfl

theorem pay16 (d h : Vec Ideal S256x1024 .f32) (n : Vec Ideal S1x1024 .f32) (s : FVec Ideal S256x1024 .bf16) (w : Vec Ideal S1024x1024 .bf16) :
    k0_pay16 d h n s (fun j : S256x1.Idx => scale (row h (j 0))) w = stream d h (across s w) n := by
  unfold k0_pay16
  dsimp only
  rw [pay14, row_over, column_over, column_over, column_over]
  erw [sum_rows]
  rw [as_column]
  funext y
  obtain ⟨r, q, rfl⟩ : ∃ r q, y = ix2 r q := ⟨_, _, eq_ix2 y⟩
  rfl

/-- One device's slab of the gradient of the embedding's weights, onto what there was. -/
def slab (o : ℕ) (ho : o + 256 ≤ 1024) (x : Tile) (p : S256x256.Idx → EReal) (a : S1x256x256.Idx → EReal) : S1x256x256.Idx → EReal :=
  fun j => a j + ∑ r : Fin 256, p (ix2 r (j 1)) * x (ix2 r ⟨o + (j 2).val, by have : (j 2).val < 256 := (j 2).isLt; omega⟩)

theorem slab_eq (o : ℕ) (ho : o + 256 ≤ 1024) (x : FVec Ideal S256x1024 .bf16) (p : FVec Ideal S256x256 .bf16) (a : Vec Ideal S1x256x256 .f32)
    (hs : S256x1024.Slices ![0, o] S256x256) :
    shapeCast S1x256x256 (addf (shapeCast S256x256 a shapeCasts_S1x256x256_S256x256 : FVec Ideal S256x256 .f32)
      (matmul dot_S256x256_S256x256_S256x256_0_0_1_1_n_n none p (extractStridedSlice S256x256 ![0, o] x hs) (constant S256x256 .f32 0x00000000#32)))
      shapeCasts_S256x256_S1x256x256 = slab o ho x p a := by
  rw [show addf (shapeCast S256x256 a shapeCasts_S1x256x256_S256x256 : FVec Ideal S256x256 .f32)
      (matmul dot_S256x256_S256x256_S256x256_0_0_1_1_n_n none p (extractStridedSlice S256x256 ![0, o] x hs) (constant S256x256 .f32 0x00000000#32))
      = fun y => (shapeCast S256x256 a shapeCasts_S1x256x256_S256x256 y + down p (extractStridedSlice S256x256 ![0, o] x hs) y : EReal)
    from add_down (A := 256) (B := 256) _ _ _ _]
  funext j
  have j0 : (j 0).val < 1 := (j 0).isLt
  have j1 : (j 1).val < 256 := (j 1).isLt
  have j2 : (j 2).val < 256 := (j 2).isLt
  refine (shapeCast_apply _ _ j (ix2 (j 1) (j 2)) ?_).trans (congrArg₂ (· + ·) (shapeCast_apply _ _ _ j ?_) ?_)
  · refine (Shape.rowMajor_val_two _).trans (Eq.trans ?_ (Shape.rowMajor_val_three _).symm)
    show (j 1).val * 256 + (j 2).val = ((j 0).val * 256 + (j 1).val) * 256 + (j 2).val
    omega
  · refine (Shape.rowMajor_val_three _).trans (Eq.trans ?_ (Shape.rowMajor_val_two _).symm)
    show ((j 0).val * 256 + (j 1).val) * 256 + (j 2).val = (j 1).val * 256 + (j 2).val
    omega
  · refine Finset.sum_congr rfl fun r _ => congrArg (p (ix2 r (j 1)) * ·) ?_
    refine extractStridedSlice_apply _ _ _ _ _ fun b => ?_
    match b with
    | ⟨0, _⟩ => exact (Nat.zero_add _).symm
    | ⟨1, _⟩ => rfl

theorem pay18 (x : FVec Ideal S256x1024 .bf16) (p : Vec Ideal S256x256 .f32) (a : Vec Ideal S1x256x256 .f32) : k0_pay18 x p a = slab 0 (by omega) x p a := by
  unfold k0_pay18
  exact slab_eq 0 (by omega) x p a _

theorem pay19 (x : FVec Ideal S256x1024 .bf16) (p : FVec Ideal S256x256 .bf16) (a : Vec Ideal S1x256x256 .f32) : k0_pay19 x p a = slab 256 (by omega) x p a := by
  unfold k0_pay19
  exact slab_eq 256 (by omega) x p a _

theorem pay20 (x : FVec Ideal S256x1024 .bf16) (p : FVec Ideal S256x256 .bf16) (a : Vec Ideal S1x256x256 .f32) : k0_pay20 x p a = slab 512 (by omega) x p a := by
  unfold k0_pay20
  exact slab_eq 512 (by omega) x p a _

theorem pay21 (x : FVec Ideal S256x1024 .bf16) (p : FVec Ideal S256x256 .bf16) (a : Vec Ideal S1x256x256 .f32) : k0_pay21 x p a = slab 768 (by omega) x p a := by
  unfold k0_pay21
  exact slab_eq 768 (by omega) x p a _

theorem pay23 (x : FVec Ideal S256x1024 .f32) (w : Vec Ideal S1024x1024 .bf16) : k0_pay23 x w = across x w := by
  unfold k0_pay23 k0_pay22
  dsimp only
  rw [shapeCast_self]
  funext y
  conv_lhs => rw [eq_ix2 y]
  exact (Ideal.matmul_transposedRhs_apply none _ _ _ _ _).trans ((congrArg (· + _) zero_f32).trans (zero_add _))

theorem pay1 (x : FVec Ideal S256x1024 .bf16) (a : Vec Ideal S512x1024 .f32) (z : Vec Ideal S256x512 .bf16) :
    k0_pay1 x a z = fun y => (a y + down z x y : EReal) := by
  unfold k0_pay1
  dsimp only
  rw [shapeCast_self, shapeCast_self]
  exact add_down _ _ _ _

theorem pay2 (x : FVec Ideal S256x1024 .bf16) (a : Vec Ideal S512x1024 .f32) (z : Vec Ideal S256x512 .bf16) :
    k0_pay2 x a z = fun y => (a y + down z x y : EReal) := by
  unfold k0_pay2
  dsimp only
  rw [shapeCast_self, shapeCast_self]
  exact add_down _ _ _ _

end Cert.Ple

end
-- ==== Proof.PlePoint.lean ====
/- The end of the layer, backward: what one point of the grid leaves in the six arrays' windows. -/
module

public import Idealize.ShloMosaic.Lib.Pipeline.ReadBack
public import proofs.«01_k».proof.Proof.PleTile
public import proofs.«01_k».proof.Proof.Gen.Kernel2Ideal.Value
import all proofs.«01_k».proof.Proof.Gen.Kernel2Ideal.Frame.RunA
import all proofs.«01_k».proof.Proof.Gen.Kernel2Ideal.Frame.RunB
import all proofs.«01_k».proof.Proof.Gen.Kernel2Ideal.Frame

@[expose] public section

noncomputable section

namespace Cert.Ple

open Idealize.ShloMosaic Idealize.ShloMosaic.ValueIdx Idealize.SL Cert.Attn
open Cert.Kernel2Ideal Cert.Kernel2Ideal.Gen Cert.Kernel2Ideal.Value

/-! ## Buffers stored and loaded in parts -/

section Parts
variable {sig : RefSig} {κ : Kind} {sp : Space}

theorem slabs (v : View sig κ sp S4x256x256 .f32) (f : v.ty.Contents (Elt Ideal)) (L : List (View.Piece (Elt Ideal) S4x256x256 .f32))
    (G : S4x256x256.Idx → EReal) (s0 s1 s2 s3 : S1x256x256.Idx → EReal)
    (h0 : ∀ x, s0 x = G (ix3 0 (x 1) (x 2))) (h1 : ∀ x, s1 x = G (ix3 1 (x 1) (x 2)))
    (h2 : ∀ x, s2 x = G (ix3 2 (x 1) (x 2))) (h3 : ∀ x, s3 x = G (ix3 3 (x 1) (x 2))) (i0 i1 i2 i3) :
    v.read (Elt Ideal) (v.writes (Elt Ideal) f (⟨Rect.unit (s := S4x256x256) ![3, 0, 0] ![1, 256, 256] i3, s3⟩
      :: ⟨Rect.unit (s := S4x256x256) ![2, 0, 0] ![1, 256, 256] i2, s2⟩ :: ⟨Rect.unit (s := S4x256x256) ![1, 0, 0] ![1, 256, 256] i1, s1⟩
      :: ⟨Rect.unit (s := S4x256x256) ![0, 0, 0] ![1, 256, 256] i0, s0⟩ :: L)) = G := by
  funext j
  have j0 : (j 0).val < 4 := (j 0).isLt
  have j1 : (j 1).val < 256 := (j 1).isLt
  have j2 : (j 2).val < 256 := (j 2).isLt
  have inside : ∀ k : ℕ, (j 0).val = k → ∀ a, (![k, 0, 0] : Fin 3 → ℕ) a ≤ (j a).val ∧ (j a).val < (![k, 0, 0] : Fin 3 → ℕ) a + (![1, 256, 256] : Fin 3 → ℕ) a := by
    intro k hk a
    match a with
    | ⟨0, _⟩ => exact ⟨by show k ≤ (j 0).val; omega, by show (j 0).val < k + 1; omega⟩
    | ⟨1, _⟩ => exact ⟨Nat.zero_le _, by show (j 1).val < 0 + 256; omega⟩
    | ⟨2, _⟩ => exact ⟨Nat.zero_le _, by show (j 2).val < 0 + 256; omega⟩
  have outside : ∀ k : ℕ, (j 0).val ≠ k → ¬ ∀ a, (![k, 0, 0] : Fin 3 → ℕ) a ≤ (j a).val ∧ (j a).val < (![k, 0, 0] : Fin 3 → ℕ) a + (![1, 256, 256] : Fin 3 → ℕ) a := by
    intro k hk h
    have a0 : k ≤ (j 0).val := (h 0).1
    have a1 : (j 0).val < k + 1 := (h 0).2
    omega
  have at_j : ∀ k : Fin 4, (j 0).val = k.val → ∀ a b, a.val = (j 1).val → b.val = (j 2).val → G (ix3 k a b) = G j := by
    intro k hk a b ha hb
    refine congrArg G (funext fun x => Fin.ext ?_)
    match x with
    | ⟨0, _⟩ => exact hk.symm
    | ⟨1, _⟩ => exact ha
    | ⟨2, _⟩ => exact hb
  rw [View.read_writes_cons_unit v f i3 _ _ j rfl]
  by_cases e3 : (j 0).val = 3
  · rw [dif_pos (inside 3 e3)]; exact (h3 _).trans (at_j 3 e3 _ _ (Nat.sub_zero _) (Nat.sub_zero _))
  rw [dif_neg (outside 3 e3), View.read_writes_cons_unit v f i2 _ _ j rfl]
  by_cases e2 : (j 0).val = 2
  · rw [dif_pos (inside 2 e2)]; exact (h2 _).trans (at_j 2 e2 _ _ (Nat.sub_zero _) (Nat.sub_zero _))
  rw [dif_neg (outside 2 e2), View.read_writes_cons_unit v f i1 _ _ j rfl]
  by_cases e1 : (j 0).val = 1
  · rw [dif_pos (inside 1 e1)]; exact (h1 _).trans (at_j 1 e1 _ _ (Nat.sub_zero _) (Nat.sub_zero _))
  have e0 : (j 0).val = 0 := by omega
  rw [dif_neg (outside 1 e1), View.read_writes_cons_unit v f i0 _ _ j rfl, dif_pos (inside 0 e0)]
  exact (h0 _).trans (at_j 0 e0 _ _ (Nat.sub_zero _) (Nat.sub_zero _))

theorem halves (v : View sig κ sp S1024x1024 .f32) (f : v.ty.Contents (Elt Ideal)) (L : List (View.Piece (Elt Ideal) S1024x1024 .f32))
    (G : Square) (s0 s1 : S512x1024.Idx → EReal)
    (h0 : ∀ (x : S512x1024.Idx) (j : S1024x1024.Idx), (j 0).val = (x 0).val → (j 1).val = (x 1).val → s0 x = G j)
    (h1 : ∀ (x : S512x1024.Idx) (j : S1024x1024.Idx), (j 0).val = 512 + (x 0).val → (j 1).val = (x 1).val → s1 x = G j) (i0 i1) :
    v.read (Elt Ideal) (v.writes (Elt Ideal) f (⟨Rect.unit (s := S1024x1024) ![512, 0] ![512, 1024] i1, s1⟩
      :: ⟨Rect.unit (s := S1024x1024) ![0, 0] ![512, 1024] i0, s0⟩ :: L)) = G := by
  funext j
  have j0 : (j 0).val < 1024 := (j 0).isLt
  have j1 : (j 1).val < 1024 := (j 1).isLt
  rw [View.read_writes_cons_unit v f i1 _ _ j rfl]
  by_cases e : 512 ≤ (j 0).val
  · rw [dif_pos (fun a => match a with
      | ⟨0, _⟩ => ⟨e, by show (j 0).val < 512 + 512; omega⟩
      | ⟨1, _⟩ => ⟨Nat.zero_le _, by show (j 1).val < 0 + 1024; omega⟩)]
    exact h1 _ j (by show (j 0).val = 512 + ((j 0).val - 512); omega) (Nat.sub_zero _).symm
  rw [dif_neg (fun h => absurd (h 0).1 e), View.read_writes_cons_unit v f i0 _ _ j rfl, dif_pos (fun a => match a with
      | ⟨0, _⟩ => ⟨Nat.zero_le _, by show (j 0).val < 0 + 512; omega⟩
      | ⟨1, _⟩ => ⟨Nat.zero_le _, by show (j 1).val < 0 + 1024; omega⟩)]
  exact h0 _ j (Nat.sub_zero _).symm (Nat.sub_zero _).symm

theorem slab_held (v : Memref sig κ sp S4x256x256 .f32) (h : v.IsWhole) (x : S4x256x256.Idx → Elt Ideal .f32) (k : ℕ) (inb) (hk : k < 4) :
    v.view.readAt (Elt Ideal) (Rect.unit (s := S4x256x256) ![k, 0, 0] ![1, 256, 256] inb).toLoadRect (h.unread x)
      = fun j : S1x256x256.Idx => x (ix3 ⟨k, hk⟩ (j 1) (j 2)) := by
  funext j
  have j0 : (j 0).val < 1 := (j 0).isLt
  refine (congrFun (h.read_unread x) ((Rect.unit (s := S4x256x256) ![k, 0, 0] ![1, 256, 256] inb).idx j)).trans (congrArg x (funext fun a => Fin.ext ?_))
  match a with
  | ⟨0, _⟩ => show k + 1 * (j 0).val = k; omega
  | ⟨1, _⟩ => show 0 + 1 * (j 1).val = (j 1).val; omega
  | ⟨2, _⟩ => show 0 + 1 * (j 2).val = (j 2).val; omega

theorem half_held (v : Memref sig κ sp S1024x1024 .f32) (h : v.IsWhole) (x : S1024x1024.Idx → Elt Ideal .f32) (o : ℕ) (inb) (ho : o + 512 ≤ 1024) :
    v.view.readAt (Elt Ideal) (Rect.unit (s := S1024x1024) ![o, 0] ![512, 1024] inb).toLoadRect (h.unread x)
      = fun j : S512x1024.Idx => x (ix2 ⟨o + (j 0).val, by have : (j 0).val < 512 := (j 0).isLt; omega⟩ (j 1)) := by
  funext j
  refine (congrFun (h.read_unread x) ((Rect.unit (s := S1024x1024) ![o, 0] ![512, 1024] inb).idx j)).trans (congrArg x (funext fun a => Fin.ext ?_))
  match a with
  | ⟨0, _⟩ => show o + 1 * (j 0).val = o + (j 0).val; omega
  | ⟨1, _⟩ => show 0 + 1 * (j 1).val = (j 1).val; omega

end Parts

/-! ## The six arrays -/

/-- The two branches side by side. -/
def beside (ya yc : S256x512.Idx → EReal) : Tile := fun y =>
  if h : (y 1).val < 512 then ya (ix2 (y 0) ⟨(y 1).val, h⟩) else yc (ix2 (y 0) ⟨(y 1).val - 512, by have : (y 1).val < 1024 := (y 1).isLt; omega⟩)

theorem beside_left (ya yc : S256x512.Idx → EReal) (r : Fin 256) (q : Fin 1024) (k : Fin 512) (h : q.val = k.val) : beside ya yc (ix2 r q) = ya (ix2 r k) := by
  have hk : k.val < 512 := k.isLt
  rw [beside, dif_pos (show q.val < 512 by omega)]
  exact congrArg (fun t => ya (ix2 r t)) (Fin.ext h)

theorem beside_right (ya yc : S256x512.Idx → EReal) (r : Fin 256) (q : Fin 1024) (k : Fin 512) (h : q.val = 512 + k.val) : beside ya yc (ix2 r q) = yc (ix2 r k) := by
  rw [beside, dif_neg (show ¬ q.val < 512 by omega)]
  exact congrArg (fun t => yc (ix2 r t)) (Fin.ext (show q.val - 512 = k.val by omega))

/-- What a tile adds to the gradient of the embedding's weights, laid out by device. -/
def embed (x : Tile) (p : S256x256.Idx → EReal) : S4x256x256.Idx → EReal := fun j =>
  ∑ r : Fin 256, p (ix2 r (j 1)) * x (ix2 r ⟨256 * (j 0).val + (j 2).val, by
    have : (j 0).val < 4 := (j 0).isLt; have : (j 2).val < 256 := (j 2).isLt; omega⟩)

/-- The cotangent of the merged stream, of a tile. -/
def cot (d h gt e : Tile) (n : S1x1024.Idx → EReal) (wg : Square) : Tile := stream d h (across (slope d e gt) wg) n

variable (c : Dev nD) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .bf16) (harg3 : arg3.IsWhole) (arg4 : Memref sig .tc .vmem S256x1024 .bf16) (harg4 : arg4.IsWhole)
    (arg5 : Memref sig .tc .vmem S256x256 .f32) (harg5 : arg5.IsWhole) (arg6 : Memref sig .tc .vmem S256x512 .bf16) (harg6 : arg6.IsWhole)
    (arg7 : Memref sig .tc .vmem S256x512 .bf16) (harg7 : arg7.IsWhole) (arg8 : Memref sig .tc .vmem S1x1024 .f32) (harg8 : arg8.IsWhole)
    (arg9 : Memref sig .tc .vmem S1024x1024 .bf16) (harg9 : arg9.IsWhole) (arg10 : Memref sig .tc .vmem S1024x1024 .bf16) (harg10 : arg10.IsWhole)
    (arg11 : Memref sig .tc .vmem S256x1024 .f32) (harg11 : arg11.IsWhole) (arg12 : Memref sig .tc .vmem S256x1024 .f32) (harg12 : arg12.IsWhole)
    (arg13 : Memref sig .tc .vmem S1024x1024 .f32) (harg13 : arg13.IsWhole) (arg14 : Memref sig .tc .vmem S4x256x256 .f32) (harg14 : arg14.IsWhole)
    (arg15 : Memref sig .tc .vmem S1024x1024 .f32) (harg15 : arg15.IsWhole) (arg16 : Memref sig .tc .vmem S1x1024 .f32) (harg16 : arg16.IsWhole)
    (d : Vec Ideal S256x1024 .f32) (h : Vec Ideal S256x1024 .f32) (gt : Vec Ideal S256x1024 .bf16) (e : Vec Ideal S256x1024 .bf16) (p : Vec Ideal S256x256 .f32) (ya : Vec Ideal S256x512 .bf16) (yc : Vec Ideal S256x512 .bf16) (n : Vec Ideal S1x1024 .f32) (wg : Vec Ideal S1024x1024 .bf16) (wo : Vec Ideal S1024x1024 .bf16)
    (aw : Vec Ideal S1024x1024 .f32) (ap : Vec Ideal S4x256x256 .f32) (ao : Vec Ideal S1024x1024 .f32) (an : Vec Ideal S1x1024 .f32)

theorem stream_A (h0 : cond0_0 i) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 d h gt e p ya yc n wg wo = cot d h gt e n wg := by
  unfold out0_A_10 kernelRun0_A
  dsimp only
  sl_unfold_run_names
  try dsimp only
  refine (View.read_writes_full _ _ _ _ _).trans ?_
  simp only [load2, load3, reload2]
  rw [pay7, pay10, pay11]
  exact pay16 d h n _ wg

theorem merged_A (h0 : cond0_0 i) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 d h gt e p ya yc n wg wo = across (cot d h gt e n wg) wo := by
  unfold out0_A_11 kernelRun0_A
  dsimp only
  sl_unfold_run_names
  try dsimp only
  refine (View.read_writes_full _ _ _ _ _).trans ?_
  simp only [load2, load3, reload2]
  rw [pay7, pay10, pay11, pay16]
  exact pay23 _ wo

theorem gate_A (h0 : cond0_0 i) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 d h gt e p ya yc n wg wo = fun y => (0 + down (fun y => unit h y * n (ix2 0 (y 1))) (slope d e gt) y : EReal) := by
  unfold out0_A_12 kernelRun0_A
  dsimp only
  sl_unfold_run_names
  try dsimp only
  refine (View.read_writes_full _ _ _ _ _).trans ?_
  simp only [load2, load3, reload2]
  refine (pay13 d h gt n e _).trans (funext fun y => congrArg (· + _) ?_)
  exact zero_f32

theorem gain_A (h0 : cond0_0 i) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 d h gt e p ya yc n wg wo = fun y => (0 + ∑ r : Fin 256, across (slope d e gt) wg (ix2 r (y 1)) * unit h (ix2 r (y 1)) : EReal) := by
  unfold out0_A_15 kernelRun0_A
  dsimp only
  sl_unfold_run_names
  try dsimp only
  refine (View.read_writes_full _ _ _ _ _).trans ?_
  simp only [load2, load3, reload2]
  rw [pay10, pay12]
  refine (pay15 _ _ wg _).trans (funext fun y => congrArg (· + _) ?_)
  exact zero_f32

theorem out_A (h0 : cond0_0 i) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 d h gt e p ya yc n wg wo = fun y => (0 + down (beside ya yc) (cot d h gt e n wg) y : EReal) := by
  unfold out0_A_14 kernelRun0_A
  dsimp only
  sl_unfold_run_names
  try dsimp only
  simp only [load2, load3]
  rw [View.readCov_skip _ _ _ _ _ rfl, View.readCov_fill _ _ _ _ _ (by decide), View.readCov_fill _ _ _ _ _ (by decide), pay7, pay10, pay11, pay16, pay1, pay2]
  refine halves _ _ _ _ _ _ (fun x j e0 e1 => ?_) (fun x j e0 e1 => ?_) _ _
  · refine congrArg₂ (· + ·) zero_f32 (Finset.sum_congr rfl fun r _ => congrArg₂ (· * ·) (beside_left ya yc r (j 0) (x 0) e0).symm ?_)
    exact congrArg (fun t => cot d h gt e n wg (ix2 r t)) (Fin.ext e1.symm)
  · refine congrArg₂ (· + ·) zero_f32 (Finset.sum_congr rfl fun r _ => congrArg₂ (· * ·) (beside_right ya yc r (j 0) (x 0) e0).symm ?_)
    exact congrArg (fun t => cot d h gt e n wg (ix2 r t)) (Fin.ext e1.symm)

theorem embed_A (h0 : cond0_0 i) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 d h gt e p ya yc n wg wo = fun j => (0 + embed (fun y => d y * gt y) p j : EReal) := by
  unfold out0_A_13 kernelRun0_A
  dsimp only
  sl_unfold_run_names
  try dsimp only
  simp only [load2, load3]
  simp (decide := true) only [↓View.readCov_skip]
  rw [View.readCov_fill _ _ _ _ _ (by decide), View.readCov_fill _ _ _ _ _ (by decide),
    View.readCov_fill _ _ _ _ _ (by decide), View.readCov_fill _ _ _ _ _ (by decide), pay9, pay18, pay19, pay20, pay21]
  refine slabs _ _ _ _ _ _ _ _ (fun x => ?_) (fun x => ?_) (fun x => ?_) (fun x => ?_) _ _ _ _
  · exact congrArg₂ (· + ·) zero_f32 (Finset.sum_congr rfl fun r _ => congrArg (fun t => p (ix2 r (x 1)) * (d (ix2 r t) * gt (ix2 r t))) (Fin.ext rfl))
  · exact congrArg₂ (· + ·) zero_f32 (Finset.sum_congr rfl fun r _ => congrArg (fun t => p (ix2 r (x 1)) * (d (ix2 r t) * gt (ix2 r t))) (Fin.ext rfl))
  · exact congrArg₂ (· + ·) zero_f32 (Finset.sum_congr rfl fun r _ => congrArg (fun t => p (ix2 r (x 1)) * (d (ix2 r t) * gt (ix2 r t))) (Fin.ext rfl))
  · exact congrArg₂ (· + ·) zero_f32 (Finset.sum_congr rfl fun r _ => congrArg (fun t => p (ix2 r (x 1)) * (d (ix2 r t) * gt (ix2 r t))) (Fin.ext rfl))

theorem stream_B (h0 : ¬cond0_0 i) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 d h gt e p ya yc n wg wo aw ap ao an = cot d h gt e n wg := by
  unfold out0_B_10 kernelRun0_B
  dsimp only
  sl_unfold_run_names
  try dsimp only
  refine (View.read_writes_full _ _ _ _ _).trans ?_
  simp only [load2, load3, reload2]
  rw [pay7, pay10, pay11]
  exact pay16 d h n _ wg

theorem merged_B (h0 : ¬cond0_0 i) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 d h gt e p ya yc n wg wo aw ap ao an = across (cot d h gt e n wg) wo := by
  unfold out0_B_11 kernelRun0_B
  dsimp only
  sl_unfold_run_names
  try dsimp only
  refine (View.read_writes_full _ _ _ _ _).trans ?_
  simp only [load2, load3, reload2]
  rw [pay7, pay10, pay11, pay16]
  exact pay23 _ wo

theorem gate_B (h0 : ¬cond0_0 i) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 d h gt e p ya yc n wg wo aw ap ao an = fun y => (aw y + down (fun y => unit h y * n (ix2 0 (y 1))) (slope d e gt) y : EReal) := by
  unfold out0_B_12 kernelRun0_B
  dsimp only
  sl_unfold_run_names
  try dsimp only
  refine (View.read_writes_full _ _ _ _ _).trans ?_
  simp only [load2, load3, reload2]
  exact pay13 d h gt n e aw

theorem gain_B (h0 : ¬cond0_0 i) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 d h gt e p ya yc n wg wo aw ap ao an = fun y => (an y + ∑ r : Fin 256, across (slope d e gt) wg (ix2 r (y 1)) * unit h (ix2 r (y 1)) : EReal) := by
  unfold out0_B_15 kernelRun0_B
  dsimp only
  sl_unfold_run_names
  try dsimp only
  refine (View.read_writes_full _ _ _ _ _).trans ?_
  simp only [load2, load3, reload2]
  rw [pay10, pay12]
  exact pay15 _ _ wg an

theorem out_B (h0 : ¬cond0_0 i) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 d h gt e p ya yc n wg wo aw ap ao an = fun y => (ao y + down (beside ya yc) (cot d h gt e n wg) y : EReal) := by
  unfold out0_B_14 kernelRun0_B
  dsimp only
  sl_unfold_run_names
  try dsimp only
  simp only [load2, load3]
  rw [half_held _ _ _ 512 _ (by omega), half_held _ _ _ 0 _ (by omega), pay7, pay10, pay11, pay16, pay1, pay2]
  refine halves _ _ _ _ _ _ (fun x j e0 e1 => ?_) (fun x j e0 e1 => ?_) _ _
  · have at_j : (ix2 ⟨0 + (x 0).val, by have : (x 0).val < 512 := (x 0).isLt; omega⟩ (x 1) : S1024x1024.Idx) = j := funext fun a => Fin.ext (by
      match a with
      | ⟨0, _⟩ => show 0 + (x 0).val = (j 0).val; omega
      | ⟨1, _⟩ => exact e1.symm)
    refine congrArg₂ (· + ·) (congrArg ao at_j) (Finset.sum_congr rfl fun r _ => congrArg₂ (· * ·) (beside_left ya yc r (j 0) (x 0) e0).symm ?_)
    exact congrArg (fun t => cot d h gt e n wg (ix2 r t)) (Fin.ext e1.symm)
  · have at_j : (ix2 ⟨512 + (x 0).val, by have : (x 0).val < 512 := (x 0).isLt; omega⟩ (x 1) : S1024x1024.Idx) = j := funext fun a => Fin.ext (by
      match a with
      | ⟨0, _⟩ => exact e0.symm
      | ⟨1, _⟩ => exact e1.symm)
    refine congrArg₂ (· + ·) (congrArg ao at_j) (Finset.sum_congr rfl fun r _ => congrArg₂ (· * ·) (beside_right ya yc r (j 0) (x 0) e0).symm ?_)
    exact congrArg (fun t => cot d h gt e n wg (ix2 r t)) (Fin.ext e1.symm)

theorem embed_B (h0 : ¬cond0_0 i) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 d h gt e p ya yc n wg wo aw ap ao an = fun j => (ap j + embed (fun y => d y * gt y) p j : EReal) := by
  unfold out0_B_13 kernelRun0_B
  dsimp only
  sl_unfold_run_names
  try dsimp only
  simp only [load2, load3]
  rw [slab_held _ _ _ 0 _ (by omega), slab_held _ _ _ 1 _ (by omega), slab_held _ _ _ 2 _ (by omega), slab_held _ _ _ 3 _ (by omega),
    pay9, pay18, pay19, pay20, pay21]
  refine slabs _ _ _ _ _ _ _ _ (fun x => ?_) (fun x => ?_) (fun x => ?_) (fun x => ?_) _ _ _ _
  · exact congrArg₂ (· + ·) rfl (Finset.sum_congr rfl fun r _ => congrArg (fun t => p (ix2 r (x 1)) * (d (ix2 r t) * gt (ix2 r t))) (Fin.ext rfl))
  · exact congrArg₂ (· + ·) rfl (Finset.sum_congr rfl fun r _ => congrArg (fun t => p (ix2 r (x 1)) * (d (ix2 r t) * gt (ix2 r t))) (Fin.ext rfl))
  · exact congrArg₂ (· + ·) rfl (Finset.sum_congr rfl fun r _ => congrArg (fun t => p (ix2 r (x 1)) * (d (ix2 r t) * gt (ix2 r t))) (Fin.ext rfl))
  · exact congrArg₂ (· + ·) rfl (Finset.sum_congr rfl fun r _ => congrArg (fun t => p (ix2 r (x 1)) * (d (ix2 r t) * gt (ix2 r t))) (Fin.ext rfl))

end Cert.Ple

end
-- ==== Proof.PleRef.lean ====
/- The reference's end of the layer, backward, entry by entry: with `D` the cotangent, `H` the merged stream, `E` the embedding's rows and `G` the gate. -/
module

public import proofs.«01_k».proof.Proof.RowNorm
public import proofs.«01_k».proof.Proof.Gen.Reference2Ideal.Read

@[expose] public section

noncomputable section

namespace Cert.Ple

open Idealize.ShloMosaic Idealize.ShloMosaic.ValueIdx Cert.Attn

abbrev Rows := (⟨2, ![2048, 1024]⟩ : Shape).Idx → EReal
abbrev Weights := (⟨2, ![1024, 1024]⟩ : Shape).Idx → EReal

section Layer
variable (D H E G : Rows) (n : (⟨2, ![1, 1024]⟩ : Shape).Idx → EReal) (wg : Weights)

/-- The gradient before the gate's logistic function. -/
def slopeAt (r q : ℕ) : EReal := ent D r q * ent E r q * ent G r q * (Ideal.ofBits .f32 0x3F800000#32 - ent G r q)

/-- The gradient of the gate's input. -/
def inputAt (r q : ℕ) : EReal := ∑ l : Fin 1024, slopeAt D E G r l.val * ent wg q l.val

/-- A row of the merged stream. -/
abbrev rowAt (r : ℕ) : Fin 1024 → EReal := fun k => ent H r k.val

/-- A row of the merged stream at length one. -/
def unitAt (r q : ℕ) : EReal := ent H r q * scale (rowAt H r)

/-- The gradient of the merged stream. -/
def streamAt (r : ℕ) (q : Fin 1024) : EReal :=
  ent D r q.val + normBack (rowAt H r) (fun k => inputAt D E G wg r k.val * ent n 0 k.val) q

end Layer

open Cert.Reference2Ideal Cert.Reference2Ideal.Read

variable (x0 x1 x2 : FVec Ideal S2048x1024 .f32) (x3 : FVec Ideal S2048x256 .f32) (x4 : FVec Ideal S1x1024 .f32)
  (x5 : FVec Ideal S1024x1024 .f32) (x6 : FVec Ideal S256x1024 .f32) (x7 : FVec Ideal S1024x1024 .f32)

/-- The merged stream, the embedding's rows and the gate. -/
abbrev merged : Rows := val_main_v1 (F := Ideal) x1 x2 x7
abbrev plus : Rows := val_main_v2 (F := Ideal) x3 x6
abbrev gate : Rows := val_main_v24 (F := Ideal) x1 x2 x4 x5 x7

theorem mean_ref (j : S2048x1.Idx) : val_main_v9 (F := Ideal) x1 x2 x7 j = meanSq (rowAt (merged x1 x2 x7) (j 0).val) := by
  rw [val_main_v9_apply, val_main_v7_apply, val_main_v5_apply, val_main_v4_apply]
  refine congrArg (fun s => Ideal.div s len + eps) ?_
  refine (congrArg (· + _) zero_f32).trans ((zero_add _).trans (Finset.sum_congr rfl fun k _ => ?_))
  rw [val_main_v3_apply]
  exact congrArg (fun z => z * z) (ent_val (merged x1 x2 x7) _ rfl rfl)

theorem scale_ref (j : S2048x1.Idx) : val_main_v10 (F := Ideal) x1 x2 x7 j = scale (rowAt (merged x1 x2 x7) (j 0).val) := by
  rw [val_main_v10_apply, mean_ref]
  rfl

theorem unit_ref (i : S2048x1024.Idx) : val_main_v15 (F := Ideal) x1 x2 x7 i = unitAt (merged x1 x2 x7) (i 0).val (i 1).val := by
  rw [val_main_v15_apply, val_main_v14_apply, scale_ref]
  exact congrArg (· * _) (ent_val (merged x1 x2 x7) i rfl rfl)

theorem same30 : val_main_v30 (F := Ideal) x0 = x0 := shapeCast_self _ _
theorem same31 : val_main_v31 (F := Ideal) x0 = x0 := shapeCast_self _ _

theorem slope_ref (i : S2048x1024.Idx) : val_main_v34 (F := Ideal) x0 x1 x2 x3 x4 x5 x6 x7 i
    = slopeAt x0 (plus x3 x6) (gate x1 x2 x4 x5 x7) (i 0).val (i 1).val := by
  rw [val_main_v34_apply, val_main_v32_apply, val_main_v27_apply, val_main_v26_apply, val_main_v25_apply, same31, slopeAt,
    ← ent_val x0 i rfl rfl, ← ent_val (plus x3 x6) i rfl rfl, ← ent_val (gate x1 x2 x4 x5 x7) i rfl rfl]
  exact (congrArg (· * _) (mul_comm _ _)).trans (mul_assoc _ _ _).symm

theorem input_ref (i : S2048x1024.Idx) : val_main_v37 (F := Ideal) x0 x1 x2 x3 x4 x5 x6 x7 i
    = inputAt x0 (plus x3 x6) (gate x1 x2 x4 x5 x7) x5 (i 0).val (i 1).val := by
  rw [val_main_v37_apply]
  refine Finset.sum_congr rfl fun k _ => ?_
  rw [slope_ref]
  exact congrArg (_ * ·) (ent_val x5 _ rfl rfl)

/-- The gradient of the row at length one. -/
abbrev scaledAt (r : ℕ) : Fin 1024 → EReal := fun k => inputAt x0 (plus x3 x6) (gate x1 x2 x4 x5 x7) x5 r k.val * ent x4 0 k.val

theorem scaled_ref (i : S2048x1024.Idx) : val_main_v42 (F := Ideal) x0 x1 x2 x3 x4 x5 x6 x7 i
    = scaledAt x0 x1 x2 x3 x4 x5 x6 x7 (i 0).val (i 1) := by
  rw [val_main_v42_apply, val_main_v41_apply]
  exact congrArg₂ (· * ·) (input_ref x0 x1 x2 x3 x4 x5 x6 x7 i) (ent_val x4 _ rfl rfl)

theorem through_ref (r : S2048.Idx) : val_main_v52 (F := Ideal) x0 x1 x2 x3 x4 x5 x6 x7 r
    = Ideal.div ((∑ k : Fin 1024, rowAt (merged x1 x2 x7) (r 0).val k * scaledAt x0 x1 x2 x3 x4 x5 x6 x7 (r 0).val k)
        * (minusHalf * Ideal.div (scale (rowAt (merged x1 x2 x7) (r 0).val)) (meanSq (rowAt (merged x1 x2 x7) (r 0).val)))) len := by
  rw [val_main_v52_apply]
  refine (congrArg (· + _) zero_f32).trans ((zero_add _).trans ((Fin.sum_univ_one _).trans ?_))
  rw [val_main_v51_apply, val_main_v49_apply, val_main_v45_apply, val_main_v44_apply, val_main_v13_apply, val_main_v11_apply, scale_ref, mean_ref]
  refine congrArg (fun s => Ideal.div (s * (minusHalf * Ideal.div (scale (rowAt (merged x1 x2 x7) (r 0).val))
    (meanSq (rowAt (merged x1 x2 x7) (r 0).val)))) len) ?_
  refine (congrArg (· + _) zero_f32).trans ((zero_add _).trans (Finset.sum_congr rfl fun k _ => ?_))
  rw [val_main_v43_apply, scaled_ref]
  exact congrArg₂ (· * ·) (ent_val (merged x1 x2 x7) _ (by show (r 0).val * 1 + 0 = _; omega) rfl)
    (congrArg (fun n => scaledAt x0 x1 x2 x3 x4 x5 x6 x7 n k) (by show (r 0).val * 1 + 0 = _; omega))

/-- The gradient of the merged stream. -/
abbrev cotAt (r : ℕ) (q : Fin 1024) : EReal := streamAt x0 (merged x1 x2 x7) (plus x3 x6) (gate x1 x2 x4 x5 x7) x4 x5 r q

theorem stream_ref (i : S2048x1024.Idx) : val_main_v57 (F := Ideal) x0 x1 x2 x3 x4 x5 x6 x7 i
    = cotAt x0 x1 x2 x3 x4 x5 x6 x7 (i 0).val (i 1) := by
  rw [val_main_v57_apply, val_main_v56_apply, val_main_v55_apply, val_main_v54_apply, val_main_v53_apply, val_main_v48_apply, val_main_v47_apply,
    val_main_v46_apply, through_ref, scaled_ref, scale_ref, same30]
  refine Eq.trans ?_ (normBack_eq (rowAt (merged x1 x2 x7) (i 0).val) (scaledAt x0 x1 x2 x3 x4 x5 x6 x7 (i 0).val) (i 1) (ent x0 (i 0).val (i 1).val))
  rw [← ent_val x0 i rfl rfl, show rowAt (merged x1 x2 x7) (i 0).val (i 1) = merged x1 x2 x7 i from (ent_val (merged x1 x2 x7) i rfl rfl).symm]
  rfl

/-- The gradient of the merged branches. -/
theorem branch_ref (i : S2048x1024.Idx) : val_main_v62 (F := Ideal) x0 x1 x2 x3 x4 x5 x6 x7 i
    = ∑ l : Fin 1024, cotAt x0 x1 x2 x3 x4 x5 x6 x7 (i 0).val l * ent x7 (i 1).val l.val := by
  rw [val_main_v62_apply]
  refine Finset.sum_congr rfl fun k _ => ?_
  rw [stream_ref]
  exact congrArg (_ * ·) (ent_val x7 _ rfl rfl)

/-- The gradient of the gate's weights. -/
theorem gate_ref (i : S1024x1024.Idx) : val_main_v36 (F := Ideal) x0 x1 x2 x3 x4 x5 x6 x7 i
    = ∑ t ∈ Finset.range 2048, unitAt (merged x1 x2 x7) t (i 0).val * ent x4 0 (i 0).val
        * slopeAt x0 (plus x3 x6) (gate x1 x2 x4 x5 x7) t (i 1).val := by
  rw [val_main_v36_apply, val_main_v35_apply, Finset.sum_range]
  refine Finset.sum_congr rfl fun k _ => ?_
  rw [slope_ref, val_main_v17_apply, unit_ref, val_main_v16_apply]
  exact (mul_comm _ _).trans (congrArg (fun z => unitAt (merged x1 x2 x7) k.val (i 0).val * z * _) (ent_val x4 _ rfl rfl))

/-- The gradient of the weights after the two branches. -/
theorem out_ref (i : S1024x1024.Idx) : val_main_v61 (F := Ideal) x0 x1 x2 x3 x4 x5 x6 x7 i
    = ∑ t ∈ Finset.range 2048, ent x2 t (i 0).val * cotAt x0 x1 x2 x3 x4 x5 x6 x7 t (i 1) := by
  rw [val_main_v61_apply, val_main_v60_apply, Finset.sum_range]
  refine Finset.sum_congr rfl fun k _ => ?_
  rw [stream_ref]
  exact (mul_comm _ _).trans (congrArg (· * _) (ent_val x2 _ rfl rfl))

/-- The gradient of the embedding's weights, laid out by device. -/
theorem embed_ref (i : S4x256x256.Idx) : val_main_v64 (F := Ideal) x0 x1 x2 x3 x4 x5 x7 i
    = ∑ t ∈ Finset.range 2048, ent x3 t (i 1).val * (ent x0 t (256 * (i 0).val + (i 2).val)
        * ent (gate x1 x2 x4 x5 x7) t (256 * (i 0).val + (i 2).val)) := by
  have i0 : (i 0).val < 4 := (i 0).isLt
  have i1 : (i 1).val < 256 := (i 1).isLt
  have i2 : (i 2).val < 256 := (i 2).isLt
  rw [val_main_v64_apply, val_main_v63_apply, val_main_v59_apply, val_main_v58_apply, Finset.sum_range]
  refine Finset.sum_congr rfl fun k _ => ?_
  rw [val_main_v33_apply, same31]
  refine (mul_comm _ _).trans (congrArg₂ (· * ·) (ent_val x3 _ rfl ?_) (congrArg₂ (· * ·) (ent_val x0 _ rfl ?_) (ent_val (gate x1 x2 x4 x5 x7) _ rfl ?_)))
  · show (((i 1).val * 4 + (i 0).val) * 256 + (i 2).val) / 1024 = (i 1).val
    omega
  · show (((i 1).val * 4 + (i 0).val) * 256 + (i 2).val) % 1024 = 256 * (i 0).val + (i 2).val
    omega
  · show (((i 1).val * 4 + (i 0).val) * 256 + (i 2).val) % 1024 = 256 * (i 0).val + (i 2).val
    omega

/-- The gradient of the normalisation's weights. -/
theorem gain_ref (i : S1x1024.Idx) : val_main_v40 (F := Ideal) x0 x1 x2 x3 x4 x5 x6 x7 i
    = ∑ t ∈ Finset.range 2048, inputAt x0 (plus x3 x6) (gate x1 x2 x4 x5 x7) x5 t (i 1).val * unitAt (merged x1 x2 x7) t (i 1).val := by
  have i0 : (i 0).val < 1 := (i 0).isLt
  rw [val_main_v40_apply, val_main_v39_apply, Finset.sum_range]
  refine (congrArg (· + _) zero_f32).trans ((zero_add _).trans (Finset.sum_congr rfl fun k _ => ?_))
  rw [val_main_v38_apply, unit_ref, input_ref]
  have e : (idx_main_v40 i 0).val = (i 1).val := by show (i 0).val * 1024 + (i 1).val = (i 1).val; omega
  exact (mul_comm _ _).trans (congrArg (fun q => inputAt x0 (plus x3 x6) (gate x1 x2 x4 x5 x7) x5 k.val q * unitAt (merged x1 x2 x7) k.val q) e)

end Cert.Ple

end
-- ==== Proof.PleGrid.lean ====
/- The layer's end, backward, point by point over the grid: what the points read, and what the buffers hold after each. -/
module

public import proofs.«01_k».proof.Proof.PlePoint
public import proofs.«01_k».proof.Proof.PleRef
public import proofs.«01_k».proof.Proof.Gen.Kernel2Ideal.Value
public import Idealize.ShloMosaic.Lib.StableHlo.Run
import all proofs.«01_k».proof.Proof.Gen.Kernel2Ideal.Frame.Runs
import all proofs.«01_k».proof.Proof.Gen.Kernel2Ideal.Frame
import all proofs.«01_k».proof.Proof.Gen.Kernel2Ideal.Value

@[expose] public section

noncomputable section

namespace Cert.Ple

open Idealize.ShloMosaic Idealize.ShloMosaic.ValueIdx Idealize.SL Cert.Attn
open Cert.Kernel2Ideal Cert.Kernel2Ideal.Gen Cert.Kernel2Ideal.Value

variable (m : (ℓ : Loc nD τ sig) → Buf (Elt Ideal) ℓ) (c : Dev nD)

abbrev ct : FVec Ideal S2048x1024 .f32 := m (c.tc.loc main_arg0)
abbrev hs : FVec Ideal S2048x1024 .f32 := m (c.tc.loc main_arg1)
abbrev br : FVec Ideal S2048x1024 .f32 := m (c.tc.loc main_arg2)
abbrev em : FVec Ideal S2048x256 .f32 := m (c.tc.loc main_arg3)
abbrev gn : FVec Ideal S1x1024 .f32 := m (c.tc.loc main_arg4)
abbrev wg : FVec Ideal S1024x1024 .f32 := m (c.tc.loc main_arg5)
abbrev wp : FVec Ideal S256x1024 .f32 := m (c.tc.loc main_arg6)
abbrev wo : FVec Ideal S1024x1024 .f32 := m (c.tc.loc main_arg7)

/-- The merged stream, the embedding's rows and the gate, of the arguments. -/
abbrev mH : Rows := merged (hs m c) (br m c) (wo m c)
abbrev mE : Rows := plus (em m c) (wp m c)
abbrev mG : Rows := gate (hs m c) (br m c) (gn m c) (wg m c) (wo m c)

/-! ## What the points read -/

theorem merged_eq : V m c main_v1 = (mH m c : FVec Ideal S2048x1024 .f32) := by
  unfold V
  simp only [hostOps0, List.flatten_cons, List.flatten_nil, List.append_nil, List.cons_append, List.nil_append]
  after_results_simp
  rfl

theorem gate_eq : V m c main_v21 = (truncf .bf16 (mG m c : FVec Ideal S2048x1024 .f32) bitsLt_bf16_f32 : FVec Ideal S2048x1024 .bf16) := by
  unfold V
  simp only [hostOps0, List.flatten_cons, List.flatten_nil, List.append_nil, List.cons_append, List.nil_append]
  after_results_simp
  rfl

theorem plus_eq : V m c main_v23 = (truncf .bf16 (mE m c : FVec Ideal S2048x1024 .f32) bitsLt_bf16_f32 : FVec Ideal S2048x1024 .bf16) := by
  unfold V
  simp only [hostOps0, List.flatten_cons, List.flatten_nil, List.append_nil, List.cons_append, List.nil_append]
  after_results_simp
  rfl

theorem left_eq : V m c main_v25 = (truncf .bf16 (extractStridedSlice S2048x512 ![0, 0] (br m c) slices_S2048x1024_S2048x512_0_0) bitsLt_bf16_f32 : FVec Ideal S2048x512 .bf16) := by
  unfold V
  simp only [hostOps0, List.flatten_cons, List.flatten_nil, List.append_nil, List.cons_append, List.nil_append]
  after_results_simp

theorem right_eq : V m c main_v27 = (truncf .bf16 (extractStridedSlice S2048x512 ![0, 512] (br m c) slices_S2048x1024_S2048x512_0_512) bitsLt_bf16_f32 : FVec Ideal S2048x512 .bf16) := by
  unfold V
  simp only [hostOps0, List.flatten_cons, List.flatten_nil, List.append_nil, List.cons_append, List.nil_append]
  after_results_simp

theorem gateWeights_eq : V m c main_v28 = (truncf .bf16 (wg m c) bitsLt_bf16_f32 : FVec Ideal S1024x1024 .bf16) := by
  unfold V
  simp only [hostOps0, List.flatten_cons, List.flatten_nil, List.append_nil, List.cons_append, List.nil_append]
  after_results_simp

theorem outWeights_eq : V m c main_v29 = (truncf .bf16 (wo m c) bitsLt_bf16_f32 : FVec Ideal S1024x1024 .bf16) := by
  unfold V
  simp only [hostOps0, List.flatten_cons, List.flatten_nil, List.append_nil, List.cons_append, List.nil_append]
  after_results_simp

theorem index0 : ∀ p : Fin cfg0.N, win0_0.index p (0 : Fin 2) = p.val ∧ win0_0.index p (1 : Fin 2) = 0 :=
  (by decide +kernel : ∀ p : Fin grid0.N, win0_0.index p (0 : Fin 2) = p.val ∧ win0_0.index p (1 : Fin 2) = 0)
theorem index1 : ∀ p : Fin cfg0.N, win0_1.index p (0 : Fin 2) = p.val ∧ win0_1.index p (1 : Fin 2) = 0 :=
  (by decide +kernel : ∀ p : Fin grid0.N, win0_1.index p (0 : Fin 2) = p.val ∧ win0_1.index p (1 : Fin 2) = 0)
theorem index2 : ∀ p : Fin cfg0.N, win0_2.index p (0 : Fin 2) = p.val ∧ win0_2.index p (1 : Fin 2) = 0 :=
  (by decide +kernel : ∀ p : Fin grid0.N, win0_2.index p (0 : Fin 2) = p.val ∧ win0_2.index p (1 : Fin 2) = 0)
theorem index3 : ∀ p : Fin cfg0.N, win0_3.index p (0 : Fin 2) = p.val ∧ win0_3.index p (1 : Fin 2) = 0 :=
  (by decide +kernel : ∀ p : Fin grid0.N, win0_3.index p (0 : Fin 2) = p.val ∧ win0_3.index p (1 : Fin 2) = 0)
theorem index4 : ∀ p : Fin cfg0.N, win0_4.index p (0 : Fin 2) = p.val ∧ win0_4.index p (1 : Fin 2) = 0 :=
  (by decide +kernel : ∀ p : Fin grid0.N, win0_4.index p (0 : Fin 2) = p.val ∧ win0_4.index p (1 : Fin 2) = 0)
theorem index5 : ∀ p : Fin cfg0.N, win0_5.index p (0 : Fin 2) = p.val ∧ win0_5.index p (1 : Fin 2) = 0 :=
  (by decide +kernel : ∀ p : Fin grid0.N, win0_5.index p (0 : Fin 2) = p.val ∧ win0_5.index p (1 : Fin 2) = 0)
theorem index6 : ∀ p : Fin cfg0.N, win0_6.index p (0 : Fin 2) = p.val ∧ win0_6.index p (1 : Fin 2) = 0 :=
  (by decide +kernel : ∀ p : Fin grid0.N, win0_6.index p (0 : Fin 2) = p.val ∧ win0_6.index p (1 : Fin 2) = 0)
theorem index7 : ∀ p : Fin cfg0.N, win0_7.index p (0 : Fin 2) = 0 ∧ win0_7.index p (1 : Fin 2) = 0 :=
  (by decide +kernel : ∀ p : Fin grid0.N, win0_7.index p (0 : Fin 2) = 0 ∧ win0_7.index p (1 : Fin 2) = 0)
theorem index8 : ∀ p : Fin cfg0.N, win0_8.index p (0 : Fin 2) = 0 ∧ win0_8.index p (1 : Fin 2) = 0 :=
  (by decide +kernel : ∀ p : Fin grid0.N, win0_8.index p (0 : Fin 2) = 0 ∧ win0_8.index p (1 : Fin 2) = 0)
theorem index9 : ∀ p : Fin cfg0.N, win0_9.index p (0 : Fin 2) = 0 ∧ win0_9.index p (1 : Fin 2) = 0 :=
  (by decide +kernel : ∀ p : Fin grid0.N, win0_9.index p (0 : Fin 2) = 0 ∧ win0_9.index p (1 : Fin 2) = 0)

/-- Rows `256 i …` of a matrix. -/
def tile {N : ℕ} (x : (⟨2, ![2048, N]⟩ : Shape).Idx → EReal) (i : ℕ) : (⟨2, ![256, N]⟩ : Shape).Idx → EReal := fun y => ent x (256 * i + (y 0).val) (y 1).val

/-- A matrix entry by entry. -/
def all {M N : ℕ} (x : (⟨2, ![M, N]⟩ : Shape).Idx → EReal) : (⟨2, ![M, N]⟩ : Shape).Idx → EReal := fun y => ent x (y 0).val (y 1).val

theorem block0 (p : Fin cfg0.N) : iblk m c 0 p = tile (ct m c) p.val := by
  obtain ⟨e0, e1⟩ := index0 p
  funext y
  refine (congrFun (V_main_arg0 m c) (((cfg0.win 0).blk p).view.emb y)).trans (ent_val (ct m c) _ ?_ ?_)
  · show win0_0.index p (0 : Fin 2) * 256 + 1 * (y 0).val = _; rw [e0]; omega
  · show win0_0.index p (1 : Fin 2) * 1024 + 1 * (y 1).val = _; rw [e1]; omega

theorem block1 (p : Fin cfg0.N) : iblk m c 1 p = tile (mH m c) p.val := by
  obtain ⟨e0, e1⟩ := index1 p
  funext y
  refine (congrFun (merged_eq m c) (((cfg0.win 1).blk p).view.emb y)).trans (ent_val (mH m c) _ ?_ ?_)
  · show win0_1.index p (0 : Fin 2) * 256 + 1 * (y 0).val = _; rw [e0]; omega
  · show win0_1.index p (1 : Fin 2) * 1024 + 1 * (y 1).val = _; rw [e1]; omega

theorem block2 (p : Fin cfg0.N) : iblk m c 2 p = tile (mG m c) p.val := by
  obtain ⟨e0, e1⟩ := index2 p
  funext y
  refine (congrFun (gate_eq m c) (((cfg0.win 2).blk p).view.emb y)).trans (ent_val (mG m c) _ ?_ ?_)
  · show win0_2.index p (0 : Fin 2) * 256 + 1 * (y 0).val = _; rw [e0]; omega
  · show win0_2.index p (1 : Fin 2) * 1024 + 1 * (y 1).val = _; rw [e1]; omega

theorem block3 (p : Fin cfg0.N) : iblk m c 3 p = tile (mE m c) p.val := by
  obtain ⟨e0, e1⟩ := index3 p
  funext y
  refine (congrFun (plus_eq m c) (((cfg0.win 3).blk p).view.emb y)).trans (ent_val (mE m c) _ ?_ ?_)
  · show win0_3.index p (0 : Fin 2) * 256 + 1 * (y 0).val = _; rw [e0]; omega
  · show win0_3.index p (1 : Fin 2) * 1024 + 1 * (y 1).val = _; rw [e1]; omega

theorem block4 (p : Fin cfg0.N) : iblk m c 4 p = tile (em m c) p.val := by
  obtain ⟨e0, e1⟩ := index4 p
  funext y
  refine (congrFun (V_main_arg3 m c) (((cfg0.win 4).blk p).view.emb y)).trans (ent_val (em m c) _ ?_ ?_)
  · show win0_4.index p (0 : Fin 2) * 256 + 1 * (y 0).val = _; rw [e0]; omega
  · show win0_4.index p (1 : Fin 2) * 256 + 1 * (y 1).val = _; rw [e1]; omega

theorem block5 (p : Fin cfg0.N) (y : S256x512.Idx) : iblk m c 5 p y = ent (br m c) (256 * p.val + (y 0).val) (0 + (y 1).val) := by
  obtain ⟨e0, e1⟩ := index5 p
  refine (congrFun (left_eq m c) (((cfg0.win 5).blk p).view.emb y)).trans (ent_val (br m c) _ ?_ ?_)
  · show 0 + (win0_5.index p (0 : Fin 2) * 256 + 1 * (y 0).val) = _; rw [e0]; omega
  · show 0 + (win0_5.index p (1 : Fin 2) * 512 + 1 * (y 1).val) = _; rw [e1]; omega

theorem block6 (p : Fin cfg0.N) (y : S256x512.Idx) : iblk m c 6 p y = ent (br m c) (256 * p.val + (y 0).val) (512 + (y 1).val) := by
  obtain ⟨e0, e1⟩ := index6 p
  refine (congrFun (right_eq m c) (((cfg0.win 6).blk p).view.emb y)).trans (ent_val (br m c) _ ?_ ?_)
  · show 0 + (win0_6.index p (0 : Fin 2) * 256 + 1 * (y 0).val) = _; rw [e0]; omega
  · show 512 + (win0_6.index p (1 : Fin 2) * 512 + 1 * (y 1).val) = _; rw [e1]; omega

theorem block56 (p : Fin cfg0.N) : beside (iblk m c 5 p) (iblk m c 6 p) = tile (br m c) p.val := by
  funext y
  rw [beside]
  split
  · exact (block5 m c p _).trans (congrArg (ent (br m c) (256 * p.val + (y 0).val)) (Nat.zero_add _))
  · next h => exact (block6 m c p _).trans (congrArg (ent (br m c) (256 * p.val + (y 0).val)) (by show 512 + ((y 1).val - 512) = (y 1).val; omega))

theorem block7 (p : Fin cfg0.N) : iblk m c 7 p = all (gn m c) := by
  obtain ⟨e0, e1⟩ := index7 p
  funext y
  refine (congrFun (V_main_arg4 m c) (((cfg0.win 7).blk p).view.emb y)).trans (ent_val (gn m c) _ ?_ ?_)
  · show win0_7.index p (0 : Fin 2) * 1 + 1 * (y 0).val = _; rw [e0]; omega
  · show win0_7.index p (1 : Fin 2) * 1024 + 1 * (y 1).val = _; rw [e1]; omega

theorem block8 (p : Fin cfg0.N) : iblk m c 8 p = all (wg m c) := by
  obtain ⟨e0, e1⟩ := index8 p
  funext y
  refine (congrFun (gateWeights_eq m c) (((cfg0.win 8).blk p).view.emb y)).trans (ent_val (wg m c) _ ?_ ?_)
  · show win0_8.index p (0 : Fin 2) * 1024 + 1 * (y 0).val = _; rw [e0]; omega
  · show win0_8.index p (1 : Fin 2) * 1024 + 1 * (y 1).val = _; rw [e1]; omega

theorem block9 (p : Fin cfg0.N) : iblk m c 9 p = all (wo m c) := by
  obtain ⟨e0, e1⟩ := index9 p
  funext y
  refine (congrFun (outWeights_eq m c) (((cfg0.win 9).blk p).view.emb y)).trans (ent_val (wo m c) _ ?_ ?_)
  · show win0_9.index p (0 : Fin 2) * 1024 + 1 * (y 0).val = _; rw [e0]; omega
  · show win0_9.index p (1 : Fin 2) * 1024 + 1 * (y 1).val = _; rw [e1]; omega

/-! ## A tile's terms -/

abbrev slopeOf (t q : ℕ) : EReal := slopeAt (ct m c) (mE m c) (mG m c) t q
abbrev inputOf (t q : ℕ) : EReal := inputAt (ct m c) (mE m c) (mG m c) (wg m c) t q
abbrev streamOf (t : ℕ) (q : Fin 1024) : EReal := streamAt (ct m c) (mH m c) (mE m c) (mG m c) (gn m c) (wg m c) t q

theorem slope_tile (i : ℕ) : slope (tile (ct m c) i) (tile (mE m c) i) (tile (mG m c) i) = fun y => slopeOf m c (256 * i + (y 0).val) (y 1).val := rfl

theorem input_tile (i : ℕ) : across (slope (tile (ct m c) i) (tile (mE m c) i) (tile (mG m c) i)) (all (wg m c))
    = fun y => inputOf m c (256 * i + (y 0).val) (y 1).val := rfl

theorem unit_tile (i : ℕ) : unit (tile (mH m c) i) = fun y => unitAt (mH m c) (256 * i + (y 0).val) (y 1).val := rfl

theorem stream_tile (i : ℕ) : cot (tile (ct m c) i) (tile (mH m c) i) (tile (mG m c) i) (tile (mE m c) i) (all (gn m c)) (all (wg m c))
    = fun y => streamOf m c (256 * i + (y 0).val) (y 1) := by
  rw [cot, input_tile]
  rfl

/-- The terms of the first `n` tiles' rows. -/
def upTo (f : ℕ → EReal) (n : ℕ) : EReal := ∑ t ∈ Finset.range (256 * n), f t

theorem upTo_succ (f : ℕ → EReal) (n : ℕ) : upTo f n + ∑ r : Fin 256, f (256 * n + r.val) = upTo f (n + 1) := by
  rw [upTo, upTo, Nat.mul_succ, Finset.sum_range_add]
  exact congrArg (_ + ·) (Finset.sum_range fun t => f (256 * n + t)).symm

theorem upTo_one (f : ℕ → EReal) : 0 + ∑ r : Fin 256, f (256 * 0 + r.val) = upTo f 1 := upTo_succ f 0

/-- The terms, of a row, of the four arrays summed over the rows. -/
def gateTerm (y : S1024x1024.Idx) (t : ℕ) : EReal := unitAt (mH m c) t (y 0).val * ent (gn m c) 0 (y 0).val * slopeOf m c t (y 1).val
def embedTerm (j : S4x256x256.Idx) (t : ℕ) : EReal :=
  ent (em m c) t (j 1).val * (ent (ct m c) t (256 * (j 0).val + (j 2).val) * ent (mG m c) t (256 * (j 0).val + (j 2).val))
def outTerm (y : S1024x1024.Idx) (t : ℕ) : EReal := ent (br m c) t (y 0).val * streamOf m c t (y 1)
def gainTerm (y : S1x1024.Idx) (t : ℕ) : EReal := inputOf m c t (y 1).val * unitAt (mH m c) t (y 1).val

/-! ## The contents after each point -/

abbrev Outs := Vec Ideal S256x1024 .f32 × Vec Ideal S256x1024 .f32 × Vec Ideal S1024x1024 .f32 × Vec Ideal S4x256x256 .f32 × Vec Ideal S1024x1024 .f32
  × Vec Ideal S1x1024 .f32

structure After (n : ℕ) (st : Outs) : Prop where
  stream : st.1 = fun y => streamOf m c (256 * n + (y 0).val) (y 1)
  branch : st.2.1 = fun y => (∑ l : Fin 1024, streamOf m c (256 * n + (y 0).val) l * ent (wo m c) (y 1).val l.val : EReal)
  gate : st.2.2.1 = fun y => upTo (gateTerm m c y) (n + 1)
  embed : st.2.2.2.1 = fun y => upTo (embedTerm m c y) (n + 1)
  out : st.2.2.2.2.1 = fun y => upTo (outTerm m c y) (n + 1)
  gain : st.2.2.2.2.2 = fun y => upTo (gainTerm m c y) (n + 1)

theorem first (p : Fin cfg0.N) (h0 : p.val % 8 = 0) : After m c p.val (outsAt0 m c p.val p.isLt) := by
  have h8 : p.val < 8 := lt_of_lt_of_eq p.isLt N_0
  have hp : p.val = 0 := by omega
  rw [outsAt0_A m c p h0]
  refine ⟨?_, ?_, ?_, ?_, ?_, ?_⟩ <;> dsimp only
  · rw [stream_A, block0, block1, block2, block3, block7, block8, stream_tile]
  · rw [merged_A, block0, block1, block2, block3, block7, block8, block9, stream_tile]
    rfl
  · rw [gate_A, block0, block1, block2, block3, block7, slope_tile, unit_tile, hp]
    exact funext fun y => upTo_one (gateTerm m c y)
  · rw [embed_A, block0, block2, block4, hp]
    exact funext fun y => upTo_one (embedTerm m c y)
  · rw [out_A, block0, block1, block2, block3, block7, block8, block56, stream_tile, hp]
    exact funext fun y => upTo_one (outTerm m c y)
  · rw [gain_A, block0, block1, block2, block3, block8, input_tile, unit_tile, hp]
    exact funext fun y => upTo_one (gainTerm m c y)

theorem next (p : Fin cfg0.N) (h0 : ¬p.val % 8 = 0) (hb : ∀ h, After m c (p.val - 1) (outsAt0 m c (p.val - 1) h)) :
    After m c p.val (outsAt0 m c p.val p.isLt) := by
  have hp : p.val - 1 + 1 = p.val := by omega
  have h := hb (by have := p.isLt; omega)
  rw [outsAt0_B m c p h0]
  refine ⟨?_, ?_, ?_, ?_, ?_, ?_⟩ <;> dsimp only
  · rw [stream_B, block0, block1, block2, block3, block7, block8, stream_tile]
  · rw [merged_B, block0, block1, block2, block3, block7, block8, block9, stream_tile]
    rfl
  · rw [gate_B, block0, block1, block2, block3, block7, slope_tile, unit_tile, h.gate, hp]
    exact funext fun y => upTo_succ (gateTerm m c y) p.val
  · rw [embed_B, block0, block2, block4, h.embed, hp]
    exact funext fun y => upTo_succ (embedTerm m c y) p.val
  · rw [out_B, block0, block1, block2, block3, block7, block8, block56, stream_tile, h.out, hp]
    exact funext fun y => upTo_succ (outTerm m c y) p.val
  · rw [gain_B, block0, block1, block2, block3, block8, input_tile, unit_tile, h.gain, hp]
    exact funext fun y => upTo_succ (gainTerm m c y) p.val

theorem after (n : ℕ) : ∀ hn : n < cfg0.N, After m c n (outsAt0 m c n hn) := by
  have h8 : cfg0.N = 8 := N_0
  induction n with
  | zero => exact fun hn => first m c ⟨0, hn⟩ rfl
  | succ n ih => exact fun hn => next m c ⟨n + 1, hn⟩ (by show ¬(n + 1) % 8 = 0; omega) ih

end Cert.Ple

end
-- ==== Proof.PleArrays.lean ====
/- The six arrays of the layer's end, backward, against the reference's. -/
module

public import proofs.«01_k».proof.Proof.PleGrid
import all proofs.«01_k».proof.Proof.Gen.Kernel2Ideal.Value

@[expose] public section

noncomputable section

namespace Cert.Ple

open Idealize.ShloMosaic Idealize.ShloMosaic.ValueIdx Idealize.SL Cert.Attn
open Cert.Kernel2Ideal Cert.Kernel2Ideal.Gen Cert.Kernel2Ideal.Value

variable (m : (ℓ : Loc nD τ sig) → Buf (Elt Ideal) ℓ) (c : Dev nD)

/-! ## The two arrays written tile by tile -/

theorem index10 : ∀ p : Fin cfg0.N, win0_10.index p (0 : Fin 2) = p.val ∧ win0_10.index p (1 : Fin 2) = 0 :=
  (by decide +kernel : ∀ p : Fin grid0.N, win0_10.index p (0 : Fin 2) = p.val ∧ win0_10.index p (1 : Fin 2) = 0)
theorem flush10 : ∀ p : Fin cfg0.N, (cfg0.win 10).flush p = true := by decide +kernel
theorem index11 : ∀ p : Fin cfg0.N, win0_11.index p (0 : Fin 2) = p.val ∧ win0_11.index p (1 : Fin 2) = 0 :=
  (by decide +kernel : ∀ p : Fin grid0.N, win0_11.index p (0 : Fin 2) = p.val ∧ win0_11.index p (1 : Fin 2) = 0)
theorem flush11 : ∀ p : Fin cfg0.N, (cfg0.win 11).flush p = true := by decide +kernel

theorem stream_array : (dats m 0 c).arrAt 10 cfg0.N = Cert.Reference2Ideal.Read.val_main_v57 (F := Ideal)
    (ct m c) (hs m c) (br m c) (em m c) (gn m c) (wg m c) (wp m c) (wo m c) := by
  have h8 : cfg0.N = 8 := N_0
  funext i
  have i0 : (i 0).val < 2048 := (i 0).isLt
  have i1 : (i 1).val < 1024 := (i 1).isLt
  let p : Fin cfg0.N := ⟨(i 0).val / 256, by omega⟩
  let y : S256x1024.Idx := ix2 (⟨(i 0).val % 256, by omega⟩ : Fin 256) (i 1)
  obtain ⟨e0, e1⟩ := index10 p
  have hi : ((cfg0.win 10).blk p).view.emb y = i := by
    refine funext fun x => Fin.ext ?_
    match x with
    | ⟨0, _⟩ => show win0_10.index p (0 : Fin 2) * 256 + 1 * ((i 0).val % 256) = (i 0).val; rw [e0]; show (i 0).val / 256 * 256 + 1 * ((i 0).val % 256) = _; omega
    | ⟨1, _⟩ => show win0_10.index p (1 : Fin 2) * 1024 + 1 * (i 1).val = (i 1).val; rw [e1]; omega
  refine Eq.trans (congrArg ((dats m 0 c).arrAt 10 cfg0.N) hi.symm) ((congrFun (blocks10 m c p (flush10 p)) y).trans ?_)
  rw [flushed10, stream_ref]
  refine Eq.trans (b := (outsAt0 m c p.val p.isLt).1 y) rfl ?_
  rw [(after m c p.val p.isLt).stream]
  refine Eq.trans (b := streamOf m c (256 * ((i 0).val / 256) + (i 0).val % 256) (i 1)) rfl ?_
  rw [show 256 * ((i 0).val / 256) + (i 0).val % 256 = (i 0).val by omega]

theorem branch_array : (dats m 0 c).arrAt 11 cfg0.N = Cert.Reference2Ideal.Read.val_main_v62 (F := Ideal)
    (ct m c) (hs m c) (br m c) (em m c) (gn m c) (wg m c) (wp m c) (wo m c) := by
  have h8 : cfg0.N = 8 := N_0
  funext i
  have i0 : (i 0).val < 2048 := (i 0).isLt
  have i1 : (i 1).val < 1024 := (i 1).isLt
  let p : Fin cfg0.N := ⟨(i 0).val / 256, by omega⟩
  let y : S256x1024.Idx := ix2 (⟨(i 0).val % 256, by omega⟩ : Fin 256) (i 1)
  obtain ⟨e0, e1⟩ := index11 p
  have hi : ((cfg0.win 11).blk p).view.emb y = i := by
    refine funext fun x => Fin.ext ?_
    match x with
    | ⟨0, _⟩ => show win0_11.index p (0 : Fin 2) * 256 + 1 * ((i 0).val % 256) = (i 0).val; rw [e0]; show (i 0).val / 256 * 256 + 1 * ((i 0).val % 256) = _; omega
    | ⟨1, _⟩ => show win0_11.index p (1 : Fin 2) * 1024 + 1 * (i 1).val = (i 1).val; rw [e1]; omega
  refine Eq.trans (congrArg ((dats m 0 c).arrAt 11 cfg0.N) hi.symm) ((congrFun (blocks11 m c p (flush11 p)) y).trans ?_)
  rw [flushed11, branch_ref]
  refine Eq.trans (b := (outsAt0 m c p.val p.isLt).2.1 y) rfl ?_
  rw [(after m c p.val p.isLt).branch]
  refine Eq.trans (b := ∑ l : Fin 1024, streamOf m c (256 * ((i 0).val / 256) + (i 0).val % 256) l * ent (wo m c) (i 1).val l.val) rfl ?_
  rw [show 256 * ((i 0).val / 256) + (i 0).val % 256 = (i 0).val by omega]

/-! ## The four arrays summed over the tiles -/

theorem lastPoint : 7 < cfg0.N := lt_of_lt_of_eq (by decide) N_0.symm

theorem upTo_all (f : ℕ → EReal) : upTo f (7 + 1) = ∑ t ∈ Finset.range 2048, f t := rfl

theorem index12 : ∀ p : Fin cfg0.N, win0_12.index p (0 : Fin 2) = 0 ∧ win0_12.index p (1 : Fin 2) = 0 :=
  (by decide +kernel : ∀ p : Fin grid0.N, win0_12.index p (0 : Fin 2) = 0 ∧ win0_12.index p (1 : Fin 2) = 0)
theorem flush12 : ∀ p : Fin cfg0.N, (cfg0.win 12).flush p = true ↔ p.val = 7 := by decide +kernel

theorem same12 (p : Fin cfg0.N) (y : S1024x1024.Idx) : ((cfg0.win 12).blk p).view.emb y = y := by
  obtain ⟨e0, e1⟩ := index12 p
  refine funext fun x => Fin.ext ?_
  match x with
  | ⟨0, _⟩ => show win0_12.index p (0 : Fin 2) * 1024 + 1 * (y 0).val = (y 0).val; rw [e0]; omega
  | ⟨1, _⟩ => show win0_12.index p (1 : Fin 2) * 1024 + 1 * (y 1).val = (y 1).val; rw [e1]; omega

theorem gate_last : (dats m 0 c).arrAt 12 cfg0.N = (outsAt0 m c 7 lastPoint).2.2.1 := by
  refine (dats m 0 c).arrAt_eq_of_cover 12 _ (fun t hf => ?_) (fun i => ⟨⟨7, lastPoint⟩, (flush12 _).mpr rfl, ?_⟩)
  · obtain rfl : t = ⟨7, lastPoint⟩ := Fin.ext ((flush12 t).mp hf)
    rw [flushed12]
    funext y
    exact congrArg (outsAt0 m c 7 lastPoint).2.2.1 (same12 ⟨7, lastPoint⟩ y).symm
  · have h := ((cfg0.win 12).blk ⟨7, lastPoint⟩).view.emb_mem_set i
    rwa [same12] at h

theorem gate_array : (dats m 0 c).arrAt 12 cfg0.N = Cert.Reference2Ideal.Read.val_main_v36 (F := Ideal)
    (ct m c) (hs m c) (br m c) (em m c) (gn m c) (wg m c) (wp m c) (wo m c) := by
  rw [gate_last, (after m c 7 lastPoint).gate]
  exact funext fun y => (upTo_all _).trans (gate_ref _ _ _ _ _ _ _ _ y).symm

theorem index13 : ∀ p : Fin cfg0.N, win0_13.index p (0 : Fin 3) = 0 ∧ win0_13.index p (1 : Fin 3) = 0 ∧ win0_13.index p (2 : Fin 3) = 0 :=
  (by decide +kernel : ∀ p : Fin grid0.N, win0_13.index p (0 : Fin 3) = 0 ∧ win0_13.index p (1 : Fin 3) = 0 ∧ win0_13.index p (2 : Fin 3) = 0)
theorem flush13 : ∀ p : Fin cfg0.N, (cfg0.win 13).flush p = true ↔ p.val = 7 := by decide +kernel

theorem same13 (p : Fin cfg0.N) (y : S4x256x256.Idx) : ((cfg0.win 13).blk p).view.emb y = y := by
  obtain ⟨e0, e1, e2⟩ := index13 p
  refine funext fun x => Fin.ext ?_
  match x with
  | ⟨0, _⟩ => show win0_13.index p (0 : Fin 3) * 4 + 1 * (y 0).val = (y 0).val; rw [e0]; omega
  | ⟨1, _⟩ => show win0_13.index p (1 : Fin 3) * 256 + 1 * (y 1).val = (y 1).val; rw [e1]; omega
  | ⟨2, _⟩ => show win0_13.index p (2 : Fin 3) * 256 + 1 * (y 2).val = (y 2).val; rw [e2]; omega

theorem embed_last : (dats m 0 c).arrAt 13 cfg0.N = (outsAt0 m c 7 lastPoint).2.2.2.1 := by
  refine (dats m 0 c).arrAt_eq_of_cover 13 _ (fun t hf => ?_) (fun i => ⟨⟨7, lastPoint⟩, (flush13 _).mpr rfl, ?_⟩)
  · obtain rfl : t = ⟨7, lastPoint⟩ := Fin.ext ((flush13 t).mp hf)
    rw [flushed13]
    funext y
    exact congrArg (outsAt0 m c 7 lastPoint).2.2.2.1 (same13 ⟨7, lastPoint⟩ y).symm
  · have h := ((cfg0.win 13).blk ⟨7, lastPoint⟩).view.emb_mem_set i
    rwa [same13] at h

theorem embed_array : (dats m 0 c).arrAt 13 cfg0.N = Cert.Reference2Ideal.Read.val_main_v64 (F := Ideal)
    (ct m c) (hs m c) (br m c) (em m c) (gn m c) (wg m c) (wo m c) := by
  rw [embed_last, (after m c 7 lastPoint).embed]
  exact funext fun y => (upTo_all _).trans (embed_ref _ _ _ _ _ _ _ y).symm

theorem index14 : ∀ p : Fin cfg0.N, win0_14.index p (0 : Fin 2) = 0 ∧ win0_14.index p (1 : Fin 2) = 0 :=
  (by decide +kernel : ∀ p : Fin grid0.N, win0_14.index p (0 : Fin 2) = 0 ∧ win0_14.index p (1 : Fin 2) = 0)
theorem flush14 : ∀ p : Fin cfg0.N, (cfg0.win 14).flush p = true ↔ p.val = 7 := by decide +kernel

theorem same14 (p : Fin cfg0.N) (y : S1024x1024.Idx) : ((cfg0.win 14).blk p).view.emb y = y := by
  obtain ⟨e0, e1⟩ := index14 p
  refine funext fun x => Fin.ext ?_
  match x with
  | ⟨0, _⟩ => show win0_14.index p (0 : Fin 2) * 1024 + 1 * (y 0).val = (y 0).val; rw [e0]; omega
  | ⟨1, _⟩ => show win0_14.index p (1 : Fin 2) * 1024 + 1 * (y 1).val = (y 1).val; rw [e1]; omega

theorem out_last : (dats m 0 c).arrAt 14 cfg0.N = (outsAt0 m c 7 lastPoint).2.2.2.2.1 := by
  refine (dats m 0 c).arrAt_eq_of_cover 14 _ (fun t hf => ?_) (fun i => ⟨⟨7, lastPoint⟩, (flush14 _).mpr rfl, ?_⟩)
  · obtain rfl : t = ⟨7, lastPoint⟩ := Fin.ext ((flush14 t).mp hf)
    rw [flushed14]
    funext y
    exact congrArg (outsAt0 m c 7 lastPoint).2.2.2.2.1 (same14 ⟨7, lastPoint⟩ y).symm
  · have h := ((cfg0.win 14).blk ⟨7, lastPoint⟩).view.emb_mem_set i
    rwa [same14] at h

theorem out_array : (dats m 0 c).arrAt 14 cfg0.N = Cert.Reference2Ideal.Read.val_main_v61 (F := Ideal)
    (ct m c) (hs m c) (br m c) (em m c) (gn m c) (wg m c) (wp m c) (wo m c) := by
  rw [out_last, (after m c 7 lastPoint).out]
  exact funext fun y => (upTo_all _).trans (out_ref _ _ _ _ _ _ _ _ y).symm

theorem index15 : ∀ p : Fin cfg0.N, win0_15.index p (0 : Fin 2) = 0 ∧ win0_15.index p (1 : Fin 2) = 0 :=
  (by decide +kernel : ∀ p : Fin grid0.N, win0_15.index p (0 : Fin 2) = 0 ∧ win0_15.index p (1 : Fin 2) = 0)
theorem flush15 : ∀ p : Fin cfg0.N, (cfg0.win 15).flush p = true ↔ p.val = 7 := by decide +kernel

theorem same15 (p : Fin cfg0.N) (y : S1x1024.Idx) : ((cfg0.win 15).blk p).view.emb y = y := by
  obtain ⟨e0, e1⟩ := index15 p
  refine funext fun x => Fin.ext ?_
  match x with
  | ⟨0, _⟩ => show win0_15.index p (0 : Fin 2) * 1 + 1 * (y 0).val = (y 0).val; rw [e0]; omega
  | ⟨1, _⟩ => show win0_15.index p (1 : Fin 2) * 1024 + 1 * (y 1).val = (y 1).val; rw [e1]; omega

theorem gain_last : (dats m 0 c).arrAt 15 cfg0.N = (outsAt0 m c 7 lastPoint).2.2.2.2.2 := by
  refine (dats m 0 c).arrAt_eq_of_cover 15 _ (fun t hf => ?_) (fun i => ⟨⟨7, lastPoint⟩, (flush15 _).mpr rfl, ?_⟩)
  · obtain rfl : t = ⟨7, lastPoint⟩ := Fin.ext ((flush15 t).mp hf)
    rw [flushed15]
    funext y
    exact congrArg (outsAt0 m c 7 lastPoint).2.2.2.2.2 (same15 ⟨7, lastPoint⟩ y).symm
  · have h := ((cfg0.win 15).blk ⟨7, lastPoint⟩).view.emb_mem_set i
    rwa [same15] at h

theorem gain_array : (dats m 0 c).arrAt 15 cfg0.N = Cert.Reference2Ideal.Read.val_main_v40 (F := Ideal)
    (ct m c) (hs m c) (br m c) (em m c) (gn m c) (wg m c) (wp m c) (wo m c) := by
  rw [gain_last, (after m c 7 lastPoint).gain]
  exact funext fun y => (upTo_all _).trans (gain_ref _ _ _ _ _ _ _ _ y).symm

/-! ## The same, at arguments that agree -/

theorem stream_agrees {y0 y1 y2 y3 y4 y5 y6 y7} (h0 : y0 = ct m c) (h1 : y1 = hs m c) (h2 : y2 = br m c) (h3 : y3 = em m c) (h4 : y4 = gn m c) (h5 : y5 = wg m c) (h6 : y6 = wp m c) (h7 : y7 = wo m c) :
    Cert.Reference2Ideal.Read.val_main_v57 (F := Ideal) y0 y1 y2 y3 y4 y5 y6 y7 = (dats m 0 c).arrAt 10 cfg0.N := by
  subst h0 h1 h2 h3 h4 h5 h6 h7
  exact (stream_array m c).symm

theorem branch_agrees {y0 y1 y2 y3 y4 y5 y6 y7} (h0 : y0 = ct m c) (h1 : y1 = hs m c) (h2 : y2 = br m c) (h3 : y3 = em m c) (h4 : y4 = gn m c) (h5 : y5 = wg m c) (h6 : y6 = wp m c) (h7 : y7 = wo m c) :
    Cert.Reference2Ideal.Read.val_main_v62 (F := Ideal) y0 y1 y2 y3 y4 y5 y6 y7 = (dats m 0 c).arrAt 11 cfg0.N := by
  subst h0 h1 h2 h3 h4 h5 h6 h7
  exact (branch_array m c).symm

theorem gate_agrees {y0 y1 y2 y3 y4 y5 y6 y7} (h0 : y0 = ct m c) (h1 : y1 = hs m c) (h2 : y2 = br m c) (h3 : y3 = em m c) (h4 : y4 = gn m c) (h5 : y5 = wg m c) (h6 : y6 = wp m c) (h7 : y7 = wo m c) :
    Cert.Reference2Ideal.Read.val_main_v36 (F := Ideal) y0 y1 y2 y3 y4 y5 y6 y7 = (dats m 0 c).arrAt 12 cfg0.N := by
  subst h0 h1 h2 h3 h4 h5 h6 h7
  exact (gate_array m c).symm

theorem embed_agrees {y0 y1 y2 y3 y4 y5 y7} (h0 : y0 = ct m c) (h1 : y1 = hs m c) (h2 : y2 = br m c) (h3 : y3 = em m c) (h4 : y4 = gn m c) (h5 : y5 = wg m c) (h7 : y7 = wo m c) :
    Cert.Reference2Ideal.Read.val_main_v64 (F := Ideal) y0 y1 y2 y3 y4 y5 y7 = (dats m 0 c).arrAt 13 cfg0.N := by
  subst h0 h1 h2 h3 h4 h5 h7
  exact (embed_array m c).symm

theorem out_agrees {y0 y1 y2 y3 y4 y5 y6 y7} (h0 : y0 = ct m c) (h1 : y1 = hs m c) (h2 : y2 = br m c) (h3 : y3 = em m c) (h4 : y4 = gn m c) (h5 : y5 = wg m c) (h6 : y6 = wp m c) (h7 : y7 = wo m c) :
    Cert.Reference2Ideal.Read.val_main_v61 (F := Ideal) y0 y1 y2 y3 y4 y5 y6 y7 = (dats m 0 c).arrAt 14 cfg0.N := by
  subst h0 h1 h2 h3 h4 h5 h6 h7
  exact (out_array m c).symm

theorem gain_agrees {y0 y1 y2 y3 y4 y5 y6 y7} (h0 : y0 = ct m c) (h1 : y1 = hs m c) (h2 : y2 = br m c) (h3 : y3 = em m c) (h4 : y4 = gn m c) (h5 : y5 = wg m c) (h6 : y6 = wp m c) (h7 : y7 = wo m c) :
    Cert.Reference2Ideal.Read.val_main_v40 (F := Ideal) y0 y1 y2 y3 y4 y5 y6 y7 = (dats m 0 c).arrAt 15 cfg0.N := by
  subst h0 h1 h2 h3 h4 h5 h6 h7
  exact (gain_array m c).symm

end Cert.Ple

end
-- ==== Proof.InprojDw.lean ====
/- The gradient of the input projection's weights, block of columns by block of columns. -/
module

public import proofs.«01_k».proof.Proof.Products
public import proofs.«01_k».proof.Proof.Gen.Kernel3Ideal.Value
public import proofs.«01_k».proof.Proof.Gen.Reference3Ideal.Read
public import Idealize.ShloMosaic.Lib.StableHlo.Run
import all proofs.«01_k».proof.Proof.Gen.Kernel3Ideal.Frame.Runs
import all proofs.«01_k».proof.Proof.Gen.Kernel3Ideal.Frame.RunA
import all proofs.«01_k».proof.Proof.Gen.Kernel3Ideal.Frame

@[expose] public section

noncomputable section

namespace Cert.InprojDw

open Idealize.ShloMosaic Idealize.ShloMosaic.ValueIdx Idealize.SL Cert.Attn
open Cert.Kernel3Ideal Cert.Kernel3Ideal.Gen Cert.Kernel3Ideal.Value

/-- The block the kernel stores: the product of the rows' transpose with the columns. -/
theorem stored (v3 : Vec Ideal S1x1024x896 .f32) (h3 : ∀ i, v3 i = (0 : EReal)) (a : Vec Ideal S2048x1024 .bf16) (b : Vec Ideal S2048x896 .bf16)
    (y : S1x1024x896.Idx) : k0_pay2 v3 a b y = (∑ k : Fin 2048, a (ix2 k (y 1)) * b (ix2 k (y 2)) : EReal) := by
  have y0 : (y 0).val < 1 := (y 0).isLt
  unfold k0_pay2
  rw [shapeCast_self, shapeCast_self]
  refine (shapeCast_apply _ _ y (ix2 (y 1) (y 2)) ?_).trans ?_
  · refine (Shape.rowMajor_val_two _).trans (Eq.trans ?_ (Shape.rowMajor_val_three _).symm)
    show (y 1).val * 896 + (y 2).val = ((y 0).val * 1024 + (y 1).val) * 896 + (y 2).val
    omega
  refine (congrArg₂ (· + ·) ((shapeCast_apply _ _ _ y ?_).trans (h3 y)) (matmul_tn_at _ none a b _ (y 1) (y 2))).trans ?_
  · refine (Shape.rowMajor_val_three _).trans (Eq.trans ?_ (Shape.rowMajor_val_two _).symm)
    show ((y 0).val * 1024 + (y 1).val) * 896 + (y 2).val = (y 1).val * 896 + (y 2).val
    omega
  refine (zero_add _).trans ((congrArg (· + _) ?_).trans (zero_add _))
  exact zero_f32

theorem zeros (i : S1x1024x896.Idx) : k0_pay1 (F := Ideal) i = (0 : EReal) := zero_f32

theorem point (c : Dev nD) (i : grid0.Coords) (arg2 : Memref sig .tc .vmem S2048x1024 .bf16) (harg2 : arg2.IsWhole)
    (arg3 : Memref sig .tc .vmem S2048x896 .bf16) (harg3 : arg3.IsWhole) (arg4 : Memref sig .tc .vmem S1x1024x896 .f32) (harg4 : arg4.IsWhole)
    (hc0 : cond0_0 i) (a : Vec Ideal S2048x1024 .bf16) (b : Vec Ideal S2048x896 .bf16) (y : S1x1024x896.Idx) :
    out0_A_2 (F := Ideal) c i arg2 harg2 arg3 harg3 arg4 harg4 hc0 a b y = (∑ k : Fin 2048, a (ix2 k (y 1)) * b (ix2 k (y 2)) : EReal) := by
  unfold out0_A_2 kernelRun0_A
  dsimp only
  sl_unfold_run_names
  dsimp only
  refine (congrFun (View.read_writes_full _ _ _ _ _) y).trans ?_
  refine (congrArg₂ (fun x z => k0_pay2 _ x z y) (load_held arg2 harg2 a _) (load_held arg3 harg3 b _)).trans ?_
  exact stored _ (fun j => (congrFun (View.readCov_full arg4.view _ _ _ _) j).trans (zeros j)) a b y

variable (m : (ℓ : Loc nD τ sig) → Buf (Elt Ideal) ℓ) (c : Dev nD)

/-- The normalised rows, as the reference has them. -/
abbrev rows : FVec Ideal S2048x1024 .f32 :=
  Cert.Reference3Ideal.Read.val_main_v11 (F := Ideal) (m (c.tc.loc main_arg0)) (m (c.tc.loc main_arg1))

theorem rows_eq : V m c main_v12 = truncf .bf16 (rows m c) bitsLt_bf16_f32 := by
  unfold V
  simp only [hostOps0, List.flatten_cons, List.flatten_nil, List.append_nil, List.cons_append, List.nil_append]
  after_results_simp
  rfl

theorem cols_eq : V m c main_v13 = (truncf .bf16 (m (c.tc.loc main_arg2) : FVec Ideal S2048x3584 .f32) bitsLt_bf16_f32 : FVec Ideal S2048x3584 .bf16) := by
  unfold V
  simp only [hostOps0, List.flatten_cons, List.flatten_nil, List.append_nil, List.cons_append, List.nil_append]
  after_results_simp

theorem index0 : ∀ p : Fin cfg0.N, win0_0.index p (0 : Fin 2) = 0 ∧ win0_0.index p (1 : Fin 2) = 0 :=
  (by decide +kernel : ∀ p : Fin grid0.N, win0_0.index p (0 : Fin 2) = 0 ∧ win0_0.index p (1 : Fin 2) = 0)
theorem index1 : ∀ p : Fin cfg0.N, win0_1.index p (0 : Fin 2) = 0 ∧ win0_1.index p (1 : Fin 2) = p.val :=
  (by decide +kernel : ∀ p : Fin grid0.N, win0_1.index p (0 : Fin 2) = 0 ∧ win0_1.index p (1 : Fin 2) = p.val)
theorem index2 : ∀ p : Fin cfg0.N, win0_2.index p (0 : Fin 3) = p.val ∧ win0_2.index p (1 : Fin 3) = 0 ∧ win0_2.index p (2 : Fin 3) = 0 :=
  (by decide +kernel : ∀ p : Fin grid0.N, win0_2.index p (0 : Fin 3) = p.val ∧ win0_2.index p (1 : Fin 3) = 0 ∧ win0_2.index p (2 : Fin 3) = 0)
theorem flush2 : ∀ p : Fin cfg0.N, (cfg0.win 2).flush p = true := by decide +kernel

theorem block0 (p : Fin cfg0.N) (y : S2048x1024.Idx) : iblk m c 0 p y = rows m c y := by
  obtain ⟨e0, e1⟩ := index0 p
  refine (congrFun (rows_eq m c) (((cfg0.win 0).blk p).view.emb y)).trans (congrArg (rows m c) (funext fun x => Fin.ext ?_))
  match x with
  | ⟨0, _⟩ => show win0_0.index p (0 : Fin 2) * 2048 + 1 * (y 0).val = (y 0).val; rw [e0]; omega
  | ⟨1, _⟩ => show win0_0.index p (1 : Fin 2) * 1024 + 1 * (y 1).val = (y 1).val; rw [e1]; omega

theorem block1 (p : Fin cfg0.N) (y : S2048x896.Idx) (j : S2048x3584.Idx) (h0 : (j 0).val = (y 0).val) (h1 : (j 1).val = 896 * p.val + (y 1).val) :
    iblk m c 1 p y = m (c.tc.loc main_arg2) j := by
  obtain ⟨e0, e1⟩ := index1 p
  refine (congrFun (cols_eq m c) (((cfg0.win 1).blk p).view.emb y)).trans (congrArg (m (c.tc.loc main_arg2)) (funext fun x => Fin.ext ?_))
  match x with
  | ⟨0, _⟩ => show win0_1.index p (0 : Fin 2) * 2048 + 1 * (y 0).val = (j 0).val; rw [e0]; omega
  | ⟨1, _⟩ => show win0_1.index p (1 : Fin 2) * 896 + 1 * (y 1).val = (j 1).val; rw [e1]; omega

/-- The kernel's result is the reference's. -/
theorem result : (dats m 0 c).arrAt 2 cfg0.N
    = Cert.Reference3Ideal.Read.val_main_v15 (F := Ideal) (m (c.tc.loc main_arg0)) (m (c.tc.loc main_arg1)) (m (c.tc.loc main_arg2)) := by
  funext i
  have i0 : (i 0).val < 4 := (i 0).isLt
  have i1 : (i 1).val < 1024 := (i 1).isLt
  have i2 : (i 2).val < 896 := (i 2).isLt
  have hN : cfg0.N = 4 := N_0
  let p : Fin cfg0.N := ⟨(i 0).val, by omega⟩
  obtain ⟨e0, e1, e2⟩ := index2 p
  have hi : ((cfg0.win 2).blk p).view.emb (ix3 (0 : Fin 1) (i 1) (i 2) : S1x1024x896.Idx) = i := by
    refine funext fun x => Fin.ext ?_
    match x with
    | ⟨0, _⟩ => show win0_2.index p (0 : Fin 3) * 1 + 1 * 0 = (i 0).val; rw [e0]; show (i 0).val * 1 + 1 * 0 = _; omega
    | ⟨1, _⟩ => show win0_2.index p (1 : Fin 3) * 1024 + 1 * (i 1).val = (i 1).val; rw [e1]; omega
    | ⟨2, _⟩ => show win0_2.index p (2 : Fin 3) * 896 + 1 * (i 2).val = (i 2).val; rw [e2]; omega
  have hb := congrFun (blocks2 m c p (flush2 p)) (ix3 (0 : Fin 1) (i 1) (i 2))
  refine Eq.trans (congrArg ((dats m 0 c).arrAt 2 cfg0.N) hi.symm) (hb.trans ?_)
  rw [flushed2_A]
  refine Eq.trans (b := out0_A_2 c (grid0.coords p) (ms0_0 p) (hs0_0 p) (ms0_1 p) (hs0_1 p) (ms0_2 p) (hs0_2 p) (hcond0_0 p) (iblk m c 0 p) (iblk m c 1 p)
    (ix3 (0 : Fin 1) (i 1) (i 2))) ?_ ((point ..).trans ?_)
  · rfl
  rw [Cert.Reference3Ideal.Read.val_main_v15_apply, Cert.Reference3Ideal.Read.val_main_v14_apply, Cert.Reference3Ideal.Read.val_main_v13_apply,
    Cert.Reference3Ideal.Read.val_main_v12_apply]
  refine Finset.sum_congr rfl fun k _ => (mul_comm _ _).trans (congrArg₂ (· * ·) ?_ ?_)
  · refine block1 m c p _ _ rfl ?_
    show (((i 1).val * 4 + (i 0).val) * 896 + (i 2).val) % 3584 = 896 * (i 0).val + (i 2).val
    omega
  · refine (block0 m c p _).trans (congrArg (rows m c) (funext fun x => Fin.ext ?_))
    match x with
    | ⟨0, _⟩ => rfl
    | ⟨1, _⟩ => show (i 1).val = (((i 1).val * 4 + (i 0).val) * 896 + (i 2).val) / 3584; omega

end Cert.InprojDw

end
-- ==== Proof.InprojDx.lean ====
/- The gradient through the input projection and the normalisation before it: what one point computes. -/
module

public import proofs.«01_k».proof.Proof.RowNorm
public import proofs.«01_k».proof.Proof.Gen.Kernel4Ideal.Value
import all proofs.«01_k».proof.Proof.Gen.Kernel4Ideal.Frame.RunA
import all proofs.«01_k».proof.Proof.Gen.Kernel4Ideal.Frame.RunB
import all proofs.«01_k».proof.Proof.Gen.Kernel4Ideal.Frame.RunC
import all proofs.«01_k».proof.Proof.Gen.Kernel4Ideal.Frame.RunD
import all proofs.«01_k».proof.Proof.Gen.Kernel4Ideal.Frame

@[expose] public section

noncomputable section

namespace Cert.InprojDx

open Idealize.ShloMosaic Idealize.ShloMosaic.ValueIdx Idealize.SL Cert.Attn
open Cert.Kernel4Ideal Cert.Kernel4Ideal.Gen Cert.Kernel4Ideal.Value

abbrev Tile := FVec Ideal S1024x1024 .f32

/-- The product of a block of rows with a block of the weights' columns. -/
def part (a : Vec Ideal S1024x896 .bf16) (w : Vec Ideal S1x1024x896 .bf16) : Tile :=
  fun y => (∑ l : Fin 896, a (ix2 (y 0) l) * w (ix3 0 (y 1) l) : EReal)

theorem product (a : Vec Ideal S1024x896 .bf16) (w : Vec Ideal S1x1024x896 .bf16) (y : S1024x1024.Idx) :
    matmul dot_S1024x896_S1024x896_S1024x1024_1_1_0_0_n_n none (shapeCast S1024x896 a shapeCasts_S1024x896_S1024x896 : FVec Ideal S1024x896 .bf16)
      (shapeCast S1024x896 w shapeCasts_S1x1024x896_S1024x896 : FVec Ideal S1024x896 .bf16) (constant S1024x1024 .f32 0x00000000#32) y = part a w y := by
  rw [shapeCast_self]
  conv_lhs => rw [eq_ix2 y]
  refine (Ideal.matmul_transposedRhs_apply none _ _ _ _ _).trans ((congrArg (· + _) zero_f32).trans ((zero_add _).trans ?_))
  refine Finset.sum_congr rfl fun l _ => congrArg (a (ix2 (y 0) l) * ·) (shapeCast_apply _ _ _ (ix3 0 (y 1) l) ?_)
  refine (Shape.rowMajor_val_three _).trans (Eq.trans ?_ (Shape.rowMajor_val_two _).symm)
  show (0 * 1024 + (y 1).val) * 896 + l.val = (y 1).val * 896 + l.val
  omega

theorem pay2 (a : Vec Ideal S1024x896 .bf16) (w : Vec Ideal S1x1024x896 .bf16) : k0_pay2 a w = part a w := by
  unfold k0_pay2
  dsimp only
  rw [shapeCast_self]
  exact funext (product a w)

theorem pay3 (x : Tile) (a : Vec Ideal S1024x896 .bf16) (w : Vec Ideal S1x1024x896 .bf16) :
    k0_pay3 x a w = fun y => (x y + part a w y : EReal) := by
  unfold k0_pay3
  dsimp only
  rw [shapeCast_self]
  exact funext fun y => congrArg (x y + ·) (product a w y)

/-- A row of a tile. -/
abbrev row (x : Tile) (r : Fin 1024) : Fin 1024 → EReal := fun k => x (ix2 r k)

theorem sum_rows (x : Tile) (acc : BitVec FTy.f32.bits) (hk) (hi) :
    multiReduction .add [1] S1024 x acc reduces_S1024x1024_S1024 hk hi = fun j : S1024.Idx => (∑ k : Fin 1024, x (ix2 (j 0) k) : EReal) :=
  sum_along x acc _ _ _

theorem sum_columns (x : Tile) (acc : BitVec FTy.f32.bits) (hk) (hi) :
    multiReduction .add [0] S1024 x acc reduces_S1024x1024_S1024_2 hk hi = fun j : S1024.Idx => (∑ k : Fin 1024, x (ix2 k (j 0)) : EReal) :=
  sum_down x acc _ _ _

theorem pay4 (h : Tile) : k0_pay4 (F := Ideal) h = fun j : S1024x1.Idx => scale (row h (j 0)) := by
  unfold k0_pay4
  dsimp only
  erw [sum_rows]
  rw [as_column]
  rfl

/-- What a block of rows adds to the gradient of the normalisation's weights. -/
def gainPart (h d : Tile) : FVec Ideal S1x1024 .f32 :=
  fun y => (∑ r : Fin 1024, d (ix2 r (y 1)) * h (ix2 r (y 1)) * scale (row h r) : EReal)

theorem pay5 (h d : Tile) (g : Vec Ideal S1x1024 .f32) : k0_pay5 h d g = fun y => (g y + gainPart h d y : EReal) := by
  unfold k0_pay5
  dsimp only
  rw [shapeCast_self, pay4, column_over]
  erw [sum_columns]
  rw [as_row]
  rfl

/-- The gradient of a block of rows. -/
def rowsBack (h d res : Tile) (g : Vec Ideal S1x1024 .f32) : Tile :=
  fun y => (res y + normBack (row h (y 0)) (fun k => d (ix2 (y 0) k) * g (ix2 0 k)) (y 1) : EReal)

theorem pay6 (h d res : Tile) (g : Vec Ideal S1x1024 .f32) : k0_pay6 h d res g = rowsBack h d res g := by
  unfold k0_pay6
  dsimp only
  rw [pay4, column_over, column_over, column_over, row_over]
  erw [sum_rows]
  rw [as_column]
  funext y
  obtain ⟨r, q, rfl⟩ : ∃ r q, y = ix2 r q := ⟨_, _, eq_ix2 y⟩
  rfl

variable (c : Dev nD) (i : grid0.Coords)
    (arg2 : Memref sig .tc .vmem S1024x896 .bf16) (harg2 : arg2.IsWhole) (arg3 : Memref sig .tc .vmem S1x1024x896 .bf16) (harg3 : arg3.IsWhole)
    (arg4 : Memref sig .tc .vmem S1024x1024 .f32) (harg4 : arg4.IsWhole) (arg5 : Memref sig .tc .vmem S1x1024 .f32) (harg5 : arg5.IsWhole)
    (arg6 : Memref sig .tc .vmem S1024x1024 .f32) (harg6 : arg6.IsWhole) (arg7 : Memref sig .tc .vmem S1024x1024 .f32) (harg7 : arg7.IsWhole)
    (arg8 : Memref sig .tc .vmem S1x1024 .f32) (harg8 : arg8.IsWhole) (arg9 : Memref sig .tc .vmem S1024x1024 .f32) (harg9 : arg9.IsWhole)
    (a : Vec Ideal S1024x896 .bf16) (w : Vec Ideal S1x1024x896 .bf16) (h : Vec Ideal S1024x1024 .f32) (g : Vec Ideal S1x1024 .f32)
    (res : Vec Ideal S1024x1024 .f32) (dg : Vec Ideal S1x1024 .f32) (acc : Vec Ideal S1024x1024 .f32)

theorem acc_A (h0 : cond0_0 i) (h1 : cond0_1 i) (h2 : ¬cond0_2 i) (h3 : ¬cond0_3 i) :
    sout0_A_0 (F := Ideal) c i arg2 harg2 arg3 harg3 arg4 harg4 arg5 harg5 arg6 harg6 arg7 harg7 arg8 harg8 arg9 harg9 h0 h1 h2 h3 a w h g res = part a w := by
  unfold sout0_A_0 kernelRun0_A
  dsimp only
  sl_unfold_run_names
  try dsimp only
  refine (View.read_writes_full _ _ _ _ _).trans ?_
  simp only [load2, load3, reload2]
  exact pay2 a w

theorem acc_D (h0 : ¬cond0_0 i) (h1 : cond0_1 i) (h2 : ¬cond0_2 i) (h3 : ¬cond0_3 i) :
    sout0_D_0 (F := Ideal) c i arg2 harg2 arg3 harg3 arg4 harg4 arg5 harg5 arg6 harg6 arg7 harg7 arg8 harg8 arg9 harg9 h0 h1 h2 h3 a w h g res = part a w := by
  unfold sout0_D_0 kernelRun0_D
  dsimp only
  sl_unfold_run_names
  try dsimp only
  refine (View.read_writes_full _ _ _ _ _).trans ?_
  simp only [load2, load3, reload2]
  exact pay2 a w

theorem acc_B (h0 : ¬cond0_0 i) (h1 : ¬cond0_1 i) (h2 : cond0_2 i) (h3 : ¬cond0_3 i) :
    sout0_B_0 (F := Ideal) c i arg2 harg2 arg3 harg3 arg4 harg4 arg5 harg5 arg6 harg6 arg7 harg7 arg8 harg8 arg9 harg9 h0 h1 h2 h3 a w h g res acc = fun y => (acc y + part a w y : EReal) := by
  unfold sout0_B_0 kernelRun0_B
  dsimp only
  sl_unfold_run_names
  try dsimp only
  refine (View.read_writes_full _ _ _ _ _).trans ?_
  simp only [load2, load3, reload2]
  exact pay3 acc a w

theorem acc_C (h0 : ¬cond0_0 i) (h1 : ¬cond0_1 i) (h2 : cond0_2 i) (h3 : cond0_3 i) :
    sout0_C_0 (F := Ideal) c i arg2 harg2 arg3 harg3 arg4 harg4 arg5 harg5 arg6 harg6 arg7 harg7 arg8 harg8 arg9 harg9 h0 h1 h2 h3 a w h g res dg acc = fun y => (acc y + part a w y : EReal) := by
  unfold sout0_C_0 kernelRun0_C
  dsimp only
  sl_unfold_run_names
  try dsimp only
  refine (View.read_writes_full _ _ _ _ _).trans ?_
  simp only [load2, load3, reload2]
  exact pay3 acc a w

theorem gain_A (h0 : cond0_0 i) (h1 : cond0_1 i) (h2 : ¬cond0_2 i) (h3 : ¬cond0_3 i) :
    out0_A_6 (F := Ideal) c i arg2 harg2 arg3 harg3 arg4 harg4 arg5 harg5 arg6 harg6 arg7 harg7 arg8 harg8 arg9 harg9 h0 h1 h2 h3 a w h g res = fun _ => (0 : EReal) := by
  unfold out0_A_6 kernelRun0_A
  dsimp only
  sl_unfold_run_names
  try dsimp only
  refine (View.read_writes_full _ _ _ _ _).trans ?_
  exact funext fun _ => zero_f32

theorem gain_C (h0 : ¬cond0_0 i) (h1 : ¬cond0_1 i) (h2 : cond0_2 i) (h3 : cond0_3 i) :
    out0_C_6 (F := Ideal) c i arg2 harg2 arg3 harg3 arg4 harg4 arg5 harg5 arg6 harg6 arg7 harg7 arg8 harg8 arg9 harg9 h0 h1 h2 h3 a w h g res dg acc = fun y => (dg y + gainPart h (fun y => (acc y + part a w y : EReal)) y : EReal) := by
  unfold out0_C_6 kernelRun0_C
  dsimp only
  sl_unfold_run_names
  try dsimp only
  refine (View.read_writes_full _ _ _ _ _).trans ?_
  simp only [load2, load3, reload2]
  exact (congrArg (fun x => k0_pay5 h x dg) (pay3 acc a w)).trans (pay5 ..)

theorem rows_C (h0 : ¬cond0_0 i) (h1 : ¬cond0_1 i) (h2 : cond0_2 i) (h3 : cond0_3 i) :
    out0_C_5 (F := Ideal) c i arg2 harg2 arg3 harg3 arg4 harg4 arg5 harg5 arg6 harg6 arg7 harg7 arg8 harg8 arg9 harg9 h0 h1 h2 h3 a w h g res dg acc = rowsBack h (fun y => (acc y + part a w y : EReal)) res g := by
  unfold out0_C_5 kernelRun0_C
  dsimp only
  sl_unfold_run_names
  try dsimp only
  refine (View.read_writes_full _ _ _ _ _).trans ?_
  simp only [load2, load3, reload2]
  exact (congrArg (fun x => k0_pay6 h x res g) (pay3 acc a w)).trans (pay6 ..)

end Cert.InprojDx

end
-- ==== Proof.InprojDxRef.lean ====
/- The reference's gradient through the input projection and the normalisation before it, entry by entry. -/
module

public import proofs.«01_k».proof.Proof.RowNorm
public import proofs.«01_k».proof.Proof.Gen.Reference4Ideal.Read

@[expose] public section

noncomputable section

namespace Cert.InprojDx

open Idealize.ShloMosaic Idealize.ShloMosaic.ValueIdx Cert.Attn
open Cert.Reference4Ideal Cert.Reference4Ideal.Read

variable (x0 : FVec Ideal S2048x3584 .f32) (x1 : FVec Ideal S1024x3584 .f32) (x2 : FVec Ideal S2048x1024 .f32) (x3 : FVec Ideal S1x1024 .f32)
  (x4 : FVec Ideal S2048x1024 .f32)

/-- The gradient of the normalised rows: a row of the first matrix against a row of the weights. -/
def full (r q : ℕ) : EReal := ∑ l ∈ Finset.range 3584, ent x0 r l * ent x1 q l

/-- Row `r` of the hidden states. -/
abbrev hidden (r : ℕ) : Fin 1024 → EReal := fun k => ent x2 r k.val

theorem mean_ref (j : S2048x1.Idx) : val_main_v6 (F := Ideal) x2 j = meanSq (hidden x2 (j 0).val) := by
  rw [val_main_v6_apply, val_main_v4_apply, val_main_v2_apply, val_main_v1_apply]
  refine congrArg (fun s => Ideal.div s len + eps) ?_
  refine (congrArg (· + _) zero_f32).trans ((zero_add _).trans (Finset.sum_congr rfl fun k _ => ?_))
  exact congrArg (fun z => z * z) (ent_val x2 _ rfl rfl)

theorem scale_ref (j : S2048x1.Idx) : val_main_v7 (F := Ideal) x2 j = scale (hidden x2 (j 0).val) := by
  rw [val_main_v7_apply, mean_ref]
  rfl

theorem full_ref (i : S2048x1024.Idx) : val_main_v16 (F := Ideal) x0 x1 i = full x0 x1 (i 0).val (i 1).val := by
  rw [val_main_v16_apply, full, Finset.sum_range]
  exact Finset.sum_congr rfl fun k _ => congrArg₂ (· * ·) (ent_val x0 _ rfl rfl) (ent_val x1 _ rfl rfl)

/-- The gradient of the row before its scaling. -/
abbrev scaled (r : ℕ) : Fin 1024 → EReal := fun k => full x0 x1 r k.val * ent x3 0 k.val

theorem scaled_ref (i : S2048x1024.Idx) : val_main_v21 (F := Ideal) x0 x1 x3 i = scaled x0 x1 x3 (i 0).val (i 1) := by
  rw [val_main_v21_apply, val_main_v20_apply]
  exact congrArg₂ (· * ·) (full_ref x0 x1 i) (ent_val x3 _ rfl rfl)

theorem through_ref (r : S2048.Idx) : val_main_v31 (F := Ideal) x0 x1 x2 x3 r
    = Ideal.div ((∑ k : Fin 1024, hidden x2 (r 0).val k * scaled x0 x1 x3 (r 0).val k)
        * (minusHalf * Ideal.div (scale (hidden x2 (r 0).val)) (meanSq (hidden x2 (r 0).val)))) len := by
  rw [val_main_v31_apply]
  refine (congrArg (· + _) zero_f32).trans ((zero_add _).trans ((Fin.sum_univ_one _).trans ?_))
  rw [val_main_v30_apply, val_main_v28_apply, val_main_v24_apply, val_main_v23_apply, val_main_v10_apply, val_main_v8_apply, scale_ref, mean_ref]
  refine congrArg (fun s => Ideal.div (s * (minusHalf * Ideal.div (scale (hidden x2 (r 0).val)) (meanSq (hidden x2 (r 0).val)))) len) ?_
  refine (congrArg (· + _) zero_f32).trans ((zero_add _).trans (Finset.sum_congr rfl fun k _ => ?_))
  rw [val_main_v22_apply, scaled_ref]
  exact congrArg₂ (· * ·) (ent_val x2 _ (by show (r 0).val * 1 + 0 = _; omega) rfl)
    (congrArg (fun n => scaled x0 x1 x3 n k) (by show (r 0).val * 1 + 0 = _; omega))

/-- The gradient of the hidden states. -/
theorem rows_ref (i : S2048x1024.Idx) : val_main_v36 (F := Ideal) x0 x1 x2 x3 x4 i
    = ent x4 (i 0).val (i 1).val + normBack (hidden x2 (i 0).val) (scaled x0 x1 x3 (i 0).val) (i 1) := by
  rw [val_main_v36_apply, val_main_v35_apply, val_main_v34_apply, val_main_v33_apply, val_main_v32_apply, val_main_v27_apply, val_main_v26_apply,
    val_main_v25_apply, through_ref, scaled_ref, scale_ref]
  refine Eq.trans ?_ (normBack_eq (hidden x2 (i 0).val) (scaled x0 x1 x3 (i 0).val) (i 1) (ent x4 (i 0).val (i 1).val))
  rw [← ent_val x4 i rfl rfl, show hidden x2 (i 0).val (i 1) = x2 i from (ent_val x2 i rfl rfl).symm]
  rfl

/-- The gradient of the normalisation's weights. -/
theorem gain_ref (i : S1x1024.Idx) : val_main_v19 (F := Ideal) x0 x1 x2 i
    = ∑ t ∈ Finset.range 2048, full x0 x1 t (i 1).val * ent x2 t (i 1).val * scale (hidden x2 t) := by
  have i0 : (i 0).val < 1 := (i 0).isLt
  rw [val_main_v19_apply, val_main_v18_apply, Finset.sum_range]
  refine (congrArg (· + _) zero_f32).trans ((zero_add _).trans (Finset.sum_congr rfl fun k _ => ?_))
  rw [val_main_v17_apply, val_main_v12_apply, val_main_v11_apply, scale_ref, full_ref]
  refine (congrArg₂ (fun a b => a * scale (hidden x2 k.val) * b) (ent_val x2 _ rfl ?_) (congrArg (full x0 x1 k.val) ?_)).trans
    ((mul_right_comm _ _ _).trans (congrArg (· * _) (mul_comm _ _)))
  · show (i 0).val * 1024 + (i 1).val = (i 1).val
    omega
  · show (i 0).val * 1024 + (i 1).val = (i 1).val
    omega

end Cert.InprojDx

end
-- ==== Proof.InprojDxGrid.lean ====
/- The gradient through the input projection, point by point over the grid, and its two arrays against the reference's. -/
module

public import proofs.«01_k».proof.Proof.InprojDx
public import proofs.«01_k».proof.Proof.InprojDxRef
public import Idealize.ShloMosaic.Lib.StableHlo.Run
import all proofs.«01_k».proof.Proof.Gen.Kernel4Ideal.Frame.Runs
import all proofs.«01_k».proof.Proof.Gen.Kernel4Ideal.Frame
import all proofs.«01_k».proof.Proof.Gen.Kernel4Ideal.Value

@[expose] public section

noncomputable section

namespace Cert.InprojDx

open Idealize.ShloMosaic Idealize.ShloMosaic.ValueIdx Idealize.SL Cert.Attn
open Cert.Kernel4Ideal Cert.Kernel4Ideal.Gen Cert.Kernel4Ideal.Value

variable (m : (ℓ : Loc nD τ sig) → Buf (Elt Ideal) ℓ) (c : Dev nD)

abbrev du : FVec Ideal S2048x3584 .f32 := m (c.tc.loc main_arg0)
abbrev wt : FVec Ideal S1024x3584 .f32 := m (c.tc.loc main_arg1)
abbrev hs : FVec Ideal S2048x1024 .f32 := m (c.tc.loc main_arg2)
abbrev gn : FVec Ideal S1x1024 .f32 := m (c.tc.loc main_arg3)
abbrev dr : FVec Ideal S2048x1024 .f32 := m (c.tc.loc main_arg4)

/-! ## What the points read -/

theorem weights_eq : V m c main_v3 = (transpose S4x1024x896 [1, 0, 2] (shapeCast S1024x4x896
    (truncf .bf16 (wt m c) bitsLt_bf16_f32) shapeCasts_S1024x3584_S1024x4x896) transposes_S1024x4x896_S4x1024x896_1_0_2 : FVec Ideal S4x1024x896 .bf16) := by
  unfold V
  simp only [hostOps0, List.flatten_cons, List.flatten_nil, List.append_nil, List.cons_append, List.nil_append]
  after_results_simp
  rfl

theorem columns_eq : V m c main_v0 = (truncf .bf16 (du m c) bitsLt_bf16_f32 : FVec Ideal S2048x3584 .bf16) := by
  unfold V
  simp only [hostOps0, List.flatten_cons, List.flatten_nil, List.append_nil, List.cons_append, List.nil_append]
  after_results_simp

theorem weights_at (j : S4x1024x896.Idx) : V m c main_v3 j = ent (wt m c) (j 1).val (896 * (j 0).val + (j 2).val) := by
  have j0 : (j 0).val < 4 := (j 0).isLt
  have j1 : (j 1).val < 1024 := (j 1).isLt
  have j2 : (j 2).val < 896 := (j 2).isLt
  rw [weights_eq]
  refine (transpose_apply _ _ _ j (ix3 (j 1) (j 0) (j 2)) fun b => ?_).trans ?_
  · match b with
    | ⟨0, _⟩ => rfl
    | ⟨1, _⟩ => rfl
    | ⟨2, _⟩ => rfl
  refine (shapeCast_apply _ _ _ (ix2 (j 1) (⟨896 * (j 0).val + (j 2).val, by omega⟩ : Fin 3584)) ?_).trans (ent_val (wt m c) _ rfl rfl)
  refine (Shape.rowMajor_val_two _).trans (Eq.trans ?_ (Shape.rowMajor_val_three _).symm)
  show (j 1).val * 3584 + (896 * (j 0).val + (j 2).val) = ((j 1).val * 4 + (j 0).val) * 896 + (j 2).val
  omega

theorem index0 : ∀ p : Fin cfg0.N, win0_0.index p (0 : Fin 2) = p.val / 4 ∧ win0_0.index p (1 : Fin 2) = p.val % 4 :=
  (by decide +kernel : ∀ p : Fin grid0.N, win0_0.index p (0 : Fin 2) = p.val / 4 ∧ win0_0.index p (1 : Fin 2) = p.val % 4)
theorem index1 : ∀ p : Fin cfg0.N, win0_1.index p (0 : Fin 3) = p.val % 4 ∧ win0_1.index p (1 : Fin 3) = 0 ∧ win0_1.index p (2 : Fin 3) = 0 :=
  (by decide +kernel : ∀ p : Fin grid0.N, win0_1.index p (0 : Fin 3) = p.val % 4 ∧ win0_1.index p (1 : Fin 3) = 0 ∧ win0_1.index p (2 : Fin 3) = 0)
theorem index2 : ∀ p : Fin cfg0.N, win0_2.index p (0 : Fin 2) = p.val / 4 ∧ win0_2.index p (1 : Fin 2) = 0 :=
  (by decide +kernel : ∀ p : Fin grid0.N, win0_2.index p (0 : Fin 2) = p.val / 4 ∧ win0_2.index p (1 : Fin 2) = 0)
theorem index3 : ∀ p : Fin cfg0.N, win0_3.index p (0 : Fin 2) = 0 ∧ win0_3.index p (1 : Fin 2) = 0 :=
  (by decide +kernel : ∀ p : Fin grid0.N, win0_3.index p (0 : Fin 2) = 0 ∧ win0_3.index p (1 : Fin 2) = 0)
theorem index4 : ∀ p : Fin cfg0.N, win0_4.index p (0 : Fin 2) = p.val / 4 ∧ win0_4.index p (1 : Fin 2) = 0 :=
  (by decide +kernel : ∀ p : Fin grid0.N, win0_4.index p (0 : Fin 2) = p.val / 4 ∧ win0_4.index p (1 : Fin 2) = 0)

/-- Rows `1024 i …` of a matrix. -/
def tile (x : FVec Ideal S2048x1024 .f32) (i : ℕ) : Tile := fun y => ent x (1024 * i + (y 0).val) (y 1).val

theorem block0 (p : Fin cfg0.N) (y : S1024x896.Idx) :
    iblk m c 0 p y = ent (du m c) (1024 * (p.val / 4) + (y 0).val) (896 * (p.val % 4) + (y 1).val) := by
  obtain ⟨e0, e1⟩ := index0 p
  refine (congrFun (columns_eq m c) (((cfg0.win 0).blk p).view.emb y)).trans (ent_val (du m c) _ ?_ ?_)
  · show win0_0.index p (0 : Fin 2) * 1024 + 1 * (y 0).val = _; rw [e0]; omega
  · show win0_0.index p (1 : Fin 2) * 896 + 1 * (y 1).val = _; rw [e1]; omega

theorem block1 (p : Fin cfg0.N) (y : S1x1024x896.Idx) :
    iblk m c 1 p y = ent (wt m c) (y 1).val (896 * (p.val % 4) + (y 2).val) := by
  obtain ⟨e0, e1, e2⟩ := index1 p
  have y0 : (y 0).val < 1 := (y 0).isLt
  refine (weights_at m c (((cfg0.win 1).blk p).view.emb y)).trans (congrArg₂ (ent (wt m c)) ?_ ?_)
  · show win0_1.index p (1 : Fin 3) * 1024 + 1 * (y 1).val = _; rw [e1]; omega
  · show 896 * (win0_1.index p (0 : Fin 3) * 1 + 1 * (y 0).val) + (win0_1.index p (2 : Fin 3) * 896 + 1 * (y 2).val) = _; rw [e0, e2]; omega

theorem block2 (p : Fin cfg0.N) : iblk m c 2 p = tile (hs m c) (p.val / 4) := by
  obtain ⟨e0, e1⟩ := index2 p
  funext y
  refine (congrFun (V_main_arg2 m c) (((cfg0.win 2).blk p).view.emb y)).trans (ent_val (hs m c) _ ?_ ?_)
  · show win0_2.index p (0 : Fin 2) * 1024 + 1 * (y 0).val = _; rw [e0]; omega
  · show win0_2.index p (1 : Fin 2) * 1024 + 1 * (y 1).val = _; rw [e1]; omega

theorem block3 (p : Fin cfg0.N) (y : S1x1024.Idx) : iblk m c 3 p y = ent (gn m c) 0 (y 1).val := by
  obtain ⟨e0, e1⟩ := index3 p
  have y0 : (y 0).val < 1 := (y 0).isLt
  refine (congrFun (V_main_arg3 m c) (((cfg0.win 3).blk p).view.emb y)).trans (ent_val (gn m c) _ ?_ ?_)
  · show win0_3.index p (0 : Fin 2) * 1 + 1 * (y 0).val = _; rw [e0]; omega
  · show win0_3.index p (1 : Fin 2) * 1024 + 1 * (y 1).val = _; rw [e1]; omega

theorem block4 (p : Fin cfg0.N) : iblk m c 4 p = tile (dr m c) (p.val / 4) := by
  obtain ⟨e0, e1⟩ := index4 p
  funext y
  refine (congrFun (V_main_arg4 m c) (((cfg0.win 4).blk p).view.emb y)).trans (ent_val (dr m c) _ ?_ ?_)
  · show win0_4.index p (0 : Fin 2) * 1024 + 1 * (y 0).val = _; rw [e0]; omega
  · show win0_4.index p (1 : Fin 2) * 1024 + 1 * (y 1).val = _; rw [e1]; omega

/-! ## The contents after each point -/

/-- The first `896 n` terms of the product's entries, in block `i` of rows. -/
def partial_ (i n : ℕ) : Tile := fun y => (∑ l ∈ Finset.range (896 * n), ent (du m c) (1024 * i + (y 0).val) l * ent (wt m c) (y 1).val l : EReal)

theorem partial_succ (p : Fin cfg0.N) (y : S1024x1024.Idx) :
    partial_ m c (p.val / 4) (p.val % 4) y + part (iblk m c 0 p) (iblk m c 1 p) y = (partial_ m c (p.val / 4) (p.val % 4 + 1) y : EReal) := by
  rw [partial_, partial_, Nat.mul_succ, Finset.sum_range_add]
  refine congrArg (_ + ·) ?_
  rw [part, Finset.sum_range]
  exact Finset.sum_congr rfl fun l _ => congrArg₂ (· * ·) (block0 m c p _) (block1 m c p _)

/-- The first `n` blocks' terms of the gradient of the normalisation's weights. -/
def gainSum (n : ℕ) : FVec Ideal S1x1024 .f32 :=
  fun y => (∑ i ∈ Finset.range n, gainPart (tile (hs m c) i) (partial_ m c i 4) y : EReal)

structure After (n : ℕ) (st : Vec Ideal S1024x1024 .f32 × Vec Ideal S1x1024 .f32 × Vec Ideal S1024x1024 .f32) : Prop where
  acc : st.2.2 = partial_ m c (n / 4) (n % 4 + 1)
  gain : st.2.1 = gainSum m c ((n + 1) / 4)
  rows : n % 4 = 3 → st.1 = rowsBack (tile (hs m c) (n / 4)) (partial_ m c (n / 4) 4) (tile (dr m c) (n / 4)) (fun y => ent (gn m c) 0 (y 1).val)

theorem partial_zero (p : Fin cfg0.N) (h : p.val % 4 = 0) : part (iblk m c 0 p) (iblk m c 1 p) = partial_ m c (p.val / 4) (p.val % 4 + 1) := by
  funext y
  refine (zero_add _).symm.trans (Eq.trans (congrArg (· + _) ?_) (partial_succ m c p y))
  rw [h]; rfl

theorem step (p : Fin cfg0.N) (st : Vec Ideal S1024x1024 .f32 × Vec Ideal S1x1024 .f32 × Vec Ideal S1024x1024 .f32)
    (ha : ∀ n, p.val = n + 1 → After m c n st) : After m c p.val (stAt0 m c p.val p.isLt st) := by
  have h8 : p.val < 8 := lt_of_lt_of_eq p.isLt N_0
  by_cases h1 : p.val % 4 = 0
  · by_cases h0 : p.val % 8 = 0
    · rw [stAt0_A m c p st h0 h1 (by omega) (by omega)]
      refine ⟨?_, ?_, fun h => absurd h (by omega)⟩ <;> dsimp only
      · rw [acc_A]; exact partial_zero m c p h1
      rw [gain_A]
      rw [show (p.val + 1) / 4 = 0 by omega]; rfl
    · rw [stAt0_D m c p st h0 h1 (by omega) (by omega)]
      have h := ha (p.val - 1) (by omega)
      refine ⟨?_, h.gain.trans ?_, fun h => absurd h (by omega)⟩
      · dsimp only; rw [acc_D]; exact partial_zero m c p h1
      rw [show p.val - 1 + 1 = p.val by omega, show p.val / 4 = (p.val + 1) / 4 by omega]
  · have h := ha (p.val - 1) (by omega)
    have e : (fun y => (st.2.2 y + part (iblk m c 0 p) (iblk m c 1 p) y : EReal)) = partial_ m c (p.val / 4) (p.val % 4 + 1) := by
      rw [h.acc, show (p.val - 1) / 4 = p.val / 4 by omega, show (p.val - 1) % 4 + 1 = p.val % 4 by omega]
      exact funext (partial_succ m c p)
    by_cases h3 : p.val % 4 = 3
    · rw [stAt0_C m c p st (by omega) h1 (by omega) h3]
      have e4 := e
      rw [h3] at e4
      refine ⟨?_, ?_, fun _ => ?_⟩ <;> dsimp only
      · rw [acc_C]; exact e
      · rw [gain_C, e4, h.gain, block2, show (p.val + 1) / 4 = p.val / 4 + 1 by omega, show (p.val - 1 + 1) / 4 = p.val / 4 by omega]
        exact funext fun y => (Finset.sum_range_succ _ _).symm
      · rw [rows_C, e4, block2, block4, show iblk m c 3 p = _ from funext (block3 m c p)]
        rfl
    · rw [stAt0_B m c p st (by omega) h1 (by omega) h3]
      refine ⟨?_, h.gain.trans ?_, fun h => absurd h h3⟩
      · dsimp only; rw [acc_B]; exact e
      rw [show (p.val - 1 + 1) / 4 = (p.val + 1) / 4 by omega]

theorem fold (n : ℕ) (hn : 0 + n < cfg0.N) : After m c n (Pipeline.accAt (fun n h => stAt0 m c n h junk0) (stAt0 m c) 0 n hn) := by
  have h8 : cfg0.N = 8 := N_0
  induction n with
  | zero => exact step m c ⟨0, by omega⟩ _ (fun n h => absurd h (Nat.succ_ne_zero n).symm)
  | succ n ih =>
    rw [Pipeline.accAt_succ]
    have key : ∀ p : Fin cfg0.N, p.val = n + 1 → After m c p.val (stAt0 m c p.val p.isLt
        (Pipeline.accAt (fun n h => stAt0 m c n h junk0) (stAt0 m c) 0 n (by omega))) := by
      intro p hp
      refine step m c p _ fun k hk => ?_
      obtain rfl : k = n := by omega
      exact ih _
    have := key ⟨0 + (n + 1), hn⟩ (by simp)
    simp only [Nat.zero_add] at this ⊢
    exact this

/-! ## The two arrays -/

theorem rows_array : G5 m c = Cert.Reference4Ideal.Read.val_main_v36 (F := Ideal) (du m c) (wt m c) (hs m c) (gn m c) (dr m c) := by
  have h8 : cfg0.N = 8 := N_0
  funext i
  have i0 : (i 0).val < 2048 := (i 0).isLt
  have i1 : (i 1).val < 1024 := (i 1).isLt
  have hp : pt5Of i = 4 * ((i 0).val / 1024) + 3 := by
    show 4 * (1 * ((i 0).val / 1024 - 0) + 1 * ((i 1).val / 1024 - 0)) + 3 = _
    omega
  unfold G5
  rw [dif_pos (by omega), (fold m c (pt5Of i) (by omega)).rows (by omega), rows_ref, hp, show (4 * ((i 0).val / 1024) + 3) / 4 = (i 0).val / 1024 by omega]
  have r0 : 1024 * ((i 0).val / 1024) + (i 0).val % 1024 = (i 0).val := by omega
  have r1 : (i 1).val % 1024 = (i 1).val := by omega
  refine congrArg₂ (· + ·) ?_ ?_
  · exact congrArg₂ (ent (dr m c)) r0 r1
  · refine Eq.trans (b := normBack (hidden (hs m c) (1024 * ((i 0).val / 1024) + (i 0).val % 1024))
      (scaled (du m c) (wt m c) (gn m c) (1024 * ((i 0).val / 1024) + (i 0).val % 1024)) (⟨(i 1).val % 1024, by omega⟩ : Fin 1024)) rfl ?_
    rw [r0]
    exact congrArg (normBack _ _) (Fin.ext r1)

theorem gain_array : G6 m c = Cert.Reference4Ideal.Read.val_main_v19 (F := Ideal) (du m c) (wt m c) (hs m c) := by
  rw [G6_last, (fold m c 7 _).gain]
  funext y
  rw [gain_ref]
  show (∑ i ∈ Finset.range 2, gainPart (tile (hs m c) i) (partial_ m c i 4) y : EReal) = _
  rw [show Finset.range 2048 = Finset.range (1024 + 1024) from rfl, Finset.sum_range_add, Finset.sum_range_succ, Finset.sum_range_one,
    gainPart, gainPart, Finset.sum_range, Finset.sum_range]
  refine congrArg₂ (· + ·) (Finset.sum_congr rfl fun r _ => ?_) (Finset.sum_congr rfl fun r _ => ?_)
  · refine Eq.trans ?_ (congrArg (fun t => full (du m c) (wt m c) t (y 1).val * ent (hs m c) t (y 1).val * scale (hidden (hs m c) t))
      (show 1024 * 0 + r.val = r.val by omega))
    rfl
  · rfl

end Cert.InprojDx

end
-- ==== Proof.InprojFwdRun.lean ====
/- The run of the input projection's forward call: the rows are normalised at the first point, kept in the scratch
   buffer and in the second output's staging buffer, and every point multiplies them by its block of the weights. -/
module

public import proofs.«01_k».proof.Proof.Gen.Kernel5Ideal.Frame
public import proofs.«01_k».proof.Proof.Gen.Kernel5Ideal.Skeleton
public import Idealize.ShloMosaic.Lib.Pipeline.ReadBack
public import Idealize.ShloMosaic.Lib.VecWindow
public import Idealize.ShloMosaic.Lib.Claim
public import Idealize.ShloMosaic.Lib.Pipeline.TableIdle

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F]

abbrev Res (F : FTy → Type) := MT nD τ sig Unit (Elt F) ℕ (UR sig nD τ) ℕ

section Body

variable (c : Dev nD) (i : grid0.Coords)
  (rows : Memref sig .tc .vmem S2048x1024 .f32) (hrows : rows.IsWhole) (gain : Memref sig .tc .vmem S1x1024 .f32) (hgain : gain.IsWhole)
  (weight : Memref sig .tc .vmem S1x1024x896 .bf16) (hweight : weight.IsWhole) (prod : Memref sig .tc .vmem S2048x896 .f32) (hprod : prod.IsWhole)
  (out : Memref sig .tc .vmem S2048x1024 .bf16) (hout : out.IsWhole) (kept : Memref sig .tc .vmem S2048x1024 .bf16) (hkept : kept.IsWhole)
  (x0 : Vec F S2048x1024 .f32) (x1 : Vec F S1x1024 .f32) (x2 : Vec F S1x1024x896 .bf16) (E : Set ℕ) (K : PUnit → sProp (Res F))

set_option maxHeartbeats 1000000 in
/-- The body at the first point: the normalised rows are stored twice and multiplied. -/
theorem run_first (h : k0_cond1 i = 1#1) :
    iprop(owns (c : Thread nD τ) rows fullShare x0 ∗ owns (c : Thread nD τ) gain fullShare x1 ∗ owns (c : Thread nD τ) weight fullShare x2
        ∗ (∃ d, owns (c : Thread nD τ) prod fullShare d) ∗ (∃ d, owns (c : Thread nD τ) out fullShare d) ∗ (∃ d, owns (c : Thread nD τ) kept fullShare d)
        ∗ (iprop(owns (c : Thread nD τ) rows fullShare x0 ∗ owns (c : Thread nD τ) gain fullShare x1 ∗ owns (c : Thread nD τ) weight fullShare x2
            ∗ owns (c : Thread nD τ) prod fullShare (k0_pay3 (k0_pay2 x0 x1) x2) ∗ owns (c : Thread nD τ) out fullShare (k0_pay1 x0 x1)
            ∗ owns (c : Thread nD τ) kept fullShare (k0_pay2 x0 x1)) -∗ K ⟨⟩))
      ⊢ wp frame (wpE (defs₀ (F := F)) Variants.none c none) E
          (cc0_rms_inproj i rows hrows gain hgain weight hweight prod hprod out hout kept hkept) K := by
  simp only [cc0_rms_inproj_eq_skeleton]; unfold cc0_rms_inproj_skel
  unfold owns
  iintro ⟨⟨%f0, %hf0, H0⟩, ⟨%f1, %hf1, H1⟩, ⟨%f2, %hf2, H2⟩, ⟨%d3, %f3, %hf3, H3⟩, ⟨%d4, %f4, %hf4, H4⟩, ⟨%d5, %f5, %hf5, H5⟩, Hk⟩
  obtain rfl := hrows.eq_unread hf0; obtain rfl := hgain.eq_unread hf1; obtain rfl := hweight.eq_unread hf2
  sl_exec (disch := first | sl_exact h)
  sl_step
  iapply Hk
  isplitl [H0]
  · iexists _; isplitr; · ipureintro; exact hrows.read_unread _
    iexact H0
  isplitl [H1]
  · iexists _; isplitr; · ipureintro; exact hgain.read_unread _
    iexact H1
  isplitl [H2]
  · iexists _; isplitr; · ipureintro; exact hweight.read_unread _
    iexact H2
  isplitl [H3]
  · iexists _; isplitr
    swap; · iexact H3
    ipureintro
    sl_unfold_run_names
    refine (View.read_writes_full _ _ _ _ _).trans ?_
    exact congrArg₂ k0_pay3 ((View.readCov_full _ _ _ _ _).trans (congrArg₂ k0_pay2 ((View.readAt_full _ _ _).trans (hrows.read_unread _)) ((View.readAt_full _ _ _).trans (hgain.read_unread _))))
      ((View.readAt_full _ _ _).trans (hweight.read_unread _))
  isplitl [H4]
  · iexists _; isplitr
    swap; · iexact H4
    ipureintro
    sl_unfold_run_names
    refine (View.read_writes_full _ _ _ _ _).trans ?_
    exact congrArg₂ k0_pay1 ((View.readAt_full _ _ _).trans (hrows.read_unread _)) ((View.readAt_full _ _ _).trans (hgain.read_unread _))
  iexists _; isplitr
  swap; · iexact H5
  ipureintro
  sl_unfold_run_names
  refine (View.read_writes_full _ _ _ _ _).trans ?_
  exact congrArg₂ k0_pay2 ((View.readAt_full _ _ _).trans (hrows.read_unread _)) ((View.readAt_full _ _ _).trans (hgain.read_unread _))

set_option maxHeartbeats 1000000 in
/-- The body at a later point: the rows kept are multiplied; the second output's buffer is not touched. -/
theorem run_later (h : ¬k0_cond1 i = 1#1) (x4 x5 : Vec F S2048x1024 .bf16) :
    iprop(owns (c : Thread nD τ) rows fullShare x0 ∗ owns (c : Thread nD τ) gain fullShare x1 ∗ owns (c : Thread nD τ) weight fullShare x2
        ∗ (∃ d, owns (c : Thread nD τ) prod fullShare d) ∗ owns (c : Thread nD τ) out fullShare x4 ∗ owns (c : Thread nD τ) kept fullShare x5
        ∗ (iprop(owns (c : Thread nD τ) rows fullShare x0 ∗ owns (c : Thread nD τ) gain fullShare x1 ∗ owns (c : Thread nD τ) weight fullShare x2
            ∗ owns (c : Thread nD τ) prod fullShare (k0_pay3 x5 x2) ∗ owns (c : Thread nD τ) out fullShare x4
            ∗ owns (c : Thread nD τ) kept fullShare x5) -∗ K ⟨⟩))
      ⊢ wp frame (wpE (defs₀ (F := F)) Variants.none c none) E
          (cc0_rms_inproj i rows hrows gain hgain weight hweight prod hprod out hout kept hkept) K := by
  simp only [cc0_rms_inproj_eq_skeleton]; unfold cc0_rms_inproj_skel
  unfold owns
  iintro ⟨⟨%f0, %hf0, H0⟩, ⟨%f1, %hf1, H1⟩, ⟨%f2, %hf2, H2⟩, ⟨%d3, %f3, %hf3, H3⟩, ⟨%f4, %hf4, H4⟩, ⟨%f5, %hf5, H5⟩, Hk⟩
  obtain rfl := hrows.eq_unread hf0; obtain rfl := hgain.eq_unread hf1; obtain rfl := hweight.eq_unread hf2
  obtain rfl := hout.eq_unread hf4; obtain rfl := hkept.eq_unread hf5
  sl_exec (disch := first | sl_exact h)
  sl_step
  iapply Hk
  isplitl [H0]
  · iexists _; isplitr; · ipureintro; exact hrows.read_unread _
    iexact H0
  isplitl [H1]
  · iexists _; isplitr; · ipureintro; exact hgain.read_unread _
    iexact H1
  isplitl [H2]
  · iexists _; isplitr; · ipureintro; exact hweight.read_unread _
    iexact H2
  isplitl [H3]
  · iexists _; isplitr
    swap; · iexact H3
    ipureintro
    sl_unfold_run_names
    refine (View.read_writes_full _ _ _ _ _).trans ?_
    exact congrArg₂ k0_pay3 ((View.readAt_full _ _ _).trans (hkept.read_unread _)) ((View.readAt_full _ _ _).trans (hweight.read_unread _))
  isplitl [H4]
  · iexists _; isplitr; · ipureintro; exact hout.read_unread _
    iexact H4
  iexists _; isplitr; · ipureintro; exact hkept.read_unread _
  iexact H5

end Body

variable (m : (ℓ : Loc nD τ sig) → Buf (Elt F) ℓ) (ρ : Dev nD → PrngReg)

/-- The normalised rows, as the second output has them, -/
def normed (c : Dev nD) : Vec F S2048x1024 .bf16 := k0_pay1 (iblk m c 0 t0_0) (iblk m c 1 t0_0)

/-- and as the scratch buffer keeps them. -/
def scratch (c : Dev nD) : Vec F S2048x1024 .bf16 := k0_pay2 (iblk m c 0 t0_0) (iblk m c 1 t0_0)

/-- What a point stores into the first output. -/
def product (c : Dev nD) (t : Fin cfg0.N) : Vec F S2048x896 .f32 := k0_pay3 (scratch m c) (iblk m c 2 t)

/-- The scratch buffer. -/
abbrev keep : Memref sig .tc .vmem S2048x1024 .bf16 := Memref.whole cc0_scratch0

theorem entry_eq (c : Dev nD) : (Pipeline.ΦA spec0 c : sProp (Res F))
    = iprop((∃ d, owns (c : Thread nD τ) keep fullShare d) ∗ (∃ r, prngReg c r)) := by
  unfold Pipeline.ΦA; rw [scopedRest0_eq]; simp only [keep, owns_whole]; try rfl

/-- Between points: at the start the scratch buffer holds anything, afterwards the rows. -/
def between (c : Dev nD) : ℕ → sProp (Res F)
  | 0 => Pipeline.ΦA spec0 c
  | _ + 1 => iprop(owns (c : Thread nD τ) keep fullShare (scratch m c) ∗ (∃ r, prngReg c r))

theorem between_pos (c : Dev nD) {n : ℕ} (h : n ≠ 0) :
    between m c n = iprop(owns (c : Thread nD τ) keep fullShare (scratch m c) ∗ (∃ r, prngReg c r)) := by
  cases n with
  | zero => exact absurd rfl h
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => product m c t
    | ⟨4, _⟩ => normed m c
  Φ t := between m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = product m c t := by dsimp only [dats]
theorem after4 (c : Dev nD) (t : Fin cfg0.N) : (dats m 0 c).after 4 t = normed m c := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d

/-- The rows are normalised at the first point only. -/
theorem first_iff : ∀ t : Fin cfg0.N, k0_cond1 (grid0.coords t) = 1#1 ↔ t.val = 0 :=
  (by decide +kernel : ∀ t : Fin grid0.N, k0_cond1 (grid0.coords t) = 1#1 ↔ t.val = 0)

theorem idle4 : ∀ t : Fin cfg0.N, cfg0.idle 4 (grid0.coords t) = !decide (t.val = 0) :=
  (by decide +kernel : ∀ t : Fin grid0.N, idle0 4 (grid0.coords t) = !decide (t.val = 0))

theorem fresh4 : ∀ t : Fin cfg0.N, t.val ≠ 0 → cfg0.fresh 4 t.val = false := by decide +kernel

/-- The second output's buffer still holds the rows at every later point. -/
theorem before4 (c : Dev nD) (t : Fin cfg0.N) (ht : t.val ≠ 0) (d) : (dats m 0 c).before 4 t d = normed m c := by
  rw [Dat.before_out_traj _ 4 rfl (fun _ _ => rfl) (fun s _ _ _ => (after4 m c s).trans (after4 m c _).symm) t.val t rfl d,
    if_neg (by rw [fresh4 t ht]; exact Bool.false_ne_true)]
  exact after4 m c _

/-- One block covers each of the first two arguments. -/
theorem same0 (c : Dev nD) (t : Fin cfg0.N) : iblk m c 0 t = iblk m c 0 t0_0 := by
  obtain rfl | rfl | rfl | rfl := fin_N0 t <;> rfl

theorem same1 (c : Dev nD) (t : Fin cfg0.N) : iblk m c 1 t = iblk m c 1 t0_0 := by
  obtain rfl | rfl | rfl | rfl := fin_N0 t <;> rfl

/-- What the body is called with at a point, -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp (Res F) :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (st0_3 t) fullShare (product m c t) := by
  unfold Dat.leavesExact; rw [show cfg0.idle 3 (cfg0.grid.coords t) = false from rfl, after3]

/-- The second output's buffer at its rows is what every point has to leave. -/
theorem leaves4 (c : Dev nD) (t : Fin cfg0.N) :
    owns (c : Thread nD τ) (st0_4 t) fullShare (normed m c) ⊢ (dats m 0 c).leavesExact 4 t := by
  by_cases ht : t.val = 0
  · have hi : cfg0.idle 4 (cfg0.grid.coords t) = false := (idle4 t).trans (by rw [decide_eq_true ht]; rfl)
    unfold Dat.leavesExact
    rw [hi, after4]
  · have hi : cfg0.idle 4 (cfg0.grid.coords t) = true := (idle4 t).trans (by rw [decide_eq_false ht]; rfl)
    unfold Dat.leavesExact
    rw [hi, after4]
    cases (cfg0.win 4).flush t
    · dsimp only
      iintro H
      iexists (normed m c)
      rw [before4 m c t ht]
      iexact H
    · exact .rfl

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl,
    show (dats m 0 c).Φ t.succ = between m c (t.val + 1) from rfl, between_pos m c (Nat.succ_ne_zero _),
    show (dats m 0 c).Φ t.castSucc = between m c t.val from rfl, leaves0, leaves1, leaves2, leaves3]
  by_cases ht : t.val = 0
  · rw [ht, show between m c 0 = Pipeline.ΦA spec0 c from rfl, entry_eq]
    iintro ⟨⟨HS, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ (iblk m c 0 t) (iblk m c 1 t) (iblk m c 2 t) Set.univ _ ((first_iff t).mpr ht))
    isplitl [H0]; · iexact H0
    isplitl [H1]; · iexact H1
    isplitl [H2]; · iexact H2
    isplitl [H3]; · iexists _; iexact H3
    isplitl [H4]; · iexists _; iexact H4
    isplitl [HS]; · iexact HS
    rw [same0 m c t, same1 m c t]
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (leaves4 m c t)
    iexact H4
  · rw [between_pos m c ht]
    simp only [before4 m c t ht]
    iintro ⟨⟨HS, Hg⟩, Ho, ⟨%d0, H0⟩, ⟨%d1, H1⟩, ⟨%d2, H2⟩, ⟨%d3, H3⟩, ⟨%d4, H4⟩⟩
    iapply (run_later c (grid0.coords t) _ _ _ _ _ _ _ _ _ _ _ _ (iblk m c 0 t) (iblk m c 1 t) (iblk m c 2 t) Set.univ _
      (fun h => ht ((first_iff t).mp h)) (normed m c) (scratch m c))
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (leaves4 m c t)
    iexact H4

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem enter (c : Dev nD) : Pipeline.ΦA spec0 c ⊢ (dats m 0 c).Φ 0 := Entails.refl _

theorem leave (c : Dev nD) : (dats m 0 c).Φ (Fin.last cfg0.N) ⊢ Pipeline.ΦA spec0 c := by
  rw [show (dats m 0 c).Φ (Fin.last cfg0.N) = between m c cfg0.N from rfl, between_pos m c (by rw [show cfg0.N = 4 from N_0]; decide), entry_eq]
  iintro ⟨HS, Hg⟩
  isplitl [HS]
  · iexists _; iexact HS
  iexact Hg

set_option backward.isDefEq.respectTransparency.types false in
/-- The whole run: the arrays end as the points leave them, and every semaphore counter at zero. -/
theorem run_counted : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_arrays : θ_run defs (onTc (τ := τ) (main (F := F))) (s₀ m ρ) (Pipeline.FramePost cfgs (dats m) 0 (V m)) :=
  (θ_run defs _ _).mono (fun _ h => h.1) (run_counted m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_arrays m ρ)

/-- The call leaves its arguments and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_counted m ρ))

end Cert.Kernel5Ideal.Gen

end
-- ==== Proof.InprojFwd.lean ====
/- The input projection, forward: the normalised rows and their product with the weights, against the reference's. -/
module

public import proofs.«01_k».proof.Proof.InprojFwdRun
public import proofs.«01_k».proof.Proof.RowNorm
public import proofs.«01_k».proof.Proof.Gen.Reference5Ideal.Read
public import Idealize.ShloMosaic.Lib.StableHlo.Run

@[expose] public section

noncomputable section

namespace Cert.InprojFwd

open Idealize.ShloMosaic Idealize.ShloMosaic.TcCoe Idealize.ShloMosaic.ValueIdx Idealize.SL Idealize.SL.Sem Cert.Attn
open Cert.Kernel5Ideal Cert.Kernel5Ideal.Gen

variable (m : (ℓ : Loc nD τ sig) → Buf (Elt Ideal) ℓ) (ρ : Dev nD → PrngReg)

/-- The run, with the two results' arrays named. -/
theorem run_results : θ_run defs (onTc (τ := τ) (main (F := Ideal))) ⟨m, fun _ => 0, ρ⟩ (fun r => ∀ c : Dev nD,
      r.2.mem ((c.tc : Thread nD τ).loc main_v3_0) = (dats m 0 c).arrAt 3 cfg0.N
      ∧ r.2.mem ((c.tc : Thread nD τ).loc main_v3_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 3, (h.1 c).1 4, h.2 c⟩) (θ_run_and (run_arrays m ρ) (unchanged m ρ))

variable (c : Dev nD)

abbrev hs : FVec Ideal S2048x1024 .f32 := m (c.tc.loc main_arg0)
abbrev gn : FVec Ideal S1x1024 .f32 := m (c.tc.loc main_arg1)
abbrev wt : FVec Ideal S1024x3584 .f32 := m (c.tc.loc main_arg2)

/-- The normalised row `r` at column `k`. -/
def norm (x : S2048x1024.Idx → EReal) (g : S1x1024.Idx → EReal) (r : Fin 2048) (k : Fin 1024) : EReal :=
  x (ix2 r k) * scale (fun l : Fin 1024 => x (ix2 r l)) * g (ix2 0 k)

/-! ## The reference -/

theorem norm_ref (x0 : FVec Ideal S2048x1024 .f32) (x1 : FVec Ideal S1x1024 .f32) (i : S2048x1024.Idx) :
    Cert.Reference5Ideal.Read.val_main_v11 (F := Ideal) x0 x1 i = norm x0 x1 (i 0) (i 1) := by
  rw [Cert.Reference5Ideal.Read.val_main_v11_apply, Cert.Reference5Ideal.Read.val_main_v9_apply, Cert.Reference5Ideal.Read.val_main_v8_apply,
    Cert.Reference5Ideal.Read.val_main_v10_apply, Cert.Reference5Ideal.Read.val_main_v7_apply, Cert.Reference5Ideal.Read.val_main_v6_apply,
    Cert.Reference5Ideal.Read.val_main_v4_apply, Cert.Reference5Ideal.Read.val_main_v2_apply, Cert.Reference5Ideal.Read.val_main_v1_apply]
  refine congrArg₂ (· * ·) (congrArg₂ (· * ·) (congrArg x0 (eq_ix2 i)) (congrArg (fun s => Ideal.rsqrt (Ideal.div s len + eps)) ?_))
    (congrArg x1 (funext fun a => Fin.ext ?_))
  · refine (congrArg (· + _) zero_f32).trans ((zero_add _).trans (Finset.sum_congr rfl fun k _ => ?_))
    refine congrArg (fun z => x0 z * x0 z) (funext fun a => Fin.ext ?_)
    match a with
    | ⟨0, _⟩ => rfl
    | ⟨1, _⟩ => rfl
  · match a with
    | ⟨0, _⟩ => rfl
    | ⟨1, _⟩ => rfl

/-! ## The stored values -/

theorem sum_rows (x : FVec Ideal S2048x1024 .f32) (acc : BitVec FTy.f32.bits) (hk) (hi) :
    multiReduction .add [1] S2048 x acc reduces_S2048x1024_S2048 hk hi = fun j : S2048.Idx => (∑ k : Fin 1024, x (ix2 (j 0) k) : EReal) :=
  sum_along x acc _ _ _

theorem rows_pay (x : Vec Ideal S2048x1024 .f32) (g : Vec Ideal S1x1024 .f32) (y : S2048x1024.Idx) : k0_pay1 x g y = norm x g (y 0) (y 1) := by
  unfold k0_pay1
  dsimp only
  erw [sum_rows]
  rw [as_column, column_over, row_over]
  refine congrArg (fun z => x z * scale (fun l : Fin 1024 => x (ix2 (y 0) l)) * g (ix2 0 (y 1))) (eq_ix2 y)

theorem kept_pay (x : Vec Ideal S2048x1024 .f32) (g : Vec Ideal S1x1024 .f32) : k0_pay2 x g = k0_pay1 x g := by
  unfold k0_pay2
  dsimp only
  exact shapeCast_self _ _

theorem product_pay (a : Vec Ideal S2048x1024 .bf16) (w : Vec Ideal S1x1024x896 .bf16) (y : S2048x896.Idx) :
    k0_pay3 a w y = (∑ k : Fin 1024, a (ix2 (y 0) k) * w (ix3 0 k (y 1)) : EReal) := by
  unfold k0_pay3
  conv_lhs => rw [eq_ix2 y]
  refine (Ideal.matmul_plain_apply none _ _ _ _ _).trans ((congrArg (· + _) zero_f32).trans ((zero_add _).trans ?_))
  refine Finset.sum_congr rfl fun k _ => congrArg (a (ix2 (y 0) k) * ·) (shapeCast_apply _ _ _ (ix3 0 k (y 1)) ?_)
  refine (Shape.rowMajor_val_three _).trans (Eq.trans ?_ (Shape.rowMajor_val_two _).symm)
  show (0 * 1024 + k.val) * 896 + (y 1).val = k.val * 896 + (y 1).val
  omega

/-! ## What the points read -/

theorem weights_eq : V m c main_v2 = (transpose S4x1024x896 [1, 0, 2] (shapeCast S1024x4x896
    (truncf .bf16 (wt m c) bitsLt_bf16_f32) shapeCasts_S1024x3584_S1024x4x896) transposes_S1024x4x896_S4x1024x896_1_0_2 : FVec Ideal S4x1024x896 .bf16) := by
  unfold V
  simp only [hostOps0, List.flatten_cons, List.flatten_nil, List.append_nil, List.cons_append, List.nil_append]
  after_results_simp
  rfl

theorem weights_at (j : S4x1024x896.Idx) (q : Fin 3584) (hq : q.val = 896 * (j 0).val + (j 2).val) :
    V m c main_v2 j = wt m c (ix2 (j 1) q) := by
  rw [weights_eq]
  refine (transpose_apply _ _ _ j (ix3 (j 1) (j 0) (j 2)) fun b => ?_).trans ?_
  · match b with
    | ⟨0, _⟩ => rfl
    | ⟨1, _⟩ => rfl
    | ⟨2, _⟩ => rfl
  refine shapeCast_apply _ _ _ (ix2 (j 1) q) ?_
  refine (Shape.rowMajor_val_two _).trans (Eq.trans ?_ (Shape.rowMajor_val_three _).symm)
  show (j 1).val * 3584 + q.val = ((j 1).val * 4 + (j 0).val) * 896 + (j 2).val
  have := (j 0).isLt
  omega

theorem index0 : ∀ p : Fin cfg0.N, win0_0.index p (0 : Fin 2) = 0 ∧ win0_0.index p (1 : Fin 2) = 0 :=
  (by decide +kernel : ∀ p : Fin grid0.N, win0_0.index p (0 : Fin 2) = 0 ∧ win0_0.index p (1 : Fin 2) = 0)
theorem index1 : ∀ p : Fin cfg0.N, win0_1.index p (0 : Fin 2) = 0 ∧ win0_1.index p (1 : Fin 2) = 0 :=
  (by decide +kernel : ∀ p : Fin grid0.N, win0_1.index p (0 : Fin 2) = 0 ∧ win0_1.index p (1 : Fin 2) = 0)
theorem index2 : ∀ p : Fin cfg0.N, win0_2.index p (0 : Fin 3) = p.val ∧ win0_2.index p (1 : Fin 3) = 0 ∧ win0_2.index p (2 : Fin 3) = 0 :=
  (by decide +kernel : ∀ p : Fin grid0.N, win0_2.index p (0 : Fin 3) = p.val ∧ win0_2.index p (1 : Fin 3) = 0 ∧ win0_2.index p (2 : Fin 3) = 0)
theorem index3 : ∀ p : Fin cfg0.N, win0_3.index p (0 : Fin 2) = 0 ∧ win0_3.index p (1 : Fin 2) = p.val :=
  (by decide +kernel : ∀ p : Fin grid0.N, win0_3.index p (0 : Fin 2) = 0 ∧ win0_3.index p (1 : Fin 2) = p.val)
theorem index4 : ∀ p : Fin cfg0.N, win0_4.index p (0 : Fin 2) = 0 ∧ win0_4.index p (1 : Fin 2) = 0 :=
  (by decide +kernel : ∀ p : Fin grid0.N, win0_4.index p (0 : Fin 2) = 0 ∧ win0_4.index p (1 : Fin 2) = 0)

theorem block0 (p : Fin cfg0.N) (y : S2048x1024.Idx) : iblk m c 0 p y = hs m c y := by
  obtain ⟨e0, e1⟩ := index0 p
  refine (congrFun (V_main_arg0 m c) (((cfg0.win 0).blk p).view.emb y)).trans (congrArg (hs m c) (funext fun x => Fin.ext ?_))
  match x with
  | ⟨0, _⟩ => show win0_0.index p (0 : Fin 2) * 2048 + 1 * (y 0).val = (y 0).val; rw [e0]; omega
  | ⟨1, _⟩ => show win0_0.index p (1 : Fin 2) * 1024 + 1 * (y 1).val = (y 1).val; rw [e1]; omega

theorem block1 (p : Fin cfg0.N) (y : S1x1024.Idx) : iblk m c 1 p y = gn m c y := by
  obtain ⟨e0, e1⟩ := index1 p
  refine (congrFun (V_main_arg1 m c) (((cfg0.win 1).blk p).view.emb y)).trans (congrArg (gn m c) (funext fun x => Fin.ext ?_))
  match x with
  | ⟨0, _⟩ => show win0_1.index p (0 : Fin 2) * 1 + 1 * (y 0).val = (y 0).val; rw [e0]; omega
  | ⟨1, _⟩ => show win0_1.index p (1 : Fin 2) * 1024 + 1 * (y 1).val = (y 1).val; rw [e1]; omega

theorem block2 (p : Fin cfg0.N) (k : Fin 1024) (l : Fin 896) (q : Fin 3584) (hq : q.val = 896 * p.val + l.val) :
    iblk m c 2 p (ix3 (0 : Fin 1) k l : S1x1024x896.Idx) = wt m c (ix2 k q) := by
  obtain ⟨e0, e1, e2⟩ := index2 p
  refine (weights_at m c (((cfg0.win 2).blk p).view.emb (ix3 (0 : Fin 1) k l : S1x1024x896.Idx)) q ?_).trans
    (congrArg (wt m c) (funext fun x => Fin.ext ?_))
  · show q.val = 896 * (win0_2.index p (0 : Fin 3) * 1 + 1 * 0) + (win0_2.index p (2 : Fin 3) * 896 + 1 * l.val)
    rw [e0, e2]; omega
  · match x with
    | ⟨0, _⟩ => show win0_2.index p (1 : Fin 3) * 1024 + 1 * k.val = k.val; rw [e1]; omega
    | ⟨1, _⟩ => rfl

theorem normed_eq : normed m c = Cert.Reference5Ideal.Read.val_main_v13 (F := Ideal) (hs m c) (gn m c) := by
  have h0 : iblk m c 0 t0_0 = hs m c := funext (block0 m c t0_0)
  have h1 : iblk m c 1 t0_0 = gn m c := funext (block1 m c t0_0)
  funext y
  unfold normed
  rw [h0, h1]
  exact (rows_pay _ _ y).trans (norm_ref _ _ y).symm

theorem scratch_eq : scratch m c = normed m c := kept_pay _ _

/-! ## The arrays -/

theorem flush3 : ∀ p : Fin cfg0.N, (cfg0.win 3).flush p = true := flush0_3

theorem index_injective : ∀ t t' : Fin cfg0.N, win0_3.index t = win0_3.index t' → t = t' :=
  (by decide +kernel : ∀ t t' : Fin grid0.N, win0_3.index t = win0_3.index t' → t = t')

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (index_injective t t' h)

/-- The first result is the reference's product. -/
theorem product_array : (dats m 0 c).arrAt 3 cfg0.N = Cert.Reference5Ideal.Read.val_main_v12 (F := Ideal) (hs m c) (gn m c) (wt m c) := by
  funext i
  have i0 : (i 0).val < 2048 := (i 0).isLt
  have i1 : (i 1).val < 3584 := (i 1).isLt
  have hN : cfg0.N = 4 := N_0
  let p : Fin cfg0.N := ⟨(i 1).val / 896, by omega⟩
  let l : Fin 896 := ⟨(i 1).val % 896, by omega⟩
  have hp : (i 1).val = 896 * p.val + l.val := by show (i 1).val = 896 * ((i 1).val / 896) + (i 1).val % 896; omega
  obtain ⟨e0, e1⟩ := index3 p
  have hi : ((cfg0.win 3).blk p).view.emb (ix2 (i 0) l : S2048x896.Idx) = i := by
    refine funext fun x => Fin.ext ?_
    match x with
    | ⟨0, _⟩ => show win0_3.index p (0 : Fin 2) * 2048 + 1 * (i 0).val = (i 0).val; rw [e0]; omega
    | ⟨1, _⟩ => show win0_3.index p (1 : Fin 2) * 896 + 1 * l.val = (i 1).val; rw [e1, hp]; omega
  have hb := congrFun ((dats m 0 c).read_blk_arrAt_eq_flushed 3 disjoint3 cfg0.N p p.isLt (flush3 p)) (ix2 (i 0) l : S2048x896.Idx)
  have hf : (dats m 0 c).flushed 3 p (ix2 (i 0) l : S2048x896.Idx) = product m c p (ix2 (i 0) l) := by
    show (cfg0.win 3).cut (grid0.coords p) ((dats m 0 c).after 3 p) (ix2 (i 0) l : S2048x896.Idx) = _
    rw [after3]
    rfl
  refine Eq.trans (congrArg ((dats m 0 c).arrAt 3 cfg0.N) hi.symm) (hb.trans (hf.trans ?_))
  unfold product
  rw [scratch_eq, normed_eq, Cert.Reference5Ideal.Read.val_main_v12_apply]
  refine (product_pay _ _ _).trans (Finset.sum_congr rfl fun k _ => congrArg₂ (· * ·) ?_ ?_)
  · refine congrArg (Cert.Reference5Ideal.Read.val_main_v11 (F := Ideal) (hs m c) (gn m c)) (funext fun x => Fin.ext ?_)
    match x with
    | ⟨0, _⟩ => rfl
    | ⟨1, _⟩ => rfl
  · refine (block2 m c p k l (i 1) hp).trans (congrArg (wt m c) (funext fun x => Fin.ext ?_))
    match x with
    | ⟨0, _⟩ => rfl
    | ⟨1, _⟩ => rfl

theorem whole4 (p : Fin cfg0.N) (y : S2048x1024.Idx) : ((cfg0.win 4).blk p).view.emb y = y := by
  obtain ⟨e0, e1⟩ := index4 p
  refine funext fun x => Fin.ext ?_
  match x with
  | ⟨0, _⟩ => show win0_4.index p (0 : Fin 2) * 2048 + 1 * (y 0).val = (y 0).val; rw [e0]; omega
  | ⟨1, _⟩ => show win0_4.index p (1 : Fin 2) * 1024 + 1 * (y 1).val = (y 1).val; rw [e1]; omega

/-- The second result is the reference's normalised rows. -/
theorem rows_array : (dats m 0 c).arrAt 4 cfg0.N = Cert.Reference5Ideal.Read.val_main_v13 (F := Ideal) (hs m c) (gn m c) := by
  rw [← normed_eq]
  refine (dats m 0 c).arrAt_eq_of_cover 4 _ (fun t hf => ?_) (fun i => ⟨t0_3, (flush0_4 _).mpr rfl, ?_⟩)
  · funext y
    show (cfg0.win 4).cut (grid0.coords t) ((dats m 0 c).after 4 t) y = _
    rw [after4]
    exact congrArg (normed m c) (whole4 t y).symm
  · have h := ((cfg0.win 4).blk t0_3).view.emb_mem_set i
    rwa [whole4] at h

theorem product_agrees {x0 x1 x2} (h0 : x0 = hs m c) (h1 : x1 = gn m c) (h2 : x2 = wt m c) :
    Cert.Reference5Ideal.Read.val_main_v12 (F := Ideal) x0 x1 x2 = (dats m 0 c).arrAt 3 cfg0.N := by
  subst h0 h1 h2
  exact (product_array m c).symm

theorem rows_agrees {x0 x1} (h0 : x0 = hs m c) (h1 : x1 = gn m c) :
    Cert.Reference5Ideal.Read.val_main_v13 (F := Ideal) x0 x1 = (dats m 0 c).arrAt 4 cfg0.N := by
  subst h0 h1
  exact (rows_array m c).symm

end Cert.InprojFwd

end
-- ==== Proof.TailTile.lean ====
/- The end of the layer, forward: the arithmetic of one row, and of one tile of 512 rows. -/
module

public import proofs.«01_k».proof.Proof.RowNorm
public import proofs.«01_k».proof.Proof.Gen.Kernel6Ideal.Skeleton

@[expose] public section

noncomputable section

namespace Cert.Tail

open Idealize.ShloMosaic Idealize.ShloMosaic.ValueIdx Idealize.SL Cert.Attn

/-! ## One row -/

abbrev Row (n : ℕ) := Fin n → EReal

/-- The constants zero, one and 512. -/
abbrev zero : EReal := Ideal.ofBits .f32 0x00000000#32
abbrev one : EReal := Ideal.ofBits .f32 0x3F800000#32
abbrev width : EReal := Ideal.ofBits .f32 0x44000000#32

/-- The logistic function. -/
def logi (x : EReal) : EReal := Ideal.div one (one + Ideal.exp (zero - x))
def silu (x : EReal) : EReal := x * logi x

/-- What a row of 512 is multiplied by. -/
def scaleH (x : Row 512) : EReal := Ideal.rsqrt (Ideal.div (∑ k, x k * x k) width + eps)
def centre (x : Row 512) : Row 512 := fun k => x k - Ideal.div (∑ l, x l) width
/-- The row with mean zero and length one, with weights `g` and shift `b`. -/
def levelled (x g b : Row 512) : Row 512 := fun k => centre x k * scaleH (centre x) * g k + b k

/-- The convolution's product. -/
def conv (x g b : Row 512) (w : Fin 512 → Row 512) : Row 512 := fun q => ∑ k, silu (levelled x g b k) * w k q
/-- The convolution's branch: normalised and gated by `u`. -/
def branch (s g u : Row 512) : Row 512 := fun q => s q * scaleH s * g q * silu (u q)
/-- The stream with the two branches joined to it. -/
def joined (h : Row 1024) (a y : Row 512) (w : Fin 1024 → Row 1024) : Row 1024 :=
  fun q => h q + ((∑ k : Fin 512, a k * w ⟨k.val, by omega⟩ q) + ∑ k : Fin 512, y k * w ⟨512 + k.val, by omega⟩ q)
def gate (s n : Row 1024) (w : Fin 1024 → Row 1024) : Row 1024 := fun q => logi (∑ k, s k * scale s * n k * w k q)
def embed (p : Row 256) (w : Fin 256 → Row 1024) : Row 1024 := fun q => ∑ k, p k * w k q
def next (s e t : Row 1024) : Row 1024 := fun q => s q + e q * t q

/-- The rows of an array. -/
abbrev rowsOf {A B : ℕ} (x : (⟨2, ![A, B]⟩ : Shape).Idx → EReal) : Fin A → Row B := fun r k => x (ix2 r k)

/-! ## The rows of the results -/

section Results
abbrev Arr (A B : ℕ) := (⟨2, ![A, B]⟩ : Shape).Idx → EReal
variable {A : ℕ} (c1 : Arr A 512) (lg lb : Arr 1 512) (wp : Arr 512 512) (u : Fin A → Row 512) (cg : Arr 1 512) (ya : Arr A 512) (h : Arr A 1024)
  (wo : Arr 1024 1024) (pg : Arr 1 1024) (wg : Arr 1024 1024) (p : Arr A 256) (we : Arr 256 1024)

def convAt (r : Fin A) : Row 512 := conv (rowsOf c1 r) (rowsOf lg 0) (rowsOf lb 0) (rowsOf wp)
def branchAt (r : Fin A) : Row 512 := branch (convAt c1 lg lb wp r) (rowsOf cg 0) (u r)
def joinedAt (r : Fin A) : Row 1024 := joined (rowsOf h r) (rowsOf ya r) (branchAt c1 lg lb wp u cg r) (rowsOf wo)
def gateAt (r : Fin A) : Row 1024 := gate (joinedAt c1 lg lb wp u cg ya h wo r) (rowsOf pg 0) (rowsOf wg)
def embedAt (r : Fin A) : Row 1024 := embed (rowsOf p r) (rowsOf we)
def nextAt (r : Fin A) : Row 1024 :=
  next (joinedAt c1 lg lb wp u cg ya h wo r) (embedAt p we r) (gateAt c1 lg lb wp u cg ya h wo pg wg r)
end Results

/-- The last 512 columns of the projection. -/
def lastPart (x : Arr 2048 3584) : Fin 2048 → Row 512 := fun r k => x (ix2 r ⟨3072 + k.val, by omega⟩)

/-! ## One tile -/

open Cert.Kernel6Ideal Cert.Kernel6Ideal.Gen

theorem sum_half (x : FVec Ideal S512x512 .f32) (acc : BitVec FTy.f32.bits) (hk) (hi) :
    multiReduction .add [1] S512 x acc reduces_S512x512_S512 hk hi = fun j : S512.Idx => (∑ k : Fin 512, x (ix2 (j 0) k) : EReal) :=
  sum_along x acc _ _ _

theorem sum_full (x : FVec Ideal S512x1024 .f32) (acc : BitVec FTy.f32.bits) (hk) (hi) :
    multiReduction .add [1] S512 x acc reduces_S512x1024_S512 hk hi = fun j : S512.Idx => (∑ k : Fin 1024, x (ix2 (j 0) k) : EReal) :=
  sum_along x acc _ _ _

theorem conv_pay (x : Vec Ideal S512x512 .f32) (g b : Vec Ideal S1x512 .f32) (w : Vec Ideal S512x512 .bf16) :
    k0_pay5 x g b w = fun y : S512x512.Idx => conv (rowsOf x (y 0)) (rowsOf g 0) (rowsOf b 0) (rowsOf w) (y 1) := by
  unfold k0_pay5
  dsimp only
  erw [sum_half]
  rw [as_column, column_over]
  erw [sum_half]
  rw [as_column, column_over, row_over, row_over, shapeCast_self]
  funext y
  obtain ⟨r, q, rfl⟩ : ∃ r q, y = ix2 r q := ⟨_, _, eq_ix2 y⟩
  exact (Ideal.matmul_plain_apply none _ _ _ _ _).trans ((congrArg (· + _) zero_f32).trans (zero_add _))

theorem squares_pay (x : Vec Ideal S512x512 .f32) (g b : Vec Ideal S1x512 .f32) (w : Vec Ideal S512x512 .bf16) :
    k0_pay6 x g b w = fun j : S512x1.Idx => (∑ k : Fin 512, k0_pay5 x g b w (ix2 (j 0) k) * k0_pay5 x g b w (ix2 (j 0) k) : EReal) := by
  unfold k0_pay6
  dsimp only
  erw [sum_half]
  rw [as_column]
  rfl

theorem branch_pay (s : FVec Ideal S512x512 .f32) (u : Vec Ideal S512x512 .f32) (g : Vec Ideal S1x512 .f32) :
    k0_pay7 s u (fun j : S512x1.Idx => (∑ k : Fin 512, s (ix2 (j 0) k) * s (ix2 (j 0) k) : EReal)) g
      = fun y : S512x512.Idx => branch (rowsOf s (y 0)) (rowsOf g 0) (rowsOf u (y 0)) (y 1) := by
  unfold k0_pay7
  dsimp only
  rw [column_over, row_over]
  funext y
  obtain ⟨r, q, rfl⟩ : ∃ r q, y = ix2 r q := ⟨_, _, eq_ix2 y⟩
  rfl

theorem joined_pay (s : FVec Ideal S512x512 .f32) (u : Vec Ideal S512x512 .f32) (v : FVec Ideal S512x1 .f32) (g : Vec Ideal S1x512 .f32)
    (a : Vec Ideal S512x512 .bf16) (w : Fin 1024 → Row 1024) (w0 w1 : Vec Ideal S512x1024 .bf16) (h : Vec Ideal S512x1024 .f32)
    (h0 : ∀ k q, w0 (ix2 k q) = w ⟨k.val, by omega⟩ q) (h1 : ∀ k q, w1 (ix2 k q) = w ⟨512 + k.val, by omega⟩ q) :
    k0_pay8 s u v g a w0 w1 h = fun y : S512x1024.Idx => joined (rowsOf h (y 0)) (rowsOf a (y 0)) (rowsOf (k0_pay7 s u v g) (y 0)) w (y 1) := by
  unfold k0_pay8
  dsimp only
  rw [shapeCast_self, shapeCast_self, shapeCast_self]
  funext y
  obtain ⟨r, q, rfl⟩ : ∃ r q, y = ix2 r q := ⟨_, _, eq_ix2 y⟩
  refine congrArg (h (ix2 r q) + ·) (congrArg₂ (· + ·) ?_ ?_)
  · refine (Ideal.matmul_plain_apply none _ _ _ _ _).trans ((congrArg (· + _) zero_f32).trans ((zero_add _).trans ?_))
    exact Finset.sum_congr rfl fun k _ => congrArg (a (ix2 r k) * ·) (h0 k q)
  · refine (Ideal.matmul_plain_apply none _ _ _ _ _).trans ((congrArg (· + _) zero_f32).trans ((zero_add _).trans ?_))
    exact Finset.sum_congr rfl fun k _ => congrArg (k0_pay7 s u v g (ix2 r k) * ·) (h1 k q)

theorem lengths_pay (s : FVec Ideal S512x512 .f32) (u : Vec Ideal S512x512 .f32) (v : FVec Ideal S512x1 .f32) (g : Vec Ideal S1x512 .f32)
    (a : Vec Ideal S512x512 .bf16) (w0 w1 : Vec Ideal S512x1024 .bf16) (h : Vec Ideal S512x1024 .f32) :
    k0_pay9 s u v g a w0 w1 h
      = fun j : S512x1.Idx => (∑ k : Fin 1024, k0_pay8 s u v g a w0 w1 h (ix2 (j 0) k) * k0_pay8 s u v g a w0 w1 h (ix2 (j 0) k) : EReal) := by
  unfold k0_pay9
  dsimp only
  erw [sum_full]
  rw [as_column]
  rfl

theorem gate_pay (s : FVec Ideal S512x1024 .f32) (n : Vec Ideal S1x1024 .f32) (w : Vec Ideal S1024x1024 .bf16) :
    k0_pay10 s (fun j : S512x1.Idx => (∑ k : Fin 1024, s (ix2 (j 0) k) * s (ix2 (j 0) k) : EReal)) n w
      = fun y : S512x1024.Idx => gate (rowsOf s (y 0)) (rowsOf n 0) (rowsOf w) (y 1) := by
  unfold k0_pay10
  dsimp only
  rw [column_over, row_over, shapeCast_self]
  funext y
  obtain ⟨r, q, rfl⟩ : ∃ r q, y = ix2 r q := ⟨_, _, eq_ix2 y⟩
  exact congrArg logi ((Ideal.matmul_plain_apply none _ _ _ _ _).trans ((congrArg (· + _) zero_f32).trans (zero_add _)))

/-- A tile of the embedding times one device's slab of the weights. -/
def part (p : Vec Ideal S512x256 .f32) (w : Vec Ideal S1x256x256 .bf16) : S512x256.Idx → EReal :=
  fun y => ∑ k : Fin 256, p (ix2 (y 0) k) * w (ix3 0 k (y 1))

theorem slab_product (p : Vec Ideal S512x256 .f32) (w : Vec Ideal S1x256x256 .bf16) :
    matmul dot_S512x256_S256x256_S512x256_1_0_0_1_n_n none (truncf .bf16 (p : FVec Ideal S512x256 .f32) bitsLt_bf16_f32 : FVec Ideal S512x256 .bf16)
      (shapeCast S256x256 w shapeCasts_S1x256x256_S256x256 : FVec Ideal S256x256 .bf16) (constant S512x256 .f32 0x00000000#32) = part p w := by
  funext y
  conv_lhs => rw [eq_ix2 y]
  refine (Ideal.matmul_plain_apply none _ _ _ _ _).trans ((congrArg (· + _) zero_f32).trans ((zero_add _).trans ?_))
  refine Finset.sum_congr rfl fun k _ => congrArg (p (ix2 (y 0) k) * ·) (shapeCast_apply _ _ _ (ix3 0 k (y 1)) ?_)
  refine (Shape.rowMajor_val_three _).trans (Eq.trans ?_ (Shape.rowMajor_val_two _).symm)
  show (0 * 256 + k.val) * 256 + (y 1).val = k.val * 256 + (y 1).val
  omega

theorem part0 (p : Vec Ideal S512x256 .f32) (w : Vec Ideal S1x256x256 .bf16) : k0_pay12 p w = part p w := slab_product p w
theorem part1 (p : Vec Ideal S512x256 .f32) (w : Vec Ideal S1x256x256 .bf16) : k0_pay13 p w = part p w := slab_product p w
theorem part2 (p : Vec Ideal S512x256 .f32) (w : Vec Ideal S1x256x256 .bf16) : k0_pay14 p w = part p w := slab_product p w

theorem embed_pay (p : Vec Ideal S512x256 .f32) (w : Fin 256 → Row 1024) (w0 w1 w2 w3 : Vec Ideal S1x256x256 .bf16)
    (h0 : ∀ k (q : Fin 256), w0 (ix3 0 k q) = w k ⟨q.val, by omega⟩) (h1 : ∀ k (q : Fin 256), w1 (ix3 0 k q) = w k ⟨256 + q.val, by omega⟩)
    (h2 : ∀ k (q : Fin 256), w2 (ix3 0 k q) = w k ⟨512 + q.val, by omega⟩) (h3 : ∀ k (q : Fin 256), w3 (ix3 0 k q) = w k ⟨768 + q.val, by omega⟩) :
    k0_pay1 (k0_pay11 p) (k0_pay12 p w0) (k0_pay13 p w1) (k0_pay14 p w2) w3 = fun y : S512x1024.Idx => embed (rowsOf p (y 0)) w (y 1) := by
  unfold k0_pay1
  dsimp only
  unfold k0_pay11
  dsimp only
  rw [part0, part1, part2]
  erw [slab_product]
  funext y
  obtain ⟨r, q, rfl⟩ : ∃ r q, y = ix2 r q := ⟨_, _, eq_ix2 y⟩
  have hq : q.val < 1024 := q.isLt
  have join : ∀ (o : ℕ) (l : Fin 256) (v : Vec Ideal S1x256x256 .bf16) (hv : ∀ k (q : Fin 256) (h : o + q.val < 1024), v (ix3 0 k q) = w k ⟨o + q.val, h⟩)
      (_ : q.val = o + l.val), part p v (ix2 r l) = embed (rowsOf p r) w q := by
    intro o l v hv hl
    have hlt : o + l.val < 1024 := hl ▸ hq
    refine Finset.sum_congr rfl fun k _ => congrArg (p (ix2 r k) * ·) ((hv k l hlt).trans (congrArg (w k) (Fin.ext hl.symm)))
  by_cases c0 : q.val < 256
  · refine (concatenate_apply_piece 1 _ _ (ix2 r q) 0 (by show 0 < 4; decide) S512x256 (part p w0) rfl rfl 0 rfl (ix2 r ⟨q.val, c0⟩) ?_ ?_).trans
      (join 0 ⟨q.val, c0⟩ w0 (fun k l h => (h0 k l).trans (congrArg (w k) (Fin.ext (Nat.zero_add _).symm))) (Nat.zero_add _).symm)
    · exact fun b hb => match b with | ⟨0, _⟩ => rfl | ⟨1, _⟩ => absurd rfl hb
    · exact Nat.zero_add _
  by_cases c1 : q.val < 512
  · refine (concatenate_apply_piece 1 _ _ (ix2 r q) 1 (by show 1 < 4; decide) S512x256 (part p w1) rfl rfl 256 rfl (ix2 r ⟨q.val - 256, by omega⟩) ?_ ?_).trans
      (join 256 ⟨q.val - 256, by omega⟩ w1 (fun k l _ => h1 k l) (by show q.val = 256 + (q.val - 256); omega))
    · exact fun b hb => match b with | ⟨0, _⟩ => rfl | ⟨1, _⟩ => absurd rfl hb
    · show 256 + (q.val - 256) = q.val; omega
  by_cases c2 : q.val < 768
  · refine (concatenate_apply_piece 1 _ _ (ix2 r q) 2 (by show 2 < 4; decide) S512x256 (part p w2) rfl rfl 512 rfl (ix2 r ⟨q.val - 512, by omega⟩) ?_ ?_).trans
      (join 512 ⟨q.val - 512, by omega⟩ w2 (fun k l _ => h2 k l) (by show q.val = 512 + (q.val - 512); omega))
    · exact fun b hb => match b with | ⟨0, _⟩ => rfl | ⟨1, _⟩ => absurd rfl hb
    · show 512 + (q.val - 512) = q.val; omega
  · refine (concatenate_apply_piece 1 _ _ (ix2 r q) 3 (by show 3 < 4; decide) S512x256 (part p w3) rfl rfl 768 rfl (ix2 r ⟨q.val - 768, by omega⟩) ?_ ?_).trans
      (join 768 ⟨q.val - 768, by omega⟩ w3 (fun k l _ => h3 k l) (by show q.val = 768 + (q.val - 768); omega))
    · exact fun b hb => match b with | ⟨0, _⟩ => rfl | ⟨1, _⟩ => absurd rfl hb
    · show 768 + (q.val - 768) = q.val; omega

end Cert.Tail

end
-- ==== Proof.TailRef.lean ====
/- The reference's end of the layer, forward, row by row. -/
module

public import proofs.«01_k».proof.Proof.TailTile
public import proofs.«01_k».proof.Proof.Gen.Reference6Ideal.Read

@[expose] public section

noncomputable section

namespace Cert.Tail

open Idealize.ShloMosaic Idealize.ShloMosaic.ValueIdx Cert.Attn
open Cert.Reference6Ideal Cert.Reference6Ideal.Read

variable (x0 : FVec Ideal S2048x512 .f32) (x1 : FVec Ideal S2048x3584 .f32) (x2 : FVec Ideal S2048x512 .f32) (x3 : FVec Ideal S2048x1024 .f32)
  (x4 : FVec Ideal S2048x256 .f32) (x5 x6 : FVec Ideal S1x512 .f32) (x7 : FVec Ideal S512x512 .f32) (x8 : FVec Ideal S1x512 .f32)
  (x9 : FVec Ideal S1024x1024 .f32) (x10 : FVec Ideal S1x1024 .f32) (x11 : FVec Ideal S1024x1024 .f32) (x12 : FVec Ideal S256x1024 .f32)

theorem logi_neg (x : EReal) : Ideal.div one (one + Ideal.exp (-x)) = logi x := by
  unfold logi
  rw [show zero = 0 from zero_f32, zero_sub]

theorem centre_ref (i : S2048x512.Idx) : val_main_v5 (F := Ideal) x0 i = centre (rowsOf x0 (i 0)) (i 1) := by
  rw [val_main_v5_apply, val_main_v4_apply, val_main_v3_apply, val_main_v2_apply, val_main_v1_apply, val_main_v0_apply]
  refine congrArg₂ (· - ·) (congrArg x0 (eq_ix2 i)) (congrArg (fun s => Ideal.div s width) ?_)
  exact (congrArg (· + _) zero_f32).trans ((zero_add _).trans (Finset.sum_congr rfl fun k _ => congrArg x0 (eq_ix2 _)))

theorem levelled_ref (i : S2048x512.Idx) :
    val_main_v19 (F := Ideal) x0 x5 x6 i = levelled (rowsOf x0 (i 0)) (rowsOf x5 0) (rowsOf x6 0) (i 1) := by
  rw [val_main_v19_apply, val_main_v18_apply, val_main_v17_apply, val_main_v16_apply, val_main_v15_apply, val_main_v14_apply, val_main_v13_apply,
    val_main_v12_apply, val_main_v10_apply, val_main_v8_apply, val_main_v7_apply, centre_ref]
  refine congrArg₂ (· + ·) (congrArg₂ (· * ·) (congrArg (fun s => centre (rowsOf x0 (i 0)) (i 1) * Ideal.rsqrt (Ideal.div s width + eps)) ?_)
    (congrArg x5 (eq_ix2 _))) (congrArg x6 (eq_ix2 _))
  refine (congrArg (· + _) zero_f32).trans ((zero_add _).trans (Finset.sum_congr rfl fun k _ => ?_))
  rw [val_main_v6_apply, centre_ref]
  rfl

theorem conv_ref (i : S2048x512.Idx) : val_main_v27 (F := Ideal) x0 x5 x6 x7 i = convAt x0 x5 x6 x7 (i 0) (i 1) := by
  rw [val_main_v27_apply]
  show _ = (∑ k : Fin 512, silu (levelled (rowsOf x0 (i 0)) (rowsOf x5 0) (rowsOf x6 0) k) * x7 (ix2 k (i 1)) : EReal)
  refine Finset.sum_congr rfl fun k _ => ?_
  rw [val_main_v26_apply, val_main_v25_apply, val_main_v24_apply, val_main_v23_apply, val_main_v22_apply, val_main_v21_apply, val_main_v20_apply,
    levelled_ref]
  exact congrArg₂ (· * ·) (congrArg (levelled (rowsOf x0 (i 0)) (rowsOf x5 0) (rowsOf x6 0) k * ·) (logi_neg _)) (congrArg x7 (eq_ix2 _))

theorem branch_ref (i : S2048x512.Idx) :
    val_main_v48 (F := Ideal) x0 x1 x5 x6 x7 x8 i = branchAt x0 x5 x6 x7 (lastPart x1) x8 (i 0) (i 1) := by
  rw [val_main_v48_apply, val_main_v47_apply, val_main_v46_apply, val_main_v45_apply, val_main_v44_apply, val_main_v43_apply, val_main_v42_apply,
    val_main_v41_apply, val_main_v40_apply, val_main_v39_apply, val_main_v38_apply, val_main_v37_apply, val_main_v36_apply, val_main_v35_apply,
    val_main_v34_apply, val_main_v32_apply, val_main_v30_apply, val_main_v29_apply, conv_ref]
  have hu : x1 (idx_main_v40 i) = lastPart x1 (i 0) (i 1) := congrArg x1 (funext fun a => Fin.ext (by
    match a with
    | ⟨0, _⟩ => first | rfl | exact Nat.zero_add _
    | ⟨1, _⟩ => rfl))
  rw [hu]
  refine congrArg₂ (· * ·) (congrArg₂ (· * ·)
    (congrArg (fun s => convAt x0 x5 x6 x7 (i 0) (i 1) * Ideal.rsqrt (Ideal.div s width + eps)) ?_) (congrArg x8 (eq_ix2 _)))
    (congrArg (lastPart x1 (i 0) (i 1) * ·) (logi_neg _))
  refine (congrArg (· + _) zero_f32).trans ((zero_add _).trans (Finset.sum_congr rfl fun k _ => ?_))
  rw [val_main_v28_apply, conv_ref]
  rfl

theorem joined_ref (i : S2048x1024.Idx) : val_main_v51 (F := Ideal) x0 x1 x2 x3 x5 x6 x7 x8 x9 i
    = joinedAt x0 x5 x6 x7 (lastPart x1) x8 x2 x3 x9 (i 0) (i 1) := by
  rw [val_main_v51_apply, val_main_v50_apply]
  refine congrArg₂ (· + ·) (congrArg x3 (eq_ix2 i)) ((Fin.sum_univ_add (a := 512) (b := 512) _).trans (congrArg₂ (· + ·) ?_ ?_))
  · refine Finset.sum_congr rfl fun k _ => congrArg₂ (· * ·) ?_ (congrArg x9 (eq_ix2 _))
    unfold val_main_v49
    exact concatenate_pair_apply_left (t := S2048x1024) (s₁ := S2048x512) (s₂ := S2048x512) 1 _ _ _ (lidx_main_v50 i (Fin.castAdd 512 k)) rfl (ix2 (i 0) k)
      (fun b => match b with | ⟨0, _⟩ => rfl | ⟨1, _⟩ => rfl)
  · refine Finset.sum_congr rfl fun k _ => congrArg₂ (· * ·) ?_ (congrArg x9 (eq_ix2 _))
    rw [show branchAt x0 x5 x6 x7 (lastPart x1) x8 (i 0) k = val_main_v48 (F := Ideal) x0 x1 x5 x6 x7 x8 (ix2 (i 0) k) from
      (branch_ref x0 x1 x5 x6 x7 x8 (ix2 (i 0) k)).symm]
    unfold val_main_v49
    exact concatenate_pair_apply_right (t := S2048x1024) (s₁ := S2048x512) (s₂ := S2048x512) 1 _ _ _ (lidx_main_v50 i (Fin.natAdd 512 k)) rfl rfl
      (ix2 (i 0) k) (fun b hb => match b with | ⟨0, _⟩ => rfl | ⟨1, _⟩ => absurd rfl hb) (Nat.add_comm _ _)

theorem gate_ref (i : S2048x1024.Idx) : val_main_v70 (F := Ideal) x0 x1 x2 x3 x5 x6 x7 x8 x9 x10 x11 i
    = gateAt x0 x5 x6 x7 (lastPart x1) x8 x2 x3 x9 x10 x11 (i 0) (i 1) := by
  rw [val_main_v70_apply, val_main_v69_apply, val_main_v68_apply, val_main_v67_apply, val_main_v66_apply, val_main_v65_apply, val_main_v64_apply]
  refine (logi_neg _).trans (congrArg logi (Finset.sum_congr rfl fun k _ => ?_))
  rw [val_main_v63_apply, val_main_v62_apply, val_main_v61_apply, val_main_v60_apply, val_main_v59_apply, val_main_v58_apply, val_main_v56_apply,
    val_main_v54_apply, val_main_v53_apply, joined_ref]
  refine congrArg₂ (· * ·) (congrArg₂ (· * ·) (congrArg (fun s => joinedAt x0 x5 x6 x7 (lastPart x1) x8 x2 x3 x9 (i 0) k
    * Ideal.rsqrt (Ideal.div s len + eps)) ?_) (congrArg x10 (eq_ix2 _))) (congrArg x11 (eq_ix2 _))
  refine (congrArg (· + _) zero_f32).trans ((zero_add _).trans (Finset.sum_congr rfl fun l _ => ?_))
  rw [val_main_v52_apply, joined_ref]
  rfl

theorem embed_ref (i : S2048x1024.Idx) : val_main_v71 (F := Ideal) x4 x12 i = embedAt x4 x12 (i 0) (i 1) := by
  rw [val_main_v71_apply]
  exact Finset.sum_congr rfl fun k _ => congrArg₂ (· * ·) (congrArg x4 (eq_ix2 _)) (congrArg x12 (eq_ix2 _))

theorem next_ref (i : S2048x1024.Idx) : val_main_v76 (F := Ideal) x0 x1 x2 x3 x4 x5 x6 x7 x8 x9 x10 x11 x12 i
    = nextAt x0 x5 x6 x7 (lastPart x1) x8 x2 x3 x9 x10 x11 x4 x12 (i 0) (i 1) := by
  rw [val_main_v76_apply, val_main_v75_apply, joined_ref, embed_ref, gate_ref]
  rfl

end Cert.Tail

end
-- ==== Proof.TailGrid.lean ====
/- The end of the layer, forward: what the grid's points read and leave, and the equality of the six arrays. -/
module

public import proofs.«01_k».proof.Proof.TailRef
public import proofs.«01_k».proof.Proof.Gen.Kernel6Ideal.Value
public import Idealize.ShloMosaic.Lib.StableHlo.Run
import all proofs.«01_k».proof.Proof.Gen.Kernel6Ideal.Frame

@[expose] public section

noncomputable section

namespace Cert.Tail

open Idealize.ShloMosaic Idealize.ShloMosaic.TcCoe Idealize.ShloMosaic.ValueIdx Idealize.SL Idealize.SL.Sem Cert.Attn
open Cert.Kernel6Ideal Cert.Kernel6Ideal.Gen Cert.Kernel6Ideal.Value

/-! ## What a point leaves -/

section Point
variable (x0 x1 : Vec Ideal S512x512 .f32) (x2 : Vec Ideal S512x512 .bf16) (x3 : Vec Ideal S512x1024 .f32) (x4 : Vec Ideal S512x256 .f32)
  (x5 x6 : Vec Ideal S1x512 .f32) (x7 : Vec Ideal S512x512 .bf16) (x8 : Vec Ideal S1x512 .f32) (x9 : Vec Ideal S1024x1024 .bf16)
  (x10 : Vec Ideal S1x1024 .f32) (x11 : Vec Ideal S1024x1024 .bf16) (x12 : Vec Ideal S4x256x256 .bf16)

theorem origin : (![0, 0] : Fin 2 → ℕ) = fun _ => 0 := funext fun a => match a with | ⟨0, _⟩ => rfl | ⟨1, _⟩ => rfl

theorem whole {A B : ℕ} {φ : EltTy} (X : (⟨2, ![A, B]⟩ : Shape).Idx → Elt Ideal φ) (inb) :
    View.ld X (Rect.unit (s := ⟨2, ![A, B]⟩) ![0, 0] (⟨2, ![A, B]⟩ : Shape).size inb) = X := View.ld_unit_zero origin inb X

/-- The tile of the convolution's product. -/
theorem conv_tile : k0_pay15 x0 x1 x2 x3 x4 x5 x6 x7 x8 x9 x10 x11 x12 = fun y : S512x512.Idx => convAt x0 x5 x6 x7 (y 0) (y 1) := by
  unfold k0_pay15
  rw [whole, whole, whole, whole]
  exact conv_pay x0 x5 x6 x7

theorem squares_tile : k0_pay16 x0 x1 x2 x3 x4 x5 x6 x7 x8 x9 x10 x11 x12
    = fun j : S512x1.Idx => (∑ k : Fin 512, convAt x0 x5 x6 x7 (j 0) k * convAt x0 x5 x6 x7 (j 0) k : EReal) := by
  unfold k0_pay16
  rw [whole, whole, whole, whole, squares_pay, conv_pay]
  rfl

theorem branch_tile : k0_pay7 (k0_pay15 x0 x1 x2 x3 x4 x5 x6 x7 x8 x9 x10 x11 x12) (View.ld x1 r0_0)
      (k0_pay16 x0 x1 x2 x3 x4 x5 x6 x7 x8 x9 x10 x11 x12) (View.ld x8 r0_1)
    = fun y : S512x512.Idx => branchAt x0 x5 x6 x7 (rowsOf x1) x8 (y 0) (y 1) := by
  rw [conv_tile, squares_tile, whole, whole]
  exact branch_pay (fun y => convAt x0 x5 x6 x7 (y 0) (y 1)) x1 x8

theorem half0 (k : Fin 512) (q : Fin 1024) : View.ld x9 r0_2 (ix2 k q) = rowsOf x9 ⟨k.val, by omega⟩ q :=
  congrArg x9 (funext fun a => Fin.ext (match a with
    | ⟨0, _⟩ => by show 0 + 1 * k.val = k.val; omega
    | ⟨1, _⟩ => by show 0 + 1 * q.val = q.val; omega))
theorem half1 (k : Fin 512) (q : Fin 1024) : View.ld x9 r0_3 (ix2 k q) = rowsOf x9 ⟨512 + k.val, by omega⟩ q :=
  congrArg x9 (funext fun a => Fin.ext (match a with
    | ⟨0, _⟩ => by show 512 + 1 * k.val = 512 + k.val; omega
    | ⟨1, _⟩ => by show 0 + 1 * q.val = q.val; omega))

theorem joined_tile : k0_pay17 x0 x1 x2 x3 x4 x5 x6 x7 x8 x9 x10 x11 x12
    = fun y : S512x1024.Idx => joinedAt x0 x5 x6 x7 (rowsOf x1) x8 x2 x3 x9 (y 0) (y 1) := by
  unfold k0_pay17
  rw [joined_pay _ _ _ _ _ (rowsOf x9) _ _ _ (half0 x9) (half1 x9), branch_tile, whole, whole]
  rfl

theorem gate_tile : k0_pay18 x0 x1 x2 x3 x4 x5 x6 x7 x8 x9 x10 x11 x12
    = fun y : S512x1024.Idx => gateAt x0 x5 x6 x7 (rowsOf x1) x8 x2 x3 x9 x10 x11 (y 0) (y 1) := by
  have hl := lengths_pay (k0_pay15 x0 x1 x2 x3 x4 x5 x6 x7 x8 x9 x10 x11 x12) (View.ld x1 r0_0)
    (k0_pay16 x0 x1 x2 x3 x4 x5 x6 x7 x8 x9 x10 x11 x12) (View.ld x8 r0_1) (View.ld x2 r0_0) (View.ld x9 r0_2) (View.ld x9 r0_3) (View.ld x3 r0_4)
  have hj := joined_tile x0 x1 x2 x3 x4 x5 x6 x7 x8 x9 x10 x11 x12
  unfold k0_pay18
  rw [hl]
  unfold k0_pay17 at hj ⊢
  rw [hj, whole, whole]
  exact gate_pay (fun y => joinedAt x0 x5 x6 x7 (rowsOf x1) x8 x2 x3 x9 (y 0) (y 1)) x10 x11

/-- One device's slab of the embedding's weights. -/
theorem slab (we : Arr 256 1024) (hw : ∀ (d : Fin 4) (k q : Fin 256), x12 (ix3 d k q) = we (ix2 k ⟨256 * d.val + q.val, by omega⟩))
    (d : Fin 4) (o : ℕ) (ho : o = 256 * d.val) (inb) (k q : Fin 256) (h : o + q.val < 1024) :
    View.ld x12 (Rect.unit (s := S4x256x256) ![d.val, 0, 0] S1x256x256.size inb) (ix3 (0 : Fin 1) k q : S1x256x256.Idx) = rowsOf we k ⟨o + q.val, h⟩ := by
  subst ho
  refine Eq.trans (congrArg x12 (funext fun a => Fin.ext ?_)) (hw d k q)
  match a with
  | ⟨0, _⟩ => rfl
  | ⟨1, _⟩ => show 0 + 1 * k.val = k.val; omega
  | ⟨2, _⟩ => show 0 + 1 * q.val = q.val; omega

theorem embed_tile (we : Arr 256 1024) (hw : ∀ (d : Fin 4) (k q : Fin 256), x12 (ix3 d k q) = we (ix2 k ⟨256 * d.val + q.val, by omega⟩)) :
    k0_pay1 (k0_pay19 x0 x1 x2 x3 x4 x5 x6 x7 x8 x9 x10 x11 x12) (k0_pay20 x0 x1 x2 x3 x4 x5 x6 x7 x8 x9 x10 x11 x12)
      (k0_pay21 x0 x1 x2 x3 x4 x5 x6 x7 x8 x9 x10 x11 x12) (k0_pay22 x0 x1 x2 x3 x4 x5 x6 x7 x8 x9 x10 x11 x12) (View.ld x12 r0_11)
    = fun y : S512x1024.Idx => embedAt x4 we (y 0) (y 1) := by
  unfold k0_pay19 k0_pay20 k0_pay21 k0_pay22
  rw [whole]
  exact embed_pay x4 (rowsOf we) _ _ _ _
    (fun k q => (slab x12 we hw 0 0 rfl _ k q (by omega)).trans (congrArg (rowsOf we k) (Fin.ext (Nat.zero_add _))))
    (fun k q => slab x12 we hw 1 256 rfl _ k q _) (fun k q => slab x12 we hw 2 512 rfl _ k q _) (fun k q => slab x12 we hw 3 768 rfl _ k q _)

theorem out13 : out0_13 x0 x1 x2 x3 x4 x5 x6 x7 x8 x9 x10 x11 x12 = fun y : S512x512.Idx => convAt x0 x5 x6 x7 (y 0) (y 1) := by
  unfold out0_13
  exact (View.canon_unit_zero origin _ _).trans (conv_tile x0 x1 x2 x3 x4 x5 x6 x7 x8 x9 x10 x11 x12)

theorem out14 : out0_14 x0 x1 x2 x3 x4 x5 x6 x7 x8 x9 x10 x11 x12
    = fun y : S512x512.Idx => branchAt x0 x5 x6 x7 (rowsOf x1) x8 (y 0) (y 1) := by
  unfold out0_14
  exact (View.canon_unit_zero origin _ _).trans (branch_tile x0 x1 x2 x3 x4 x5 x6 x7 x8 x9 x10 x11 x12)

theorem out15 : out0_15 x0 x1 x2 x3 x4 x5 x6 x7 x8 x9 x10 x11 x12
    = fun y : S512x1024.Idx => joinedAt x0 x5 x6 x7 (rowsOf x1) x8 x2 x3 x9 (y 0) (y 1) := by
  unfold out0_15
  exact (View.canon_unit_zero origin _ _).trans (joined_tile x0 x1 x2 x3 x4 x5 x6 x7 x8 x9 x10 x11 x12)

theorem out16 : out0_16 x0 x1 x2 x3 x4 x5 x6 x7 x8 x9 x10 x11 x12
    = fun y : S512x1024.Idx => gateAt x0 x5 x6 x7 (rowsOf x1) x8 x2 x3 x9 x10 x11 (y 0) (y 1) := by
  unfold out0_16
  exact (View.canon_unit_zero origin _ _).trans (gate_tile x0 x1 x2 x3 x4 x5 x6 x7 x8 x9 x10 x11 x12)

theorem out17 (we : Arr 256 1024) (hw : ∀ (d : Fin 4) (k q : Fin 256), x12 (ix3 d k q) = we (ix2 k ⟨256 * d.val + q.val, by omega⟩)) :
    out0_17 x0 x1 x2 x3 x4 x5 x6 x7 x8 x9 x10 x11 x12 = fun y : S512x1024.Idx => embedAt x4 we (y 0) (y 1) := by
  unfold out0_17
  exact (View.canon_unit_zero origin _ _).trans (embed_tile x0 x1 x2 x3 x4 x5 x6 x7 x8 x9 x10 x11 x12 we hw)

theorem out18 (we : Arr 256 1024) (hw : ∀ (d : Fin 4) (k q : Fin 256), x12 (ix3 d k q) = we (ix2 k ⟨256 * d.val + q.val, by omega⟩)) :
    out0_18 x0 x1 x2 x3 x4 x5 x6 x7 x8 x9 x10 x11 x12
      = fun y : S512x1024.Idx => nextAt x0 x5 x6 x7 (rowsOf x1) x8 x2 x3 x9 x10 x11 x4 we (y 0) (y 1) := by
  unfold out0_18
  refine (View.canon_unit_zero origin _ _).trans ?_
  unfold k0_pay4
  rw [embed_tile x0 x1 x2 x3 x4 x5 x6 x7 x8 x9 x10 x11 x12 we hw, joined_tile, gate_tile]
  rfl

end Point

/-! ## What a point reads -/

variable (m : (ℓ : Loc nD τ sig) → Buf (Elt Ideal) ℓ) (c : Dev nD)

abbrev c1 : Arr 2048 512 := m (c.tc.loc main_arg0)
abbrev proj : Arr 2048 3584 := m (c.tc.loc main_arg1)
abbrev ya : Arr 2048 512 := m (c.tc.loc main_arg2)
abbrev hs : Arr 2048 1024 := m (c.tc.loc main_arg3)
abbrev ps : Arr 2048 256 := m (c.tc.loc main_arg4)
abbrev lg : Arr 1 512 := m (c.tc.loc main_arg5)
abbrev lb : Arr 1 512 := m (c.tc.loc main_arg6)
abbrev wp : Arr 512 512 := m (c.tc.loc main_arg7)
abbrev cg : Arr 1 512 := m (c.tc.loc main_arg8)
abbrev wo : Arr 1024 1024 := m (c.tc.loc main_arg9)
abbrev pg : Arr 1 1024 := m (c.tc.loc main_arg10)
abbrev wg : Arr 1024 1024 := m (c.tc.loc main_arg11)
abbrev we : Arr 256 1024 := m (c.tc.loc main_arg12)

theorem cast0_eq : V m c main_v0 = (ya m c : Arr 2048 512) := by
  unfold V
  simp only [hostOps0, List.flatten_cons, List.flatten_nil, List.append_nil, List.cons_append, List.nil_append]
  after_results_simp
  rfl

theorem cast1_eq : V m c main_v1 = (wp m c : Arr 512 512) := by
  unfold V
  simp only [hostOps0, List.flatten_cons, List.flatten_nil, List.append_nil, List.cons_append, List.nil_append]
  after_results_simp
  rfl

theorem cast2_eq : V m c main_v2 = (wo m c : Arr 1024 1024) := by
  unfold V
  simp only [hostOps0, List.flatten_cons, List.flatten_nil, List.append_nil, List.cons_append, List.nil_append]
  after_results_simp
  rfl

theorem cast3_eq : V m c main_v3 = (wg m c : Arr 1024 1024) := by
  unfold V
  simp only [hostOps0, List.flatten_cons, List.flatten_nil, List.append_nil, List.cons_append, List.nil_append]
  after_results_simp
  rfl

theorem slabs_eq : V m c main_v6 = (transpose S4x256x256 [1, 0, 2] (shapeCast S256x4x256
    (truncf .bf16 (we m c : FVec Ideal S256x1024 .f32) bitsLt_bf16_f32) shapeCasts_S256x1024_S256x4x256) transposes_S256x4x256_S4x256x256_1_0_2 : FVec Ideal S4x256x256 .bf16) := by
  unfold V
  simp only [hostOps0, List.flatten_cons, List.flatten_nil, List.append_nil, List.cons_append, List.nil_append]
  after_results_simp
  rfl

theorem slabs_at (d : Fin 4) (k q : Fin 256) : V m c main_v6 (ix3 d k q : S4x256x256.Idx) = we m c (ix2 k ⟨256 * d.val + q.val, by omega⟩) := by
  rw [slabs_eq]
  refine (transpose_apply _ _ _ (ix3 d k q : S4x256x256.Idx) (ix3 k d q) fun b => ?_).trans ?_
  · match b with
    | ⟨0, _⟩ => rfl
    | ⟨1, _⟩ => rfl
    | ⟨2, _⟩ => rfl
  refine shapeCast_apply _ _ _ (ix2 k ⟨256 * d.val + q.val, by omega⟩) ?_
  refine (Shape.rowMajor_val_two _).trans (Eq.trans ?_ (Shape.rowMajor_val_three _).symm)
  show k.val * 1024 + (256 * d.val + q.val) = (k.val * 4 + d.val) * 256 + q.val
  omega

theorem at0 : ∀ p : Fin cfg0.N, win0_0.index p (0 : Fin 2) = p.val ∧ win0_0.index p (1 : Fin 2) = 0 :=
  (by decide +kernel : ∀ p : Fin grid0.N, win0_0.index p (0 : Fin 2) = p.val ∧ win0_0.index p (1 : Fin 2) = 0)
theorem at1 : ∀ p : Fin cfg0.N, win0_1.index p (0 : Fin 2) = p.val ∧ win0_1.index p (1 : Fin 2) = 6 :=
  (by decide +kernel : ∀ p : Fin grid0.N, win0_1.index p (0 : Fin 2) = p.val ∧ win0_1.index p (1 : Fin 2) = 6)
theorem at2 : ∀ p : Fin cfg0.N, win0_2.index p (0 : Fin 2) = p.val ∧ win0_2.index p (1 : Fin 2) = 0 :=
  (by decide +kernel : ∀ p : Fin grid0.N, win0_2.index p (0 : Fin 2) = p.val ∧ win0_2.index p (1 : Fin 2) = 0)
theorem at3 : ∀ p : Fin cfg0.N, win0_3.index p (0 : Fin 2) = p.val ∧ win0_3.index p (1 : Fin 2) = 0 :=
  (by decide +kernel : ∀ p : Fin grid0.N, win0_3.index p (0 : Fin 2) = p.val ∧ win0_3.index p (1 : Fin 2) = 0)
theorem at4 : ∀ p : Fin cfg0.N, win0_4.index p (0 : Fin 2) = p.val ∧ win0_4.index p (1 : Fin 2) = 0 :=
  (by decide +kernel : ∀ p : Fin grid0.N, win0_4.index p (0 : Fin 2) = p.val ∧ win0_4.index p (1 : Fin 2) = 0)
theorem at5 : ∀ p : Fin cfg0.N, win0_5.index p (0 : Fin 2) = 0 ∧ win0_5.index p (1 : Fin 2) = 0 :=
  (by decide +kernel : ∀ p : Fin grid0.N, win0_5.index p (0 : Fin 2) = 0 ∧ win0_5.index p (1 : Fin 2) = 0)
theorem at6 : ∀ p : Fin cfg0.N, win0_6.index p (0 : Fin 2) = 0 ∧ win0_6.index p (1 : Fin 2) = 0 :=
  (by decide +kernel : ∀ p : Fin grid0.N, win0_6.index p (0 : Fin 2) = 0 ∧ win0_6.index p (1 : Fin 2) = 0)
theorem at7 : ∀ p : Fin cfg0.N, win0_7.index p (0 : Fin 2) = 0 ∧ win0_7.index p (1 : Fin 2) = 0 :=
  (by decide +kernel : ∀ p : Fin grid0.N, win0_7.index p (0 : Fin 2) = 0 ∧ win0_7.index p (1 : Fin 2) = 0)
theorem at8 : ∀ p : Fin cfg0.N, win0_8.index p (0 : Fin 2) = 0 ∧ win0_8.index p (1 : Fin 2) = 0 :=
  (by decide +kernel : ∀ p : Fin grid0.N, win0_8.index p (0 : Fin 2) = 0 ∧ win0_8.index p (1 : Fin 2) = 0)
theorem at9 : ∀ p : Fin cfg0.N, win0_9.index p (0 : Fin 2) = 0 ∧ win0_9.index p (1 : Fin 2) = 0 :=
  (by decide +kernel : ∀ p : Fin grid0.N, win0_9.index p (0 : Fin 2) = 0 ∧ win0_9.index p (1 : Fin 2) = 0)
theorem at10 : ∀ p : Fin cfg0.N, win0_10.index p (0 : Fin 2) = 0 ∧ win0_10.index p (1 : Fin 2) = 0 :=
  (by decide +kernel : ∀ p : Fin grid0.N, win0_10.index p (0 : Fin 2) = 0 ∧ win0_10.index p (1 : Fin 2) = 0)
theorem at11 : ∀ p : Fin cfg0.N, win0_11.index p (0 : Fin 2) = 0 ∧ win0_11.index p (1 : Fin 2) = 0 :=
  (by decide +kernel : ∀ p : Fin grid0.N, win0_11.index p (0 : Fin 2) = 0 ∧ win0_11.index p (1 : Fin 2) = 0)
theorem at13 : ∀ p : Fin cfg0.N, win0_13.index p (0 : Fin 2) = p.val ∧ win0_13.index p (1 : Fin 2) = 0 :=
  (by decide +kernel : ∀ p : Fin grid0.N, win0_13.index p (0 : Fin 2) = p.val ∧ win0_13.index p (1 : Fin 2) = 0)
theorem at14 : ∀ p : Fin cfg0.N, win0_14.index p (0 : Fin 2) = p.val ∧ win0_14.index p (1 : Fin 2) = 0 :=
  (by decide +kernel : ∀ p : Fin grid0.N, win0_14.index p (0 : Fin 2) = p.val ∧ win0_14.index p (1 : Fin 2) = 0)
theorem at15 : ∀ p : Fin cfg0.N, win0_15.index p (0 : Fin 2) = p.val ∧ win0_15.index p (1 : Fin 2) = 0 :=
  (by decide +kernel : ∀ p : Fin grid0.N, win0_15.index p (0 : Fin 2) = p.val ∧ win0_15.index p (1 : Fin 2) = 0)
theorem at16 : ∀ p : Fin cfg0.N, win0_16.index p (0 : Fin 2) = p.val ∧ win0_16.index p (1 : Fin 2) = 0 :=
  (by decide +kernel : ∀ p : Fin grid0.N, win0_16.index p (0 : Fin 2) = p.val ∧ win0_16.index p (1 : Fin 2) = 0)
theorem at17 : ∀ p : Fin cfg0.N, win0_17.index p (0 : Fin 2) = p.val ∧ win0_17.index p (1 : Fin 2) = 0 :=
  (by decide +kernel : ∀ p : Fin grid0.N, win0_17.index p (0 : Fin 2) = p.val ∧ win0_17.index p (1 : Fin 2) = 0)
theorem at18 : ∀ p : Fin cfg0.N, win0_18.index p (0 : Fin 2) = p.val ∧ win0_18.index p (1 : Fin 2) = 0 :=
  (by decide +kernel : ∀ p : Fin grid0.N, win0_18.index p (0 : Fin 2) = p.val ∧ win0_18.index p (1 : Fin 2) = 0)
theorem at12 : ∀ p : Fin cfg0.N, win0_12.index p (0 : Fin 3) = 0 ∧ win0_12.index p (1 : Fin 3) = 0 ∧ win0_12.index p (2 : Fin 3) = 0 :=
  (by decide +kernel : ∀ p : Fin grid0.N, win0_12.index p (0 : Fin 3) = 0 ∧ win0_12.index p (1 : Fin 3) = 0 ∧ win0_12.index p (2 : Fin 3) = 0)

/-- Row `r` of the tile at `p`, in the whole array. -/
def rowOf (p : Fin cfg0.N) (r : Fin 512) : Fin 2048 := ⟨512 * p.val + r.val, by have := p.isLt; have : cfg0.N = 4 := N_0; omega⟩

theorem tile0 (p : Fin cfg0.N) (r : Fin 512) : rowsOf (iblk m c 0 p : Arr 512 512) r = rowsOf (c1 m c) (rowOf p r) := by
  obtain ⟨e0, e1⟩ := at0 p
  funext k
  refine (congrFun (V_main_arg0 m c) (((cfg0.win 0).blk p).view.emb (ix2 r k : S512x512.Idx))).trans (congrArg (c1 m c) (funext fun x => Fin.ext ?_))
  match x with
  | ⟨0, _⟩ => show win0_0.index p (0 : Fin 2) * 512 + 1 * r.val = 512 * p.val + r.val; rw [e0]; omega
  | ⟨1, _⟩ => show win0_0.index p (1 : Fin 2) * 512 + 1 * k.val = k.val; rw [e1]; omega

theorem tile2 (p : Fin cfg0.N) (r : Fin 512) : rowsOf (iblk m c 2 p : Arr 512 512) r = rowsOf (ya m c) (rowOf p r) := by
  obtain ⟨e0, e1⟩ := at2 p
  funext k
  refine (congrFun (cast0_eq m c) (((cfg0.win 2).blk p).view.emb (ix2 r k : S512x512.Idx))).trans (congrArg (ya m c) (funext fun x => Fin.ext ?_))
  match x with
  | ⟨0, _⟩ => show win0_2.index p (0 : Fin 2) * 512 + 1 * r.val = 512 * p.val + r.val; rw [e0]; omega
  | ⟨1, _⟩ => show win0_2.index p (1 : Fin 2) * 512 + 1 * k.val = k.val; rw [e1]; omega

theorem tile3 (p : Fin cfg0.N) (r : Fin 512) : rowsOf (iblk m c 3 p : Arr 512 1024) r = rowsOf (hs m c) (rowOf p r) := by
  obtain ⟨e0, e1⟩ := at3 p
  funext k
  refine (congrFun (V_main_arg3 m c) (((cfg0.win 3).blk p).view.emb (ix2 r k : S512x1024.Idx))).trans (congrArg (hs m c) (funext fun x => Fin.ext ?_))
  match x with
  | ⟨0, _⟩ => show win0_3.index p (0 : Fin 2) * 512 + 1 * r.val = 512 * p.val + r.val; rw [e0]; omega
  | ⟨1, _⟩ => show win0_3.index p (1 : Fin 2) * 1024 + 1 * k.val = k.val; rw [e1]; omega

theorem tile4 (p : Fin cfg0.N) (r : Fin 512) : rowsOf (iblk m c 4 p : Arr 512 256) r = rowsOf (ps m c) (rowOf p r) := by
  obtain ⟨e0, e1⟩ := at4 p
  funext k
  refine (congrFun (V_main_arg4 m c) (((cfg0.win 4).blk p).view.emb (ix2 r k : S512x256.Idx))).trans (congrArg (ps m c) (funext fun x => Fin.ext ?_))
  match x with
  | ⟨0, _⟩ => show win0_4.index p (0 : Fin 2) * 512 + 1 * r.val = 512 * p.val + r.val; rw [e0]; omega
  | ⟨1, _⟩ => show win0_4.index p (1 : Fin 2) * 256 + 1 * k.val = k.val; rw [e1]; omega

theorem tile1 (p : Fin cfg0.N) (r : Fin 512) : rowsOf (iblk m c 1 p : Arr 512 512) r = lastPart (proj m c) (rowOf p r) := by
  obtain ⟨e0, e1⟩ := at1 p
  funext k
  refine (congrFun (V_main_arg1 m c) (((cfg0.win 1).blk p).view.emb (ix2 r k : S512x512.Idx))).trans (congrArg (proj m c) (funext fun x => Fin.ext ?_))
  match x with
  | ⟨0, _⟩ => show win0_1.index p (0 : Fin 2) * 512 + 1 * r.val = 512 * p.val + r.val; rw [e0]; omega
  | ⟨1, _⟩ => show win0_1.index p (1 : Fin 2) * 512 + 1 * k.val = 3072 + k.val; rw [e1]; omega

theorem tile5 (p : Fin cfg0.N) : (iblk m c 5 p : Arr 1 512) = lg m c := by
  obtain ⟨e0, e1⟩ := at5 p
  funext y
  refine (congrFun (V_main_arg5 m c) (((cfg0.win 5).blk p).view.emb y)).trans (congrArg (lg m c) (funext fun x => Fin.ext ?_))
  match x with
  | ⟨0, _⟩ => show win0_5.index p (0 : Fin 2) * 1 + 1 * (y 0).val = (y 0).val; rw [e0]; omega
  | ⟨1, _⟩ => show win0_5.index p (1 : Fin 2) * 512 + 1 * (y 1).val = (y 1).val; rw [e1]; omega

theorem tile6 (p : Fin cfg0.N) : (iblk m c 6 p : Arr 1 512) = lb m c := by
  obtain ⟨e0, e1⟩ := at6 p
  funext y
  refine (congrFun (V_main_arg6 m c) (((cfg0.win 6).blk p).view.emb y)).trans (congrArg (lb m c) (funext fun x => Fin.ext ?_))
  match x with
  | ⟨0, _⟩ => show win0_6.index p (0 : Fin 2) * 1 + 1 * (y 0).val = (y 0).val; rw [e0]; omega
  | ⟨1, _⟩ => show win0_6.index p (1 : Fin 2) * 512 + 1 * (y 1).val = (y 1).val; rw [e1]; omega

theorem tile7 (p : Fin cfg0.N) : (iblk m c 7 p : Arr 512 512) = wp m c := by
  obtain ⟨e0, e1⟩ := at7 p
  funext y
  refine (congrFun (cast1_eq m c) (((cfg0.win 7).blk p).view.emb y)).trans (congrArg (wp m c) (funext fun x => Fin.ext ?_))
  match x with
  | ⟨0, _⟩ => show win0_7.index p (0 : Fin 2) * 512 + 1 * (y 0).val = (y 0).val; rw [e0]; omega
  | ⟨1, _⟩ => show win0_7.index p (1 : Fin 2) * 512 + 1 * (y 1).val = (y 1).val; rw [e1]; omega

theorem tile8 (p : Fin cfg0.N) : (iblk m c 8 p : Arr 1 512) = cg m c := by
  obtain ⟨e0, e1⟩ := at8 p
  funext y
  refine (congrFun (V_main_arg8 m c) (((cfg0.win 8).blk p).view.emb y)).trans (congrArg (cg m c) (funext fun x => Fin.ext ?_))
  match x with
  | ⟨0, _⟩ => show win0_8.index p (0 : Fin 2) * 1 + 1 * (y 0).val = (y 0).val; rw [e0]; omega
  | ⟨1, _⟩ => show win0_8.index p (1 : Fin 2) * 512 + 1 * (y 1).val = (y 1).val; rw [e1]; omega

theorem tile9 (p : Fin cfg0.N) : (iblk m c 9 p : Arr 1024 1024) = wo m c := by
  obtain ⟨e0, e1⟩ := at9 p
  funext y
  refine (congrFun (cast2_eq m c) (((cfg0.win 9).blk p).view.emb y)).trans (congrArg (wo m c) (funext fun x => Fin.ext ?_))
  match x with
  | ⟨0, _⟩ => show win0_9.index p (0 : Fin 2) * 1024 + 1 * (y 0).val = (y 0).val; rw [e0]; omega
  | ⟨1, _⟩ => show win0_9.index p (1 : Fin 2) * 1024 + 1 * (y 1).val = (y 1).val; rw [e1]; omega

theorem tile10 (p : Fin cfg0.N) : (iblk m c 10 p : Arr 1 1024) = pg m c := by
  obtain ⟨e0, e1⟩ := at10 p
  funext y
  refine (congrFun (V_main_arg10 m c) (((cfg0.win 10).blk p).view.emb y)).trans (congrArg (pg m c) (funext fun x => Fin.ext ?_))
  match x with
  | ⟨0, _⟩ => show win0_10.index p (0 : Fin 2) * 1 + 1 * (y 0).val = (y 0).val; rw [e0]; omega
  | ⟨1, _⟩ => show win0_10.index p (1 : Fin 2) * 1024 + 1 * (y 1).val = (y 1).val; rw [e1]; omega

theorem tile11 (p : Fin cfg0.N) : (iblk m c 11 p : Arr 1024 1024) = wg m c := by
  obtain ⟨e0, e1⟩ := at11 p
  funext y
  refine (congrFun (cast3_eq m c) (((cfg0.win 11).blk p).view.emb y)).trans (congrArg (wg m c) (funext fun x => Fin.ext ?_))
  match x with
  | ⟨0, _⟩ => show win0_11.index p (0 : Fin 2) * 1024 + 1 * (y 0).val = (y 0).val; rw [e0]; omega
  | ⟨1, _⟩ => show win0_11.index p (1 : Fin 2) * 1024 + 1 * (y 1).val = (y 1).val; rw [e1]; omega

theorem tile12 (p : Fin cfg0.N) (d : Fin 4) (k q : Fin 256) :
    (iblk m c 12 p : Vec Ideal S4x256x256 .bf16) (ix3 d k q) = we m c (ix2 k ⟨256 * d.val + q.val, by omega⟩) := by
  obtain ⟨e0, e1, e2⟩ := at12 p
  refine Eq.trans (congrArg (V m c main_v6) (funext fun x => Fin.ext ?_)) (slabs_at m c d k q)
  match x with
  | ⟨0, _⟩ => show win0_12.index p (0 : Fin 3) * 4 + 1 * d.val = d.val; rw [e0]; omega
  | ⟨1, _⟩ => show win0_12.index p (1 : Fin 3) * 256 + 1 * k.val = k.val; rw [e1]; omega
  | ⟨2, _⟩ => show win0_12.index p (2 : Fin 3) * 256 + 1 * q.val = q.val; rw [e2]; omega

/-! ## The rows at a point are the array's rows -/

variable (p : Fin cfg0.N) (r : Fin 512)

theorem conv_rows : convAt (iblk m c 0 p : Arr 512 512) (iblk m c 5 p : Arr 1 512) (iblk m c 6 p : Arr 1 512) (iblk m c 7 p : Arr 512 512) r
    = convAt (c1 m c) (lg m c) (lb m c) (wp m c) (rowOf p r) := by
  unfold convAt
  rw [tile0, tile5, tile6, tile7]

theorem branch_rows : branchAt (iblk m c 0 p : Arr 512 512) (iblk m c 5 p : Arr 1 512) (iblk m c 6 p : Arr 1 512) (iblk m c 7 p : Arr 512 512)
      (rowsOf (iblk m c 1 p : Arr 512 512)) (iblk m c 8 p : Arr 1 512) r
    = branchAt (c1 m c) (lg m c) (lb m c) (wp m c) (lastPart (proj m c)) (cg m c) (rowOf p r) := by
  unfold branchAt
  rw [conv_rows, tile1, tile8]

theorem joined_rows : joinedAt (iblk m c 0 p : Arr 512 512) (iblk m c 5 p : Arr 1 512) (iblk m c 6 p : Arr 1 512) (iblk m c 7 p : Arr 512 512)
      (rowsOf (iblk m c 1 p : Arr 512 512)) (iblk m c 8 p : Arr 1 512) (iblk m c 2 p : Arr 512 512) (iblk m c 3 p : Arr 512 1024)
      (iblk m c 9 p : Arr 1024 1024) r
    = joinedAt (c1 m c) (lg m c) (lb m c) (wp m c) (lastPart (proj m c)) (cg m c) (ya m c) (hs m c) (wo m c) (rowOf p r) := by
  unfold joinedAt
  rw [branch_rows, tile2, tile3, tile9]

theorem gate_rows : gateAt (iblk m c 0 p : Arr 512 512) (iblk m c 5 p : Arr 1 512) (iblk m c 6 p : Arr 1 512) (iblk m c 7 p : Arr 512 512)
      (rowsOf (iblk m c 1 p : Arr 512 512)) (iblk m c 8 p : Arr 1 512) (iblk m c 2 p : Arr 512 512) (iblk m c 3 p : Arr 512 1024)
      (iblk m c 9 p : Arr 1024 1024) (iblk m c 10 p : Arr 1 1024) (iblk m c 11 p : Arr 1024 1024) r
    = gateAt (c1 m c) (lg m c) (lb m c) (wp m c) (lastPart (proj m c)) (cg m c) (ya m c) (hs m c) (wo m c) (pg m c) (wg m c) (rowOf p r) := by
  unfold gateAt
  rw [joined_rows, tile10, tile11]

theorem embed_rows : embedAt (iblk m c 4 p : Arr 512 256) (we m c) r = embedAt (ps m c) (we m c) (rowOf p r) := by
  unfold embedAt
  rw [tile4]

theorem next_rows : nextAt (iblk m c 0 p : Arr 512 512) (iblk m c 5 p : Arr 1 512) (iblk m c 6 p : Arr 1 512) (iblk m c 7 p : Arr 512 512)
      (rowsOf (iblk m c 1 p : Arr 512 512)) (iblk m c 8 p : Arr 1 512) (iblk m c 2 p : Arr 512 512) (iblk m c 3 p : Arr 512 1024)
      (iblk m c 9 p : Arr 1024 1024) (iblk m c 10 p : Arr 1 1024) (iblk m c 11 p : Arr 1024 1024) (iblk m c 4 p : Arr 512 256) (we m c) r
    = nextAt (c1 m c) (lg m c) (lb m c) (wp m c) (lastPart (proj m c)) (cg m c) (ya m c) (hs m c) (wo m c) (pg m c) (wg m c) (ps m c) (we m c)
      (rowOf p r) := by
  unfold nextAt
  rw [joined_rows, gate_rows, embed_rows]

/-! ## The arrays -/

theorem flush13 : ∀ p : Fin cfg0.N, (cfg0.win 13).flush p = true := by decide +kernel

theorem conv_array : (dats m 0 c).arrAt 13 cfg0.N = Cert.Reference6Ideal.Read.val_main_v27 (F := Ideal) (c1 m c) (lg m c) (lb m c) (wp m c) := by
  funext i
  have i0 : (i 0).val < 2048 := (i 0).isLt
  have hN : cfg0.N = 4 := N_0
  let p : Fin cfg0.N := ⟨(i 0).val / 512, by omega⟩
  let r : Fin 512 := ⟨(i 0).val % 512, by omega⟩
  have hp : rowOf p r = i 0 := Fin.ext (by show 512 * ((i 0).val / 512) + (i 0).val % 512 = (i 0).val; omega)
  obtain ⟨e0, e1⟩ := at13 p
  have hi : ((cfg0.win 13).blk p).view.emb (ix2 r (i 1) : S512x512.Idx) = i := by
    refine funext fun x => Fin.ext ?_
    match x with
    | ⟨0, _⟩ => show win0_13.index p (0 : Fin 2) * 512 + 1 * r.val = (i 0).val; rw [e0, ← hp]; show _ = 512 * p.val + r.val; omega
    | ⟨1, _⟩ => show win0_13.index p (1 : Fin 2) * 512 + 1 * (i 1).val = (i 1).val; rw [e1]; omega
  have hb := congrFun (blocks13 m c p (flush13 p)) (ix2 r (i 1) : S512x512.Idx)
  rw [flushed13] at hb
  refine Eq.trans (congrArg ((dats m 0 c).arrAt 13 cfg0.N) hi.symm) (hb.trans ?_)
  refine (congrFun (out13 (iblk m c 0 p) (iblk m c 1 p) (iblk m c 2 p) (iblk m c 3 p) (iblk m c 4 p) (iblk m c 5 p) (iblk m c 6 p) (iblk m c 7 p) (iblk m c 8 p) (iblk m c 9 p) (iblk m c 10 p) (iblk m c 11 p) (iblk m c 12 p)) (ix2 r (i 1) : S512x512.Idx)).trans ?_
  refine (congrFun (conv_rows m c p r) (i 1)).trans ?_
  rw [hp]
  exact (Cert.Tail.conv_ref (c1 m c) (lg m c) (lb m c) (wp m c) i).symm

theorem flush14 : ∀ p : Fin cfg0.N, (cfg0.win 14).flush p = true := by decide +kernel

theorem branch_array : (dats m 0 c).arrAt 14 cfg0.N = Cert.Reference6Ideal.Read.val_main_v72 (F := Ideal) (c1 m c) (proj m c) (lg m c) (lb m c) (wp m c) (cg m c) := by
  funext i
  have i0 : (i 0).val < 2048 := (i 0).isLt
  have hN : cfg0.N = 4 := N_0
  let p : Fin cfg0.N := ⟨(i 0).val / 512, by omega⟩
  let r : Fin 512 := ⟨(i 0).val % 512, by omega⟩
  have hp : rowOf p r = i 0 := Fin.ext (by show 512 * ((i 0).val / 512) + (i 0).val % 512 = (i 0).val; omega)
  obtain ⟨e0, e1⟩ := at14 p
  have hi : ((cfg0.win 14).blk p).view.emb (ix2 r (i 1) : S512x512.Idx) = i := by
    refine funext fun x => Fin.ext ?_
    match x with
    | ⟨0, _⟩ => show win0_14.index p (0 : Fin 2) * 512 + 1 * r.val = (i 0).val; rw [e0, ← hp]; show _ = 512 * p.val + r.val; omega
    | ⟨1, _⟩ => show win0_14.index p (1 : Fin 2) * 512 + 1 * (i 1).val = (i 1).val; rw [e1]; omega
  have hb := congrFun (blocks14 m c p (flush14 p)) (ix2 r (i 1) : S512x512.Idx)
  rw [flushed14] at hb
  refine Eq.trans (congrArg ((dats m 0 c).arrAt 14 cfg0.N) hi.symm) (hb.trans ?_)
  refine (congrFun (out14 (iblk m c 0 p) (iblk m c 1 p) (iblk m c 2 p) (iblk m c 3 p) (iblk m c 4 p) (iblk m c 5 p) (iblk m c 6 p) (iblk m c 7 p) (iblk m c 8 p) (iblk m c 9 p) (iblk m c 10 p) (iblk m c 11 p) (iblk m c 12 p)) (ix2 r (i 1) : S512x512.Idx)).trans ?_
  refine (congrFun (branch_rows m c p r) (i 1)).trans ?_
  rw [hp]
  exact (Cert.Tail.branch_ref (c1 m c) (proj m c) (lg m c) (lb m c) (wp m c) (cg m c) i).symm

theorem flush15 : ∀ p : Fin cfg0.N, (cfg0.win 15).flush p = true := by decide +kernel

theorem joined_array : (dats m 0 c).arrAt 15 cfg0.N = Cert.Reference6Ideal.Read.val_main_v51 (F := Ideal) (c1 m c) (proj m c) (ya m c) (hs m c) (lg m c) (lb m c) (wp m c) (cg m c) (wo m c) := by
  funext i
  have i0 : (i 0).val < 2048 := (i 0).isLt
  have hN : cfg0.N = 4 := N_0
  let p : Fin cfg0.N := ⟨(i 0).val / 512, by omega⟩
  let r : Fin 512 := ⟨(i 0).val % 512, by omega⟩
  have hp : rowOf p r = i 0 := Fin.ext (by show 512 * ((i 0).val / 512) + (i 0).val % 512 = (i 0).val; omega)
  obtain ⟨e0, e1⟩ := at15 p
  have hi : ((cfg0.win 15).blk p).view.emb (ix2 r (i 1) : S512x1024.Idx) = i := by
    refine funext fun x => Fin.ext ?_
    match x with
    | ⟨0, _⟩ => show win0_15.index p (0 : Fin 2) * 512 + 1 * r.val = (i 0).val; rw [e0, ← hp]; show _ = 512 * p.val + r.val; omega
    | ⟨1, _⟩ => show win0_15.index p (1 : Fin 2) * 1024 + 1 * (i 1).val = (i 1).val; rw [e1]; omega
  have hb := congrFun (blocks15 m c p (flush15 p)) (ix2 r (i 1) : S512x1024.Idx)
  rw [flushed15] at hb
  refine Eq.trans (congrArg ((dats m 0 c).arrAt 15 cfg0.N) hi.symm) (hb.trans ?_)
  refine (congrFun (out15 (iblk m c 0 p) (iblk m c 1 p) (iblk m c 2 p) (iblk m c 3 p) (iblk m c 4 p) (iblk m c 5 p) (iblk m c 6 p) (iblk m c 7 p) (iblk m c 8 p) (iblk m c 9 p) (iblk m c 10 p) (iblk m c 11 p) (iblk m c 12 p)) (ix2 r (i 1) : S512x1024.Idx)).trans ?_
  refine (congrFun (joined_rows m c p r) (i 1)).trans ?_
  rw [hp]
  exact (Cert.Tail.joined_ref (c1 m c) (proj m c) (ya m c) (hs m c) (lg m c) (lb m c) (wp m c) (cg m c) (wo m c) i).symm

theorem flush16 : ∀ p : Fin cfg0.N, (cfg0.win 16).flush p = true := by decide +kernel

theorem gate_array : (dats m 0 c).arrAt 16 cfg0.N = Cert.Reference6Ideal.Read.val_main_v73 (F := Ideal) (c1 m c) (proj m c) (ya m c) (hs m c) (lg m c) (lb m c) (wp m c) (cg m c) (wo m c) (pg m c) (wg m c) := by
  funext i
  have i0 : (i 0).val < 2048 := (i 0).isLt
  have hN : cfg0.N = 4 := N_0
  let p : Fin cfg0.N := ⟨(i 0).val / 512, by omega⟩
  let r : Fin 512 := ⟨(i 0).val % 512, by omega⟩
  have hp : rowOf p r = i 0 := Fin.ext (by show 512 * ((i 0).val / 512) + (i 0).val % 512 = (i 0).val; omega)
  obtain ⟨e0, e1⟩ := at16 p
  have hi : ((cfg0.win 16).blk p).view.emb (ix2 r (i 1) : S512x1024.Idx) = i := by
    refine funext fun x => Fin.ext ?_
    match x with
    | ⟨0, _⟩ => show win0_16.index p (0 : Fin 2) * 512 + 1 * r.val = (i 0).val; rw [e0, ← hp]; show _ = 512 * p.val + r.val; omega
    | ⟨1, _⟩ => show win0_16.index p (1 : Fin 2) * 1024 + 1 * (i 1).val = (i 1).val; rw [e1]; omega
  have hb := congrFun (blocks16 m c p (flush16 p)) (ix2 r (i 1) : S512x1024.Idx)
  rw [flushed16] at hb
  refine Eq.trans (congrArg ((dats m 0 c).arrAt 16 cfg0.N) hi.symm) (hb.trans ?_)
  refine (congrFun (out16 (iblk m c 0 p) (iblk m c 1 p) (iblk m c 2 p) (iblk m c 3 p) (iblk m c 4 p) (iblk m c 5 p) (iblk m c 6 p) (iblk m c 7 p) (iblk m c 8 p) (iblk m c 9 p) (iblk m c 10 p) (iblk m c 11 p) (iblk m c 12 p)) (ix2 r (i 1) : S512x1024.Idx)).trans ?_
  refine (congrFun (gate_rows m c p r) (i 1)).trans ?_
  rw [hp]
  exact (Cert.Tail.gate_ref (c1 m c) (proj m c) (ya m c) (hs m c) (lg m c) (lb m c) (wp m c) (cg m c) (wo m c) (pg m c) (wg m c) i).symm

theorem flush17 : ∀ p : Fin cfg0.N, (cfg0.win 17).flush p = true := by decide +kernel

theorem embed_array : (dats m 0 c).arrAt 17 cfg0.N = Cert.Reference6Ideal.Read.val_main_v74 (F := Ideal) (ps m c) (we m c) := by
  funext i
  have i0 : (i 0).val < 2048 := (i 0).isLt
  have hN : cfg0.N = 4 := N_0
  let p : Fin cfg0.N := ⟨(i 0).val / 512, by omega⟩
  let r : Fin 512 := ⟨(i 0).val % 512, by omega⟩
  have hp : rowOf p r = i 0 := Fin.ext (by show 512 * ((i 0).val / 512) + (i 0).val % 512 = (i 0).val; omega)
  obtain ⟨e0, e1⟩ := at17 p
  have hi : ((cfg0.win 17).blk p).view.emb (ix2 r (i 1) : S512x1024.Idx) = i := by
    refine funext fun x => Fin.ext ?_
    match x with
    | ⟨0, _⟩ => show win0_17.index p (0 : Fin 2) * 512 + 1 * r.val = (i 0).val; rw [e0, ← hp]; show _ = 512 * p.val + r.val; omega
    | ⟨1, _⟩ => show win0_17.index p (1 : Fin 2) * 1024 + 1 * (i 1).val = (i 1).val; rw [e1]; omega
  have hb := congrFun (blocks17 m c p (flush17 p)) (ix2 r (i 1) : S512x1024.Idx)
  rw [flushed17] at hb
  refine Eq.trans (congrArg ((dats m 0 c).arrAt 17 cfg0.N) hi.symm) (hb.trans ?_)
  refine (congrFun (out17 (iblk m c 0 p) (iblk m c 1 p) (iblk m c 2 p) (iblk m c 3 p) (iblk m c 4 p) (iblk m c 5 p) (iblk m c 6 p) (iblk m c 7 p) (iblk m c 8 p) (iblk m c 9 p) (iblk m c 10 p) (iblk m c 11 p) (iblk m c 12 p) (we m c) (tile12 m c p)) (ix2 r (i 1) : S512x1024.Idx)).trans ?_
  refine (congrFun (embed_rows m c p r) (i 1)).trans ?_
  rw [hp]
  exact (Cert.Tail.embed_ref (ps m c) (we m c) i).symm

theorem flush18 : ∀ p : Fin cfg0.N, (cfg0.win 18).flush p = true := by decide +kernel

theorem next_array : (dats m 0 c).arrAt 18 cfg0.N = Cert.Reference6Ideal.Read.val_main_v76 (F := Ideal) (c1 m c) (proj m c) (ya m c) (hs m c) (ps m c) (lg m c) (lb m c) (wp m c) (cg m c) (wo m c) (pg m c) (wg m c) (we m c) := by
  funext i
  have i0 : (i 0).val < 2048 := (i 0).isLt
  have hN : cfg0.N = 4 := N_0
  let p : Fin cfg0.N := ⟨(i 0).val / 512, by omega⟩
  let r : Fin 512 := ⟨(i 0).val % 512, by omega⟩
  have hp : rowOf p r = i 0 := Fin.ext (by show 512 * ((i 0).val / 512) + (i 0).val % 512 = (i 0).val; omega)
  obtain ⟨e0, e1⟩ := at18 p
  have hi : ((cfg0.win 18).blk p).view.emb (ix2 r (i 1) : S512x1024.Idx) = i := by
    refine funext fun x => Fin.ext ?_
    match x with
    | ⟨0, _⟩ => show win0_18.index p (0 : Fin 2) * 512 + 1 * r.val = (i 0).val; rw [e0, ← hp]; show _ = 512 * p.val + r.val; omega
    | ⟨1, _⟩ => show win0_18.index p (1 : Fin 2) * 1024 + 1 * (i 1).val = (i 1).val; rw [e1]; omega
  have hb := congrFun (blocks18 m c p (flush18 p)) (ix2 r (i 1) : S512x1024.Idx)
  rw [flushed18] at hb
  refine Eq.trans (congrArg ((dats m 0 c).arrAt 18 cfg0.N) hi.symm) (hb.trans ?_)
  refine (congrFun (out18 (iblk m c 0 p) (iblk m c 1 p) (iblk m c 2 p) (iblk m c 3 p) (iblk m c 4 p) (iblk m c 5 p) (iblk m c 6 p) (iblk m c 7 p) (iblk m c 8 p) (iblk m c 9 p) (iblk m c 10 p) (iblk m c 11 p) (iblk m c 12 p) (we m c) (tile12 m c p)) (ix2 r (i 1) : S512x1024.Idx)).trans ?_
  refine (congrFun (next_rows m c p r) (i 1)).trans ?_
  rw [hp]
  exact (Cert.Tail.next_ref (c1 m c) (proj m c) (ya m c) (hs m c) (ps m c) (lg m c) (lb m c) (wp m c) (cg m c) (wo m c) (pg m c) (wg m c) (we m c) i).symm

theorem conv_agrees {x0 x5 x6 x7} (h0 : x0 = c1 m c) (h5 : x5 = lg m c) (h6 : x6 = lb m c) (h7 : x7 = wp m c) :
    Cert.Reference6Ideal.Read.val_main_v27 (F := Ideal) x0 x5 x6 x7 = (dats m 0 c).arrAt 13 cfg0.N := by
  subst h0 h5 h6 h7
  exact (conv_array m c).symm

theorem branch_agrees {x0 x1 x5 x6 x7 x8} (h0 : x0 = c1 m c) (h1 : x1 = proj m c) (h5 : x5 = lg m c) (h6 : x6 = lb m c) (h7 : x7 = wp m c) (h8 : x8 = cg m c) :
    Cert.Reference6Ideal.Read.val_main_v72 (F := Ideal) x0 x1 x5 x6 x7 x8 = (dats m 0 c).arrAt 14 cfg0.N := by
  subst h0 h1 h5 h6 h7 h8
  exact (branch_array m c).symm

theorem joined_agrees {x0 x1 x2 x3 x5 x6 x7 x8 x9} (h0 : x0 = c1 m c) (h1 : x1 = proj m c) (h2 : x2 = ya m c) (h3 : x3 = hs m c) (h5 : x5 = lg m c) (h6 : x6 = lb m c) (h7 : x7 = wp m c) (h8 : x8 = cg m c) (h9 : x9 = wo m c) :
    Cert.Reference6Ideal.Read.val_main_v51 (F := Ideal) x0 x1 x2 x3 x5 x6 x7 x8 x9 = (dats m 0 c).arrAt 15 cfg0.N := by
  subst h0 h1 h2 h3 h5 h6 h7 h8 h9
  exact (joined_array m c).symm

theorem gate_agrees {x0 x1 x2 x3 x5 x6 x7 x8 x9 x10 x11} (h0 : x0 = c1 m c) (h1 : x1 = proj m c) (h2 : x2 = ya m c) (h3 : x3 = hs m c) (h5 : x5 = lg m c) (h6 : x6 = lb m c) (h7 : x7 = wp m c) (h8 : x8 = cg m c) (h9 : x9 = wo m c) (h10 : x10 = pg m c) (h11 : x11 = wg m c) :
    Cert.Reference6Ideal.Read.val_main_v73 (F := Ideal) x0 x1 x2 x3 x5 x6 x7 x8 x9 x10 x11 = (dats m 0 c).arrAt 16 cfg0.N := by
  subst h0 h1 h2 h3 h5 h6 h7 h8 h9 h10 h11
  exact (gate_array m c).symm

theorem embed_agrees {x4 x12} (h4 : x4 = ps m c) (h12 : x12 = we m c) :
    Cert.Reference6Ideal.Read.val_main_v74 (F := Ideal) x4 x12 = (dats m 0 c).arrAt 17 cfg0.N := by
  subst h4 h12
  exact (embed_array m c).symm

theorem next_agrees {x0 x1 x2 x3 x4 x5 x6 x7 x8 x9 x10 x11 x12} (h0 : x0 = c1 m c) (h1 : x1 = proj m c) (h2 : x2 = ya m c) (h3 : x3 = hs m c) (h4 : x4 = ps m c) (h5 : x5 = lg m c) (h6 : x6 = lb m c) (h7 : x7 = wp m c) (h8 : x8 = cg m c) (h9 : x9 = wo m c) (h10 : x10 = pg m c) (h11 : x11 = wg m c) (h12 : x12 = we m c) :
    Cert.Reference6Ideal.Read.val_main_v76 (F := Ideal) x0 x1 x2 x3 x4 x5 x6 x7 x8 x9 x10 x11 x12 = (dats m 0 c).arrAt 18 cfg0.N := by
  subst h0 h1 h2 h3 h4 h5 h6 h7 h8 h9 h10 h11 h12
  exact (next_array m c).symm

end Cert.Tail

end
-- ==== Proof.lean ====
/- The proof of the certificate's claims: for each of the six calls the frames of its three programs and the equality of the
   kernel's two programs; for the calls with a value claim, the equality of the kernel's results with the reference's, over the reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Kernel
public import proofs.«01_k».proof.Proof.RefBackward
public import proofs.«01_k».proof.Proof.Finite
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Kernel4.Frame
public import proofs.«01_k».proof.Proof.Gen.Kernel4Ideal.Value
public import proofs.«01_k».proof.Proof.Gen.Reference2Ideal.Read
public import proofs.«01_k».proof.Proof.Gen.Reference3Ideal.Read
public import proofs.«01_k».proof.Proof.Gen.Reference4Ideal.Read
public import proofs.«01_k».proof.Proof.PleArrays
public import proofs.«01_k».proof.Proof.InprojDw
public import proofs.«01_k».proof.Proof.InprojDxGrid
public import proofs.«01_k».proof.Proof.InprojFwdBits
public import proofs.«01_k».proof.Proof.Gen.Kernel6.Frame
public import proofs.«01_k».proof.Proof.Gen.Kernel6Ideal.Value
public import proofs.«01_k».proof.Proof.Gen.Reference5Ideal.Read
public import proofs.«01_k».proof.Proof.Gen.Reference6Ideal.Read
public import proofs.«01_k».proof.Proof.InprojFwd
public import proofs.«01_k».proof.Proof.TailGrid
public import Idealize.ShloMosaic.Adequacy
public import Idealize.ShloMosaic.Init

@[expose] public section

noncomputable section

namespace Cert.Proof

open Idealize.ShloMosaic Idealize.SL.Sem Cert.Attn

/-- The reference's frame: its run leaves the arguments, and it has no semaphore. -/
theorem reference_frame : quiescent_ReferenceIdeal (hReferenceIdeal := Cert.ReferenceIdeal.Gen.facts) :=
  fun m ρ _ => (θ_run _ _ _).mono (fun r h => ⟨fun c => (h c).2.2.2, sem_eq_zero_of_no_sems (by decide) r.2⟩)
    (Cert.ReferenceIdeal.Value.run m ρ)

/-- The queries', keys' and values' gradients, as the kernel computes them, are the reference's. -/
theorem equal : algebraic_KernelIdeal_ReferenceIdeal_pre_finite (hKernelIdeal := Cert.KernelIdeal.Gen.facts)
    (hReferenceIdeal := Cert.ReferenceIdeal.Gen.facts) (hPre_finite := finite_facts) := by
  intro m g m' g' hpre hargs
  have h := fun c => args_of_finite _ _ (hpre c).1 (hpre c).2
  refine ⟨fun c => Cert.KernelIdeal.Value.G5 m c, fun c => Cert.KernelIdeal.Value.G6 m c, fun c => Cert.KernelIdeal.Value.G7 m c,
    Cert.KernelIdeal.Value.run m g, (θ_run _ _ _).mono (fun r hr c => ?_) (Cert.ReferenceIdeal.Value.run m' g')⟩
  obtain ⟨e0, e1, e2, e3, e4⟩ := hr c
  refine ⟨e0.trans ?_, e1.trans ?_, e2.trans ?_, e3, e4⟩
  · rw [Cert.ReferenceIdeal.Read.val_main_v52_eq, (hargs c).1, (hargs c).2]
    exact (queries_ref (h c)).trans (queries_kernel m c (h c)).symm
  · rw [Cert.ReferenceIdeal.Read.val_main_v53_eq, (hargs c).1, (hargs c).2]
    exact (keys_ref (h c)).trans (keys_kernel m c (h c)).symm
  · rw [Cert.ReferenceIdeal.Read.val_main_v54_eq, (hargs c).1, (hargs c).2]
    exact (vals_ref (h c)).trans (vals_kernel m c (h c)).symm

/-- The frames of the further calls' references. -/
theorem reference2_frame : quiescent_Reference2Ideal (hReference2Ideal := Cert.Reference2Ideal.Gen.facts) :=
  fun m ρ _ => (θ_run _ _ _).mono (fun r h => ⟨fun c => (h c).2.2.2.2.2.2, sem_eq_zero_of_no_sems (by decide) r.2⟩)
    (Cert.Reference2Ideal.Value.run m ρ)

theorem reference3_frame : quiescent_Reference3Ideal (hReference3Ideal := Cert.Reference3Ideal.Gen.facts) :=
  fun m ρ _ => (θ_run _ _ _).mono (fun r h => ⟨fun c => (h c).2, sem_eq_zero_of_no_sems (by decide) r.2⟩)
    (Cert.Reference3Ideal.Value.run m ρ)

theorem reference4_frame : quiescent_Reference4Ideal (hReference4Ideal := Cert.Reference4Ideal.Gen.facts) :=
  fun m ρ _ => (θ_run _ _ _).mono (fun r h => ⟨fun c => (h c).2.2, sem_eq_zero_of_no_sems (by decide) r.2⟩)
    (Cert.Reference4Ideal.Value.run m ρ)

theorem reference5_frame : quiescent_Reference5Ideal (hReference5Ideal := Cert.Reference5Ideal.Gen.facts) :=
  fun m ρ _ => (θ_run _ _ _).mono (fun r h => ⟨fun c => (h c).2.2, sem_eq_zero_of_no_sems (by decide) r.2⟩)
    (Cert.Reference5Ideal.Value.run m ρ)

theorem reference6_frame : quiescent_Reference6Ideal (hReference6Ideal := Cert.Reference6Ideal.Gen.facts) :=
  fun m ρ _ => (θ_run _ _ _).mono (fun r h => ⟨fun c => (h c).2.2.2.2.2.2, sem_eq_zero_of_no_sems (by decide) r.2⟩)
    (Cert.Reference6Ideal.Value.run m ρ)

/-- The gradient of the input projection's weights. -/
theorem equal3 : algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats m 0 c).arrAt 2 Cert.Kernel3Ideal.cfg0.N, Cert.Kernel3Ideal.Value.run_blocks m g,
    (θ_run _ _ _).mono (fun r hr c => ?_) (Cert.Reference3Ideal.Value.run m' g')⟩
  obtain ⟨e0, e1⟩ := hr c
  refine ⟨e0.trans ?_, e1⟩
  rw [Cert.Reference3Ideal.Read.val_main_v15_eq, (hargs c).1, (hargs c).2.1, (hargs c).2.2]
  exact (Cert.InprojDw.result m c).symm

/-- The gradient through the input projection and the normalisation before it. -/
theorem equal4 : algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Value.G5 m c, fun c => Cert.Kernel4Ideal.Value.G6 m c, Cert.Kernel4Ideal.Value.run m g,
    (θ_run _ _ _).mono (fun r hr c => ?_) (Cert.Reference4Ideal.Value.run m' g')⟩
  obtain ⟨e0, e1, e2⟩ := hr c
  obtain ⟨a0, a1, a2, a3, a4⟩ := hargs c
  refine ⟨e0.trans ?_, e1.trans ?_, e2⟩
  · rw [Cert.Reference4Ideal.Read.val_main_v36_eq, a0, a1, a2, a3, a4]
    exact (Cert.InprojDx.rows_array m c).symm
  · rw [Cert.Reference4Ideal.Read.val_main_v19_eq, a0, a1, a2]
    exact (Cert.InprojDx.gain_array m c).symm

/-- The end of the layer, backward: the embedding's gate and the output projection. -/
theorem equal2 : algebraic_Kernel2Ideal_Reference2Ideal (hKernel2Ideal := Cert.Kernel2Ideal.Gen.facts)
    (hReference2Ideal := Cert.Reference2Ideal.Gen.facts) := by
  intro m g m' g' _ hargs
  refine ⟨fun c => (Cert.Kernel2Ideal.Gen.dats m 0 c).arrAt 10 Cert.Kernel2Ideal.cfg0.N,
    fun c => (Cert.Kernel2Ideal.Gen.dats m 0 c).arrAt 11 Cert.Kernel2Ideal.cfg0.N,
    fun c => (Cert.Kernel2Ideal.Gen.dats m 0 c).arrAt 12 Cert.Kernel2Ideal.cfg0.N,
    fun c => (Cert.Kernel2Ideal.Gen.dats m 0 c).arrAt 13 Cert.Kernel2Ideal.cfg0.N,
    fun c => (Cert.Kernel2Ideal.Gen.dats m 0 c).arrAt 14 Cert.Kernel2Ideal.cfg0.N,
    fun c => (Cert.Kernel2Ideal.Gen.dats m 0 c).arrAt 15 Cert.Kernel2Ideal.cfg0.N,
    Cert.Kernel2Ideal.Value.run_blocks m g, (θ_run _ _ _).mono (fun r hr c => ?_) (Cert.Reference2Ideal.Value.run m' g')⟩
  obtain ⟨e0, e1, e2, e3, e4, e5, e6⟩ := hr c
  obtain ⟨a0, a1, a2, a3, a4, a5, a6, a7⟩ := hargs c
  exact ⟨(e0.trans (Cert.Reference2Ideal.Read.val_main_v57_eq m' c)).trans (Cert.Ple.stream_agrees m c a0 a1 a2 a3 a4 a5 a6 a7),
    (e1.trans (Cert.Reference2Ideal.Read.val_main_v62_eq m' c)).trans (Cert.Ple.branch_agrees m c a0 a1 a2 a3 a4 a5 a6 a7),
    (e2.trans (Cert.Reference2Ideal.Read.val_main_v36_eq m' c)).trans (Cert.Ple.gate_agrees m c a0 a1 a2 a3 a4 a5 a6 a7),
    (e3.trans (Cert.Reference2Ideal.Read.val_main_v64_eq _ _ _ _ _ _ _)).trans (Cert.Ple.embed_agrees m c a0 a1 a2 a3 a4 a5 a7),
    (e4.trans (Cert.Reference2Ideal.Read.val_main_v61_eq m' c)).trans (Cert.Ple.out_agrees m c a0 a1 a2 a3 a4 a5 a6 a7),
    (e5.trans (Cert.Reference2Ideal.Read.val_main_v40_eq m' c)).trans (Cert.Ple.gain_agrees m c a0 a1 a2 a3 a4 a5 a6 a7), e6⟩

/-- The input projection, forward. -/
theorem equal5 : algebraic_Kernel5Ideal_Reference5Ideal (hKernel5Ideal := Cert.Kernel5Ideal.Gen.facts)
    (hReference5Ideal := Cert.Reference5Ideal.Gen.facts) := by
  intro m g m' g' _ hargs
  refine ⟨fun c => (Cert.Kernel5Ideal.Gen.dats m 0 c).arrAt 3 Cert.Kernel5Ideal.cfg0.N,
    fun c => (Cert.Kernel5Ideal.Gen.dats m 0 c).arrAt 4 Cert.Kernel5Ideal.cfg0.N, Cert.InprojFwd.run_results m g,
    (θ_run _ _ _).mono (fun r hr c => ?_) (Cert.Reference5Ideal.Value.run m' g')⟩
  obtain ⟨e0, e1, e2⟩ := hr c
  obtain ⟨a0, a1, a2⟩ := hargs c
  exact ⟨e0.trans ((Cert.Reference5Ideal.Read.val_main_v12_eq _ _ _).trans (Cert.InprojFwd.product_agrees m c a0 a1 a2)),
    e1.trans ((Cert.Reference5Ideal.Read.val_main_v13_eq _ _).trans (Cert.InprojFwd.rows_agrees m c a0 a1)), e2⟩

/-- The end of the layer, forward. -/
theorem equal6 : algebraic_Kernel6Ideal_Reference6Ideal (hKernel6Ideal := Cert.Kernel6Ideal.Gen.facts)
    (hReference6Ideal := Cert.Reference6Ideal.Gen.facts) := by
  intro m g m' g' _ hargs
  refine ⟨fun c => (Cert.Kernel6Ideal.Gen.dats m 0 c).arrAt 13 Cert.Kernel6Ideal.cfg0.N,
    fun c => (Cert.Kernel6Ideal.Gen.dats m 0 c).arrAt 14 Cert.Kernel6Ideal.cfg0.N,
    fun c => (Cert.Kernel6Ideal.Gen.dats m 0 c).arrAt 15 Cert.Kernel6Ideal.cfg0.N,
    fun c => (Cert.Kernel6Ideal.Gen.dats m 0 c).arrAt 16 Cert.Kernel6Ideal.cfg0.N,
    fun c => (Cert.Kernel6Ideal.Gen.dats m 0 c).arrAt 17 Cert.Kernel6Ideal.cfg0.N,
    fun c => (Cert.Kernel6Ideal.Gen.dats m 0 c).arrAt 18 Cert.Kernel6Ideal.cfg0.N,
    Cert.Kernel6Ideal.Value.run_blocks m g,
    (θ_run _ _ _).mono (fun r hr c => ?_) (Cert.Reference6Ideal.Value.run m' g')⟩
  obtain ⟨e0, e1, e2, e3, e4, e5, e6⟩ := hr c
  obtain ⟨a0, a1, a2, a3, a4, a5, a6, a7, a8, a9, a10, a11, a12⟩ := hargs c
  exact ⟨e0.trans ((Cert.Reference6Ideal.Read.val_main_v27_eq _ _ _ _).trans (Cert.Tail.conv_agrees m c a0 a5 a6 a7)),
    e1.trans ((Cert.Reference6Ideal.Read.val_main_v72_eq m' c).trans (Cert.Tail.branch_agrees m c a0 a1 a5 a6 a7 a8)),
    e2.trans ((Cert.Reference6Ideal.Read.val_main_v51_eq m' c).trans (Cert.Tail.joined_agrees m c a0 a1 a2 a3 a5 a6 a7 a8 a9)),
    e3.trans ((Cert.Reference6Ideal.Read.val_main_v73_eq m' c).trans (Cert.Tail.gate_agrees m c a0 a1 a2 a3 a5 a6 a7 a8 a9 a10 a11)),
    e4.trans ((Cert.Reference6Ideal.Read.val_main_v74_eq _ _).trans (Cert.Tail.embed_agrees m c a4 a12)),
    e5.trans ((Cert.Reference6Ideal.Read.val_main_v76_eq m' c).trans (Cert.Tail.next_agrees m c a0 a1 a2 a3 a4 a5 a6 a7 a8 a9 a10 a11 a12)), e6⟩
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, finite_facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  trivial, equal, trivial, equal2, trivial, equal3, trivial, equal4, trivial, equal5, trivial, equal6⟩

end Cert.Proof

end
